-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_c [hPre_finite_c : Cert.Pre_finite_c.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_c.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_c.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_c.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_c [hPre_finite_c : Cert.Pre_finite_c.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_c.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_c.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_c.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_a [hPre_finite_a : Cert.Pre_finite_a.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_a.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_a.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite_a.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite_a.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite_a.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite_a.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_a [hPre_finite_a : Cert.Pre_finite_a.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_a.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_a.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite_a.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite_a.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite_a.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite_a.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_p [hPre_finite_p : Cert.Pre_finite_p.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_p.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21))).1 = (fun _ => 1#1)
    ∧ (Cert.Pre_finite_p.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21))).2.1 = (fun _ => 1#1)
    ∧ (Cert.Pre_finite_p.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21))).2.2.1 = (fun _ => 1#1)
    ∧ (Cert.Pre_finite_p.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21))).2.2.2.1 = (fun _ => 1#1)
    ∧ (Cert.Pre_finite_p.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21))).2.2.2.2.1 = (fun _ => 1#1)
    ∧ (Cert.Pre_finite_p.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21))).2.2.2.2.2.1 = (fun _ => 1#1)
    ∧ (Cert.Pre_finite_p.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_p [hPre_finite_p : Cert.Pre_finite_p.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_p.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21))).1 = (fun _ => 1#1)
    ∧ (Cert.Pre_finite_p.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21))).2.1 = (fun _ => 1#1)
    ∧ (Cert.Pre_finite_p.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21))).2.2.1 = (fun _ => 1#1)
    ∧ (Cert.Pre_finite_p.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21))).2.2.2.1 = (fun _ => 1#1)
    ∧ (Cert.Pre_finite_p.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21))).2.2.2.2.1 = (fun _ => 1#1)
    ∧ (Cert.Pre_finite_p.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21))).2.2.2.2.2.1 = (fun _ => 1#1)
    ∧ (Cert.Pre_finite_p.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_c [hKernel2Ideal : Cert.Kernel2Ideal.Facts] [hPre_finite_c : Cert.Pre_finite_c.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_c m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_c [hReference2Ideal : Cert.Reference2Ideal.Facts] [hPre_finite_c : Cert.Pre_finite_c.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_c m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_a [hKernel3Ideal : Cert.Kernel3Ideal.Facts] [hPre_finite_a : Cert.Pre_finite_a.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_a m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_a [hReference3Ideal : Cert.Reference3Ideal.Facts] [hPre_finite_a : Cert.Pre_finite_a.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_a m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21))
      ∧ r.2.sem = fun _ => 0)

def quiescent_Kernel5Ideal_pre_finite_p [hKernel5Ideal : Cert.Kernel5Ideal.Facts] [hPre_finite_p : Cert.Pre_finite_p.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_p m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21))
      ∧ r.2.sem = fun _ => 0)

def quiescent_Reference5Ideal_pre_finite_p [hReference5Ideal : Cert.Reference5Ideal.Facts] [hPre_finite_p : Cert.Pre_finite_p.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_p m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "scale_c_log2e" .f32 0x3E16C740#32 ((((Real.sqrt 96) * (Real.log 2))⁻¹ : ℝ) : EReal)

def algebraic_Kernel2Ideal_Reference2Ideal_pre_finite_c [hKernel2Ideal : Cert.Kernel2Ideal.Facts] [hReference2Ideal : Cert.Reference2Ideal.Facts] [hPre_finite_c : Cert.Pre_finite_c.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_c m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "scale_log2e" .f32 0x3E38AA3B#32 (((8 * (Real.log 2))⁻¹ : ℝ) : EReal)

def algebraic_Kernel3Ideal_Reference3Ideal_pre_finite_a [hKernel3Ideal : Cert.Kernel3Ideal.Facts] [hReference3Ideal : Cert.Reference3Ideal.Facts] [hPre_finite_a : Cert.Pre_finite_a.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_a m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v107) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_finite_p [hKernel5Ideal : Cert.Kernel5Ideal.Facts] [hReference5Ideal : Cert.Reference5Ideal.Facts] [hPre_finite_p : Cert.Pre_finite_p.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_p m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)) →
    ∃ (v0 : (c : Dev Cert.Kernel5Ideal.nD) → Buf (Elt Ideal) ((c.tc : Thread Cert.Kernel5Ideal.nD Cert.Kernel5Ideal.τ).loc Cert.Kernel5Ideal.main_v67_0)) (v1 : (c : Dev Cert.Kernel5Ideal.nD) → Buf (Elt Ideal) ((c.tc : Thread Cert.Kernel5Ideal.nD Cert.Kernel5Ideal.τ).loc Cert.Kernel5Ideal.main_v67_1)) (v2 : (c : Dev Cert.Kernel5Ideal.nD) → Buf (Elt Ideal) ((c.tc : Thread Cert.Kernel5Ideal.nD Cert.Kernel5Ideal.τ).loc Cert.Kernel5Ideal.main_v67_2)) (v3 : (c : Dev Cert.Kernel5Ideal.nD) → Buf (Elt Ideal) ((c.tc : Thread Cert.Kernel5Ideal.nD Cert.Kernel5Ideal.τ).loc Cert.Kernel5Ideal.main_v67_3)) (v4 : (c : Dev Cert.Kernel5Ideal.nD) → Buf (Elt Ideal) ((c.tc : Thread Cert.Kernel5Ideal.nD Cert.Kernel5Ideal.τ).loc Cert.Kernel5Ideal.main_v67_4)) (v5 : (c : Dev Cert.Kernel5Ideal.nD) → Buf (Elt Ideal) ((c.tc : Thread Cert.Kernel5Ideal.nD Cert.Kernel5Ideal.τ).loc Cert.Kernel5Ideal.main_v67_5)) (v6 : (c : Dev Cert.Kernel5Ideal.nD) → Buf (Elt Ideal) ((c.tc : Thread Cert.Kernel5Ideal.nD Cert.Kernel5Ideal.τ).loc Cert.Kernel5Ideal.main_v67_6)) (v7 : (c : Dev Cert.Kernel5Ideal.nD) → Buf (Elt Ideal) ((c.tc : Thread Cert.Kernel5Ideal.nD Cert.Kernel5Ideal.τ).loc Cert.Kernel5Ideal.main_v67_7)) (v8 : (c : Dev Cert.Kernel5Ideal.nD) → Buf (Elt Ideal) ((c.tc : Thread Cert.Kernel5Ideal.nD Cert.Kernel5Ideal.τ).loc Cert.Kernel5Ideal.main_v67_8)) (v9 : (c : Dev Cert.Kernel5Ideal.nD) → Buf (Elt Ideal) ((c.tc : Thread Cert.Kernel5Ideal.nD Cert.Kernel5Ideal.τ).loc Cert.Kernel5Ideal.main_v67_9)) (v10 : (c : Dev Cert.Kernel5Ideal.nD) → Buf (Elt Ideal) ((c.tc : Thread Cert.Kernel5Ideal.nD Cert.Kernel5Ideal.τ).loc Cert.Kernel5Ideal.main_v67_10)) (v11 : (c : Dev Cert.Kernel5Ideal.nD) → Buf (Elt Ideal) ((c.tc : Thread Cert.Kernel5Ideal.nD Cert.Kernel5Ideal.τ).loc Cert.Kernel5Ideal.main_v67_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v67_0) = v0 c
          ∧ r.2.mem ((c.tc : Thread Cert.Kernel5Ideal.nD Cert.Kernel5Ideal.τ).loc Cert.Kernel5Ideal.main_v67_1) = v1 c
          ∧ r.2.mem ((c.tc : Thread Cert.Kernel5Ideal.nD Cert.Kernel5Ideal.τ).loc Cert.Kernel5Ideal.main_v67_2) = v2 c
          ∧ r.2.mem ((c.tc : Thread Cert.Kernel5Ideal.nD Cert.Kernel5Ideal.τ).loc Cert.Kernel5Ideal.main_v67_3) = v3 c
          ∧ r.2.mem ((c.tc : Thread Cert.Kernel5Ideal.nD Cert.Kernel5Ideal.τ).loc Cert.Kernel5Ideal.main_v67_4) = v4 c
          ∧ r.2.mem ((c.tc : Thread Cert.Kernel5Ideal.nD Cert.Kernel5Ideal.τ).loc Cert.Kernel5Ideal.main_v67_5) = v5 c
          ∧ r.2.mem ((c.tc : Thread Cert.Kernel5Ideal.nD Cert.Kernel5Ideal.τ).loc Cert.Kernel5Ideal.main_v67_6) = v6 c
          ∧ r.2.mem ((c.tc : Thread Cert.Kernel5Ideal.nD Cert.Kernel5Ideal.τ).loc Cert.Kernel5Ideal.main_v67_7) = v7 c
          ∧ r.2.mem ((c.tc : Thread Cert.Kernel5Ideal.nD Cert.Kernel5Ideal.τ).loc Cert.Kernel5Ideal.main_v67_8) = v8 c
          ∧ r.2.mem ((c.tc : Thread Cert.Kernel5Ideal.nD Cert.Kernel5Ideal.τ).loc Cert.Kernel5Ideal.main_v67_9) = v9 c
          ∧ r.2.mem ((c.tc : Thread Cert.Kernel5Ideal.nD Cert.Kernel5Ideal.τ).loc Cert.Kernel5Ideal.main_v67_10) = v10 c
          ∧ r.2.mem ((c.tc : Thread Cert.Kernel5Ideal.nD Cert.Kernel5Ideal.τ).loc Cert.Kernel5Ideal.main_v67_11) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_v366) = v2 c
          ∧ r.2.mem ((c.tc : Thread Cert.Reference5Ideal.nD Cert.Reference5Ideal.τ).loc Cert.Reference5Ideal.main_v133) = v3 c
          ∧ r.2.mem ((c.tc : Thread Cert.Reference5Ideal.nD Cert.Reference5Ideal.τ).loc Cert.Reference5Ideal.main_v166) = v4 c
          ∧ r.2.mem ((c.tc : Thread Cert.Reference5Ideal.nD Cert.Reference5Ideal.τ).loc Cert.Reference5Ideal.main_v369) = v5 c
          ∧ r.2.mem ((c.tc : Thread Cert.Reference5Ideal.nD Cert.Reference5Ideal.τ).loc Cert.Reference5Ideal.main_v371) = v6 c
          ∧ r.2.mem ((c.tc : Thread Cert.Reference5Ideal.nD Cert.Reference5Ideal.τ).loc Cert.Reference5Ideal.main_v373) = v7 c
          ∧ r.2.mem ((c.tc : Thread Cert.Reference5Ideal.nD Cert.Reference5Ideal.τ).loc Cert.Reference5Ideal.main_v377) = v8 c
          ∧ r.2.mem ((c.tc : Thread Cert.Reference5Ideal.nD Cert.Reference5Ideal.τ).loc Cert.Reference5Ideal.main_v199) = v9 c
          ∧ r.2.mem ((c.tc : Thread Cert.Reference5Ideal.nD Cert.Reference5Ideal.τ).loc Cert.Reference5Ideal.main_v232) = v10 c
          ∧ r.2.mem ((c.tc : Thread Cert.Reference5Ideal.nD Cert.Reference5Ideal.τ).loc Cert.Reference5Ideal.main_v380) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_c : Cert.Pre_finite_c.Facts) (hPre_finite_a : Cert.Pre_finite_a.Facts) (hPre_finite_p : Cert.Pre_finite_p.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_c (hKernel2Ideal := hKernel2Ideal) (hPre_finite_c := hPre_finite_c)
    ∧ quiescent_Reference2Ideal (hReference2Ideal := hReference2Ideal)
    ∧ quiescent_Reference2Ideal_pre_finite_c (hReference2Ideal := hReference2Ideal) (hPre_finite_c := hPre_finite_c)
    ∧ quiescent_Kernel3 (hKernel3 := hKernel3)
    ∧ quiescent_Kernel3Ideal (hKernel3Ideal := hKernel3Ideal)
    ∧ quiescent_Kernel3Ideal_pre_finite_a (hKernel3Ideal := hKernel3Ideal) (hPre_finite_a := hPre_finite_a)
    ∧ quiescent_Reference3Ideal (hReference3Ideal := hReference3Ideal)
    ∧ quiescent_Reference3Ideal_pre_finite_a (hReference3Ideal := hReference3Ideal) (hPre_finite_a := hPre_finite_a)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_p (hKernel5Ideal := hKernel5Ideal) (hPre_finite_p := hPre_finite_p)
    ∧ quiescent_Reference5Ideal (hReference5Ideal := hReference5Ideal)
    ∧ quiescent_Reference5Ideal_pre_finite_p (hReference5Ideal := hReference5Ideal) (hPre_finite_p := hPre_finite_p)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_c (hKernel2Ideal := hKernel2Ideal) (hReference2Ideal := hReference2Ideal) (hPre_finite_c := hPre_finite_c)
    ∧ preserves_Kernel3_Kernel3Ideal
    ∧ algebraic_Kernel3Ideal_Reference3Ideal_pre_finite_a (hKernel3Ideal := hKernel3Ideal) (hReference3Ideal := hReference3Ideal) (hPre_finite_a := hPre_finite_a)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_p (hKernel5Ideal := hKernel5Ideal) (hReference5Ideal := hReference5Ideal) (hPre_finite_p := hPre_finite_p)
-- ==== Pre_finite.lean ====
abbrev S8x8x4096x64 : Shape := ⟨4, ![8, 8, 4096, 64]⟩
abbrev S8x2x4096x64 : Shape := ⟨4, ![8, 2, 4096, 64]⟩
abbrev S8x2x64x4096 : Shape := ⟨4, ![8, 2, 64, 4096]⟩
abbrev S8x2x256x64 : Shape := ⟨4, ![8, 2, 256, 64]⟩
abbrev S8x2x64x256 : Shape := ⟨4, ![8, 2, 64, 256]⟩
abbrev S_ : Shape := ⟨0, ![]⟩

class Facts : Prop where
  bitsLt_bf16_f32 : FTy.bits .bf16 < FTy.bits .f32
  bcast_S_S8x8x4096x64 : S_.BroadcastsInDim S8x8x4096x64 (![] : Fin 0 → Fin S8x8x4096x64.rank)
  bcast_S_S8x2x4096x64 : S_.BroadcastsInDim S8x2x4096x64 (![] : Fin 0 → Fin S8x2x4096x64.rank)
  bcast_S_S8x2x256x64 : S_.BroadcastsInDim S8x2x256x64 (![] : Fin 0 → Fin S8x2x256x64.rank)

variable [Facts]

def fn {F : FTy → Type} [FloatOps F] (main_arg0 : FVec F S8x8x4096x64 .bf16) (main_arg1 : FVec F S8x2x4096x64 .bf16) (main_arg2 : FVec F S8x2x64x4096 .bf16) (main_arg3 : FVec F S8x2x256x64 .bf16) (main_arg4 : FVec F S8x2x64x256 .bf16) : IVec S8x8x4096x64 1 × IVec S8x2x4096x64 1 × IVec S8x2x256x64 1 :=
  let main_v0 : FVec F S8x8x4096x64 .f32 := (extf .f32 · bitsLt_bf16_f32) main_arg0
  let main_v1 : FVec F S8x8x4096x64 .f32 := Host.absf main_v0
  let main_cst : FVec F S_ .f32 := constant S_ .f32 0x7F800000#32
  let main_v2 : FVec F S8x8x4096x64 .f32 := broadcastInDim S8x8x4096x64 ![] bcast_S_S8x8x4096x64 main_cst
  let main_v3 : IVec S8x8x4096x64 1 := cmpf .olt main_v1 main_v2
  let main_v4 : FVec F S8x2x4096x64 .f32 := (extf .f32 · bitsLt_bf16_f32) main_arg1
  let main_v5 : FVec F S8x2x4096x64 .f32 := Host.absf main_v4
  let main_cst_0 : FVec F S_ .f32 := constant S_ .f32 0x7F800000#32
  let main_v6 : FVec F S8x2x4096x64 .f32 := broadcastInDim S8x2x4096x64 ![] bcast_S_S8x2x4096x64 main_cst_0
  let main_v7 : IVec S8x2x4096x64 1 := cmpf .olt main_v5 main_v6
  let main_v8 : FVec F S8x2x256x64 .f32 := (extf .f32 · bitsLt_bf16_f32) main_arg3
  let main_v9 : FVec F S8x2x256x64 .f32 := Host.absf main_v8
  let main_cst_1 : FVec F S_ .f32 := constant S_ .f32 0x7F800000#32
  let main_v10 : FVec F S8x2x256x64 .f32 := broadcastInDim S8x2x256x64 ![] bcast_S_S8x2x256x64 main_cst_1
  let main_v11 : IVec S8x2x256x64 1 := cmpf .olt main_v9 main_v10
  (main_v3, main_v7, main_v11)
-- ==== Pre_finite_a.lean ====
abbrev S8x8x4096x64 : Shape := ⟨4, ![8, 8, 4096, 64]⟩
abbrev S8x4x128x4096 : Shape := ⟨4, ![8, 4, 128, 4096]⟩
abbrev S8x8x256x64 : Shape := ⟨4, ![8, 8, 256, 64]⟩
abbrev S8x4x128x256 : Shape := ⟨4, ![8, 4, 128, 256]⟩
abbrev S4x64 : Shape := ⟨2, ![4, 64]⟩
abbrev S128x1 : Shape := ⟨2, ![128, 1]⟩
abbrev S_ : Shape := ⟨0, ![]⟩

class Facts : Prop where
  bitsLt_bf16_f32 : FTy.bits .bf16 < FTy.bits .f32
  bcast_S_S8x8x4096x64 : S_.BroadcastsInDim S8x8x4096x64 (![] : Fin 0 → Fin S8x8x4096x64.rank)
  bcast_S_S8x8x256x64 : S_.BroadcastsInDim S8x8x256x64 (![] : Fin 0 → Fin S8x8x256x64.rank)
  bcast_S_S8x4x128x4096 : S_.BroadcastsInDim S8x4x128x4096 (![] : Fin 0 → Fin S8x4x128x4096.rank)
  bcast_S_S8x4x128x256 : S_.BroadcastsInDim S8x4x128x256 (![] : Fin 0 → Fin S8x4x128x256.rank)
  bcast_S_S4x64 : S_.BroadcastsInDim S4x64 (![] : Fin 0 → Fin S4x64.rank)

variable [Facts]

def fn_part1 {F : FTy → Type} [FloatOps F] (main_arg5 : FVec F S4x64 .f32) (main_v3 : IVec S8x8x4096x64 1) (main_v7 : IVec S8x8x4096x64 1) (main_v11 : IVec S8x8x256x64 1) (main_v15 : IVec S8x4x128x4096 1) (main_v17 : FVec F S8x4x128x256 .f32) (main_v18 : FVec F S8x4x128x256 .f32) : IVec S8x8x4096x64 1 × IVec S8x8x4096x64 1 × IVec S8x8x256x64 1 × IVec S8x4x128x4096 1 × IVec S8x4x128x256 1 × IVec S4x64 1 :=
  let main_v19 : IVec S8x4x128x256 1 := cmpf .olt main_v17 main_v18
  let main_v20 : FVec F S4x64 .f32 := Host.absf main_arg5
  let main_cst_4 : FVec F S_ .f32 := constant S_ .f32 0x7F800000#32
  let main_v21 : FVec F S4x64 .f32 := broadcastInDim S4x64 ![] bcast_S_S4x64 main_cst_4
  let main_v22 : IVec S4x64 1 := cmpf .olt main_v20 main_v21
  (main_v3, main_v7, main_v11, main_v15, main_v19, main_v22)

def fn {F : FTy → Type} [FloatOps F] (main_arg0 : FVec F S8x8x4096x64 .bf16) (main_arg1 : FVec F S8x8x4096x64 .bf16) (main_arg2 : FVec F S8x4x128x4096 .bf16) (main_arg3 : FVec F S8x8x256x64 .bf16) (main_arg4 : FVec F S8x4x128x256 .bf16) (main_arg5 : FVec F S4x64 .f32) (main_arg6 : FVec F S128x1 .f32) : IVec S8x8x4096x64 1 × IVec S8x8x4096x64 1 × IVec S8x8x256x64 1 × IVec S8x4x128x4096 1 × IVec S8x4x128x256 1 × IVec S4x64 1 :=
  let main_v0 : FVec F S8x8x4096x64 .f32 := (extf .f32 · bitsLt_bf16_f32) main_arg0
  let main_v1 : FVec F S8x8x4096x64 .f32 := Host.absf main_v0
  let main_cst : FVec F S_ .f32 := constant S_ .f32 0x7F800000#32
  let main_v2 : FVec F S8x8x4096x64 .f32 := broadcastInDim S8x8x4096x64 ![] bcast_S_S8x8x4096x64 main_cst
  let main_v3 : IVec S8x8x4096x64 1 := cmpf .olt main_v1 main_v2
  let main_v4 : FVec F S8x8x4096x64 .f32 := (extf .f32 · bitsLt_bf16_f32) main_arg1
  let main_v5 : FVec F S8x8x4096x64 .f32 := Host.absf main_v4
  let main_cst_0 : FVec F S_ .f32 := constant S_ .f32 0x7F800000#32
  let main_v6 : FVec F S8x8x4096x64 .f32 := broadcastInDim S8x8x4096x64 ![] bcast_S_S8x8x4096x64 main_cst_0
  let main_v7 : IVec S8x8x4096x64 1 := cmpf .olt main_v5 main_v6
  let main_v8 : FVec F S8x8x256x64 .f32 := (extf .f32 · bitsLt_bf16_f32) main_arg3
  let main_v9 : FVec F S8x8x256x64 .f32 := Host.absf main_v8
  let main_cst_1 : FVec F S_ .f32 := constant S_ .f32 0x7F800000#32
  let main_v10 : FVec F S8x8x256x64 .f32 := broadcastInDim S8x8x256x64 ![] bcast_S_S8x8x256x64 main_cst_1
  let main_v11 : IVec S8x8x256x64 1 := cmpf .olt main_v9 main_v10
  let main_v12 : FVec F S8x4x128x4096 .f32 := (extf .f32 · bitsLt_bf16_f32) main_arg2
  let main_v13 : FVec F S8x4x128x4096 .f32 := Host.absf main_v12
  let main_cst_2 : FVec F S_ .f32 := constant S_ .f32 0x7F800000#32
  let main_v14 : FVec F S8x4x128x4096 .f32 := broadcastInDim S8x4x128x4096 ![] bcast_S_S8x4x128x4096 main_cst_2
  let main_v15 : IVec S8x4x128x4096 1 := cmpf .olt main_v13 main_v14
  let main_v16 : FVec F S8x4x128x256 .f32 := (extf .f32 · bitsLt_bf16_f32) main_arg4
  let main_v17 : FVec F S8x4x128x256 .f32 := Host.absf main_v16
  let main_cst_3 : FVec F S_ .f32 := constant S_ .f32 0x7F800000#32
  let main_v18 : FVec F S8x4x128x256 .f32 := broadcastInDim S8x4x128x256 ![] bcast_S_S8x4x128x256 main_cst_3
  fn_part1 (F := F) main_arg5 main_v3 main_v7 main_v11 main_v15 main_v17 main_v18
-- ==== Pre_finite_c.lean ====
abbrev S8x8x4096x128 : Shape := ⟨4, ![8, 8, 4096, 128]⟩
abbrev S8x8x64x4096 : Shape := ⟨4, ![8, 8, 64, 4096]⟩
abbrev S8x8x256x128 : Shape := ⟨4, ![8, 8, 256, 128]⟩
abbrev S8x8x64x256 : Shape := ⟨4, ![8, 8, 64, 256]⟩
abbrev S_ : Shape := ⟨0, ![]⟩

class Facts : Prop where
  bitsLt_bf16_f32 : FTy.bits .bf16 < FTy.bits .f32
  bcast_S_S8x8x4096x128 : S_.BroadcastsInDim S8x8x4096x128 (![] : Fin 0 → Fin S8x8x4096x128.rank)
  bcast_S_S8x8x256x128 : S_.BroadcastsInDim S8x8x256x128 (![] : Fin 0 → Fin S8x8x256x128.rank)

variable [Facts]

def fn {F : FTy → Type} [FloatOps F] (main_arg0 : FVec F S8x8x4096x128 .bf16) (main_arg1 : FVec F S8x8x4096x128 .bf16) (main_arg2 : FVec F S8x8x64x4096 .bf16) (main_arg3 : FVec F S8x8x256x128 .bf16) (main_arg4 : FVec F S8x8x64x256 .bf16) : IVec S8x8x4096x128 1 × IVec S8x8x4096x128 1 × IVec S8x8x256x128 1 :=
  let main_v0 : FVec F S8x8x4096x128 .f32 := (extf .f32 · bitsLt_bf16_f32) main_arg0
  let main_v1 : FVec F S8x8x4096x128 .f32 := Host.absf main_v0
  let main_cst : FVec F S_ .f32 := constant S_ .f32 0x7F800000#32
  let main_v2 : FVec F S8x8x4096x128 .f32 := broadcastInDim S8x8x4096x128 ![] bcast_S_S8x8x4096x128 main_cst
  let main_v3 : IVec S8x8x4096x128 1 := cmpf .olt main_v1 main_v2
  let main_v4 : FVec F S8x8x4096x128 .f32 := (extf .f32 · bitsLt_bf16_f32) main_arg1
  let main_v5 : FVec F S8x8x4096x128 .f32 := Host.absf main_v4
  let main_cst_0 : FVec F S_ .f32 := constant S_ .f32 0x7F800000#32
  let main_v6 : FVec F S8x8x4096x128 .f32 := broadcastInDim S8x8x4096x128 ![] bcast_S_S8x8x4096x128 main_cst_0
  let main_v7 : IVec S8x8x4096x128 1 := cmpf .olt main_v5 main_v6
  let main_v8 : FVec F S8x8x256x128 .f32 := (extf .f32 · bitsLt_bf16_f32) main_arg3
  let main_v9 : FVec F S8x8x256x128 .f32 := Host.absf main_v8
  let main_cst_1 : FVec F S_ .f32 := constant S_ .f32 0x7F800000#32
  let main_v10 : FVec F S8x8x256x128 .f32 := broadcastInDim S8x8x256x128 ![] bcast_S_S8x8x256x128 main_cst_1
  let main_v11 : IVec S8x8x256x128 1 := cmpf .olt main_v9 main_v10
  (main_v3, main_v7, main_v11)
-- ==== Pre_finite_p.lean ====
abbrev S8x4096x1024 : Shape := ⟨3, ![8, 4096, 1024]⟩
abbrev S8x1x6144 : Shape := ⟨3, ![8, 1, 6144]⟩
abbrev S1x1024 : Shape := ⟨2, ![1, 1024]⟩
abbrev S1024x3840 : Shape := ⟨2, ![1024, 3840]⟩
abbrev S1x64 : Shape := ⟨2, ![1, 64]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S1x32 : Shape := ⟨2, ![1, 32]⟩
abbrev S4096x64 : Shape := ⟨2, ![4096, 64]⟩
abbrev S4096x32 : Shape := ⟨2, ![4096, 32]⟩
abbrev S8x1x2048 : Shape := ⟨3, ![8, 1, 2048]⟩
abbrev S_ : Shape := ⟨0, ![]⟩

class Facts : Prop where
  slices_S8x1x6144_S8x1x2048_0_0_0 : S8x1x6144.Slices ![0, 0, 0] S8x1x2048
  bcast_S_S8x1x2048 : S_.BroadcastsInDim S8x1x2048 (![] : Fin 0 → Fin S8x1x2048.rank)
  bcast_S_S1x1024 : S_.BroadcastsInDim S1x1024 (![] : Fin 0 → Fin S1x1024.rank)
  bitsLt_bf16_f32 : FTy.bits .bf16 < FTy.bits .f32
  bcast_S_S1024x3840 : S_.BroadcastsInDim S1024x3840 (![] : Fin 0 → Fin S1024x3840.rank)
  bcast_S_S1x384 : S_.BroadcastsInDim S1x384 (![] : Fin 0 → Fin S1x384.rank)
  bcast_S_S1x256 : S_.BroadcastsInDim S1x256 (![] : Fin 0 → Fin S1x256.rank)
  bcast_S_S384x768 : S_.BroadcastsInDim S384x768 (![] : Fin 0 → Fin S384x768.rank)
  bcast_S_S256x1024 : S_.BroadcastsInDim S256x1024 (![] : Fin 0 → Fin S256x1024.rank)

variable [Facts]

def fn_part1 {F : FTy → Type} [FloatOps F] (main_arg11 : FVec F S256x1024 .bf16) (main_v3 : IVec S8x1x2048 1) (main_v6 : IVec S1x1024 1) (main_v10 : IVec S1024x3840 1) (main_v13 : IVec S1x384 1) (main_v16 : IVec S1x256 1) (main_v18 : FVec F S384x768 .f32) : IVec S8x1x2048 1 × IVec S1x1024 1 × IVec S1024x3840 1 × IVec S1x384 1 × IVec S1x256 1 × IVec S384x768 1 × IVec S256x1024 1 :=
  let main_cst_4 : FVec F S_ .f32 := constant S_ .f32 0x7F800000#32
  let main_v19 : FVec F S384x768 .f32 := broadcastInDim S384x768 ![] bcast_S_S384x768 main_cst_4
  let main_v20 : IVec S384x768 1 := cmpf .olt main_v18 main_v19
  let main_v21 : FVec F S256x1024 .f32 := (extf .f32 · bitsLt_bf16_f32) main_arg11
  let main_v22 : FVec F S256x1024 .f32 := Host.absf main_v21
  let main_cst_5 : FVec F S_ .f32 := constant S_ .f32 0x7F800000#32
  let main_v23 : FVec F S256x1024 .f32 := broadcastInDim S256x1024 ![] bcast_S_S256x1024 main_cst_5
  let main_v24 : IVec S256x1024 1 := cmpf .olt main_v22 main_v23
  (main_v3, main_v6, main_v10, main_v13, main_v16, main_v20, main_v24)

def fn {F : FTy → Type} [FloatOps F] (main_arg0 : FVec F S8x4096x1024 .f32) (main_arg1 : FVec F S8x1x6144 .f32) (main_arg2 : FVec F S1x1024 .f32) (main_arg3 : FVec F S1024x3840 .bf16) (main_arg4 : FVec F S1x64 .f32) (main_arg5 : FVec F S1x64 .f32) (main_arg6 : FVec F S1x64 .f32) (main_arg7 : FVec F S1x64 .f32) (main_arg8 : FVec F S1x384 .f32) (main_arg9 : FVec F S1x256 .f32) (main_arg10 : FVec F S384x768 .bf16) (main_arg11 : FVec F S256x1024 .bf16) (main_arg12 : FVec F S1x64 .f32) (main_arg13 : FVec F S1x64 .f32) (main_arg14 : FVec F S1x32 .f32) (main_arg15 : FVec F S1x32 .f32) (main_arg16 : FVec F S1x64 .f32) (main_arg17 : FVec F S1x64 .f32) (main_arg18 : FVec F S4096x64 .f32) (main_arg19 : FVec F S4096x64 .f32) (main_arg20 : FVec F S4096x32 .f32) (main_arg21 : FVec F S4096x32 .f32) : IVec S8x1x2048 1 × IVec S1x1024 1 × IVec S1024x3840 1 × IVec S1x384 1 × IVec S1x256 1 × IVec S384x768 1 × IVec S256x1024 1 :=
  let main_v0 : FVec F S8x1x2048 .f32 := (extractStridedSlice S8x1x2048 ![0, 0, 0] · slices_S8x1x6144_S8x1x2048_0_0_0) main_arg1
  let main_v1 : FVec F S8x1x2048 .f32 := Host.absf main_v0
  let main_cst : FVec F S_ .f32 := constant S_ .f32 0x7F800000#32
  let main_v2 : FVec F S8x1x2048 .f32 := broadcastInDim S8x1x2048 ![] bcast_S_S8x1x2048 main_cst
  let main_v3 : IVec S8x1x2048 1 := cmpf .olt main_v1 main_v2
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1024x3840 .f32 := (extf .f32 · bitsLt_bf16_f32) main_arg3
  let main_v8 : FVec F S1024x3840 .f32 := Host.absf main_v7
  let main_cst_1 : FVec F S_ .f32 := constant S_ .f32 0x7F800000#32
  let main_v9 : FVec F S1024x3840 .f32 := broadcastInDim S1024x3840 ![] bcast_S_S1024x3840 main_cst_1
  let main_v10 : IVec S1024x3840 1 := cmpf .olt main_v8 main_v9
  let main_v11 : FVec F S1x384 .f32 := Host.absf main_arg8
  let main_cst_2 : FVec F S_ .f32 := constant S_ .f32 0x7F800000#32
  let main_v12 : FVec F S1x384 .f32 := broadcastInDim S1x384 ![] bcast_S_S1x384 main_cst_2
  let main_v13 : IVec S1x384 1 := cmpf .olt main_v11 main_v12
  let main_v14 : FVec F S1x256 .f32 := Host.absf main_arg9
  let main_cst_3 : FVec F S_ .f32 := constant S_ .f32 0x7F800000#32
  let main_v15 : FVec F S1x256 .f32 := broadcastInDim S1x256 ![] bcast_S_S1x256 main_cst_3
  let main_v16 : IVec S1x256 1 := cmpf .olt main_v14 main_v15
  let main_v17 : FVec F S384x768 .f32 := (extf .f32 · bitsLt_bf16_f32) main_arg10
  let main_v18 : FVec F S384x768 .f32 := Host.absf main_v17
  fn_part1 (F := F) main_arg11 main_v3 main_v6 main_v10 main_v13 main_v16 main_v18
-- ==== Kernel.lean ====
abbrev S8x8x4096x64 : Shape := ⟨4, ![8, 8, 4096, 64]⟩
abbrev S8x2x4096x64 : Shape := ⟨4, ![8, 2, 4096, 64]⟩
abbrev S8x2x64x4096 : Shape := ⟨4, ![8, 2, 64, 4096]⟩
abbrev S8x2x256x64 : Shape := ⟨4, ![8, 2, 256, 64]⟩
abbrev S8x2x64x256 : Shape := ⟨4, ![8, 2, 64, 256]⟩
abbrev S8x4096x512 : Shape := ⟨3, ![8, 4096, 512]⟩
abbrev S1x2x512x64 : Shape := ⟨4, ![1, 2, 512, 64]⟩
abbrev S1x1x256x64 : Shape := ⟨4, ![1, 1, 256, 64]⟩
abbrev S1x1x64x256 : Shape := ⟨4, ![1, 1, 64, 256]⟩
abbrev S1x1x4096x64 : Shape := ⟨4, ![1, 1, 4096, 64]⟩
abbrev S1x1x64x4096 : Shape := ⟨4, ![1, 1, 64, 4096]⟩
abbrev S1x512x128 : Shape := ⟨3, ![1, 512, 128]⟩
abbrev S1x1x512x64 : Shape := ⟨4, ![1, 1, 512, 64]⟩
abbrev S512x64 : Shape := ⟨2, ![512, 64]⟩
abbrev S1x512 : Shape := ⟨2, ![1, 512]⟩
abbrev S64x512 : Shape := ⟨2, ![64, 512]⟩
abbrev S256x64 : Shape := ⟨2, ![256, 64]⟩
abbrev S64x256 : Shape := ⟨2, ![64, 256]⟩
abbrev S256x512 : Shape := ⟨2, ![256, 512]⟩
abbrev S1x1x64x512 : Shape := ⟨4, ![1, 1, 64, 512]⟩
abbrev S512x512 : Shape := ⟨2, ![512, 512]⟩
abbrev S512 : Shape := ⟨1, ![512]⟩
abbrev S128x512 : Shape := ⟨2, ![128, 512]⟩
abbrev S512x128 : Shape := ⟨2, ![512, 128]⟩

abbrev nBuf : Space → Nat
  | .hbm => 6
  | .vmem => 12
  | .smem => 0
  | _ => 0

abbrev bufTy : (tb : Table) → Fin (tcTables nBuf tb) → BufTy
  | .hbm, ⟨0, _⟩ => ⟨S8x8x4096x64, .bf16⟩
  | .hbm, ⟨1, _⟩ => ⟨S8x2x4096x64, .bf16⟩
  | .hbm, ⟨2, _⟩ => ⟨S8x2x64x4096, .bf16⟩
  | .hbm, ⟨3, _⟩ => ⟨S8x2x256x64, .bf16⟩
  | .hbm, ⟨4, _⟩ => ⟨S8x2x64x256, .bf16⟩
  | .hbm, ⟨5, _⟩ => ⟨S8x4096x512, .bf16⟩
  | .local _ .vmem, ⟨0, _⟩ => ⟨S1x2x512x64, .bf16⟩
  | .local _ .vmem, ⟨1, _⟩ => ⟨S1x2x512x64, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x1x64x256, .bf16⟩
  | .local _ .vmem, ⟨5, _⟩ => ⟨S1x1x64x256, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x64x4096, .bf16⟩
  | .local _ .vmem, ⟨9, _⟩ => ⟨S1x1x64x4096, .bf16⟩
  | .local _ .vmem, ⟨10, _⟩ => ⟨S1x512x128, .bf16⟩
  | .local _ .vmem, ⟨11, _⟩ => ⟨S1x512x128, .bf16⟩
  | _, _ => ⟨S8x8x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S8x8x4096x64 : Shape := ⟨4, ![8, 8, 4096, 64]⟩
abbrev S8x2x4096x64 : Shape := ⟨4, ![8, 2, 4096, 64]⟩
abbrev S8x2x64x4096 : Shape := ⟨4, ![8, 2, 64, 4096]⟩
abbrev S8x2x256x64 : Shape := ⟨4, ![8, 2, 256, 64]⟩
abbrev S8x2x64x256 : Shape := ⟨4, ![8, 2, 64, 256]⟩
abbrev S8x2x4352x64 : Shape := ⟨4, ![8, 2, 4352, 64]⟩
abbrev S8x2x64x4352 : Shape := ⟨4, ![8, 2, 64, 4352]⟩
abbrev S8x2x4x4096x64 : Shape := ⟨5, ![8, 2, 4, 4096, 64]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x2x4x64 : Shape := ⟨5, ![8, 4096, 2, 4, 64]⟩
abbrev S8x4096x512 : Shape := ⟨3, ![8, 4096, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x8x4096x64, .bf16⟩
  | .hbm, ⟨1, _⟩ => ⟨S8x2x4096x64, .bf16⟩
  | .hbm, ⟨2, _⟩ => ⟨S8x2x64x4096, .bf16⟩
  | .hbm, ⟨3, _⟩ => ⟨S8x2x256x64, .bf16⟩
  | .hbm, ⟨4, _⟩ => ⟨S8x2x64x256, .bf16⟩
  | .hbm, ⟨5, _⟩ => ⟨S8x2x256x64, .f32⟩
  | .hbm, ⟨6, _⟩ => ⟨S8x2x4096x64, .f32⟩
  | .hbm, ⟨7, _⟩ => ⟨S8x2x4352x64, .f32⟩
  | .hbm, ⟨8, _⟩ => ⟨S8x2x64x256, .f32⟩
  | .hbm, ⟨9, _⟩ => ⟨S8x2x64x4096, .f32⟩
  | .hbm, ⟨10, _⟩ => ⟨S8x2x64x4352, .f32⟩
  | .hbm, ⟨11, _⟩ => ⟨S8x8x4096x64, .f32⟩
  | .hbm, ⟨12, _⟩ => ⟨S8x2x4x4096x64, .f32⟩
  | .hbm, ⟨13, _⟩ => ⟨S8x2x4x4096x4352, .f32⟩
  | .hbm, ⟨14, _⟩ => ⟨S_, .f32⟩
  | .hbm, ⟨15, _⟩ => ⟨S8x2x4x4096x4352, .f32⟩
  | .hbm, ⟨16, _⟩ => ⟨S8x2x4x4096x4352, .f32⟩
  | .hbm, ⟨17, _⟩ => ⟨S_, .f32⟩
  | .hbm, ⟨18, _⟩ => ⟨S8x2x4x4096, .f32⟩
  | .hbm, ⟨19, _⟩ => ⟨S_, .f32⟩
  | .hbm, ⟨20, _⟩ => ⟨S8x2x4x4096, .f32⟩
  | .hbm, ⟨21, _⟩ => ⟨S8x2x4x4096, .f32⟩
  | .hbm, ⟨22, _⟩ => ⟨S8x2x4x4096x1, .f32⟩
  | .hbm, ⟨23, _⟩ => ⟨S8x2x4x4096x4352, .f32⟩
  | .hbm, ⟨24, _⟩ => ⟨S8x2x4x4096x4352, .f32⟩
  | .hbm, ⟨25, _⟩ => ⟨S8x2x4x4096x4352, .f32⟩
  | .hbm, ⟨26, _⟩ => ⟨S_, .f32⟩
  | .hbm, ⟨27, _⟩ => ⟨S8x2x4x4096, .f32⟩
  | .hbm, ⟨28, _⟩ => ⟨S8x2x4x4096x1, .f32⟩
  | .hbm, ⟨29, _⟩ => ⟨S8x2x4x4096x4352, .f32⟩
  | .hbm, ⟨30, _⟩ => ⟨S8x2x4x4096x4352, .f32⟩
  | .hbm, ⟨31, _⟩ => ⟨S8x2x64x4x4096, .f32⟩
  | .hbm, ⟨32, _⟩ => ⟨S8x4096x2x4x64, .f32⟩
  | .hbm, ⟨33, _⟩ => ⟨S8x4096x512, .f32⟩
  | .hbm, ⟨34, _⟩ => ⟨S8x4096x512, .bf16⟩
  | _, _ => ⟨S8x8x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel2.lean ====
abbrev S8x8x4096x128 : Shape := ⟨4, ![8, 8, 4096, 128]⟩
abbrev S8x8x64x4096 : Shape := ⟨4, ![8, 8, 64, 4096]⟩
abbrev S8x8x256x128 : Shape := ⟨4, ![8, 8, 256, 128]⟩
abbrev S8x8x64x256 : Shape := ⟨4, ![8, 8, 64, 256]⟩
abbrev S8x4096x512 : Shape := ⟨3, ![8, 4096, 512]⟩
abbrev S1x2x512x128 : Shape := ⟨4, ![1, 2, 512, 128]⟩
abbrev S1x2x256x128 : Shape := ⟨4, ![1, 2, 256, 128]⟩
abbrev S1x2x64x256 : Shape := ⟨4, ![1, 2, 64, 256]⟩
abbrev S1x2x4096x128 : Shape := ⟨4, ![1, 2, 4096, 128]⟩
abbrev S1x2x64x4096 : Shape := ⟨4, ![1, 2, 64, 4096]⟩
abbrev S1x512x128 : Shape := ⟨3, ![1, 512, 128]⟩
abbrev S1x1x512x128 : Shape := ⟨4, ![1, 1, 512, 128]⟩
abbrev S512x128 : Shape := ⟨2, ![512, 128]⟩
abbrev S1x512 : Shape := ⟨2, ![1, 512]⟩
abbrev S64x512 : Shape := ⟨2, ![64, 512]⟩
abbrev S1x1x256x128 : Shape := ⟨4, ![1, 1, 256, 128]⟩
abbrev S256x128 : Shape := ⟨2, ![256, 128]⟩
abbrev S1x1x64x256 : Shape := ⟨4, ![1, 1, 64, 256]⟩
abbrev S64x256 : Shape := ⟨2, ![64, 256]⟩
abbrev S256x512 : Shape := ⟨2, ![256, 512]⟩
abbrev S1x1x64x512 : Shape := ⟨4, ![1, 1, 64, 512]⟩
abbrev S512x512 : Shape := ⟨2, ![512, 512]⟩
abbrev S512 : Shape := ⟨1, ![512]⟩
abbrev S128x512 : Shape := ⟨2, ![128, 512]⟩

abbrev nBuf : Space → Nat
  | .hbm => 6
  | .vmem => 12
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x64x4096, .bf16⟩
  | .hbm, ⟨3, _⟩ => ⟨S8x8x256x128, .bf16⟩
  | .hbm, ⟨4, _⟩ => ⟨S8x8x64x256, .bf16⟩
  | .hbm, ⟨5, _⟩ => ⟨S8x4096x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x2x64x256, .bf16⟩
  | .local _ .vmem, ⟨5, _⟩ => ⟨S1x2x64x256, .bf16⟩
  | .local _ .vmem, ⟨6, _⟩ => ⟨S1x2x4096x128, .bf16⟩
  | .local _ .vmem, ⟨7, _⟩ => ⟨S1x2x4096x128, .bf16⟩
  | .local _ .vmem, ⟨8, _⟩ => ⟨S1x2x64x4096, .bf16⟩
  | .local _ .vmem, ⟨9, _⟩ => ⟨S1x2x64x4096, .bf16⟩
  | .local _ .vmem, ⟨10, _⟩ => ⟨S1x512x128, .bf16⟩
  | .local _ .vmem, ⟨11, _⟩ => ⟨S1x512x128, .bf16⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "scale_c_log2e" => some ((((Real.sqrt 96) * (Real.log 2))⁻¹ : ℝ) : EReal)
  | _ => none
-- ==== Reference2Ideal.lean ====
abbrev S8x8x4096x128 : Shape := ⟨4, ![8, 8, 4096, 128]⟩
abbrev S8x8x64x4096 : Shape := ⟨4, ![8, 8, 64, 4096]⟩
abbrev S8x8x256x128 : Shape := ⟨4, ![8, 8, 256, 128]⟩
abbrev S8x8x64x256 : Shape := ⟨4, ![8, 8, 64, 256]⟩
abbrev S8x8x4352x128 : Shape := ⟨4, ![8, 8, 4352, 128]⟩
abbrev S8x8x64x4352 : Shape := ⟨4, ![8, 8, 64, 4352]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x4096x8x64 : Shape := ⟨4, ![8, 4096, 8, 64]⟩
abbrev S8x4096x512 : Shape := ⟨3, ![8, 4096, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x64x4096, .bf16⟩
  | .hbm, ⟨3, _⟩ => ⟨S8x8x256x128, .bf16⟩
  | .hbm, ⟨4, _⟩ => ⟨S8x8x64x256, .bf16⟩
  | .hbm, ⟨5, _⟩ => ⟨S8x8x256x128, .f32⟩
  | .hbm, ⟨6, _⟩ => ⟨S8x8x4096x128, .f32⟩
  | .hbm, ⟨7, _⟩ => ⟨S8x8x4352x128, .f32⟩
  | .hbm, ⟨8, _⟩ => ⟨S8x8x64x256, .f32⟩
  | .hbm, ⟨9, _⟩ => ⟨S8x8x64x4096, .f32⟩
  | .hbm, ⟨10, _⟩ => ⟨S8x8x64x4352, .f32⟩
  | .hbm, ⟨11, _⟩ => ⟨S8x8x4096x128, .f32⟩
  | .hbm, ⟨12, _⟩ => ⟨S8x8x4096x4352, .f32⟩
  | .hbm, ⟨13, _⟩ => ⟨S_, .f32⟩
  | .hbm, ⟨14, _⟩ => ⟨S_, .f32⟩
  | .hbm, ⟨15, _⟩ => ⟨S8x8x4096x4352, .f32⟩
  | .hbm, ⟨16, _⟩ => ⟨S8x8x4096x4352, .f32⟩
  | .hbm, ⟨17, _⟩ => ⟨S_, .f32⟩
  | .hbm, ⟨18, _⟩ => ⟨S8x8x4096, .f32⟩
  | .hbm, ⟨19, _⟩ => ⟨S_, .f32⟩
  | .hbm, ⟨20, _⟩ => ⟨S8x8x4096, .f32⟩
  | .hbm, ⟨21, _⟩ => ⟨S8x8x4096, .f32⟩
  | .hbm, ⟨22, _⟩ => ⟨S8x8x4096x1, .f32⟩
  | .hbm, ⟨23, _⟩ => ⟨S8x8x4096x4352, .f32⟩
  | .hbm, ⟨24, _⟩ => ⟨S8x8x4096x4352, .f32⟩
  | .hbm, ⟨25, _⟩ => ⟨S8x8x4096x4352, .f32⟩
  | .hbm, ⟨26, _⟩ => ⟨S_, .f32⟩
  | .hbm, ⟨27, _⟩ => ⟨S8x8x4096, .f32⟩
  | .hbm, ⟨28, _⟩ => ⟨S8x8x4096x1, .f32⟩
  | .hbm, ⟨29, _⟩ => ⟨S8x8x4096x4352, .f32⟩
  | .hbm, ⟨30, _⟩ => ⟨S8x8x4096x4352, .f32⟩
  | .hbm, ⟨31, _⟩ => ⟨S8x8x64x4096, .f32⟩
  | .hbm, ⟨32, _⟩ => ⟨S8x4096x8x64, .f32⟩
  | .hbm, ⟨33, _⟩ => ⟨S8x4096x512, .f32⟩
  | .hbm, ⟨34, _⟩ => ⟨S8x4096x512, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel3.lean ====
abbrev S8x8x4096x64 : Shape := ⟨4, ![8, 8, 4096, 64]⟩
abbrev S8x4x128x4096 : Shape := ⟨4, ![8, 4, 128, 4096]⟩
abbrev S8x8x256x64 : Shape := ⟨4, ![8, 8, 256, 64]⟩
abbrev S8x4x128x256 : Shape := ⟨4, ![8, 4, 128, 256]⟩
abbrev S4x64 : Shape := ⟨2, ![4, 64]⟩
abbrev S128x1 : Shape := ⟨2, ![128, 1]⟩
abbrev S8x4096x512 : Shape := ⟨3, ![8, 4096, 512]⟩
abbrev S1x2x512x64 : Shape := ⟨4, ![1, 2, 512, 64]⟩
abbrev S1x2x256x64 : Shape := ⟨4, ![1, 2, 256, 64]⟩
abbrev S1x1x128x256 : Shape := ⟨4, ![1, 1, 128, 256]⟩
abbrev S1x2x4096x64 : Shape := ⟨4, ![1, 2, 4096, 64]⟩
abbrev S1x1x128x4096 : Shape := ⟨4, ![1, 1, 128, 4096]⟩
abbrev S1x512x128 : Shape := ⟨3, ![1, 512, 128]⟩
abbrev S1x1x512x64 : Shape := ⟨4, ![1, 1, 512, 64]⟩
abbrev S512x64 : Shape := ⟨2, ![512, 64]⟩
abbrev S1x512 : Shape := ⟨2, ![1, 512]⟩
abbrev S128x512 : Shape := ⟨2, ![128, 512]⟩
abbrev S1x1x256x64 : Shape := ⟨4, ![1, 1, 256, 64]⟩
abbrev S256x64 : Shape := ⟨2, ![256, 64]⟩
abbrev S128x256 : Shape := ⟨2, ![128, 256]⟩
abbrev S256x512 : Shape := ⟨2, ![256, 512]⟩
abbrev S1x1x128x512 : Shape := ⟨4, ![1, 1, 128, 512]⟩
abbrev S512x512 : Shape := ⟨2, ![512, 512]⟩
abbrev S512 : Shape := ⟨1, ![512]⟩
abbrev S1x64 : Shape := ⟨2, ![1, 64]⟩
abbrev S1 : Shape := ⟨1, ![1]⟩
abbrev S1x1 : Shape := ⟨2, ![1, 1]⟩
abbrev S512x128 : Shape := ⟨2, ![512, 128]⟩

abbrev nBuf : Space → Nat
  | .hbm => 8
  | .vmem => 14
  | .smem => 0
  | _ => 0

abbrev bufTy : (tb : Table) → Fin (tcTables nBuf tb) → BufTy
  | .hbm, ⟨0, _⟩ => ⟨S8x8x4096x64, .bf16⟩
  | .hbm, ⟨1, _⟩ => ⟨S8x8x4096x64, .bf16⟩
  | .hbm, ⟨2, _⟩ => ⟨S8x4x128x4096, .bf16⟩
  | .hbm, ⟨3, _⟩ => ⟨S8x8x256x64, .bf16⟩
  | .hbm, ⟨4, _⟩ => ⟨S8x4x128x256, .bf16⟩
  | .hbm, ⟨5, _⟩ => ⟨S4x64, .f32⟩
  | .hbm, ⟨6, _⟩ => ⟨S128x1, .f32⟩
  | .hbm, ⟨7, _⟩ => ⟨S8x4096x512, .bf16⟩
  | .local _ .vmem, ⟨0, _⟩ => ⟨S1x2x512x64, .bf16⟩
  | .local _ .vmem, ⟨1, _⟩ => ⟨S1x2x512x64, .bf16⟩
  | .local _ .vmem, ⟨2, _⟩ => ⟨S1x2x256x64, .bf16⟩
  | .local _ .vmem, ⟨3, _⟩ => ⟨S1x2x256x64, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x2x4096x64, .bf16⟩
  | .local _ .vmem, ⟨7, _⟩ => ⟨S1x2x4096x64, .bf16⟩
  | .local _ .vmem, ⟨8, _⟩ => ⟨S1x1x128x4096, .bf16⟩
  | .local _ .vmem, ⟨9, _⟩ => ⟨S1x1x128x4096, .bf16⟩
  | .local _ .vmem, ⟨10, _⟩ => ⟨S4x64, .f32⟩
  | .local _ .vmem, ⟨11, _⟩ => ⟨S128x1, .f32⟩
  | .local _ .vmem, ⟨12, _⟩ => ⟨S1x512x128, .bf16⟩
  | .local _ .vmem, ⟨13, _⟩ => ⟨S1x512x128, .bf16⟩
  | _, _ => ⟨S8x8x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel3Ideal.lean ====
variable {F : FTy → Type} [FloatOps F] [Named F]
def κ : String → Option EReal := fun
  | "scale_log2e" => some (((8 * (Real.log 2))⁻¹ : ℝ) : EReal)
  | _ => none
-- ==== Reference3Ideal.lean ====
abbrev S8x8x4096x64 : Shape := ⟨4, ![8, 8, 4096, 64]⟩
abbrev S8x4x128x4096 : Shape := ⟨4, ![8, 4, 128, 4096]⟩
abbrev S8x8x256x64 : Shape := ⟨4, ![8, 8, 256, 64]⟩
abbrev S8x4x128x256 : Shape := ⟨4, ![8, 4, 128, 256]⟩
abbrev S4x64 : Shape := ⟨2, ![4, 64]⟩
abbrev S128x1 : Shape := ⟨2, ![128, 1]⟩
abbrev S8x8x4352x64 : Shape := ⟨4, ![8, 8, 4352, 64]⟩
abbrev S8x4x128x4352 : Shape := ⟨4, ![8, 4, 128, 4352]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x4x2x4096x4352 : Shape := ⟨5, ![8, 4, 2, 4096, 4352]⟩
abbrev S1x64 : Shape := ⟨2, ![1, 64]⟩
abbrev S64 : Shape := ⟨1, ![64]⟩
abbrev S8x4x1x4096x4352 : Shape := ⟨5, ![8, 4, 1, 4096, 4352]⟩
abbrev S8x4x4096x4352 : Shape := ⟨4, ![8, 4, 4096, 4352]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096x512 : Shape := ⟨3, ![8, 4096, 512]⟩

abbrev nBuf : Space → Nat
  | .hbm => 82
  | .vmem => 0
  | .smem => 0
  | _ => 0

abbrev bufTy : (tb : Table) → Fin (tcTables nBuf tb) → BufTy
  | .hbm, ⟨0, _⟩ => ⟨S8x8x4096x64, .bf16⟩
  | .hbm, ⟨1, _⟩ => ⟨S8x8x4096x64, .bf16⟩
  | .hbm, ⟨2, _⟩ => ⟨S8x4x128x4096, .bf16⟩
  | .hbm, ⟨3, _⟩ => ⟨S8x8x256x64, .bf16⟩
  | .hbm, ⟨4, _⟩ => ⟨S8x4x128x256, .bf16⟩
  | .hbm, ⟨5, _⟩ => ⟨S4x64, .f32⟩
  | .hbm, ⟨6, _⟩ => ⟨S128x1, .f32⟩
  | .hbm, ⟨7, _⟩ => ⟨S8x8x256x64, .f32⟩
  | .hbm, ⟨8, _⟩ => ⟨S8x8x4096x64, .f32⟩
  | .hbm, ⟨9, _⟩ => ⟨S8x8x4352x64, .f32⟩
  | .hbm, ⟨10, _⟩ => ⟨S8x4x128x256, .f32⟩
  | .hbm, ⟨11, _⟩ => ⟨S8x4x128x4096, .f32⟩
  | .hbm, ⟨12, _⟩ => ⟨S8x4x128x4352, .f32⟩
  | .hbm, ⟨13, _⟩ => ⟨S8x8x4096x64, .f32⟩
  | .hbm, ⟨14, _⟩ => ⟨S8x8x4096x4352, .f32⟩
  | .hbm, ⟨15, _⟩ => ⟨S_, .f32⟩
  | .hbm, ⟨16, _⟩ => ⟨S8x8x4096x4352, .f32⟩
  | .hbm, ⟨17, _⟩ => ⟨S8x8x4096x4352, .f32⟩
  | .hbm, ⟨18, _⟩ => ⟨S_, .f32⟩
  | .hbm, ⟨19, _⟩ => ⟨S8x8x4096, .f32⟩
  | .hbm, ⟨20, _⟩ => ⟨S_, .f32⟩
  | .hbm, ⟨21, _⟩ => ⟨S8x8x4096, .f32⟩
  | .hbm, ⟨22, _⟩ => ⟨S8x8x4096, .f32⟩
  | .hbm, ⟨23, _⟩ => ⟨S8x8x4096x1, .f32⟩
  | .hbm, ⟨24, _⟩ => ⟨S8x8x4096x4352, .f32⟩
  | .hbm, ⟨25, _⟩ => ⟨S8x8x4096x4352, .f32⟩
  | .hbm, ⟨26, _⟩ => ⟨S8x8x4096x4352, .f32⟩
  | .hbm, ⟨27, _⟩ => ⟨S_, .f32⟩
  | .hbm, ⟨28, _⟩ => ⟨S8x8x4096, .f32⟩
  | .hbm, ⟨29, _⟩ => ⟨S8x8x4096x1, .f32⟩
  | .hbm, ⟨30, _⟩ => ⟨S8x8x4096x4352, .f32⟩
  | .hbm, ⟨31, _⟩ => ⟨S8x8x4096x4352, .f32⟩
  | .hbm, ⟨32, _⟩ => ⟨S8x4x2x4096x4352, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8x4x1x4096x4352, .f32⟩
  | .hbm, ⟨53, _⟩ => ⟨S8x4x4096x4352, .f32⟩
  | .hbm, ⟨54, _⟩ => ⟨S8x4x1x4096x4352, .f32⟩
  | .hbm, ⟨55, _⟩ => ⟨S8x4x4096x4352, .f32⟩
  | .hbm, ⟨56, _⟩ => ⟨S8x4x4096x4352, .f32⟩
  | .hbm, ⟨57, _⟩ => ⟨S8x4x4096x4352, .f32⟩
  | .hbm, ⟨58, _⟩ => ⟨S8x4x4096x4352, .f32⟩
  | .hbm, ⟨59, _⟩ => ⟨S8x4x128x4096, .f32⟩
  | .hbm, ⟨60, _⟩ => ⟨S8x4096x4x128, .f32⟩
  | .hbm, ⟨61, _⟩ => ⟨S8x4096x4x128, .f32⟩
  | .hbm, ⟨62, _⟩ => ⟨S_, .f32⟩
  | .hbm, ⟨63, _⟩ => ⟨S8x4096x4, .f32⟩
  | .hbm, ⟨64, _⟩ => ⟨S8x4096x4x1, .f32⟩
  | .hbm, ⟨65, _⟩ => ⟨S_, .f32⟩
  | .hbm, ⟨66, _⟩ => ⟨S8x4096x4x1, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S8x4096x4x1, .f32⟩
  | .hbm, ⟨72, _⟩ => ⟨S8x4096x4x128, .f32⟩
  | .hbm, ⟨73, _⟩ => ⟨S8x4096x4x128, .f32⟩
  | .hbm, ⟨74, _⟩ => ⟨S1x1x1x128, .f32⟩
  | .hbm, ⟨75, _⟩ => ⟨S8x4096x4x128, .f32⟩
  | .hbm, ⟨76, _⟩ => ⟨S8x4096x4x128, .f32⟩
  | .hbm, ⟨77, _⟩ => ⟨S_, .f32⟩
  | .hbm, ⟨78, _⟩ => ⟨S8x4096x4x128, .f32⟩
  | .hbm, ⟨79, _⟩ => ⟨S8x4096x4x128, .f32⟩
  | .hbm, ⟨80, _⟩ => ⟨S8x4096x512, .f32⟩
  | .hbm, ⟨81, _⟩ => ⟨S8x4096x512, .bf16⟩
  | _, _ => ⟨S8x8x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x6144 : Shape := ⟨3, ![8, 1, 6144]⟩
abbrev S1x1024 : Shape := ⟨2, ![1, 1024]⟩
abbrev S8x4096x512 : Shape := ⟨3, ![8, 4096, 512]⟩
abbrev S1024x4096 : Shape := ⟨2, ![1024, 4096]⟩
abbrev S4x512x1024 : Shape := ⟨3, ![4, 512, 1024]⟩
abbrev S1024x1024 : Shape := ⟨2, ![1024, 1024]⟩
abbrev S16x1024 : Shape := ⟨2, ![16, 1024]⟩
abbrev S8x32x16x128 : Shape := ⟨4, ![8, 32, 16, 128]⟩
abbrev S1x256x1024 : Shape := ⟨3, ![1, 256, 1024]⟩
abbrev S1x1x6144 : Shape := ⟨3, ![1, 1, 6144]⟩
abbrev S1x256x512 : Shape := ⟨3, ![1, 256, 512]⟩
abbrev S1x2x16x128 : Shape := ⟨4, ![1, 2, 16, 128]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S256x512 : Shape := ⟨2, ![256, 512]⟩
abbrev S1x512x1024 : Shape := ⟨3, ![1, 512, 1024]⟩
abbrev S512x1024 : Shape := ⟨2, ![512, 1024]⟩
abbrev S16x256 : Shape := ⟨2, ![16, 256]⟩
abbrev S1x256 : Shape := ⟨2, ![1, 256]⟩
abbrev S16x128 : Shape := ⟨2, ![16, 128]⟩
abbrev S1x1x16x128 : Shape := ⟨4, ![1, 1, 16, 128]⟩

abbrev nBuf : Space → Nat
  | .hbm => 15
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1x1024, .f32⟩
  | .hbm, ⟨3, _⟩ => ⟨S1x1024, .f32⟩
  | .hbm, ⟨4, _⟩ => ⟨S8x4096x512, .bf16⟩
  | .hbm, ⟨5, _⟩ => ⟨S8x4096x512, .bf16⟩
  | .hbm, ⟨6, _⟩ => ⟨S8x4096x512, .bf16⟩
  | .hbm, ⟨7, _⟩ => ⟨S8x4096x512, .bf16⟩
  | .hbm, ⟨8, _⟩ => ⟨S1024x4096, .bf16⟩
  | .hbm, ⟨9, _⟩ => ⟨S4x512x1024, .bf16⟩
  | .hbm, ⟨10, _⟩ => ⟨S1024x1024, .bf16⟩
  | .hbm, ⟨11, _⟩ => ⟨S16x1024, .bf16⟩
  | .hbm, ⟨12, _⟩ => ⟨S8x4096x1024, .f32⟩
  | .hbm, ⟨13, _⟩ => ⟨S8x4096x1024, .bf16⟩
  | .hbm, ⟨14, _⟩ => ⟨S8x32x16x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1024x4096, .bf16⟩
  | .local _ .vmem, ⟨15, _⟩ => ⟨S4x512x1024, .bf16⟩
  | .local _ .vmem, ⟨16, _⟩ => ⟨S1024x1024, .bf16⟩
  | .local _ .vmem, ⟨17, _⟩ => ⟨S16x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .bf16⟩
  | .local _ .vmem, ⟨21, _⟩ => ⟨S1x256x1024, .bf16⟩
  | .local _ .vmem, ⟨22, _⟩ => ⟨S1x2x16x128, .f32⟩
  | .local _ .vmem, ⟨23, _⟩ => ⟨S1x2x16x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x4096x1024 : Shape := ⟨3, ![8, 4096, 1024]⟩
abbrev S8x1x6144 : Shape := ⟨3, ![8, 1, 6144]⟩
abbrev S1x1024 : Shape := ⟨2, ![1, 1024]⟩
abbrev S8x4096x512 : Shape := ⟨3, ![8, 4096, 512]⟩
abbrev S1024x4096 : Shape := ⟨2, ![1024, 4096]⟩
abbrev S4x512x1024 : Shape := ⟨3, ![4, 512, 1024]⟩
abbrev S1024x1024 : Shape := ⟨2, ![1024, 1024]⟩
abbrev S16x1024 : Shape := ⟨2, ![16, 1024]⟩
abbrev S8x1x1024 : Shape := ⟨3, ![8, 1, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S8x4096x4x1024 : Shape := ⟨4, ![8, 4096, 4, 1024]⟩
abbrev S8x4096x1x1024 : Shape := ⟨4, ![8, 4096, 1, 1024]⟩
abbrev S1x512x1024 : Shape := ⟨3, ![1, 512, 1024]⟩
abbrev S512x1024 : Shape := ⟨2, ![512, 1024]⟩
abbrev S8x4096x16 : Shape := ⟨3, ![8, 4096, 16]⟩
abbrev S8x32x128x16 : Shape := ⟨4, ![8, 32, 128, 16]⟩
abbrev S8x32x16x128 : Shape := ⟨4, ![8, 32, 16, 128]⟩

abbrev nBuf : Space → Nat
  | .hbm => 133
  | .vmem => 0
  | .smem => 0
  | _ => 0

abbrev hbmTy0_0 (i : Nat) : BufTy := match i % 128 with
  | 0 => ⟨S8x4096x1024, .f32⟩
  | 1 => ⟨S8x1x6144, .f32⟩
  | 2 => ⟨S1x1024, .f32⟩
  | 3 => ⟨S1x1024, .f32⟩
  | 4 => ⟨S8x4096x512, .bf16⟩
  | 5 => ⟨S8x4096x512, .bf16⟩
  | 6 => ⟨S8x4096x512, .bf16⟩
  | 7 => ⟨S8x4096x512, .bf16⟩
  | 8 => ⟨S1024x4096, .bf16⟩
  | 9 => ⟨S4x512x1024, .bf16⟩
  | 10 => ⟨S1024x1024, .bf16⟩
  | 11 => ⟨S16x1024, .bf16⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S1x1x1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S8x4096x1024, .f32⟩
  | 32 => ⟨S8x4096x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S1024x4096, .f32⟩
  | 41 => ⟨S8x4096x4096, .f32⟩
  | 42 => ⟨S8x4096x4x1024, .f32⟩
  | 43 => ⟨S8x4096x4x1024, .f32⟩
  | 44 => ⟨S8x4096x4x1024, .f32⟩
  | 45 => ⟨S_, .f32⟩
  | 46 => ⟨S8x4096x4x1024, .f32⟩
  | 47 => ⟨S8x4096x4x1024, .f32⟩
  | 48 => ⟨S_, .f32⟩
  | 49 => ⟨S8x4096x4x1024, .f32⟩
  | 50 => ⟨S8x4096x4x1024, .f32⟩
  | 51 => ⟨S8x4096x1x1024, .f32⟩
  | 52 => ⟨S8x4096x1024, .f32⟩
  | 53 => ⟨S8x4096x512, .f32⟩
  | 54 => ⟨S1x512x1024, .bf16⟩
  | 55 => ⟨S512x1024, .bf16⟩
  | 56 => ⟨S512x1024, .f32⟩
  | 57 => ⟨S8x4096x1024, .f32⟩
  | 58 => ⟨S8x4096x1024, .f32⟩
  | 59 => ⟨S8x4096x1x1024, .f32⟩
  | 60 => ⟨S8x4096x1024, .f32⟩
  | 61 => ⟨S8x4096x512, .f32⟩
  | 62 => ⟨S1x512x1024, .bf16⟩
  | 63 => ⟨S512x1024, .bf16⟩
  | 64 => ⟨S512x1024, .f32⟩
  | 65 => ⟨S8x4096x1024, .f32⟩
  | 66 => ⟨S8x4096x1024, .f32⟩
  | 67 => ⟨S8x4096x1024, .f32⟩
  | 68 => ⟨S8x4096x1x1024, .f32⟩
  | 69 => ⟨S8x4096x1024, .f32⟩
  | 70 => ⟨S8x4096x512, .f32⟩
  | 71 => ⟨S1x512x1024, .bf16⟩
  | 72 => ⟨S512x1024, .bf16⟩
  | 73 => ⟨S512x1024, .f32⟩
  | 74 => ⟨S8x4096x1024, .f32⟩
  | 75 => ⟨S8x4096x1024, .f32⟩
  | 76 => ⟨S8x4096x1024, .f32⟩
  | 77 => ⟨S8x4096x1x1024, .f32⟩
  | 78 => ⟨S8x4096x1024, .f32⟩
  | 79 => ⟨S8x4096x512, .f32⟩
  | 80 => ⟨S1x512x1024, .bf16⟩
  | 81 => ⟨S512x1024, .bf16⟩
  | 82 => ⟨S512x1024, .f32⟩
  | 83 => ⟨S8x4096x1024, .f32⟩
  | 84 => ⟨S8x4096x1024, .f32⟩
  | 85 => ⟨S8x4096x1024, .f32⟩
  | 86 => ⟨S1024x1024, .f32⟩
  | 87 => ⟨S8x4096x1024, .f32⟩
  | 88 => ⟨S8x4096x1024, .f32⟩
  | 89 => ⟨S8x4096x1024, .f32⟩
  | 90 => ⟨S8x4096x1024, .f32⟩
  | 91 => ⟨S1x1x1024, .f32⟩
  | 92 => ⟨S8x4096x1024, .f32⟩
  | 93 => ⟨S_, .f32⟩
  | 94 => ⟨S8x4096, .f32⟩
  | 95 => ⟨S8x4096x1, .f32⟩
  | 96 => ⟨S_, .f32⟩
  | 97 => ⟨S8x4096x1, .f32⟩
  | 98 => ⟨S8x4096x1, .f32⟩
  | 99 => ⟨S_, .f32⟩
  | 100 => ⟨S8x4096x1, .f32⟩
  | 101 => ⟨S8x4096x1, .f32⟩
  | 102 => ⟨S8x4096x1, .f32⟩
  | 103 => ⟨S8x4096x1024, .f32⟩
  | 104 => ⟨S8x4096x1024, .f32⟩
  | 105 => ⟨S8x4096x1024, .f32⟩
  | 106 => ⟨S8x4096x1024, .f32⟩
  | 107 => ⟨S_, .f32⟩
  | 108 => ⟨S8x1x1024, .f32⟩
  | 109 => ⟨S8x1x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S16x1024, .f32⟩
  | 115 => ⟨S8x4096x16, .f32⟩
  | 116 => ⟨S_, .f32⟩
  | 117 => ⟨S8x4096, .f32⟩
  | 118 => ⟨S_, .f32⟩
  | 119 => ⟨S8x4096, .f32⟩
  | 120 => ⟨S8x4096, .f32⟩
  | 121 => ⟨S8x4096x1, .f32⟩
  | 122 => ⟨S8x4096x16, .f32⟩
  | 123 => ⟨S8x4096x16, .f32⟩
  | 124 => ⟨S8x4096x16, .f32⟩
  | 125 => ⟨S_, .f32⟩
  | 126 => ⟨S8x4096, .f32⟩
  | 127 => ⟨S8x4096x1, .f32⟩
  | _ => ⟨S8x4096x1024, .f32⟩

abbrev hbmTy0_1 (i : Nat) : BufTy := match i % 128 with
  | 0 => ⟨S8x4096x16, .f32⟩
  | 1 => ⟨S8x4096x16, .f32⟩
  | 2 => ⟨S8x4096x1024, .bf16⟩
  | 3 => ⟨S8x32x128x16, .f32⟩
  | 4 => ⟨S8x32x16x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_5 : Ref sig .tc := ⟨.hbm, 93, rfl⟩
abbrev main_v75 : Ref sig .tc := ⟨.hbm, 94, rfl⟩
abbrev main_v76 : Ref sig .tc := ⟨.hbm, 95, rfl⟩
abbrev main_cst_6 : Ref sig .tc := ⟨.hbm, 96, rfl⟩
abbrev main_v77 : Ref sig .tc := ⟨.hbm, 97, rfl⟩
abbrev main_v78 : Ref sig .tc := ⟨.hbm, 98, rfl⟩
abbrev main_cst_7 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_8 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_9 : Ref sig .tc := ⟨.hbm, 116, rfl⟩
abbrev main_v94 : Ref sig .tc := ⟨.hbm, 117, rfl⟩
abbrev main_cst_10 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_11 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x1x6144 : Shape := ⟨3, ![8, 1, 6144]⟩
abbrev S1x1024 : Shape := ⟨2, ![1, 1024]⟩
abbrev S1024x3840 : Shape := ⟨2, ![1024, 3840]⟩
abbrev S1x64 : Shape := ⟨2, ![1, 64]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S1x32 : Shape := ⟨2, ![1, 32]⟩
abbrev S4096x64 : Shape := ⟨2, ![4096, 64]⟩
abbrev S4096x32 : Shape := ⟨2, ![4096, 32]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S1x1x1x32 : Shape := ⟨4, ![1, 1, 1, 32]⟩
abbrev S1x1x8x32 : Shape := ⟨4, ![1, 1, 8, 32]⟩
abbrev S_ : Shape := ⟨0, ![]⟩
abbrev S1x96 : Shape := ⟨2, ![1, 96]⟩
abbrev S64 : Shape := ⟨1, ![64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32 : Shape := ⟨1, ![32]⟩
abbrev S1x4096x1x32 : Shape := ⟨4, ![1, 4096, 1, 32]⟩
abbrev S1x4096x4x32 : Shape := ⟨4, ![1, 4096, 4, 32]⟩
abbrev S8x8x4096x64 : Shape := ⟨4, ![8, 8, 4096, 64]⟩
abbrev S8x4x128x4096 : Shape := ⟨4, ![8, 4, 128, 4096]⟩
abbrev S8x2x4096x64 : Shape := ⟨4, ![8, 2, 4096, 64]⟩
abbrev S8x2x64x4096 : Shape := ⟨4, ![8, 2, 64, 4096]⟩
abbrev S8x8x4096x128 : Shape := ⟨4, ![8, 8, 4096, 128]⟩
abbrev S8x8x64x4096 : Shape := ⟨4, ![8, 8, 64, 4096]⟩
abbrev S1x256x1024 : Shape := ⟨3, ![1, 256, 1024]⟩
abbrev S1x1x6144 : Shape := ⟨3, ![1, 1, 6144]⟩
abbrev S256x128 : Shape := ⟨2, ![256, 128]⟩
abbrev S1x8x256x64 : Shape := ⟨4, ![1, 8, 256, 64]⟩
abbrev S1x4x128x256 : Shape := ⟨4, ![1, 4, 128, 256]⟩
abbrev S1x2x256x64 : Shape := ⟨4, ![1, 2, 256, 64]⟩
abbrev S1x2x64x256 : Shape := ⟨4, ![1, 2, 64, 256]⟩
abbrev S1x8x256x128 : Shape := ⟨4, ![1, 8, 256, 128]⟩
abbrev S1x8x64x256 : Shape := ⟨4, ![1, 8, 64, 256]⟩
abbrev S1x6144 : Shape := ⟨2, ![1, 6144]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x128 : Shape := ⟨2, ![512, 128]⟩
abbrev S128x512 : Shape := ⟨2, ![128, 512]⟩
abbrev S256x64 : Shape := ⟨2, ![256, 64]⟩
abbrev S1x1x256x64 : Shape := ⟨4, ![1, 1, 256, 64]⟩
abbrev S512x256 : Shape := ⟨2, ![512, 256]⟩
abbrev S128x256 : Shape := ⟨2, ![128, 256]⟩
abbrev S1x1x128x256 : Shape := ⟨4, ![1, 1, 128, 256]⟩
abbrev S1024x128 : Shape := ⟨2, ![1024, 128]⟩
abbrev S128x128 : Shape := ⟨2, ![128, 128]⟩
abbrev S64x256 : Shape := ⟨2, ![64, 256]⟩
abbrev S1x1x64x256 : Shape := ⟨4, ![1, 1, 64, 256]⟩
abbrev S1024x384 : Shape := ⟨2, ![1024, 384]⟩
abbrev S256x384 : Shape := ⟨2, ![256, 384]⟩
abbrev S256x768 : Shape := ⟨2, ![256, 768]⟩
abbrev S256x256 : Shape := ⟨2, ![256, 256]⟩
abbrev S256x32 : Shape := ⟨2, ![256, 32]⟩
abbrev S1x1x256x128 : Shape := ⟨4, ![1, 1, 256, 128]⟩
abbrev S1024x256 : Shape := ⟨2, ![1024, 256]⟩

abbrev nBuf : Space → Nat
  | .hbm => 122
  | .vmem => 56
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1x1024, .f32⟩
  | .hbm, ⟨3, _⟩ => ⟨S1024x3840, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x384, .f32⟩
  | .hbm, ⟨9, _⟩ => ⟨S1x256, .f32⟩
  | .hbm, ⟨10, _⟩ => ⟨S384x768, .bf16⟩
  | .hbm, ⟨11, _⟩ => ⟨S256x1024, .bf16⟩
  | .hbm, ⟨12, _⟩ => ⟨S1x64, .f32⟩
  | .hbm, ⟨13, _⟩ => ⟨S1x64, .f32⟩
  | .hbm, ⟨14, _⟩ => ⟨S1x32, .f32⟩
  | .hbm, ⟨15, _⟩ => ⟨S1x32, .f32⟩
  | .hbm, ⟨16, _⟩ => ⟨S1x64, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x32, .f32⟩
  | .hbm, ⟨21, _⟩ => ⟨S4096x32, .f32⟩
  | .hbm, ⟨22, _⟩ => ⟨S1x1x1x64, .f32⟩
  | .hbm, ⟨23, _⟩ => ⟨S1x1x8x64, .f32⟩
  | .hbm, ⟨24, _⟩ => ⟨S1x512, .f32⟩
  | .hbm, ⟨25, _⟩ => ⟨S1x1x1x64, .f32⟩
  | .hbm, ⟨26, _⟩ => ⟨S1x1x8x64, .f32⟩
  | .hbm, ⟨27, _⟩ => ⟨S1x512, .f32⟩
  | .hbm, ⟨28, _⟩ => ⟨S1x1x1x64, .f32⟩
  | .hbm, ⟨29, _⟩ => ⟨S1x1x8x64, .f32⟩
  | .hbm, ⟨30, _⟩ => ⟨S1x512, .f32⟩
  | .hbm, ⟨31, _⟩ => ⟨S1x1x1x64, .f32⟩
  | .hbm, ⟨32, _⟩ => ⟨S1x1x2x64, .f32⟩
  | .hbm, ⟨33, _⟩ => ⟨S1x128, .f32⟩
  | .hbm, ⟨34, _⟩ => ⟨S1x1x1x64, .f32⟩
  | .hbm, ⟨35, _⟩ => ⟨S1x1x8x64, .f32⟩
  | .hbm, ⟨36, _⟩ => ⟨S1x512, .f32⟩
  | .hbm, ⟨37, _⟩ => ⟨S1x1x1x64, .f32⟩
  | .hbm, ⟨38, _⟩ => ⟨S1x1x8x64, .f32⟩
  | .hbm, ⟨39, _⟩ => ⟨S1x512, .f32⟩
  | .hbm, ⟨40, _⟩ => ⟨S1x1x1x32, .f32⟩
  | .hbm, ⟨41, _⟩ => ⟨S1x1x8x32, .f32⟩
  | .hbm, ⟨42, _⟩ => ⟨S1x256, .f32⟩
  | .hbm, ⟨43, _⟩ => ⟨S_, .f32⟩
  | .hbm, ⟨44, _⟩ => ⟨S1x96, .f32⟩
  | .hbm, ⟨45, _⟩ => ⟨S1x128, .f32⟩
  | .hbm, ⟨46, _⟩ => ⟨S1x1x1x64, .f32⟩
  | .hbm, ⟨47, _⟩ => ⟨S1x1x8x64, .f32⟩
  | .hbm, ⟨48, _⟩ => ⟨S1x512, .f32⟩
  | .hbm, ⟨49, _⟩ => ⟨S1x1x1x64, .f32⟩
  | .hbm, ⟨50, _⟩ => ⟨S1x1x2x64, .f32⟩
  | .hbm, ⟨51, _⟩ => ⟨S1x128, .f32⟩
  | .hbm, ⟨52, _⟩ => ⟨S64, .i32⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S_, .i32⟩
  | .hbm, ⟨57, _⟩ => ⟨S64, .i32⟩
  | .hbm, ⟨58, _⟩ => ⟨S64, .i1⟩
  | .hbm, ⟨59, _⟩ => ⟨S1x64, .i1⟩
  | .hbm, ⟨60, _⟩ => ⟨S4096x64, .f32⟩
  | .hbm, ⟨61, _⟩ => ⟨S_, .f32⟩
  | .hbm, ⟨62, _⟩ => ⟨S_, .f32⟩
  | .hbm, ⟨63, _⟩ => ⟨S4096x64, .i1⟩
  | .hbm, ⟨64, _⟩ => ⟨S4096x64, .f32⟩
  | .hbm, ⟨65, _⟩ => ⟨S4096x64, .f32⟩
  | .hbm, ⟨66, _⟩ => ⟨S1x64, .i1⟩
  | .hbm, ⟨67, _⟩ => ⟨S_, .f32⟩
  | .hbm, ⟨68, _⟩ => ⟨S_, .f32⟩
  | .hbm, ⟨69, _⟩ => ⟨S4096x64, .i1⟩
  | .hbm, ⟨70, _⟩ => ⟨S4096x64, .f32⟩
  | .hbm, ⟨71, _⟩ => ⟨S4096x64, .f32⟩
  | .hbm, ⟨72, _⟩ => ⟨S1x4096x1x64, .f32⟩
  | .hbm, ⟨73, _⟩ => ⟨S1x4096x2x64, .f32⟩
  | .hbm, ⟨74, _⟩ => ⟨S4096x128, .f32⟩
  | .hbm, ⟨75, _⟩ => ⟨S1x4096x1x64, .f32⟩
  | .hbm, ⟨76, _⟩ => ⟨S1x4096x2x64, .f32⟩
  | .hbm, ⟨77, _⟩ => ⟨S4096x128, .f32⟩
  | .hbm, ⟨78, _⟩ => ⟨S1x4096x1x64, .f32⟩
  | .hbm, ⟨79, _⟩ => ⟨S1x4096x2x64, .f32⟩
  | .hbm, ⟨80, _⟩ => ⟨S4096x128, .f32⟩
  | .hbm, ⟨81, _⟩ => ⟨S32, .i32⟩
  | .hbm, ⟨82, _⟩ => ⟨S_, .i32⟩
  | .hbm, ⟨83, _⟩ => ⟨S32, .i32⟩
  | .hbm, ⟨84, _⟩ => ⟨S32, .i32⟩
  | .hbm, ⟨85, _⟩ => ⟨S_, .i32⟩
  | .hbm, ⟨86, _⟩ => ⟨S32, .i32⟩
  | .hbm, ⟨87, _⟩ => ⟨S32, .i1⟩
  | .hbm, ⟨88, _⟩ => ⟨S1x32, .i1⟩
  | .hbm, ⟨89, _⟩ => ⟨S4096x32, .f32⟩
  | .hbm, ⟨90, _⟩ => ⟨S_, .f32⟩
  | .hbm, ⟨91, _⟩ => ⟨S_, .f32⟩
  | .hbm, ⟨92, _⟩ => ⟨S4096x32, .i1⟩
  | .hbm, ⟨93, _⟩ => ⟨S4096x32, .f32⟩
  | .hbm, ⟨94, _⟩ => ⟨S4096x32, .f32⟩
  | .hbm, ⟨95, _⟩ => ⟨S1x32, .i1⟩
  | .hbm, ⟨96, _⟩ => ⟨S_, .f32⟩
  | .hbm, ⟨97, _⟩ => ⟨S_, .f32⟩
  | .hbm, ⟨98, _⟩ => ⟨S4096x32, .i1⟩
  | .hbm, ⟨99, _⟩ => ⟨S4096x32, .f32⟩
  | .hbm, ⟨100, _⟩ => ⟨S4096x32, .f32⟩
  | .hbm, ⟨101, _⟩ => ⟨S1x4096x1x32, .f32⟩
  | .hbm, ⟨102, _⟩ => ⟨S1x4096x4x32, .f32⟩
  | .hbm, ⟨103, _⟩ => ⟨S4096x128, .f32⟩
  | .hbm, ⟨104, _⟩ => ⟨S1x4096x1x32, .f32⟩
  | .hbm, ⟨105, _⟩ => ⟨S1x4096x4x32, .f32⟩
  | .hbm, ⟨106, _⟩ => ⟨S4096x128, .f32⟩
  | .hbm, ⟨107, _⟩ => ⟨S1x4096x1x32, .f32⟩
  | .hbm, ⟨108, _⟩ => ⟨S1x4096x4x32, .f32⟩
  | .hbm, ⟨109, _⟩ => ⟨S4096x128, .f32⟩
  | .hbm, ⟨110, _⟩ => ⟨S8x8x4096x64, .bf16⟩
  | .hbm, ⟨111, _⟩ => ⟨S8x8x4096x64, .bf16⟩
  | .hbm, ⟨112, _⟩ => ⟨S8x4x128x4096, .bf16⟩
  | .hbm, ⟨113, _⟩ => ⟨S8x8x4096x64, .bf16⟩
  | .hbm, ⟨114, _⟩ => ⟨S8x2x4096x64, .bf16⟩
  | .hbm, ⟨115, _⟩ => ⟨S8x2x64x4096, .bf16⟩
  | .hbm, ⟨116, _⟩ => ⟨S8x8x4096x128, .bf16⟩
  | .hbm, ⟨117, _⟩ => ⟨S8x8x4096x128, .bf16⟩
  | .hbm, ⟨118, _⟩ => ⟨S8x8x64x4096, .bf16⟩
  | .hbm, ⟨119, _⟩ => ⟨S8x8x4096x64, .bf16⟩
  | .hbm, ⟨120, _⟩ => ⟨S8x2x4096x64, .bf16⟩
  | .hbm, ⟨121, _⟩ => ⟨S8x2x4096x64, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3840, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x128, .f32⟩
  | .local _ .vmem, ⟨10, _⟩ => ⟨S1x384, .f32⟩
  | .local _ .vmem, ⟨11, _⟩ => ⟨S1x256, .f32⟩
  | .local _ .vmem, ⟨12, _⟩ => ⟨S384x768, .bf16⟩
  | .local _ .vmem, ⟨13, _⟩ => ⟨S256x1024, .bf16⟩
  | .local _ .vmem, ⟨14, _⟩ => ⟨S1x512, .f32⟩
  | .local _ .vmem, ⟨15, _⟩ => ⟨S1x512, .f32⟩
  | .local _ .vmem, ⟨16, _⟩ => ⟨S1x256, .f32⟩
  | .local _ .vmem, ⟨17, _⟩ => ⟨S1x128, .f32⟩
  | .local _ .vmem, ⟨18, _⟩ => ⟨S1x512, .f32⟩
  | .local _ .vmem, ⟨19, _⟩ => ⟨S1x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S1x8x256x64, .bf16⟩
  | .local _ .vmem, ⟨33, _⟩ => ⟨S1x8x256x64, .bf16⟩
  | .local _ .vmem, ⟨34, _⟩ => ⟨S1x8x256x64, .bf16⟩
  | .local _ .vmem, ⟨35, _⟩ => ⟨S1x8x256x64, .bf16⟩
  | .local _ .vmem, ⟨36, _⟩ => ⟨S1x4x128x256, .bf16⟩
  | .local _ .vmem, ⟨37, _⟩ => ⟨S1x4x128x256, .bf16⟩
  | .local _ .vmem, ⟨38, _⟩ => ⟨S1x8x256x64, .bf16⟩
  | .local _ .vmem, ⟨39, _⟩ => ⟨S1x8x256x64, .bf16⟩
  | .local _ .vmem, ⟨40, _⟩ => ⟨S1x2x256x64, .bf16⟩
  | .local _ .vmem, ⟨41, _⟩ => ⟨S1x2x256x64, .bf16⟩
  | .local _ .vmem, ⟨42, _⟩ => ⟨S1x2x64x256, .bf16⟩
  | .local _ .vmem, ⟨43, _⟩ => ⟨S1x2x64x256, .bf16⟩
  | .local _ .vmem, ⟨44, _⟩ => ⟨S1x8x256x128, .bf16⟩
  | .local _ .vmem, ⟨45, _⟩ => ⟨S1x8x256x128, .bf16⟩
  | .local _ .vmem, ⟨46, _⟩ => ⟨S1x8x256x128, .bf16⟩
  | .local _ .vmem, ⟨47, _⟩ => ⟨S1x8x256x128, .bf16⟩
  | .local _ .vmem, ⟨48, _⟩ => ⟨S1x8x64x256, .bf16⟩
  | .local _ .vmem, ⟨49, _⟩ => ⟨S1x8x64x256, .bf16⟩
  | .local _ .vmem, ⟨50, _⟩ => ⟨S1x8x256x64, .bf16⟩
  | .local _ .vmem, ⟨51, _⟩ => ⟨S1x8x256x64, .bf16⟩
  | .local _ .vmem, ⟨52, _⟩ => ⟨S1x2x256x64, .bf16⟩
  | .local _ .vmem, ⟨53, _⟩ => ⟨S1x2x256x64, .bf16⟩
  | .local _ .vmem, ⟨54, _⟩ => ⟨S1x2x256x64, .bf16⟩
  | .local _ .vmem, ⟨55, _⟩ => ⟨S1x2x256x64, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c : Ref sig .tc := ⟨.hbm, 53, rfl⟩
abbrev main_v30 : Ref sig .tc := ⟨.hbm, 54, rfl⟩
abbrev main_v31 : Ref sig .tc := ⟨.hbm, 55, rfl⟩
abbrev main_c_0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_1 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v36 : Ref sig .tc := ⟨.hbm, 65, rfl⟩
abbrev main_v37 : Ref sig .tc := ⟨.hbm, 66, rfl⟩
abbrev main_cst_2 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_3 : Ref sig .tc := ⟨.hbm, 82, rfl⟩
abbrev main_v49 : Ref sig .tc := ⟨.hbm, 83, rfl⟩
abbrev main_v50 : Ref sig .tc := ⟨.hbm, 84, rfl⟩
abbrev main_c_4 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_5 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v55 : Ref sig .tc := ⟨.hbm, 94, rfl⟩
abbrev main_v56 : Ref sig .tc := ⟨.hbm, 95, rfl⟩
abbrev main_cst_6 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67_0 : Ref sig .tc := ⟨.hbm, 110, rfl⟩
abbrev main_v67_1 : Ref sig .tc := ⟨.hbm, 111, rfl⟩
abbrev main_v67_2 : Ref sig .tc := ⟨.hbm, 112, rfl⟩
abbrev main_v67_3 : Ref sig .tc := ⟨.hbm, 113, rfl⟩
abbrev main_v67_4 : Ref sig .tc := ⟨.hbm, 114, rfl⟩
abbrev main_v67_5 : Ref sig .tc := ⟨.hbm, 115, rfl⟩
abbrev main_v67_6 : Ref sig .tc := ⟨.hbm, 116, rfl⟩
abbrev main_v67_7 : Ref sig .tc := ⟨.hbm, 117, rfl⟩
abbrev main_v67_8 : Ref sig .tc := ⟨.hbm, 118, rfl⟩
abbrev main_v67_9 : Ref sig .tc := ⟨.hbm, 119, rfl⟩
abbrev main_v67_10 : Ref sig .tc := ⟨.hbm, 120, rfl⟩
abbrev main_v67_11 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_stg30_0 : Ref sig .tc := ⟨.vmem, 44, rfl⟩
abbrev cc0_stg30_1 : Ref sig .tc := ⟨.vmem, 45, rfl⟩
abbrev cc0_stg31_0 : Ref sig .tc := ⟨.vmem, 46, rfl⟩
abbrev cc0_stg31_1 : Ref sig .tc := ⟨.vmem, 47, rfl⟩
abbrev cc0_stg32_0 : Ref sig .tc := ⟨.vmem, 48, rfl⟩
abbrev cc0_stg32_1 : Ref sig .tc := ⟨.vmem, 49, rfl⟩
abbrev cc0_stg33_0 : Ref sig .tc := ⟨.vmem, 50, rfl⟩
abbrev cc0_stg33_1 : Ref sig .tc := ⟨.vmem, 51, rfl⟩
abbrev cc0_stg34_0 : Ref sig .tc := ⟨.vmem, 52, rfl⟩
abbrev cc0_stg34_1 : Ref sig .tc := ⟨.vmem, 53, rfl⟩
abbrev cc0_stg35_0 : Ref sig .tc := ⟨.vmem, 54, rfl⟩
abbrev cc0_stg35_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43
abbrev cc0_sem30_0 : DmaSem sig := 44
abbrev cc0_sem30_1 : DmaSem sig := 45
abbrev cc0_sem31_0 : DmaSem sig := 46
abbrev cc0_sem31_1 : DmaSem sig := 47
abbrev cc0_sem32_0 : DmaSem sig := 48
abbrev cc0_sem32_1 : DmaSem sig := 49
abbrev cc0_sem33_0 : DmaSem sig := 50
abbrev cc0_sem33_1 : DmaSem sig := 51
abbrev cc0_sem34_0 : DmaSem sig := 52
abbrev cc0_sem34_1 : DmaSem sig := 53
abbrev cc0_sem35_0 : DmaSem sig := 54
abbrev cc0_sem35_1 : DmaSem sig := 55

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_29 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_30 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_31 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_32 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_33 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_34 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_35 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![false, true]

abbrev stage0_24 : Fin 2 → Memref sig .tc .vmem S1x8x256x64 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x8x256x64 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x4x128x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x8x256x64 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x2x256x64 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x2x64x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x8x256x128 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x8x256x128 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x8x64x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x8x256x64 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x2x256x64 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x2x256x64 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]
-- ==== Reference5Ideal.lean ====
abbrev S8x4096x1024 : Shape := ⟨3, ![8, 4096, 1024]⟩
abbrev S8x1x6144 : Shape := ⟨3, ![8, 1, 6144]⟩
abbrev S1x1024 : Shape := ⟨2, ![1, 1024]⟩
abbrev S1024x3840 : Shape := ⟨2, ![1024, 3840]⟩
abbrev S1x64 : Shape := ⟨2, ![1, 64]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S1x32 : Shape := ⟨2, ![1, 32]⟩
abbrev S4096x64 : Shape := ⟨2, ![4096, 64]⟩
abbrev S4096x32 : Shape := ⟨2, ![4096, 32]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4096x3840 : Shape := ⟨3, ![8, 4096, 3840]⟩
abbrev S8x4096x512 : Shape := ⟨3, ![8, 4096, 512]⟩
abbrev S8x4096x128 : Shape := ⟨3, ![8, 4096, 128]⟩
abbrev S8x4096x384 : Shape := ⟨3, ![8, 4096, 384]⟩
abbrev S8x4096x256 : Shape := ⟨3, ![8, 4096, 256]⟩
abbrev S8x4096x32 : Shape := ⟨3, ![8, 4096, 32]⟩
abbrev S8x4096x8x64 : Shape := ⟨4, ![8, 4096, 8, 64]⟩
abbrev S64 : Shape := ⟨1, ![64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x16 : Shape := ⟨4, ![8, 4096, 8, 16]⟩
abbrev S4096x1x64 : Shape := ⟨3, ![4096, 1, 64]⟩
abbrev S1x4096x1x64 : Shape := ⟨4, ![1, 4096, 1, 64]⟩
abbrev S8x8x4096x64 : Shape := ⟨4, ![8, 8, 4096, 64]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x16 : Shape := ⟨4, ![8, 4096, 2, 16]⟩
abbrev S8x2x4096x64 : Shape := ⟨4, ![8, 2, 4096, 64]⟩
abbrev S384 : Shape := ⟨1, ![384]⟩
abbrev S1x1x384 : Shape := ⟨3, ![1, 1, 384]⟩
abbrev S8x4096x768 : Shape := ⟨3, ![8, 4096, 768]⟩
abbrev S8x4096x8x32 : Shape := ⟨4, ![8, 4096, 8, 32]⟩
abbrev S32 : Shape := ⟨1, ![32]⟩
abbrev S1x1x1x32 : Shape := ⟨4, ![1, 1, 1, 32]⟩
abbrev S8x4096x8x8 : Shape := ⟨4, ![8, 4096, 8, 8]⟩
abbrev S4096x1x32 : Shape := ⟨3, ![4096, 1, 32]⟩
abbrev S1x4096x1x32 : Shape := ⟨4, ![1, 4096, 1, 32]⟩
abbrev S256 : Shape := ⟨1, ![256]⟩
abbrev S1x1x256 : Shape := ⟨3, ![1, 1, 256]⟩
abbrev S1x1x32 : Shape := ⟨3, ![1, 1, 32]⟩
abbrev S8x4096x1x32 : Shape := ⟨4, ![8, 4096, 1, 32]⟩
abbrev S8x4096x1x8 : Shape := ⟨4, ![8, 4096, 1, 8]⟩
abbrev S8x4096x8x128 : Shape := ⟨4, ![8, 4096, 8, 128]⟩
abbrev S8x4096x4x128 : Shape := ⟨4, ![8, 4096, 4, 128]⟩
abbrev S8x4x128x4096 : Shape := ⟨4, ![8, 4, 128, 4096]⟩
abbrev S8x2x64x4096 : Shape := ⟨4, ![8, 2, 64, 4096]⟩
abbrev S8x8x4096x128 : Shape := ⟨4, ![8, 8, 4096, 128]⟩
abbrev S8x8x64x4096 : Shape := ⟨4, ![8, 8, 64, 4096]⟩

abbrev nBuf : Space → Nat
  | .hbm => 444
  | .vmem => 0
  | .smem => 0
  | _ => 0

abbrev hbmTy0_0 (i : Nat) : BufTy := match i % 128 with
  | 0 => ⟨S8x4096x1024, .f32⟩
  | 1 => ⟨S8x1x6144, .f32⟩
  | 2 => ⟨S1x1024, .f32⟩
  | 3 => ⟨S1024x3840, .bf16⟩
  | 4 => ⟨S1x64, .f32⟩
  | 5 => ⟨S1x64, .f32⟩
  | 6 => ⟨S1x64, .f32⟩
  | 7 => ⟨S1x64, .f32⟩
  | 8 => ⟨S1x384, .f32⟩
  | 9 => ⟨S1x256, .f32⟩
  | 10 => ⟨S384x768, .bf16⟩
  | 11 => ⟨S256x1024, .bf16⟩
  | 12 => ⟨S1x64, .f32⟩
  | 13 => ⟨S1x64, .f32⟩
  | 14 => ⟨S1x32, .f32⟩
  | 15 => ⟨S1x32, .f32⟩
  | 16 => ⟨S1x64, .f32⟩
  | 17 => ⟨S1x64, .f32⟩
  | 18 => ⟨S4096x64, .f32⟩
  | 19 => ⟨S4096x64, .f32⟩
  | 20 => ⟨S4096x32, .f32⟩
  | 21 => ⟨S4096x32, .f32⟩
  | 22 => ⟨S1x1x1024, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S_, .f32⟩
  | 31 => ⟨S8x4096x1, .f32⟩
  | 32 => ⟨S8x4096x1, .f32⟩
  | 33 => ⟨S8x4096x1, .f32⟩
  | 34 => ⟨S8x4096x1024, .f32⟩
  | 35 => ⟨S8x4096x1024, .f32⟩
  | 36 => ⟨S8x4096x1024, .f32⟩
  | 37 => ⟨S8x4096x1024, .f32⟩
  | 38 => ⟨S8x1x1024, .f32⟩
  | 39 => ⟨S_, .f32⟩
  | 40 => ⟨S8x1x1024, .f32⟩
  | 41 => ⟨S8x1x1024, .f32⟩
  | 42 => ⟨S8x4096x1024, .f32⟩
  | 43 => ⟨S8x4096x1024, .f32⟩
  | 44 => ⟨S8x1x1024, .f32⟩
  | 45 => ⟨S8x4096x1024, .f32⟩
  | 46 => ⟨S8x4096x1024, .f32⟩
  | 47 => ⟨S1024x3840, .f32⟩
  | 48 => ⟨S8x4096x3840, .f32⟩
  | 49 => ⟨S8x4096x512, .f32⟩
  | 50 => ⟨S8x4096x512, .f32⟩
  | 51 => ⟨S8x4096x512, .f32⟩
  | 52 => ⟨S8x4096x512, .f32⟩
  | 53 => ⟨S8x4096x128, .f32⟩
  | 54 => ⟨S8x4096x128, .f32⟩
  | 55 => ⟨S8x4096x384, .f32⟩
  | 56 => ⟨S8x4096x256, .f32⟩
  | 57 => ⟨S8x4096x32, .f32⟩
  | 58 => ⟨S8x4096x512, .f32⟩
  | 59 => ⟨S8x4096x128, .f32⟩
  | 60 => ⟨S8x4096x128, .f32⟩
  | 61 => ⟨S8x4096x8x64, .f32⟩
  | 62 => ⟨S64, .f32⟩
  | 63 => ⟨S8x4096x8x64, .f32⟩
  | 64 => ⟨S_, .f32⟩
  | 65 => ⟨S8x4096x8, .f32⟩
  | 66 => ⟨S8x4096x8x1, .f32⟩
  | 67 => ⟨S_, .f32⟩
  | 68 => ⟨S8x4096x8x1, .f32⟩
  | 69 => ⟨S8x4096x8x1, .f32⟩
  | 70 => ⟨S_, .f32⟩
  | 71 => ⟨S8x4096x8x1, .f32⟩
  | 72 => ⟨S8x4096x8x1, .f32⟩
  | 73 => ⟨S8x4096x8x1, .f32⟩
  | 74 => ⟨S8x4096x8x64, .f32⟩
  | 75 => ⟨S8x4096x8x64, .f32⟩
  | 76 => ⟨S1x1x1x64, .f32⟩
  | 77 => ⟨S8x4096x8x64, .f32⟩
  | 78 => ⟨S8x4096x8x64, .f32⟩
  | 79 => ⟨S8x4096x8x16, .f32⟩
  | 80 => ⟨S8x4096x8x16, .f32⟩
  | 81 => ⟨S8x4096x8x16, .f32⟩
  | 82 => ⟨S8x4096x8x16, .f32⟩
  | 83 => ⟨S4096x1x64, .f32⟩
  | 84 => ⟨S1x4096x1x64, .f32⟩
  | 85 => ⟨S8x4096x8x64, .f32⟩
  | 86 => ⟨S8x4096x8x64, .f32⟩
  | 87 => ⟨S8x4096x8x16, .f32⟩
  | 88 => ⟨S8x4096x8x16, .f32⟩
  | 89 => ⟨S8x4096x8x64, .f32⟩
  | 90 => ⟨S4096x1x64, .f32⟩
  | 91 => ⟨S1x4096x1x64, .f32⟩
  | 92 => ⟨S8x4096x8x64, .f32⟩
  | 93 => ⟨S8x4096x8x64, .f32⟩
  | 94 => ⟨S8x4096x8x64, .f32⟩
  | 95 => ⟨S8x8x4096x64, .f32⟩
  | 96 => ⟨S8x8x4096x64, .bf16⟩
  | 97 => ⟨S8x4096x8x64, .f32⟩
  | 98 => ⟨S64, .f32⟩
  | 99 => ⟨S8x4096x8x64, .f32⟩
  | 100 => ⟨S_, .f32⟩
  | 101 => ⟨S8x4096x8, .f32⟩
  | 102 => ⟨S8x4096x8x1, .f32⟩
  | 103 => ⟨S_, .f32⟩
  | 104 => ⟨S8x4096x8x1, .f32⟩
  | 105 => ⟨S8x4096x8x1, .f32⟩
  | 106 => ⟨S_, .f32⟩
  | 107 => ⟨S8x4096x8x1, .f32⟩
  | 108 => ⟨S8x4096x8x1, .f32⟩
  | 109 => ⟨S8x4096x8x1, .f32⟩
  | 110 => ⟨S8x4096x8x64, .f32⟩
  | 111 => ⟨S8x4096x8x64, .f32⟩
  | 112 => ⟨S1x1x1x64, .f32⟩
  | 113 => ⟨S8x4096x8x64, .f32⟩
  | 114 => ⟨S8x4096x8x64, .f32⟩
  | 115 => ⟨S8x4096x8x16, .f32⟩
  | 116 => ⟨S8x4096x8x16, .f32⟩
  | 117 => ⟨S8x4096x8x16, .f32⟩
  | 118 => ⟨S8x4096x8x16, .f32⟩
  | 119 => ⟨S4096x1x64, .f32⟩
  | 120 => ⟨S1x4096x1x64, .f32⟩
  | 121 => ⟨S8x4096x8x64, .f32⟩
  | 122 => ⟨S8x4096x8x64, .f32⟩
  | 123 => ⟨S8x4096x8x16, .f32⟩
  | 124 => ⟨S8x4096x8x16, .f32⟩
  | 125 => ⟨S8x4096x8x64, .f32⟩
  | 126 => ⟨S4096x1x64, .f32⟩
  | 127 => ⟨S1x4096x1x64, .f32⟩
  | _ => ⟨S8x4096x1024, .f32⟩

abbrev hbmTy0_1 (i : Nat) : BufTy := match i % 128 with
  | 0 => ⟨S8x4096x8x64, .f32⟩
  | 1 => ⟨S8x4096x8x64, .f32⟩
  | 2 => ⟨S8x4096x8x64, .f32⟩
  | 3 => ⟨S8x8x4096x64, .f32⟩
  | 4 => ⟨S8x8x4096x64, .bf16⟩
  | 5 => ⟨S8x4096x8x64, .f32⟩
  | 6 => ⟨S64, .f32⟩
  | 7 => ⟨S8x4096x8x64, .f32⟩
  | 8 => ⟨S_, .f32⟩
  | 9 => ⟨S8x4096x8, .f32⟩
  | 10 => ⟨S8x4096x8x1, .f32⟩
  | 11 => ⟨S_, .f32⟩
  | 12 => ⟨S8x4096x8x1, .f32⟩
  | 13 => ⟨S8x4096x8x1, .f32⟩
  | 14 => ⟨S_, .f32⟩
  | 15 => ⟨S8x4096x8x1, .f32⟩
  | 16 => ⟨S8x4096x8x1, .f32⟩
  | 17 => ⟨S8x4096x8x1, .f32⟩
  | 18 => ⟨S8x4096x8x64, .f32⟩
  | 19 => ⟨S8x4096x8x64, .f32⟩
  | 20 => ⟨S1x1x1x64, .f32⟩
  | 21 => ⟨S8x4096x8x64, .f32⟩
  | 22 => ⟨S8x4096x8x64, .f32⟩
  | 23 => ⟨S8x4096x8x16, .f32⟩
  | 24 => ⟨S8x4096x8x16, .f32⟩
  | 25 => ⟨S8x4096x8x16, .f32⟩
  | 26 => ⟨S8x4096x8x16, .f32⟩
  | 27 => ⟨S4096x1x64, .f32⟩
  | 28 => ⟨S1x4096x1x64, .f32⟩
  | 29 => ⟨S8x4096x8x64, .f32⟩
  | 30 => ⟨S8x4096x8x64, .f32⟩
  | 31 => ⟨S8x4096x8x16, .f32⟩
  | 32 => ⟨S8x4096x8x16, .f32⟩
  | 33 => ⟨S8x4096x8x64, .f32⟩
  | 34 => ⟨S4096x1x64, .f32⟩
  | 35 => ⟨S1x4096x1x64, .f32⟩
  | 36 => ⟨S8x4096x8x64, .f32⟩
  | 37 => ⟨S8x4096x8x64, .f32⟩
  | 38 => ⟨S8x4096x8x64, .f32⟩
  | 39 => ⟨S8x8x4096x64, .f32⟩
  | 40 => ⟨S8x8x4096x64, .bf16⟩
  | 41 => ⟨S8x4096x2x64, .f32⟩
  | 42 => ⟨S64, .f32⟩
  | 43 => ⟨S8x4096x2x64, .f32⟩
  | 44 => ⟨S_, .f32⟩
  | 45 => ⟨S8x4096x2, .f32⟩
  | 46 => ⟨S8x4096x2x1, .f32⟩
  | 47 => ⟨S_, .f32⟩
  | 48 => ⟨S8x4096x2x1, .f32⟩
  | 49 => ⟨S8x4096x2x1, .f32⟩
  | 50 => ⟨S_, .f32⟩
  | 51 => ⟨S8x4096x2x1, .f32⟩
  | 52 => ⟨S8x4096x2x1, .f32⟩
  | 53 => ⟨S8x4096x2x1, .f32⟩
  | 54 => ⟨S8x4096x2x64, .f32⟩
  | 55 => ⟨S8x4096x2x64, .f32⟩
  | 56 => ⟨S1x1x1x64, .f32⟩
  | 57 => ⟨S8x4096x2x64, .f32⟩
  | 58 => ⟨S8x4096x2x64, .f32⟩
  | 59 => ⟨S8x4096x2x16, .f32⟩
  | 60 => ⟨S8x4096x2x16, .f32⟩
  | 61 => ⟨S8x4096x2x16, .f32⟩
  | 62 => ⟨S8x4096x2x16, .f32⟩
  | 63 => ⟨S4096x1x64, .f32⟩
  | 64 => ⟨S1x4096x1x64, .f32⟩
  | 65 => ⟨S8x4096x2x64, .f32⟩
  | 66 => ⟨S8x4096x2x64, .f32⟩
  | 67 => ⟨S8x4096x2x16, .f32⟩
  | 68 => ⟨S8x4096x2x16, .f32⟩
  | 69 => ⟨S8x4096x2x64, .f32⟩
  | 70 => ⟨S4096x1x64, .f32⟩
  | 71 => ⟨S1x4096x1x64, .f32⟩
  | 72 => ⟨S8x4096x2x64, .f32⟩
  | 73 => ⟨S8x4096x2x64, .f32⟩
  | 74 => ⟨S8x4096x2x64, .f32⟩
  | 75 => ⟨S8x2x4096x64, .f32⟩
  | 76 => ⟨S8x2x4096x64, .bf16⟩
  | 77 => ⟨S8x4096x8x64, .f32⟩
  | 78 => ⟨S64, .f32⟩
  | 79 => ⟨S8x4096x8x64, .f32⟩
  | 80 => ⟨S_, .f32⟩
  | 81 => ⟨S8x4096x8, .f32⟩
  | 82 => ⟨S8x4096x8x1, .f32⟩
  | 83 => ⟨S_, .f32⟩
  | 84 => ⟨S8x4096x8x1, .f32⟩
  | 85 => ⟨S8x4096x8x1, .f32⟩
  | 86 => ⟨S_, .f32⟩
  | 87 => ⟨S8x4096x8x1, .f32⟩
  | 88 => ⟨S8x4096x8x1, .f32⟩
  | 89 => ⟨S8x4096x8x1, .f32⟩
  | 90 => ⟨S8x4096x8x64, .f32⟩
  | 91 => ⟨S8x4096x8x64, .f32⟩
  | 92 => ⟨S1x1x1x64, .f32⟩
  | 93 => ⟨S8x4096x8x64, .f32⟩
  | 94 => ⟨S8x4096x8x64, .f32⟩
  | 95 => ⟨S8x4096x8x16, .f32⟩
  | 96 => ⟨S8x4096x8x16, .f32⟩
  | 97 => ⟨S8x4096x8x16, .f32⟩
  | 98 => ⟨S8x4096x8x16, .f32⟩
  | 99 => ⟨S4096x1x64, .f32⟩
  | 100 => ⟨S1x4096x1x64, .f32⟩
  | 101 => ⟨S8x4096x8x64, .f32⟩
  | 102 => ⟨S8x4096x8x64, .f32⟩
  | 103 => ⟨S8x4096x8x16, .f32⟩
  | 104 => ⟨S8x4096x8x16, .f32⟩
  | 105 => ⟨S8x4096x8x64, .f32⟩
  | 106 => ⟨S4096x1x64, .f32⟩
  | 107 => ⟨S1x4096x1x64, .f32⟩
  | 108 => ⟨S8x4096x8x64, .f32⟩
  | 109 => ⟨S8x4096x8x64, .f32⟩
  | 110 => ⟨S8x4096x8x64, .f32⟩
  | 111 => ⟨S8x8x4096x64, .f32⟩
  | 112 => ⟨S8x8x4096x64, .bf16⟩
  | 113 => ⟨S8x4096x2x64, .f32⟩
  | 114 => ⟨S64, .f32⟩
  | 115 => ⟨S8x4096x2x64, .f32⟩
  | 116 => ⟨S_, .f32⟩
  | 117 => ⟨S8x4096x2, .f32⟩
  | 118 => ⟨S8x4096x2x1, .f32⟩
  | 119 => ⟨S_, .f32⟩
  | 120 => ⟨S8x4096x2x1, .f32⟩
  | 121 => ⟨S8x4096x2x1, .f32⟩
  | 122 => ⟨S_, .f32⟩
  | 123 => ⟨S8x4096x2x1, .f32⟩
  | 124 => ⟨S8x4096x2x1, .f32⟩
  | 125 => ⟨S8x4096x2x1, .f32⟩
  | 126 => ⟨S8x4096x2x64, .f32⟩
  | 127 => ⟨S8x4096x2x64, .f32⟩
  | _ => ⟨S8x4096x1024, .f32⟩

abbrev hbmTy0_2 (i : Nat) : BufTy := match i % 128 with
  | 0 => ⟨S1x1x1x64, .f32⟩
  | 1 => ⟨S8x4096x2x64, .f32⟩
  | 2 => ⟨S8x4096x2x64, .f32⟩
  | 3 => ⟨S8x4096x2x16, .f32⟩
  | 4 => ⟨S8x4096x2x16, .f32⟩
  | 5 => ⟨S8x4096x2x16, .f32⟩
  | 6 => ⟨S8x4096x2x16, .f32⟩
  | 7 => ⟨S4096x1x64, .f32⟩
  | 8 => ⟨S1x4096x1x64, .f32⟩
  | 9 => ⟨S8x4096x2x64, .f32⟩
  | 10 => ⟨S8x4096x2x64, .f32⟩
  | 11 => ⟨S8x4096x2x16, .f32⟩
  | 12 => ⟨S8x4096x2x16, .f32⟩
  | 13 => ⟨S8x4096x2x64, .f32⟩
  | 14 => ⟨S4096x1x64, .f32⟩
  | 15 => ⟨S1x4096x1x64, .f32⟩
  | 16 => ⟨S8x4096x2x64, .f32⟩
  | 17 => ⟨S8x4096x2x64, .f32⟩
  | 18 => ⟨S8x4096x2x64, .f32⟩
  | 19 => ⟨S8x2x4096x64, .f32⟩
  | 20 => ⟨S8x2x4096x64, .bf16⟩
  | 21 => ⟨S384, .f32⟩
  | 22 => ⟨S8x4096x384, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S_, .f32⟩
  | 30 => ⟨S8x4096x1, .f32⟩
  | 31 => ⟨S8x4096x1, .f32⟩
  | 32 => ⟨S8x4096x1, .f32⟩
  | 33 => ⟨S8x4096x384, .f32⟩
  | 34 => ⟨S8x4096x384, .f32⟩
  | 35 => ⟨S1x1x384, .f32⟩
  | 36 => ⟨S8x4096x384, .f32⟩
  | 37 => ⟨S8x4096x384, .f32⟩
  | 38 => ⟨S384x768, .f32⟩
  | 39 => ⟨S8x4096x768, .f32⟩
  | 40 => ⟨S8x4096x512, .f32⟩
  | 41 => ⟨S8x4096x8x64, .f32⟩
  | 42 => ⟨S64, .f32⟩
  | 43 => ⟨S8x4096x8x64, .f32⟩
  | 44 => ⟨S_, .f32⟩
  | 45 => ⟨S8x4096x8, .f32⟩
  | 46 => ⟨S8x4096x8x1, .f32⟩
  | 47 => ⟨S_, .f32⟩
  | 48 => ⟨S8x4096x8x1, .f32⟩
  | 49 => ⟨S8x4096x8x1, .f32⟩
  | 50 => ⟨S_, .f32⟩
  | 51 => ⟨S8x4096x8x1, .f32⟩
  | 52 => ⟨S8x4096x8x1, .f32⟩
  | 53 => ⟨S8x4096x8x1, .f32⟩
  | 54 => ⟨S8x4096x8x64, .f32⟩
  | 55 => ⟨S8x4096x8x64, .f32⟩
  | 56 => ⟨S1x1x1x64, .f32⟩
  | 57 => ⟨S8x4096x8x64, .f32⟩
  | 58 => ⟨S8x4096x8x64, .f32⟩
  | 59 => ⟨S8x4096x256, .f32⟩
  | 60 => ⟨S8x4096x8x32, .f32⟩
  | 61 => ⟨S32, .f32⟩
  | 62 => ⟨S8x4096x8x32, .f32⟩
  | 63 => ⟨S_, .f32⟩
  | 64 => ⟨S8x4096x8, .f32⟩
  | 65 => ⟨S8x4096x8x1, .f32⟩
  | 66 => ⟨S_, .f32⟩
  | 67 => ⟨S8x4096x8x1, .f32⟩
  | 68 => ⟨S8x4096x8x1, .f32⟩
  | 69 => ⟨S_, .f32⟩
  | 70 => ⟨S8x4096x8x1, .f32⟩
  | 71 => ⟨S8x4096x8x1, .f32⟩
  | 72 => ⟨S8x4096x8x1, .f32⟩
  | 73 => ⟨S8x4096x8x32, .f32⟩
  | 74 => ⟨S8x4096x8x32, .f32⟩
  | 75 => ⟨S1x1x1x32, .f32⟩
  | 76 => ⟨S8x4096x8x32, .f32⟩
  | 77 => ⟨S8x4096x8x32, .f32⟩
  | 78 => ⟨S8x4096x8x8, .f32⟩
  | 79 => ⟨S8x4096x8x8, .f32⟩
  | 80 => ⟨S8x4096x8x8, .f32⟩
  | 81 => ⟨S8x4096x8x8, .f32⟩
  | 82 => ⟨S4096x1x32, .f32⟩
  | 83 => ⟨S1x4096x1x32, .f32⟩
  | 84 => ⟨S8x4096x8x32, .f32⟩
  | 85 => ⟨S8x4096x8x32, .f32⟩
  | 86 => ⟨S8x4096x8x8, .f32⟩
  | 87 => ⟨S8x4096x8x8, .f32⟩
  | 88 => ⟨S8x4096x8x32, .f32⟩
  | 89 => ⟨S4096x1x32, .f32⟩
  | 90 => ⟨S1x4096x1x32, .f32⟩
  | 91 => ⟨S8x4096x8x32, .f32⟩
  | 92 => ⟨S8x4096x8x32, .f32⟩
  | 93 => ⟨S8x4096x8x32, .f32⟩
  | 94 => ⟨S256, .f32⟩
  | 95 => ⟨S8x4096x256, .f32⟩
  | 96 => ⟨S_, .f32⟩
  | 97 => ⟨S8x4096, .f32⟩
  | 98 => ⟨S8x4096x1, .f32⟩
  | 99 => ⟨S_, .f32⟩
  | 100 => ⟨S8x4096x1, .f32⟩
  | 101 => ⟨S8x4096x1, .f32⟩
  | 102 => ⟨S_, .f32⟩
  | 103 => ⟨S8x4096x1, .f32⟩
  | 104 => ⟨S8x4096x1, .f32⟩
  | 105 => ⟨S8x4096x1, .f32⟩
  | 106 => ⟨S8x4096x256, .f32⟩
  | 107 => ⟨S8x4096x256, .f32⟩
  | 108 => ⟨S1x1x256, .f32⟩
  | 109 => ⟨S8x4096x256, .f32⟩
  | 110 => ⟨S8x4096x256, .f32⟩
  | 111 => ⟨S256x1024, .f32⟩
  | 112 => ⟨S8x4096x1024, .f32⟩
  | 113 => ⟨S8x4096x512, .f32⟩
  | 114 => ⟨S8x4096x8x64, .f32⟩
  | 115 => ⟨S64, .f32⟩
  | 116 => ⟨S8x4096x8x64, .f32⟩
  | 117 => ⟨S_, .f32⟩
  | 118 => ⟨S8x4096x8, .f32⟩
  | 119 => ⟨S8x4096x8x1, .f32⟩
  | 120 => ⟨S_, .f32⟩
  | 121 => ⟨S8x4096x8x1, .f32⟩
  | 122 => ⟨S8x4096x8x1, .f32⟩
  | 123 => ⟨S_, .f32⟩
  | 124 => ⟨S8x4096x8x1, .f32⟩
  | 125 => ⟨S8x4096x8x1, .f32⟩
  | 126 => ⟨S8x4096x8x1, .f32⟩
  | 127 => ⟨S8x4096x8x64, .f32⟩
  | _ => ⟨S8x4096x1024, .f32⟩

abbrev hbmTy0_3 (i : Nat) : BufTy := match i % 128 with
  | 0 => ⟨S8x4096x8x64, .f32⟩
  | 1 => ⟨S1x1x1x64, .f32⟩
  | 2 => ⟨S8x4096x8x64, .f32⟩
  | 3 => ⟨S8x4096x8x64, .f32⟩
  | 4 => ⟨S32, .f32⟩
  | 5 => ⟨S8x4096x32, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S_, .f32⟩
  | 13 => ⟨S8x4096x1, .f32⟩
  | 14 => ⟨S8x4096x1, .f32⟩
  | 15 => ⟨S8x4096x1, .f32⟩
  | 16 => ⟨S8x4096x32, .f32⟩
  | 17 => ⟨S8x4096x32, .f32⟩
  | 18 => ⟨S1x1x32, .f32⟩
  | 19 => ⟨S8x4096x32, .f32⟩
  | 20 => ⟨S8x4096x32, .f32⟩
  | 21 => ⟨S8x4096x1x32, .f32⟩
  | 22 => ⟨S8x4096x1x8, .f32⟩
  | 23 => ⟨S8x4096x1x8, .f32⟩
  | 24 => ⟨S8x4096x1x8, .f32⟩
  | 25 => ⟨S8x4096x1x8, .f32⟩
  | 26 => ⟨S4096x1x32, .f32⟩
  | 27 => ⟨S1x4096x1x32, .f32⟩
  | 28 => ⟨S8x4096x1x32, .f32⟩
  | 29 => ⟨S8x4096x1x32, .f32⟩
  | 30 => ⟨S8x4096x1x8, .f32⟩
  | 31 => ⟨S8x4096x1x8, .f32⟩
  | 32 => ⟨S8x4096x1x32, .f32⟩
  | 33 => ⟨S4096x1x32, .f32⟩
  | 34 => ⟨S1x4096x1x32, .f32⟩
  | 35 => ⟨S8x4096x1x32, .f32⟩
  | 36 => ⟨S8x4096x1x32, .f32⟩
  | 37 => ⟨S8x4096x1x32, .f32⟩
  | 38 => ⟨S_, .f32⟩
  | 39 => ⟨S8x4096x8x32, .f32⟩
  | 40 => ⟨S8x4096x8x128, .f32⟩
  | 41 => ⟨S8x4096x8x32, .f32⟩
  | 42 => ⟨S8x4096x8x128, .f32⟩
  | 43 => ⟨S8x4096x4x128, .f32⟩
  | 44 => ⟨S8x4x128x4096, .f32⟩
  | 45 => ⟨S8x4x128x4096, .bf16⟩
  | 46 => ⟨S8x4096x2x64, .f32⟩
  | 47 => ⟨S8x2x64x4096, .f32⟩
  | 48 => ⟨S8x2x64x4096, .bf16⟩
  | 49 => ⟨S8x8x4096x128, .f32⟩
  | 50 => ⟨S8x8x4096x128, .bf16⟩
  | 51 => ⟨S8x8x4096x128, .f32⟩
  | 52 => ⟨S8x8x4096x128, .bf16⟩
  | 53 => ⟨S8x4096x512, .f32⟩
  | 54 => ⟨S8x4096x8x64, .f32⟩
  | 55 => ⟨S8x8x64x4096, .f32⟩
  | 56 => ⟨S8x8x64x4096, .bf16⟩
  | 57 => ⟨S8x4096x2x64, .f32⟩
  | 58 => ⟨S8x2x4096x64, .f32⟩
  | 59 => ⟨S8x2x4096x64, .bf16⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_cst_1 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_6 : Ref sig .tc := ⟨.hbm, 100, rfl⟩
abbrev main_v71 : Ref sig .tc := ⟨.hbm, 101, rfl⟩
abbrev main_v72 : Ref sig .tc := ⟨.hbm, 102, rfl⟩
abbrev main_cst_7 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_9 : Ref sig .tc := ⟨.hbm, 136, rfl⟩
abbrev main_v104 : Ref sig .tc := ⟨.hbm, 137, rfl⟩
abbrev main_v105 : Ref sig .tc := ⟨.hbm, 138, rfl⟩
abbrev main_cst_10 : Ref sig .tc := ⟨.hbm, 139, rfl⟩
abbrev main_v106 : Ref sig .tc := ⟨.hbm, 140, rfl⟩
abbrev main_v107 : Ref sig .tc := ⟨.hbm, 141, rfl⟩
abbrev main_cst_11 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_12 : Ref sig .tc := ⟨.hbm, 172, rfl⟩
abbrev main_v137 : Ref sig .tc := ⟨.hbm, 173, rfl⟩
abbrev main_v138 : Ref sig .tc := ⟨.hbm, 174, rfl⟩
abbrev main_cst_13 : Ref sig .tc := ⟨.hbm, 175, rfl⟩
abbrev main_v139 : Ref sig .tc := ⟨.hbm, 176, rfl⟩
abbrev main_v140 : Ref sig .tc := ⟨.hbm, 177, rfl⟩
abbrev main_cst_14 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_15 : Ref sig .tc := ⟨.hbm, 208, rfl⟩
abbrev main_v170 : Ref sig .tc := ⟨.hbm, 209, rfl⟩
abbrev main_v171 : Ref sig .tc := ⟨.hbm, 210, rfl⟩
abbrev main_cst_16 : Ref sig .tc := ⟨.hbm, 211, rfl⟩
abbrev main_v172 : Ref sig .tc := ⟨.hbm, 212, rfl⟩
abbrev main_v173 : Ref sig .tc := ⟨.hbm, 213, rfl⟩
abbrev main_cst_17 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_cst_18 : Ref sig .tc := ⟨.hbm, 244, rfl⟩
abbrev main_v203 : Ref sig .tc := ⟨.hbm, 245, rfl⟩
abbrev main_v204 : Ref sig .tc := ⟨.hbm, 246, rfl⟩
abbrev main_cst_19 : Ref sig .tc := ⟨.hbm, 247, rfl⟩
abbrev main_v205 : Ref sig .tc := ⟨.hbm, 248, rfl⟩
abbrev main_v206 : Ref sig .tc := ⟨.hbm, 249, rfl⟩
abbrev main_cst_20 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_cst_21 : Ref sig .tc := ⟨.hbm, 279, rfl⟩
abbrev main_v235 : Ref sig .tc := ⟨.hbm, 280, rfl⟩
abbrev main_v236 : Ref sig .tc := ⟨.hbm, 281, rfl⟩
abbrev main_cst_22 : Ref sig .tc := ⟨.hbm, 282, rfl⟩
abbrev main_v237 : Ref sig .tc := ⟨.hbm, 283, rfl⟩
abbrev main_v238 : Ref sig .tc := ⟨.hbm, 284, rfl⟩
abbrev main_cst_23 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_cst_24 : Ref sig .tc := ⟨.hbm, 300, rfl⟩
abbrev main_v253 : Ref sig .tc := ⟨.hbm, 301, rfl⟩
abbrev main_v254 : Ref sig .tc := ⟨.hbm, 302, rfl⟩
abbrev main_cst_25 : Ref sig .tc := ⟨.hbm, 303, rfl⟩
abbrev main_v255 : Ref sig .tc := ⟨.hbm, 304, rfl⟩
abbrev main_v256 : Ref sig .tc := ⟨.hbm, 305, rfl⟩
abbrev main_cst_26 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_cst_27 : Ref sig .tc := ⟨.hbm, 319, rfl⟩
abbrev main_v269 : Ref sig .tc := ⟨.hbm, 320, rfl⟩
abbrev main_v270 : Ref sig .tc := ⟨.hbm, 321, rfl⟩
abbrev main_cst_28 : Ref sig .tc := ⟨.hbm, 322, rfl⟩
abbrev main_v271 : Ref sig .tc := ⟨.hbm, 323, rfl⟩
abbrev main_v272 : Ref sig .tc := ⟨.hbm, 324, rfl⟩
abbrev main_cst_29 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_cst_30 : Ref sig .tc := ⟨.hbm, 352, rfl⟩
abbrev main_v299 : Ref sig .tc := ⟨.hbm, 353, rfl⟩
abbrev main_v300 : Ref sig .tc := ⟨.hbm, 354, rfl⟩
abbrev main_cst_31 : Ref sig .tc := ⟨.hbm, 355, rfl⟩
abbrev main_v301 : Ref sig .tc := ⟨.hbm, 356, rfl⟩
abbrev main_v302 : Ref sig .tc := ⟨.hbm, 357, rfl⟩
abbrev main_cst_32 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_cst_33 : Ref sig .tc := ⟨.hbm, 373, rfl⟩
abbrev main_v317 : Ref sig .tc := ⟨.hbm, 374, rfl⟩
abbrev main_v318 : Ref sig .tc := ⟨.hbm, 375, rfl⟩
abbrev main_cst_34 : Ref sig .tc := ⟨.hbm, 376, rfl⟩
abbrev main_v319 : Ref sig .tc := ⟨.hbm, 377, rfl⟩
abbrev main_v320 : Ref sig .tc := ⟨.hbm, 378, rfl⟩
abbrev main_cst_35 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_cst_36 : Ref sig .tc := ⟨.hbm, 390, rfl⟩
abbrev main_v331 : Ref sig .tc := ⟨.hbm, 391, rfl⟩
abbrev main_v332 : Ref sig .tc := ⟨.hbm, 392, rfl⟩
abbrev main_cst_37 : Ref sig .tc := ⟨.hbm, 393, rfl⟩
abbrev main_v333 : Ref sig .tc := ⟨.hbm, 394, rfl⟩
abbrev main_v334 : Ref sig .tc := ⟨.hbm, 395, rfl⟩
abbrev main_cst_38 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_v351 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩
abbrev main_cst_39 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_v372 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩

abbrev nD : Nat := 1
abbrev τ : Topo := Topo.v7x

variable {F : FTy → Type} [FloatOps F]
-- ==== Proof.OnlineSoftmax.lean ====
/- The running softmax of one query, as a fact about extended reals.

   A query meets its keys chunk by chunk. The state is a running maximum, a running normaliser and a running
   weighted sum of values; each chunk rescales the last two to the new maximum. `Inv` says what the state holds
   after some of the keys: with `A` the sum of `2 ^ score` and `B` the sum of `2 ^ score * value`, the normaliser
   is `2 ^ (-max) * A` and the weighted sum `2 ^ (-max) * B`. The scores are real; the values are any extended
   reals. -/
module

public import Idealize.ShloMosaic.PureOps.Ideal.Laws
public import Mathlib.Analysis.SpecialFunctions.Pow.Real
public import Mathlib.Data.EReal.Inv

@[expose] public section

noncomputable section

namespace Cert.Softmax

open Idealize.ShloMosaic

/-- The weight `2 ^ x` of a real score. -/
def pw (x : ℝ) : ℝ := Real.rpow 2 x

/-- A power of two is positive. -/
theorem pw_pos (x : ℝ) : 0 < pw x := Real.rpow_pos_of_pos (by norm_num) x

/-- A power of a sum is the product of the powers. -/
theorem pw_add (x y : ℝ) : pw (x + y) = pw x * pw y := Real.rpow_add (by norm_num) x y

/-- Two to the zero is one. -/
theorem pw_zero : pw 0 = 1 := Real.rpow_zero 2

/-- Opposite powers cancel. -/
theorem pw_neg_mul (x : ℝ) : pw (-x) * pw x = 1 := by
  rw [← pw_add, neg_add_cancel, pw_zero]

/-- The base-two exponential at a real is the real power. -/
theorem exp2_real (x : ℝ) : Ideal.exp2 (x : EReal) = (pw x : EReal) := rfl

/-- A difference of two real scores is real. -/
theorem sub_real (x y : ℝ) : (x : EReal) - (y : EReal) = ((x - y : ℝ) : EReal) := (EReal.coe_sub x y).symm

/-- A nonnegative real factor moves into a sum of two extended reals. -/
theorem coe_mul_add {c : ℝ} (hc : 0 ≤ c) (x y : EReal) : (c : EReal) * (x + y) = c * x + c * y :=
  EReal.left_distrib_of_nonneg_of_ne_top (EReal.coe_nonneg.2 hc) (EReal.coe_ne_top c) x y

/-- A nonnegative real factor moves into a finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The real sum, read as an extended real, is the sum of the summands read so. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a real start and finitely many real scores is real. -/
theorem fold_max_real {ι : Type*} (s : Finset ι) (f : ι → ℝ) (b : ℝ) :
    ∃ μ : ℝ, s.fold max (b : EReal) (fun i => (f i : EReal)) = (μ : EReal) := by
  classical
  induction s using Finset.induction_on with
  | empty => exact ⟨b, by simp⟩
  | insert a s ha ih =>
    obtain ⟨μ, h⟩ := ih
    exact ⟨max (f a) μ, by rw [Finset.fold_insert ha, h]; exact (EReal.coe_strictMono.monotone.map_max).symm⟩

/-- A real maximum with the maximum of real scores, started at negative infinity, is real. -/
theorem max_fold_real {ι : Type*} (s : Finset ι) (f : ι → ℝ) (b : ℝ) :
    ∃ μ : ℝ, max (b : EReal) (s.fold max ⊥ (fun i => (f i : EReal))) = (μ : EReal) := by
  obtain ⟨μ, h⟩ := fold_max_real s f b
  refine ⟨μ, h ▸ ?_⟩
  classical
  induction s using Finset.induction_on generalizing μ with
  | empty => simp
  | insert a s ha ih =>
    obtain ⟨ν, h'⟩ := fold_max_real s f b
    rw [Finset.fold_insert ha, Finset.fold_insert ha, max_left_comm, ih ν h']

/-- Real scores of at least one key, with the maximum started at negative infinity: the maximum is real. -/
theorem fold_bot_real {ι : Type*} [Fintype ι] [Nonempty ι] (f : ι → ℝ) :
    ∃ μ : ℝ, Finset.univ.fold max ⊥ (fun i => (f i : EReal)) = (μ : EReal) := by
  classical
  obtain ⟨a⟩ := ‹Nonempty ι›
  obtain ⟨μ, h⟩ := max_fold_real (Finset.univ.erase a) f (f a)
  refine ⟨μ, ?_⟩
  rw [← h, ← Finset.insert_erase (Finset.mem_univ a), Finset.fold_insert (Finset.notMem_erase a _),
    Finset.insert_erase (Finset.mem_univ a)]

/-- The state after some keys: a real maximum, the normaliser and the weighted sum, both scaled by the maximum.
    `A` is the sum of the weights of the keys met, `B` the weighted sum of their values. -/
def Inv (m l a : EReal) (A : ℝ) (B : EReal) : Prop :=
  ∃ μ : ℝ, m = (μ : EReal) ∧ l = ((pw (-μ) * A : ℝ) : EReal) ∧ a = ((pw (-μ) : ℝ) : EReal) * B

/-- Before any key: any real maximum, and zeros. -/
theorem Inv.start (μ : ℝ) : Inv (μ : EReal) 0 0 0 0 :=
  ⟨μ, rfl, by simp, by simp⟩

/-- One chunk of keys `j` with real scores `σ j` and values `v j` met by the running softmax. -/
theorem Inv.step {ι : Type*} [Fintype ι] {m l a : EReal} {A : ℝ} {B : EReal} (h : Inv m l a A B)
    (s v : ι → EReal) (σ : ι → ℝ) (hs : ∀ j, s j = (σ j : EReal)) (m' : EReal)
    (hm : m' = max m (Finset.univ.fold max ⊥ s)) :
    Inv m' (Ideal.exp2 (m - m') * l + ∑ j, Ideal.exp2 (s j - m'))
      (Ideal.exp2 (m - m') * a + ∑ j, v j * Ideal.exp2 (s j - m'))
      (A + ∑ j, pw (σ j)) (B + ∑ j, v j * (pw (σ j) : EReal)) := by
  obtain ⟨μ, rfl, rfl, rfl⟩ := h
  obtain rfl : s = fun j => (σ j : EReal) := funext hs
  obtain ⟨ν, hν⟩ := max_fold_real Finset.univ σ μ
  rw [hν] at hm
  subst hm
  have e : pw (μ - ν) * pw (-μ) = pw (-ν) := by rw [← pw_add]; congr 1; ring
  refine ⟨ν, rfl, ?_, ?_⟩
  · simp only [sub_real, exp2_real]
    rw [← EReal.coe_mul, ← coe_sum, ← EReal.coe_add]
    congr 1
    rw [← mul_assoc, e, mul_add, Finset.mul_sum]
    congr 1
    refine Finset.sum_congr rfl fun j _ => ?_
    rw [← pw_add]; congr 1; ring
  · simp only [sub_real, exp2_real]
    rw [← mul_assoc, ← EReal.coe_mul, e, coe_mul_add (pw_pos _).le, coe_mul_sum _ (pw_pos _).le]
    congr 1
    refine Finset.sum_congr rfl fun j _ => ?_
    rw [mul_left_comm, ← EReal.coe_mul, ← pw_add, neg_add_eq_sub]

/-- After all keys: the weighted sum over the normaliser is the weighted mean of the values. -/
theorem Inv.quotient {m l a : EReal} {A : ℝ} {B : EReal} (h : Inv m l a A B) (hA : 0 < A) :
    Ideal.div a l = B * ((1 / A : ℝ) : EReal) := by
  obtain ⟨μ, rfl, rfl, rfl⟩ := h
  rw [Ideal.div_coe (mul_pos (pw_pos _) hA).ne', mul_comm _ B, mul_assoc, ← EReal.coe_mul]
  congr 2
  have := (pw_pos (-μ)).ne'
  field_simp

/-- The softmax of real scores, written with the maximum taken out, weighting values: it is the weighted mean of the
    values with the exponentials of the scores as weights. -/
theorem softmax_mean {ι : Type*} [Fintype ι] [Nonempty ι] (s v : ι → EReal) (σ : ι → ℝ)
    (hs : ∀ k, s k = (σ k : EReal)) (M : EReal) (hM : M = Finset.univ.fold max ⊥ s) :
    (∑ k, v k * Ideal.div (Ideal.exp (s k - M)) (∑ i, Ideal.exp (s i - M)))
      = (∑ k, v k * ((Real.exp (σ k) : ℝ) : EReal)) * ((1 / ∑ k, Real.exp (σ k) : ℝ) : EReal) := by
  obtain rfl : s = fun j => (σ j : EReal) := funext hs
  obtain ⟨μ, hμ⟩ := fold_bot_real σ
  rw [hμ] at hM
  subst hM
  have hZ : 0 < ∑ k, Real.exp (σ k - μ) := Finset.sum_pos (fun k _ => Real.exp_pos _) Finset.univ_nonempty
  have hZ' : 0 < ∑ k, Real.exp (σ k) := Finset.sum_pos (fun k _ => Real.exp_pos _) Finset.univ_nonempty
  have hsum : ∑ k, Real.exp (σ k - μ) = (∑ k, Real.exp (σ k)) * Real.exp (-μ) := by
    rw [Finset.sum_mul]
    exact Finset.sum_congr rfl fun k _ => by rw [← Real.exp_add, sub_eq_add_neg]
  have hexp : ∀ x : ℝ, Ideal.exp (x : EReal) = (Real.exp x : EReal) := fun _ => rfl
  simp only [sub_real, hexp]
  rw [← coe_sum, mul_comm, coe_mul_sum _ (by positivity)]
  refine Finset.sum_congr rfl fun k _ => ?_
  rw [Ideal.div_coe hZ.ne', ← EReal.coe_mul, mul_left_comm, ← EReal.coe_mul]
  congr 2
  rw [hsum, sub_eq_add_neg, Real.exp_add]
  have := (Real.exp_pos (-μ)).ne'
  field_simp

/-- A power of two of a real scaled by `1 / (8 log 2)` is the exponential of the eighth. -/
theorem pw_scale (x c : ℝ) (hc : c ≠ 0) : pw (x * (c * Real.log 2)⁻¹) = Real.exp (x * c⁻¹) := by
  have h2 : Real.log 2 ≠ 0 := (Real.log_pos (by norm_num)).ne'
  show (2 : ℝ) ^ (_ : ℝ) = _
  rw [Real.rpow_def_of_pos (by norm_num)]
  congr 1
  field_simp

end Cert.Softmax

end
-- ==== Proof.Chunk.lean ====
/- One chunk of keys met by 512 queries at once: the running softmax on whole vectors.

   Scores stand keys by queries, so a query is a column. The running maximum and the running normaliser are rows, the
   weighted sum has one row per coordinate of a value. A column of a step is the step of `OnlineSoftmax`. -/
module

public import proofs.«01_k».proof.Proof.OnlineSoftmax
public import Idealize.ShloMosaic.Lib.Pointwise

@[expose] public section

noncomputable section

namespace Cert.Chunk

open Idealize.ShloMosaic

/-- The shape of a matrix. -/
abbrev Mat (a b : ℕ) : Shape := ⟨2, ![a, b]⟩
/-- The shape of a row's worth of queries. -/
abbrev Row : Shape := ⟨1, ![512]⟩

/-- The shape relations one chunk of `n` keys with values of `d` coordinates uses. -/
structure Shapes (n d : ℕ) : Prop where
  reduces : (Mat n 512).Reduces [0] Row
  casts : Row.ShapeCasts (Mat 1 512)
  stretch : (Mat 1 512).Broadcasts (Mat n 512)
  stretchV : (Mat 1 512).Broadcasts (Mat d 512)
  lt : FTy.bits .bf16 < FTy.bits .f32
  dot : DotDims.WF (Mat d n) (Mat n 512) (Mat d 512) [1] [0] [0] [1] [] []

/-- Values times weights, contracted over the keys. -/
abbrev dotV {n d : ℕ} (E : Shapes n d) : DotDims (Mat d n) (Mat n 512) (Mat d 512) where
  lhsContracting := [1]
  rhsContracting := [0]
  lhsNonContracting := [0]
  rhsNonContracting := [1]
  lhsBatch := []
  rhsBatch := []
  wf := E.dot

variable {F : FTy → Type} [FloatOps F]

/-- The running maximum, normaliser and weighted sum of 512 queries. -/
structure State (F : FTy → Type) (d : ℕ) where
  m : FVec F (Mat 1 512) .f32
  l : FVec F (Mat 1 512) .f32
  a : FVec F (Mat d 512) .f32

/-- The state before any key. -/
def start (d : ℕ) : State F d where
  m := broadcast (Mat 1 512) (Scalar.ofBits .f32 0xF149F2CA#32)
  l := broadcast (Mat 1 512) (Scalar.ofBits .f32 0x00000000#32)
  a := broadcast (Mat d 512) (Scalar.ofBits .f32 0x00000000#32)

variable {n d : ℕ} (E : Shapes n d)

/-- The maximum after a chunk with scores `s`. -/
def newM (s : FVec F (Mat n 512) .f32) (m : FVec F (Mat 1 512) .f32) : FVec F (Mat 1 512) .f32 :=
  maximumf m (shapeCast (Mat 1 512) (multiReduction .maximumf [0] Row s 0xFF800000#32 E.reduces (.inl rfl) rfl) E.casts)

/-- The weights of a chunk with scores `s`, relative to the maximum `m`. -/
def weights (s : FVec F (Mat n 512) .f32) (m : FVec F (Mat 1 512) .f32) : FVec F (Mat n 512) .f32 :=
  exp2 (subf s (broadcastTo (Mat n 512) m E.stretch))

/-- The state after a chunk with scores `s` and values `v`. -/
def step (s : FVec F (Mat n 512) .f32) (v : FVec F (Mat d n) .bf16) (st : State F d) : State F d where
  m := newM E s st.m
  l := addf (mulf (exp2 (subf st.m (newM E s st.m))) st.l)
    (shapeCast (Mat 1 512) (multiReduction .add [0] Row (weights E s (newM E s st.m)) 0x00000000#32 E.reduces (.inl rfl) rfl)
      E.casts)
  a := addf (mulf (broadcastTo (Mat d 512) (exp2 (subf st.m (newM E s st.m))) E.stretchV) st.a)
    (matmul (dotV E) none v (truncf .bf16 (weights E s (newM E s st.m)) E.lt) (constant (Mat d 512) .f32 0x00000000#32))

/-- The weighted sum over the normaliser. -/
def quotient (st : State F d) : FVec F (Mat d 512) .f32 :=
  divf st.a (broadcastTo (Mat d 512) st.l E.stretchV)

/-- The state of query `c` and coordinate `e`: with `A` the sum of the weights of the keys met and `B` the weighted sum of
    their values' coordinate `e`. -/
def Holds (st : State Ideal d) (c : Fin 512) (e : Fin d) (A : ℝ) (B : EReal) : Prop :=
  Softmax.Inv (st.m (ix2 0 c)) (st.l (ix2 0 c)) (st.a (ix2 e c)) A B

/-- The start constant is a real. -/
theorem start_real : ∃ μ : ℝ, Ideal.ofBits .f32 0xF149F2CA#32 = (μ : EReal) := by
  simp [Ideal.ofBits, Ideal.ieee, -EReal.coe_mul]
  exact ⟨_, (EReal.coe_neg _).symm⟩

/-- The word of negative infinity. -/
theorem negInf : Ideal.ofBits .f32 0xFF800000#32 = ⊥ := by
  simp [Ideal.ofBits, Ideal.ieee, -EReal.coe_mul]

/-- Before any key the sums are zero. -/
theorem holds_start (c : Fin 512) (e : Fin d) : Holds (start d) c e 0 0 := by
  obtain ⟨μ, h⟩ := start_real
  have h0 : Ideal.ofBits .f32 0x00000000#32 = 0 := Ideal.ofBits_zero_f32
  have e1 : (start (F := Ideal) d).m (ix2 0 c) = (μ : EReal) := h
  have e2 : (start (F := Ideal) d).l (ix2 0 c) = 0 := h0
  have e3 : (start (F := Ideal) d).a (ix2 e c) = 0 := h0
  unfold Holds
  rw [e1, e2, e3]
  exact Softmax.Inv.start μ

/-- A sum over the first `a + b` of `N` indices is the sum over the first `a` and over the `b` after them. -/
theorem sum_first {M : Type} [AddCommMonoid M] {N : Nat} (f : Fin N → M) (a b : Nat) (h : a + b ≤ N) :
    ∑ j : Fin (a + b), f ⟨j, by omega⟩ = ∑ j : Fin a, f ⟨j, by omega⟩ + ∑ j : Fin b, f ⟨a + j, by omega⟩ :=
  Fin.sum_univ_add _

/-- The sums of the first `k` of `N` keys, whose scores are `σ` and whose values are `w`. -/
def First {N : Nat} (σ : Fin N → ℝ) (w : Fin N → EReal) (st : State Ideal d) (c : Fin 512) (e : Fin d) (k : Nat) (h : k ≤ N) : Prop :=
  Holds st c e (∑ j : Fin k, Softmax.pw (σ ⟨j, by omega⟩)) (∑ j : Fin k, w ⟨j, by omega⟩ * (Softmax.pw (σ ⟨j, by omega⟩) : EReal))

/-- Before any key. -/
theorem first_start {N : Nat} (σ : Fin N → ℝ) (w : Fin N → EReal) (c : Fin 512) (e : Fin d) :
    First σ w (start d) c e 0 (Nat.zero_le N) := by
  simpa [First] using holds_start c e

/-- A chunk of 256 keys with real scores, values of 64 coordinates. -/
theorem holds_step_256_64 (E : Shapes 256 64) {s : FVec Ideal (Mat 256 512) .f32} {v : FVec Ideal (Mat 64 256) .bf16}
    {st : State Ideal 64} {c : Fin 512} {e : Fin 64} {A : ℝ} {B : EReal} (h : Holds st c e A B) (σ : Fin 256 → ℝ)
    (hs : ∀ j, s (ix2 j c) = (σ j : EReal)) :
    Holds (step E s v st) c e (A + ∑ j, Softmax.pw (σ j)) (B + ∑ j, v (ix2 e j) * (Softmax.pw (σ j) : EReal)) := by
  have := Softmax.Inv.step h (fun j => s (ix2 j c)) (fun j => v (ix2 e j)) σ hs _ rfl
  unfold Holds
  pointwise [step, newM, weights, dotV, negInf]
  exact this

/-- A chunk of 512 keys with real scores, values of 64 coordinates. -/
theorem holds_step_512_64 (E : Shapes 512 64) {s : FVec Ideal (Mat 512 512) .f32} {v : FVec Ideal (Mat 64 512) .bf16}
    {st : State Ideal 64} {c : Fin 512} {e : Fin 64} {A : ℝ} {B : EReal} (h : Holds st c e A B) (σ : Fin 512 → ℝ)
    (hs : ∀ j, s (ix2 j c) = (σ j : EReal)) :
    Holds (step E s v st) c e (A + ∑ j, Softmax.pw (σ j)) (B + ∑ j, v (ix2 e j) * (Softmax.pw (σ j) : EReal)) := by
  have := Softmax.Inv.step h (fun j => s (ix2 j c)) (fun j => v (ix2 e j)) σ hs _ rfl
  unfold Holds
  pointwise [step, newM, weights, dotV, negInf]
  exact this

/-- A chunk of 256 keys extends the sums. -/
theorem first_step_256_64 (E : Shapes 256 64) {N : Nat} {σ : Fin N → ℝ} {w : Fin N → EReal} {s : FVec Ideal (Mat 256 512) .f32}
    {v : FVec Ideal (Mat 64 256) .bf16} {st : State Ideal 64} {c : Fin 512} {e : Fin 64} {k : Nat} {hk : k ≤ N} (h : First σ w st c e k hk)
    (hN : k + 256 ≤ N) (hs : ∀ j : Fin 256, s (ix2 j c) = (σ ⟨k + j, by omega⟩ : EReal))
    (hv : ∀ j : Fin 256, v (ix2 e j) = w ⟨k + j, by omega⟩) : First σ w (step E s v st) c e (k + 256) hN := by
  have := holds_step_256_64 E (v := v) h (fun j => σ ⟨k + j, by omega⟩) hs
  simp only [hv] at this
  unfold First
  rw [sum_first (fun j => Softmax.pw (σ j)) k 256 hN, sum_first (fun j => w j * (Softmax.pw (σ j) : EReal)) k 256 hN]
  exact this

/-- A chunk of 512 keys extends the sums. -/
theorem first_step_512_64 (E : Shapes 512 64) {N : Nat} {σ : Fin N → ℝ} {w : Fin N → EReal} {s : FVec Ideal (Mat 512 512) .f32}
    {v : FVec Ideal (Mat 64 512) .bf16} {st : State Ideal 64} {c : Fin 512} {e : Fin 64} {k : Nat} {hk : k ≤ N} (h : First σ w st c e k hk)
    (hN : k + 512 ≤ N) (hs : ∀ j : Fin 512, s (ix2 j c) = (σ ⟨k + j, by omega⟩ : EReal))
    (hv : ∀ j : Fin 512, v (ix2 e j) = w ⟨k + j, by omega⟩) : First σ w (step E s v st) c e (k + 512) hN := by
  have := holds_step_512_64 E (v := v) h (fun j => σ ⟨k + j, by omega⟩) hs
  simp only [hv] at this
  unfold First
  rw [sum_first (fun j => Softmax.pw (σ j)) k 512 hN, sum_first (fun j => w j * (Softmax.pw (σ j) : EReal)) k 512 hN]
  exact this

/-- The weighted mean of the values `w` under the weights `2 ^ σ`. -/
def mean {N : Nat} (σ : Fin N → ℝ) (w : Fin N → EReal) : EReal :=
  (∑ j, w j * (Softmax.pw (σ j) : EReal)) * ((1 / ∑ j, Softmax.pw (σ j) : ℝ) : EReal)

/-- After all keys the quotient is the weighted mean of the values. -/
theorem quotient_64 (E : Shapes n 64) {st : State Ideal 64} {c : Fin 512} {e : Fin 64} {A : ℝ} {B : EReal}
    (h : Holds st c e A B) (hA : 0 < A) : quotient E st (ix2 e c) = B * ((1 / A : ℝ) : EReal) := by
  pointwise [quotient]
  exact h.quotient hA

/-- After all of `N` keys the quotient is their mean. -/
theorem first_quotient_64 (E : Shapes n 64) {N : Nat} {σ : Fin N → ℝ} {w : Fin N → EReal} {st : State Ideal 64} {c : Fin 512} {e : Fin 64}
    (h : First σ w st c e N le_rfl) (hN : 0 < N) : quotient E st (ix2 e c) = mean σ w :=
  quotient_64 E h (Finset.sum_pos (fun j _ => Softmax.pw_pos _) ⟨⟨0, hN⟩, Finset.mem_univ _⟩)

/-- A chunk of 256 keys with real scores, values of 128 coordinates. -/
theorem holds_step_256_128 (E : Shapes 256 128) {s : FVec Ideal (Mat 256 512) .f32} {v : FVec Ideal (Mat 128 256) .bf16}
    {st : State Ideal 128} {c : Fin 512} {e : Fin 128} {A : ℝ} {B : EReal} (h : Holds st c e A B) (σ : Fin 256 → ℝ)
    (hs : ∀ j, s (ix2 j c) = (σ j : EReal)) :
    Holds (step E s v st) c e (A + ∑ j, Softmax.pw (σ j)) (B + ∑ j, v (ix2 e j) * (Softmax.pw (σ j) : EReal)) := by
  have := Softmax.Inv.step h (fun j => s (ix2 j c)) (fun j => v (ix2 e j)) σ hs _ rfl
  unfold Holds
  pointwise [step, newM, weights, dotV, negInf]
  exact this

/-- A chunk of 512 keys with real scores, values of 128 coordinates. -/
theorem holds_step_512_128 (E : Shapes 512 128) {s : FVec Ideal (Mat 512 512) .f32} {v : FVec Ideal (Mat 128 512) .bf16}
    {st : State Ideal 128} {c : Fin 512} {e : Fin 128} {A : ℝ} {B : EReal} (h : Holds st c e A B) (σ : Fin 512 → ℝ)
    (hs : ∀ j, s (ix2 j c) = (σ j : EReal)) :
    Holds (step E s v st) c e (A + ∑ j, Softmax.pw (σ j)) (B + ∑ j, v (ix2 e j) * (Softmax.pw (σ j) : EReal)) := by
  have := Softmax.Inv.step h (fun j => s (ix2 j c)) (fun j => v (ix2 e j)) σ hs _ rfl
  unfold Holds
  pointwise [step, newM, weights, dotV, negInf]
  exact this

/-- A chunk of 256 keys extends the sums, for values of 128 coordinates. -/
theorem first_step_256_128 (E : Shapes 256 128) {N : Nat} {σ : Fin N → ℝ} {w : Fin N → EReal} {s : FVec Ideal (Mat 256 512) .f32}
    {v : FVec Ideal (Mat 128 256) .bf16} {st : State Ideal 128} {c : Fin 512} {e : Fin 128} {k : Nat} {hk : k ≤ N} (h : First σ w st c e k hk)
    (hN : k + 256 ≤ N) (hs : ∀ j : Fin 256, s (ix2 j c) = (σ ⟨k + j, by omega⟩ : EReal))
    (hv : ∀ j : Fin 256, v (ix2 e j) = w ⟨k + j, by omega⟩) : First σ w (step E s v st) c e (k + 256) hN := by
  have := holds_step_256_128 E (v := v) h (fun j => σ ⟨k + j, by omega⟩) hs
  simp only [hv] at this
  unfold First
  rw [sum_first (fun j => Softmax.pw (σ j)) k 256 hN, sum_first (fun j => w j * (Softmax.pw (σ j) : EReal)) k 256 hN]
  exact this

/-- A chunk of 512 keys extends the sums, for values of 128 coordinates. -/
theorem first_step_512_128 (E : Shapes 512 128) {N : Nat} {σ : Fin N → ℝ} {w : Fin N → EReal} {s : FVec Ideal (Mat 512 512) .f32}
    {v : FVec Ideal (Mat 128 512) .bf16} {st : State Ideal 128} {c : Fin 512} {e : Fin 128} {k : Nat} {hk : k ≤ N} (h : First σ w st c e k hk)
    (hN : k + 512 ≤ N) (hs : ∀ j : Fin 512, s (ix2 j c) = (σ ⟨k + j, by omega⟩ : EReal))
    (hv : ∀ j : Fin 512, v (ix2 e j) = w ⟨k + j, by omega⟩) : First σ w (step E s v st) c e (k + 512) hN := by
  have := holds_step_512_128 E (v := v) h (fun j => σ ⟨k + j, by omega⟩) hs
  simp only [hv] at this
  unfold First
  rw [sum_first (fun j => Softmax.pw (σ j)) k 512 hN, sum_first (fun j => w j * (Softmax.pw (σ j) : EReal)) k 512 hN]
  exact this

/-- After all keys the quotient is the weighted mean of the values, of 128 coordinates. -/
theorem quotient_128 (E : Shapes n 128) {st : State Ideal 128} {c : Fin 512} {e : Fin 128} {A : ℝ} {B : EReal}
    (h : Holds st c e A B) (hA : 0 < A) : quotient E st (ix2 e c) = B * ((1 / A : ℝ) : EReal) := by
  pointwise [quotient]
  exact h.quotient hA

/-- After all of `N` keys the quotient is their mean, for values of 128 coordinates. -/
theorem first_quotient_128 (E : Shapes n 128) {N : Nat} {σ : Fin N → ℝ} {w : Fin N → EReal} {st : State Ideal 128} {c : Fin 512} {e : Fin 128}
    (h : First σ w st c e N le_rfl) (hN : 0 < N) : quotient E st (ix2 e c) = mean σ w :=
  quotient_128 E h (Finset.sum_pos (fun j _ => Softmax.pw_pos _) ⟨⟨0, hN⟩, Finset.mem_univ _⟩)

end Cert.Chunk

end
-- ==== Proof.Block.lean ====
/- What one grid point of mixer B's attention computes: two query heads sharing a key head. -/
module

public import proofs.«01_k».proof.Proof.Chunk
public import proofs.«01_k».proof.Proof.Gen.KernelIdeal.Frame

@[expose] public section

noncomputable section

namespace Cert.KernelIdeal.Block

open Idealize.ShloMosaic Cert.Chunk Cert.KernelIdeal Cert.KernelIdeal.Gen

variable {F : FTy → Type} [FloatOps F] [Named F]

/-- The context chunk's shapes: 256 keys, values of width 64. -/
theorem shapesC : Shapes 256 64 where
  reduces := reduces_S256x512_S512
  casts := shapeCasts_S512_S1x512
  stretch := broadcasts_S1x512_S256x512
  stretchV := broadcasts_S1x512_S64x512
  lt := bitsLt_bf16_f32
  dot := dot_S64x256_S256x512_S64x512_1_0_0_1_n_n_wf

/-- An own chunk's shapes: 512 keys, values of width 64. -/
theorem shapesO : Shapes 512 64 where
  reduces := reduces_S512x512_S512
  casts := shapeCasts_S512_S1x512
  stretch := broadcasts_S1x512_S512x512
  stretchV := broadcasts_S1x512_S64x512
  lt := bitsLt_bf16_f32
  dot := dot_S64x512_S512x512_S64x512_1_0_0_1_n_n_wf

/-- A head's queries, scaled. -/
def scaled (x : Vec F S1x1x512x64 .bf16) : FVec F S512x64 .bf16 :=
  truncf .bf16 (mulf (extf .f32 (shapeCast S512x64 x shapeCasts_S1x1x512x64_S512x64) bitsLt_bf16_f32)
    (broadcast S512x64 (Named.named κ "scale_log2e" 0x3E38AA3B#32))) bitsLt_bf16_f32

/-- The context chunk met by a head's queries `q`. -/
def context (q : FVec F S512x64 .bf16) (k : Vec F S1x1x256x64 .bf16) (v : Vec F S1x1x64x256 .bf16) (st : State F 64) : State F 64 :=
  step shapesC (matmul dot_S256x64_S512x64_S256x512_1_1_0_0_n_n none (shapeCast S256x64 k shapeCasts_S1x1x256x64_S256x64) q
      (constant S256x512 .f32 0x00000000#32))
    (shapeCast S64x256 v shapeCasts_S1x1x64x256_S64x256) st

/-- One chunk of the tokens' own keys met by a head's queries `q`. -/
def own (q : FVec F S512x64 .bf16) (k : Vec F S1x1x512x64 .bf16) (v : Vec F S1x1x64x512 .bf16) (st : State F 64) : State F 64 :=
  step shapesO (matmul dot_S512x64_S512x64_S512x512_1_1_0_0_n_n none (shapeCast S512x64 k shapeCasts_S1x1x512x64_S512x64) q
      (constant S512x512 .f32 0x00000000#32))
    (shapeCast S64x512 v shapeCasts_S1x1x64x512_S64x512) st

/-- A head: the context chunk, then the eight own chunks. -/
def head (q : FVec F S512x64 .bf16) (kc : Vec F S1x1x256x64 .bf16) (vc : Vec F S1x1x64x256 .bf16)
    (ko : Vec F S1x1x4096x64 .bf16) (vo : Vec F S1x1x64x4096 .bf16) : FVec F S64x512 .f32 :=
  quotient shapesO (own q (View.ld ko r0_18) (View.ld vo r0_19) (own q (View.ld ko r0_16) (View.ld vo r0_17)
    (own q (View.ld ko r0_14) (View.ld vo r0_15) (own q (View.ld ko r0_12) (View.ld vo r0_13)
    (own q (View.ld ko r0_10) (View.ld vo r0_11) (own q (View.ld ko r0_8) (View.ld vo r0_9)
    (own q (View.ld ko r0_6) (View.ld vo r0_7) (own q (View.ld ko r0_4) (View.ld vo r0_5)
    (context q (View.ld kc r0_2) (View.ld vc r0_3) (start 64))))))))))

/-- What a grid point writes. -/
def block (x0 : Vec F S1x2x512x64 .bf16) (x1 : Vec F S1x1x256x64 .bf16) (x2 : Vec F S1x1x64x256 .bf16) (x3 : Vec F S1x1x4096x64 .bf16)
    (x4 : Vec F S1x1x64x4096 .bf16) : FVec F S1x512x128 .bf16 :=
  shapeCast S1x512x128 (truncf .bf16 (transpose S512x128 [1, 0] (concatenate S128x512 0
    [⟨S64x512, head (scaled (View.ld x0 r0_0)) x1 x2 x3 x4⟩, ⟨S64x512, head (scaled (View.ld x0 r0_1)) x1 x2 x3 x4⟩]
    concatenates_S64x512_S64x512_S128x512_d0) transposes_S128x512_p1_0_S512x128) bitsLt_bf16_f32) shapeCasts_S512x128_S1x512x128

set_option maxRecDepth 16384 in
/-- What a step stores is the chain of the ten parts of its body. -/
theorem out_eq (x0 : Vec F S1x2x512x64 .bf16) (x1 : Vec F S1x1x256x64 .bf16) (x2 : Vec F S1x1x64x256 .bf16) (x3 : Vec F S1x1x4096x64 .bf16)
    (x4 : Vec F S1x1x64x4096 .bf16) : out0_5 x0 x1 x2 x3 x4 = View.canon [⟨r0_20, block x0 x1 x2 x3 x4⟩] := rfl

/-- The context chunk extends the sums. -/
theorem context_first {σ : Fin 4352 → ℝ} {w : Fin 4352 → EReal} {q : FVec Ideal S512x64 .bf16} {k : Vec Ideal S1x1x256x64 .bf16} {v : Vec Ideal S1x1x64x256 .bf16}
    {st : State Ideal 64} {c : Fin 512} {e : Fin 64} (h : First σ w st c e 0 (by omega))
    (hs : ∀ j : Fin 256, ∑ d : Fin 64, k (ix4 0 0 j d) * q (ix2 c d) = (σ ⟨j, by omega⟩ : EReal))
    (hv : ∀ j : Fin 256, v (ix4 0 0 e j) = w ⟨j, by omega⟩) : First σ w (context q k v st) c e 256 (by omega) := by
  refine first_step_256_64 shapesC h (by omega) ?_ ?_
  · intro j
    pointwise
    simpa using hs j
  · intro j
    pointwise
    simpa using hv j

/-- A chunk of the tokens' own keys extends the sums. -/
theorem own_first {σ : Fin 4352 → ℝ} {w : Fin 4352 → EReal} {q : FVec Ideal S512x64 .bf16} {k : Vec Ideal S1x1x512x64 .bf16} {v : Vec Ideal S1x1x64x512 .bf16}
    {st : State Ideal 64} {c : Fin 512} {e : Fin 64} {n : Nat} {hn : n ≤ 4352} (h : First σ w st c e n hn) (hN : n + 512 ≤ 4352)
    (hs : ∀ j : Fin 512, ∑ d : Fin 64, k (ix4 0 0 j d) * q (ix2 c d) = (σ ⟨n + j, by omega⟩ : EReal))
    (hv : ∀ j : Fin 512, v (ix4 0 0 e j) = w ⟨n + j, by omega⟩) : First σ w (own q k v st) c e (n + 512) hN := by
  refine first_step_512_64 shapesO h hN ?_ ?_
  · intro j
    pointwise
    simpa using hs j
  · intro j
    pointwise
    simpa using hv j

/-- A head's output at a coordinate `e` of a query `c`: the mean of the values under its scores `σ`. -/
theorem head_at (σ : Fin 4352 → ℝ) (w : Fin 4352 → EReal) (q : FVec Ideal S512x64 .bf16) (kc : Vec Ideal S1x1x256x64 .bf16)
    (vc : Vec Ideal S1x1x64x256 .bf16) (ko : Vec Ideal S1x1x4096x64 .bf16) (vo : Vec Ideal S1x1x64x4096 .bf16) (c : Fin 512) (e : Fin 64)
    (hc : ∀ j : Fin 256, ∑ d : Fin 64, kc (ix4 0 0 j d) * q (ix2 c d) = (σ ⟨j, by omega⟩ : EReal))
    (hvc : ∀ j : Fin 256, vc (ix4 0 0 e j) = w ⟨j, by omega⟩)
    (ho : ∀ (j : Fin 4096) (i : Fin 4352), i.val = 256 + j.val → ∑ d : Fin 64, ko (ix4 0 0 j d) * q (ix2 c d) = (σ i : EReal))
    (hvo : ∀ (j : Fin 4096) (i : Fin 4352), i.val = 256 + j.val → vo (ix4 0 0 e j) = w i) :
    head q kc vc ko vo (ix2 e c) = mean σ w := by
  have h0 := context_first (q := q) (k := View.ld kc r0_2) (v := View.ld vc r0_3) (first_start σ w c e)
    (fun j => by pointwise; exact hc j) (fun j => by pointwise; exact hvc j)
  have h1 := own_first (q := q) (k := View.ld ko r0_4) (v := View.ld vo r0_5) h0 (by omega)
    (fun j => by pointwise; exact ho ⟨j, by omega⟩ _ rfl)
    (fun j => by pointwise; exact hvo ⟨j, by omega⟩ _ rfl)
  have h2 := own_first (q := q) (k := View.ld ko r0_6) (v := View.ld vo r0_7) h1 (by omega)
    (fun j => by pointwise; exact ho ⟨512 + j, by omega⟩ _ (by simp only; omega))
    (fun j => by pointwise; exact hvo ⟨512 + j, by omega⟩ _ (by simp only; omega))
  have h3 := own_first (q := q) (k := View.ld ko r0_8) (v := View.ld vo r0_9) h2 (by omega)
    (fun j => by pointwise; exact ho ⟨1024 + j, by omega⟩ _ (by simp only; omega))
    (fun j => by pointwise; exact hvo ⟨1024 + j, by omega⟩ _ (by simp only; omega))
  have h4 := own_first (q := q) (k := View.ld ko r0_10) (v := View.ld vo r0_11) h3 (by omega)
    (fun j => by pointwise; exact ho ⟨1536 + j, by omega⟩ _ (by simp only; omega))
    (fun j => by pointwise; exact hvo ⟨1536 + j, by omega⟩ _ (by simp only; omega))
  have h5 := own_first (q := q) (k := View.ld ko r0_12) (v := View.ld vo r0_13) h4 (by omega)
    (fun j => by pointwise; exact ho ⟨2048 + j, by omega⟩ _ (by simp only; omega))
    (fun j => by pointwise; exact hvo ⟨2048 + j, by omega⟩ _ (by simp only; omega))
  have h6 := own_first (q := q) (k := View.ld ko r0_14) (v := View.ld vo r0_15) h5 (by omega)
    (fun j => by pointwise; exact ho ⟨2560 + j, by omega⟩ _ (by simp only; omega))
    (fun j => by pointwise; exact hvo ⟨2560 + j, by omega⟩ _ (by simp only; omega))
  have h7 := own_first (q := q) (k := View.ld ko r0_16) (v := View.ld vo r0_17) h6 (by omega)
    (fun j => by pointwise; exact ho ⟨3072 + j, by omega⟩ _ (by simp only; omega))
    (fun j => by pointwise; exact hvo ⟨3072 + j, by omega⟩ _ (by simp only; omega))
  have h8 := own_first (q := q) (k := View.ld ko r0_18) (v := View.ld vo r0_19) h7 (by omega)
    (fun j => by pointwise; exact ho ⟨3584 + j, by omega⟩ _ (by simp only; omega))
    (fun j => by pointwise; exact hvo ⟨3584 + j, by omega⟩ _ (by simp only; omega))
  exact first_quotient_64 shapesO h8 (by omega)

/-- The scaled queries at an index. -/
theorem scaled_at (x : Vec Ideal S1x1x512x64 .bf16) (c : Fin 512) (d : Fin 64) :
    scaled x (ix2 c d) = x (ix4 0 0 c d) * (((8 * Real.log 2)⁻¹ : ℝ) : EReal) := by
  pointwise [scaled]
  rw [IdealRules.named_const.ideal_named_scalar _ _ _ _ rfl]

/-- The first of the two heads' queries. -/
theorem queries0 (x : Vec Ideal S1x2x512x64 .bf16) (c : Fin 512) (d : Fin 64) : View.ld x r0_0 (ix4 0 0 c d) = x (ix4 0 0 c d) := by
  pointwise

/-- The second of the two heads' queries. -/
theorem queries1 (x : Vec Ideal S1x2x512x64 .bf16) (c : Fin 512) (d : Fin 64) : View.ld x r0_1 (ix4 0 0 c d) = x (ix4 0 1 c d) := by
  pointwise

/-- The first head's output in the block. -/
theorem block_at0 (x0 : Vec Ideal S1x2x512x64 .bf16) (x1 : Vec Ideal S1x1x256x64 .bf16) (x2 : Vec Ideal S1x1x64x256 .bf16)
    (x3 : Vec Ideal S1x1x4096x64 .bf16) (x4 : Vec Ideal S1x1x64x4096 .bf16) (c : Fin 512) (e : Fin 64) :
    block x0 x1 x2 x3 x4 (ix3 0 c ⟨e.val, by omega⟩) = head (scaled (View.ld x0 r0_0)) x1 x2 x3 x4 (ix2 e c) := by
  pointwise [block]

/-- The second head's output in the block. -/
theorem block_at1 (x0 : Vec Ideal S1x2x512x64 .bf16) (x1 : Vec Ideal S1x1x256x64 .bf16) (x2 : Vec Ideal S1x1x64x256 .bf16)
    (x3 : Vec Ideal S1x1x4096x64 .bf16) (x4 : Vec Ideal S1x1x64x4096 .bf16) (c : Fin 512) (e : Fin 64) :
    block x0 x1 x2 x3 x4 (ix3 0 c ⟨64 + e.val, by omega⟩) = head (scaled (View.ld x0 r0_1)) x1 x2 x3 x4 (ix2 e c) := by
  pointwise [block]

end Cert.KernelIdeal.Block

end
-- ==== Proof.Attention.lean ====
/- Softmax attention over the context's 256 keys and the tokens' own 4096, as a function of the five arrays.

   `G` groups of keys and values serve the 8 query heads; keys have `dk` coordinates, values `dv`. -/
module

public import proofs.«01_k».proof.Proof.Chunk

@[expose] public section

noncomputable section

namespace Cert.Attention

open Idealize.ShloMosaic Cert.Chunk

/-- Every entry is a real number. -/
def Real4 {a b c d : Nat} (x : FVec Ideal ⟨4, ![a, b, c, d]⟩ .bf16) : Prop := ∀ i, ∃ r : ℝ, x i = (r : EReal)

/-- A real entry is its real part. -/
theorem Real4.coe {a b c d : Nat} {x : FVec Ideal ⟨4, ![a, b, c, d]⟩ .bf16} (h : Real4 x) (i) : ((x i).toReal : EReal) = x i := by
  obtain ⟨r, e⟩ := h i
  rw [e, EReal.toReal_coe]

variable {G dk dv : Nat}

/-- Coordinate `d` of key `j` of group `g` in batch `b`: the 256 context keys, then the 4096 own keys. -/
def key (kc : FVec Ideal ⟨4, ![8, G, 256, dk]⟩ .bf16) (ko : FVec Ideal ⟨4, ![8, G, 4096, dk]⟩ .bf16) (b : Fin 8) (g : Fin G)
    (j : Fin 4352) (d : Fin dk) : EReal :=
  if h : j.val < 256 then kc (ix4 b g ⟨j.val, h⟩ d) else ko (ix4 b g ⟨j.val - 256, by omega⟩ d)

/-- Coordinate `e` of the value of key `j`. -/
def value (vc : FVec Ideal ⟨4, ![8, G, dv, 256]⟩ .bf16) (vo : FVec Ideal ⟨4, ![8, G, dv, 4096]⟩ .bf16) (b : Fin 8) (g : Fin G)
    (e : Fin dv) (j : Fin 4352) : EReal :=
  if h : j.val < 256 then vc (ix4 b g e ⟨j.val, h⟩) else vo (ix4 b g e ⟨j.val - 256, by omega⟩)

/-- A context key's coordinate. -/
theorem key_context (kc : FVec Ideal ⟨4, ![8, G, 256, dk]⟩ .bf16) (ko : FVec Ideal ⟨4, ![8, G, 4096, dk]⟩ .bf16) (b : Fin 8) (g : Fin G)
    (j : Fin 256) (d : Fin dk) : key kc ko b g ⟨j.val, by omega⟩ d = kc (ix4 b g j d) := by
  rw [key, dif_pos j.isLt]

/-- An own key's coordinate. -/
theorem key_own (kc : FVec Ideal ⟨4, ![8, G, 256, dk]⟩ .bf16) (ko : FVec Ideal ⟨4, ![8, G, 4096, dk]⟩ .bf16) (b : Fin 8) (g : Fin G)
    (j : Fin 4096) (k : Fin 4352) (hk : k.val = 256 + j.val) (d : Fin dk) : key kc ko b g k d = ko (ix4 b g j d) := by
  have hj : (⟨k.val - 256, by omega⟩ : Fin 4096) = j := Fin.ext (by simp only; omega)
  rw [key, dif_neg (by omega), hj]

/-- A context value's coordinate. -/
theorem value_context (vc : FVec Ideal ⟨4, ![8, G, dv, 256]⟩ .bf16) (vo : FVec Ideal ⟨4, ![8, G, dv, 4096]⟩ .bf16) (b : Fin 8) (g : Fin G)
    (e : Fin dv) (j : Fin 256) : value vc vo b g e ⟨j.val, by omega⟩ = vc (ix4 b g e j) := by
  rw [value, dif_pos j.isLt]

/-- An own value's coordinate. -/
theorem value_own (vc : FVec Ideal ⟨4, ![8, G, dv, 256]⟩ .bf16) (vo : FVec Ideal ⟨4, ![8, G, dv, 4096]⟩ .bf16) (b : Fin 8) (g : Fin G)
    (e : Fin dv) (j : Fin 4096) (k : Fin 4352) (hk : k.val = 256 + j.val) : value vc vo b g e k = vo (ix4 b g e j) := by
  have hj : (⟨k.val - 256, by omega⟩ : Fin 4096) = j := Fin.ext (by simp only; omega)
  rw [value, dif_neg (by omega), hj]

/-- The product of query `t` of head `h` and key `j` of group `g`. -/
def product (q : FVec Ideal ⟨4, ![8, 8, 4096, dk]⟩ .bf16) (kc : FVec Ideal ⟨4, ![8, G, 256, dk]⟩ .bf16)
    (ko : FVec Ideal ⟨4, ![8, G, 4096, dk]⟩ .bf16) (b h : Fin 8) (g : Fin G) (t : Fin 4096) (j : Fin 4352) : ℝ :=
  ∑ d : Fin dk, (key kc ko b g j d).toReal * (q (ix4 b h t d)).toReal

/-- The mean of `v` under the weights `exp (p / c)`. -/
def average (c : ℝ) (p : Fin 4352 → ℝ) (v : Fin 4352 → EReal) : EReal :=
  (∑ j, v j * (Real.exp (p j * c⁻¹) : EReal)) * ((1 / ∑ j, Real.exp (p j * c⁻¹) : ℝ) : EReal)

/-- The same with powers of two of the rescaled products. -/
theorem average_eq_mean {c : ℝ} (hc : c ≠ 0) (p : Fin 4352 → ℝ) (v : Fin 4352 → EReal) :
    mean (fun j => p j * (c * Real.log 2)⁻¹) v = average c p v := by
  simp only [mean, average, Softmax.pw_scale _ c hc]

/-- Softmax attention: the mean of group `g`'s values under the weights `exp (q·k / c)`. -/
def result (c : ℝ) (q : FVec Ideal ⟨4, ![8, 8, 4096, dk]⟩ .bf16) (kc : FVec Ideal ⟨4, ![8, G, 256, dk]⟩ .bf16)
    (ko : FVec Ideal ⟨4, ![8, G, 4096, dk]⟩ .bf16) (vc : FVec Ideal ⟨4, ![8, G, dv, 256]⟩ .bf16)
    (vo : FVec Ideal ⟨4, ![8, G, dv, 4096]⟩ .bf16) (b : Fin 8) (t : Fin 4096) (h : Fin 8) (g : Fin G) (e : Fin dv) : EReal :=
  average c (product q kc ko b h g t) (value vc vo b g e)

/-- Real keys are their real parts. -/
theorem key_real {kc : FVec Ideal ⟨4, ![8, G, 256, dk]⟩ .bf16} {ko : FVec Ideal ⟨4, ![8, G, 4096, dk]⟩ .bf16} (hc : Real4 kc) (ho : Real4 ko)
    (b : Fin 8) (g : Fin G) (j : Fin 4352) (d : Fin dk) : ((key kc ko b g j d).toReal : EReal) = key kc ko b g j d := by
  unfold key
  split
  · exact hc.coe _
  · exact ho.coe _

/-- Real values are their real parts. -/
theorem value_real {vc : FVec Ideal ⟨4, ![8, G, dv, 256]⟩ .bf16} {vo : FVec Ideal ⟨4, ![8, G, dv, 4096]⟩ .bf16} (hc : Real4 vc) (ho : Real4 vo)
    (b : Fin 8) (g : Fin G) (e : Fin dv) (j : Fin 4352) : ((value vc vo b g e j).toReal : EReal) = value vc vo b g e j := by
  unfold value
  split
  · exact hc.coe _
  · exact ho.coe _

/-- With real queries and keys, the kernel's scores, whose queries carry the scale, are the rescaled products. -/
theorem scores {q : FVec Ideal ⟨4, ![8, 8, 4096, dk]⟩ .bf16} {kc : FVec Ideal ⟨4, ![8, G, 256, dk]⟩ .bf16}
    {ko : FVec Ideal ⟨4, ![8, G, 4096, dk]⟩ .bf16} (hq : Real4 q) (hc : Real4 kc) (ho : Real4 ko) (b h : Fin 8) (g : Fin G) (t : Fin 4096)
    (j : Fin 4352) (s : ℝ) :
    ∑ d : Fin dk, key kc ko b g j d * (q (ix4 b h t d) * (s : EReal)) = ((product q kc ko b h g t j * s : ℝ) : EReal) := by
  unfold product
  rw [Finset.sum_mul, Softmax.coe_sum]
  refine Finset.sum_congr rfl fun d _ => ?_
  rw [EReal.coe_mul, EReal.coe_mul, key_real hc ho, hq.coe, mul_assoc]

/-- With real queries and keys the reference's product. -/
theorem products {q : FVec Ideal ⟨4, ![8, 8, 4096, dk]⟩ .bf16} {kc : FVec Ideal ⟨4, ![8, G, 256, dk]⟩ .bf16}
    {ko : FVec Ideal ⟨4, ![8, G, 4096, dk]⟩ .bf16} (hq : Real4 q) (hc : Real4 kc) (ho : Real4 ko) (b h : Fin 8) (g : Fin G) (t : Fin 4096)
    (j : Fin 4352) :
    ∑ d : Fin dk, q (ix4 b h t d) * key kc ko b g j d = (product q kc ko b h g t j : EReal) := by
  unfold product
  rw [Softmax.coe_sum]
  refine Finset.sum_congr rfl fun d _ => ?_
  rw [EReal.coe_mul, key_real hc ho, hq.coe, mul_comm]

/-- The group of a query head, where four heads share one. -/
def group (h : Fin 8) : Fin 2 := ⟨h.val / 4, by omega⟩

end Cert.Attention

end
-- ==== Proof.Array.lean ====
/- Mixer B's attention over the whole grid: what the output array holds. -/
module

public import proofs.«01_k».proof.Proof.Block
public import proofs.«01_k».proof.Proof.Attention
public import Idealize.ShloMosaic.Lib.Pipeline.ValueKit

@[expose] public section

set_option maxRecDepth 16384

noncomputable section

namespace Cert.KernelIdeal.Array

open Idealize.ShloMosaic Idealize.ShloMosaic.TcCoe Idealize.SL.Sem Cert.Chunk Cert.Attention Cert.KernelIdeal Cert.KernelIdeal.Gen

variable (m : (ℓ : Loc nD τ sig) → Buf (Elt Ideal) ℓ)

/-- Where each window's block lies, by the batch, the pair of heads and the block of queries of a grid point. -/
theorem index : ∀ t : Fin cfg0.N,
    win0_0.index t = ![(grid0.coords t 0).val, (grid0.coords t 1).val, (grid0.coords t 2).val, 0]
    ∧ win0_1.index t = ![(grid0.coords t 0).val, (grid0.coords t 1).val / 2, 0, 0]
    ∧ win0_2.index t = ![(grid0.coords t 0).val, (grid0.coords t 1).val / 2, 0, 0]
    ∧ win0_3.index t = ![(grid0.coords t 0).val, (grid0.coords t 1).val / 2, 0, 0]
    ∧ win0_4.index t = ![(grid0.coords t 0).val, (grid0.coords t 1).val / 2, 0, 0]
    ∧ win0_5.index t = ![(grid0.coords t 0).val, (grid0.coords t 2).val, (grid0.coords t 1).val] := by decide +kernel

/-- A step names a batch, a block of queries and a pair of heads, each within its range. -/
theorem bounds (t : Fin cfg0.N) : (grid0.coords t 0).val < 8 ∧ (grid0.coords t 1).val < 4 ∧ (grid0.coords t 2).val < 8 :=
  ⟨(grid0.coords t 0).isLt, (grid0.coords t 1).isLt, (grid0.coords t 2).isLt⟩

/-- The arrays that the kernel is given. -/
abbrev Q (c : Dev nD) : FVec Ideal ⟨4, ![8, 8, 4096, 64]⟩ .bf16 := m ((c : Thread nD τ).loc main_arg0)
/-- The tokens' own keys. -/
abbrev KO (c : Dev nD) : FVec Ideal ⟨4, ![8, 2, 4096, 64]⟩ .bf16 := m ((c : Thread nD τ).loc main_arg1)
/-- The tokens' own values, one row for each of 64 features. -/
abbrev VO (c : Dev nD) : FVec Ideal ⟨4, ![8, 2, 64, 4096]⟩ .bf16 := m ((c : Thread nD τ).loc main_arg2)
/-- The context's keys. -/
abbrev KC (c : Dev nD) : FVec Ideal ⟨4, ![8, 2, 256, 64]⟩ .bf16 := m ((c : Thread nD τ).loc main_arg3)
/-- The context's values, one row for each of 64 features. -/
abbrev VC (c : Dev nD) : FVec Ideal ⟨4, ![8, 2, 64, 256]⟩ .bf16 := m ((c : Thread nD τ).loc main_arg4)

/-- The step's queries: two heads and 512 tokens of the array. -/
theorem block_q (c : Dev nD) (t : Fin cfg0.N) (r : Fin 2) (i : Fin 512) (d : Fin 64) (b h : Fin 8) (n : Fin 4096)
    (hb : b.val = (grid0.coords t 0).val) (hh : h.val = (grid0.coords t 1).val * 2 + r.val) (hn : n.val = (grid0.coords t 2).val * 512 + i.val) :
    iblk m c 0 t (ix4 0 r i d) = Q m c (ix4 b h n d) := by
  blk_ext [iblk, V, (index t).1]

/-- The step's context keys: those of the pair's key head. -/
theorem block_kc (c : Dev nD) (t : Fin cfg0.N) (j : Fin 256) (d : Fin 64) (b : Fin 8) (g : Fin 2)
    (hb : b.val = (grid0.coords t 0).val) (hg : g.val = (grid0.coords t 1).val / 2) :
    iblk m c 1 t (ix4 0 0 j d) = KC m c (ix4 b g j d) := by
  blk_ext [iblk, V, (index t).2.1]

/-- The step's context values: those of the pair's key head. -/
theorem block_vc (c : Dev nD) (t : Fin cfg0.N) (j : Fin 256) (d : Fin 64) (b : Fin 8) (g : Fin 2)
    (hb : b.val = (grid0.coords t 0).val) (hg : g.val = (grid0.coords t 1).val / 2) :
    iblk m c 2 t (ix4 0 0 d j) = VC m c (ix4 b g d j) := by
  blk_ext [iblk, V, (index t).2.2.1]

/-- The step's own keys: all 4096 of the pair's key head. -/
theorem block_ko (c : Dev nD) (t : Fin cfg0.N) (j : Fin 4096) (d : Fin 64) (b : Fin 8) (g : Fin 2)
    (hb : b.val = (grid0.coords t 0).val) (hg : g.val = (grid0.coords t 1).val / 2) :
    iblk m c 3 t (ix4 0 0 j d) = KO m c (ix4 b g j d) := by
  blk_ext [iblk, V, (index t).2.2.2.1]

/-- The step's own values: all 4096 of the pair's key head. -/
theorem block_vo (c : Dev nD) (t : Fin cfg0.N) (j : Fin 4096) (d : Fin 64) (b : Fin 8) (g : Fin 2)
    (hb : b.val = (grid0.coords t 0).val) (hg : g.val = (grid0.coords t 1).val / 2) :
    iblk m c 4 t (ix4 0 0 d j) = VO m c (ix4 b g d j) := by
  blk_ext [iblk, V, (index t).2.2.2.2.1]

/-- The head that a grid point computes from its scaled queries `x` is the attention's. -/
theorem head_eq (c : Dev nD) (hq : Real4 (Q m c)) (hko : Real4 (KO m c)) (hkc : Real4 (KC m c)) (t : Fin cfg0.N) (b h : Fin 8) (n : Fin 4096)
    (hb : b.val = (grid0.coords t 0).val) (hh : h.val / 2 = (grid0.coords t 1).val) (x : FVec Ideal S512x64 .bf16) (i : Fin 512) (e : Fin 64)
    (hx : ∀ d : Fin 64, x (ix2 i d) = Q m c (ix4 b h n d) * (((8 * Real.log 2)⁻¹ : ℝ) : EReal)) :
    Block.head x (iblk m c 1 t) (iblk m c 2 t) (iblk m c 3 t) (iblk m c 4 t) (ix2 e i)
      = result 8 (Q m c) (KC m c) (KO m c) (VC m c) (VO m c) b n h (group h) e := by
  have hg : (group h).val = (grid0.coords t 1).val / 2 := by show h.val / 4 = _; omega
  rw [result, ← average_eq_mean (by norm_num)]
  refine Block.head_at _ _ x _ _ _ _ i e (fun j => ?_) (fun j => ?_) (fun j k hk => ?_) (fun j k hk => ?_)
  · rw [← scores hq hkc hko]
    refine Finset.sum_congr rfl fun d _ => ?_
    rw [hx, block_kc m c t j d b (group h) hb hg, key_context]
  · rw [block_vc m c t j e b (group h) hb hg, value_context]
  · rw [← scores hq hkc hko]
    refine Finset.sum_congr rfl fun d _ => ?_
    rw [hx, block_ko m c t j d b (group h) hb hg, key_own _ _ b _ j k hk]
  · rw [block_vo m c t j e b (group h) hb hg, value_own _ _ b _ e j k hk]

/-- The array that the kernel leaves: every head's attention, the heads side by side. -/
def out (c : Dev nD) : FVec Ideal S8x4096x512 .bf16 := fun i =>
  result 8 (Q m c) (KC m c) (KO m c) (VC m c) (VO m c) ⟨(i 0).val, (i 0).isLt⟩ ⟨(i 1).val, (i 1).isLt⟩
    ⟨(i 2).val / 64, by have h : (i 2).val < 512 := (i 2).isLt; omega⟩ (group ⟨(i 2).val / 64, by have h : (i 2).val < 512 := (i 2).isLt; omega⟩) ⟨(i 2).val % 64, by omega⟩

/-- The output at a batch, a token, a head and a feature is the attention of that query. -/
theorem out_at (c : Dev nD) (b : Fin 8) (n : Fin 4096) (k : Fin 512) (h : Fin 8) (e : Fin 64) (hk : k.val = h.val * 64 + e.val) :
    out m c (ix3 b n k) = result 8 (Q m c) (KC m c) (KO m c) (VC m c) (VO m c) b n h (group h) e := by
  have hh : (⟨k.val / 64, by omega⟩ : Fin 8) = h := Fin.ext (by simp only; omega)
  have he : (⟨k.val % 64, by omega⟩ : Fin 64) = e := Fin.ext (by simp only; omega)
  show result _ _ _ _ _ _ _ _ (⟨k.val / 64, _⟩ : Fin 8) (group (⟨k.val / 64, _⟩ : Fin 8)) (⟨k.val % 64, _⟩ : Fin 64) = _
  rw [hh, he]
  rfl

/-- With real queries and keys the kernel leaves the attention. -/
theorem arr_eq (c : Dev nD) (hq : Real4 (Q m c)) (hko : Real4 (KO m c)) (hkc : Real4 (KC m c)) :
    (dats m 0 c).arrAt 5 (cfgs 0).N = out m c := by
  refine (dats m 0 c).arrAt_eq_of_covers 5 _ (by decide +kernel) fun t hf y => ?_
  blk_simp
  rw [after0_5, Block.out_eq]
  frame_out
  obtain ⟨h0, h1, h2⟩ := bounds t
  obtain ⟨a, i, n, rfl⟩ : ∃ (a : Fin 1) (i : Fin 512) (n : Fin 128), y = ix3 a i n := ⟨y 0, y 1, y 2, eq_ix3 y⟩
  obtain rfl : a = 0 := Subsingleton.elim _ _
  have he : ((View.whole main_v0).slice (win0_5.rect t)).emb (ix3 0 i n) = (ix3 ⟨(grid0.coords t 0).val, h0⟩
      ⟨(grid0.coords t 2).val * 512 + i.val, by omega⟩ ⟨(grid0.coords t 1).val * 128 + n.val, by omega⟩ : S8x4096x512.Idx) := by
    blk_ext [(index t).2.2.2.2.2]
  rw [he]
  rcases lt_or_ge n.val 64 with hn | hn
  · rw [out_at m c _ _ _ ⟨(grid0.coords t 1).val * 2, by omega⟩ ⟨n.val, hn⟩ (by simp only; omega)]
    refine (Block.block_at0 _ _ _ _ _ i ⟨n.val, hn⟩).trans ?_
    refine head_eq m c hq hko hkc t _ _ _ rfl (by simp only; omega) _ i ⟨n.val, hn⟩ fun d => ?_
    rw [Block.scaled_at, Block.queries0]
    exact congrArg (· * _) (block_q m c t 0 i d _ _ _ rfl rfl rfl)
  · obtain ⟨n', rfl⟩ : ∃ n' : Fin 64, n = ⟨64 + n'.val, Nat.add_lt_add_left n'.isLt 64⟩ := ⟨⟨n.val - 64, by omega⟩, Fin.ext (by simp only; omega)⟩
    rw [out_at m c _ _ _ ⟨(grid0.coords t 1).val * 2 + 1, by omega⟩ n' (by simp only; omega)]
    refine (Block.block_at1 _ _ _ _ _ i n').trans ?_
    refine head_eq m c hq hko hkc t _ _ _ rfl (by simp only; omega) _ i n' fun d => ?_
    rw [Block.scaled_at, Block.queries1]
    exact congrArg (· * _) (block_q m c t 1 i d _ _ _ rfl rfl rfl)

/-- The kernel's run: with real queries and keys the output array is the attention, and the arguments are unchanged. -/
theorem run (ρ : Dev nD → PrngReg) (hq : ∀ c, Real4 (Q m c)) (hko : ∀ c, Real4 (KO m c)) (hkc : ∀ c, Real4 (KC m c)) :
    θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (arr_eq m c (hq c) (hko c) (hkc c)),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.Array

end
-- ==== Proof.Reference.lean ====
/- Mixer B's reference computes the attention. -/
module

public import proofs.«01_k».proof.Proof.Attention
public import proofs.«01_k».proof.Proof.Gen.ReferenceIdeal.Read

@[expose] public section

set_option maxRecDepth 16384

noncomputable section

namespace Cert.ReferenceIdeal.Attend

open Idealize.ShloMosaic Cert.Attention Cert.ReferenceIdeal Cert.ReferenceIdeal.Gen Cert.ReferenceIdeal.Read

variable (x0 : FVec Ideal ⟨4, ![8, 8, 4096, 64]⟩ .bf16) (x1 : FVec Ideal ⟨4, ![8, 2, 4096, 64]⟩ .bf16) (x2 : FVec Ideal ⟨4, ![8, 2, 64, 4096]⟩ .bf16)
  (x3 : FVec Ideal ⟨4, ![8, 2, 256, 64]⟩ .bf16) (x4 : FVec Ideal ⟨4, ![8, 2, 64, 256]⟩ .bf16)

/-- The joined keys. -/
theorem keys_at (b : Fin 8) (g : Fin 2) (j : Fin 4352) (d : Fin 64) : val_main_v2 (F := Ideal) x1 x3 (ix4 b g j d) = key x3 x1 b g j d := by
  pointwise [val_main_v2, val_main_v0, val_main_v1]
  rfl

/-- The joined values. -/
theorem values_at (b : Fin 8) (g : Fin 2) (j : Fin 4352) (d : Fin 64) : val_main_v5 (F := Ideal) x2 x4 (ix4 b g d j) = value x4 x2 b g d j := by
  pointwise [val_main_v5, val_main_v3, val_main_v4]
  rfl

/-- Head `r` of group `g`. -/
def head (g : Fin 2) (r : Fin 4) : Fin 8 := ⟨g.val * 4 + r.val, by omega⟩

/-- The key head of the r-th query head of a group is the group. -/
theorem group_head (g : Fin 2) (r : Fin 4) : group (head g r) = g := Fin.ext (by simp only [group, head]; omega)

/-- The queries by groups. -/
theorem queries_at (b : Fin 8) (g : Fin 2) (r : Fin 4) (t : Fin 4096) (d : Fin 64) :
    val_main_v7 (F := Ideal) x0 (ix5 b g r t d) = x0 (ix4 b (head g r) t d) := by
  pointwise [val_main_v7, val_main_v6]
  rfl

/-- An eighth. -/
theorem eighth : Ideal.ofBits .f32 0x3E000000#32 = ((8⁻¹ : ℝ) : EReal) := by
  simp [Ideal.ofBits, Ideal.ieee, -EReal.coe_mul]
  norm_num

/-- With real queries and keys the scores are the products over eight. -/
theorem scores_at (hq : Real4 x0) (ho : Real4 x1) (hc : Real4 x3) (b : Fin 8) (g : Fin 2) (r : Fin 4) (t : Fin 4096) (j : Fin 4352) :
    val_main_v10 (F := Ideal) x0 x1 x3 (ix5 b g r t j) = ((product x0 x3 x1 b (head g r) g t j * 8⁻¹ : ℝ) : EReal) := by
  rw [val_main_v10_apply, val_main_v8_apply, val_main_v9_apply, val_main_cst_apply, EReal.coe_mul, ← products hq hc ho]
  show _ * Ideal.ofBits .f32 0x3E000000#32 = _
  rw [eighth]
  refine congrArg (· * _) (Finset.sum_congr rfl fun d _ => ?_)
  have hl : lidx_main_v8 (ix5 b g r t j) d = ix5 b g r t d := eq_ix5 _
  have hr : ridx_main_v8 (ix5 b g r t j) d = ix4 b g j d := eq_ix4 _
  rw [hl, hr, keys_at, queries_at]

/-- A maximum over the last axis. -/
theorem fold_at (y : FVec Ideal S8x2x4x4096x4352 .f32) (z : FVec Ideal S_ .f32) (b : Fin 8) (g : Fin 2) (r : Fin 4) (t : Fin 4096) :
    Host.reduce FloatOps.maximumf y z reducesTo_S8x2x4x4096x4352_S8x2x4x4096_d4 h_S_ (ix4 b g r t)
      = Finset.univ.fold max (z (Shape.Idx.first h_S_)) fun j => y (ix5 b g r t j) := by
  pointwise

/-- The maximum that the reference subtracts. -/
theorem max_at (b : Fin 8) (g : Fin 2) (r : Fin 4) (t : Fin 4096) :
    val_main_v13 (F := Ideal) x0 x1 x3 (ix4 b g r t)
      = Finset.univ.fold max ⊥ fun j => val_main_v10 (F := Ideal) x0 x1 x3 (ix5 b g r t j) := by
  rw [val_main_v13_apply, val_main_v12_apply, val_main_cst_1_apply]
  unfold val_main_v11
  rw [fold_at, val_main_cst_0_apply]
  show max (Ideal.ofBits .f32 0xFF800000#32) (Finset.univ.fold max (Ideal.ofBits .f32 0xFF800000#32) _) = _
  rw [Chunk.negInf]
  exact max_bot_left _

/-- The weights. -/
theorem weights_at (b : Fin 8) (g : Fin 2) (r : Fin 4) (t : Fin 4096) (j : Fin 4352) :
    val_main_v17 (F := Ideal) x0 x1 x3 (ix5 b g r t j)
      = Ideal.exp (val_main_v10 (F := Ideal) x0 x1 x3 (ix5 b g r t j) - val_main_v13 (F := Ideal) x0 x1 x3 (ix4 b g r t)) := by
  pointwise [val_main_v17, val_main_v16, val_main_v15, val_main_v14]

/-- The total weight. -/
theorem total_at (b : Fin 8) (g : Fin 2) (r : Fin 4) (t : Fin 4096) (j : Fin 4352) :
    val_main_v20 (F := Ideal) x0 x1 x3 (ix5 b g r t j) = ∑ j, val_main_v17 (F := Ideal) x0 x1 x3 (ix5 b g r t j) := by
  pointwise [val_main_v20, val_main_v19, val_main_v18, val_main_cst_2]

/-- The weighted values. -/
theorem mean_at (b : Fin 8) (g : Fin 2) (r : Fin 4) (t : Fin 4096) (e : Fin 64) :
    val_main_v22 (F := Ideal) x0 x1 x2 x3 x4 (ix5 b g e r t)
      = ∑ j, value x4 x2 b g e j * Ideal.div (val_main_v17 (F := Ideal) x0 x1 x3 (ix5 b g r t j)) (∑ j, val_main_v17 (F := Ideal) x0 x1 x3 (ix5 b g r t j)) := by
  rw [val_main_v22_apply]
  refine Finset.sum_congr rfl fun j _ => ?_
  have hl : lidx_main_v22 (ix5 b g e r t) j = ix4 b g e j := eq_ix4 _
  have hr : ridx_main_v22 (ix5 b g e r t) j = ix5 b g r t j := eq_ix5 _
  rw [hl, hr, values_at, val_main_v21_apply, total_at]
  rfl

/-- The result's layout: the heads side by side. -/
theorem layout_at (b : Fin 8) (t : Fin 4096) (k : Fin 512) (g : Fin 2) (r : Fin 4) (e : Fin 64) (hk : k.val = (head g r).val * 64 + e.val) :
    val_main_v25 (F := Ideal) x0 x1 x2 x3 x4 (ix3 b t k) = val_main_v22 (F := Ideal) x0 x1 x2 x3 x4 (ix5 b g e r t) := by
  have hk' : k.val = (g.val * 4 + r.val) * 64 + e.val := hk
  have h1 : (⟨k.val / 256, by omega⟩ : Fin 2) = g := Fin.ext (by simp only; omega)
  have h2 : (⟨k.val % 64, by omega⟩ : Fin 64) = e := Fin.ext (by simp only; omega)
  have h3 : (⟨k.val / 64 % 4, by omega⟩ : Fin 4) = r := Fin.ext (by simp only; omega)
  pointwise [val_main_v25, val_main_v24, val_main_v23]
  rw [h1, h2, h3]

/-- With real queries and keys the reference computes the attention. -/
theorem result_at (hq : Real4 x0) (ho : Real4 x1) (hc : Real4 x3) (b : Fin 8) (t : Fin 4096) (k : Fin 512) (h : Fin 8) (e : Fin 64)
    (hk : k.val = h.val * 64 + e.val) :
    val_main_v25 (F := Ideal) x0 x1 x2 x3 x4 (ix3 b t k) = result 8 x0 x3 x1 x4 x2 b t h (group h) e := by
  obtain ⟨g, r, rfl⟩ : ∃ g r, h = head g r := ⟨⟨h.val / 4, by omega⟩, ⟨h.val % 4, by omega⟩, Fin.ext (by simp only [head]; omega)⟩
  rw [layout_at x0 x1 x2 x3 x4 b t k g r e hk, mean_at]
  simp only [weights_at, scores_at x0 x1 x3 hq ho hc]
  have := Softmax.softmax_mean (fun j => ((product x0 x3 x1 b (head g r) g t j * 8⁻¹ : ℝ) : EReal)) (value x4 x2 b g e)
    (fun j => product x0 x3 x1 b (head g r) g t j * 8⁻¹) (fun _ => rfl) (val_main_v13 (F := Ideal) x0 x1 x3 (ix4 b g r t))
    ((max_at x0 x1 x3 b g r t).trans (by simp only [scores_at x0 x1 x3 hq ho hc]))
  rw [this, result, average, group_head]

end Cert.ReferenceIdeal.Attend

end
-- ==== Proof.Block2.lean ====
/- What one grid point of mixer C's attention computes: two heads, each meeting its own keys. -/
module

public import proofs.«01_k».proof.Proof.Chunk
public import proofs.«01_k».proof.Proof.Gen.Kernel2Ideal.Frame

@[expose] public section

noncomputable section

namespace Cert.Kernel2Ideal.Block

open Idealize.ShloMosaic Cert.Chunk Cert.Kernel2Ideal Cert.Kernel2Ideal.Gen

variable {F : FTy → Type} [FloatOps F] [Named F]

/-- The shape relations of the context chunk. -/
theorem shapesC : Shapes 256 64 where
  reduces := reduces_S256x512_S512
  casts := shapeCasts_S512_S1x512
  stretch := broadcasts_S1x512_S256x512
  stretchV := broadcasts_S1x512_S64x512
  lt := bitsLt_bf16_f32
  dot := dot_S64x256_S256x512_S64x512_1_0_0_1_n_n_wf

/-- The shape relations of a chunk of the tokens' own keys. -/
theorem shapesO : Shapes 512 64 where
  reduces := reduces_S512x512_S512
  casts := shapeCasts_S512_S1x512
  stretch := broadcasts_S1x512_S512x512
  stretchV := broadcasts_S1x512_S64x512
  lt := bitsLt_bf16_f32
  dot := dot_S64x512_S512x512_S64x512_1_0_0_1_n_n_wf

/-- A head's queries, scaled. -/
def scaled (x : Vec F S1x1x512x128 .bf16) : FVec F S512x128 .bf16 :=
  truncf .bf16 (mulf (extf .f32 (shapeCast S512x128 x shapeCasts_S1x1x512x128_S512x128) bitsLt_bf16_f32)
    (broadcast S512x128 (Named.named κ "scale_c_log2e" 0x3E16C740#32))) bitsLt_bf16_f32

/-- The context chunk met by a head's queries `q`. -/
def context (q : FVec F S512x128 .bf16) (k : Vec F S1x1x256x128 .bf16) (v : Vec F S1x1x64x256 .bf16) (st : State F 64) : State F 64 :=
  step shapesC (matmul dot_S256x128_S512x128_S256x512_1_1_0_0_n_n none (shapeCast S256x128 k shapeCasts_S1x1x256x128_S256x128) q
      (constant S256x512 .f32 0x00000000#32))
    (shapeCast S64x256 v shapeCasts_S1x1x64x256_S64x256) st

/-- One chunk of the tokens' own keys met by a head's queries `q`. -/
def own (q : FVec F S512x128 .bf16) (k : Vec F S1x1x512x128 .bf16) (v : Vec F S1x1x64x512 .bf16) (st : State F 64) : State F 64 :=
  step shapesO (matmul dot_S512x128_S512x128_S512x512_1_1_0_0_n_n none (shapeCast S512x128 k shapeCasts_S1x1x512x128_S512x128) q
      (constant S512x512 .f32 0x00000000#32))
    (shapeCast S64x512 v shapeCasts_S1x1x64x512_S64x512) st

/-- A head: the context chunk, then the eight own chunks. -/
def head (q : FVec F S512x128 .bf16) (kc : Vec F S1x1x256x128 .bf16) (vc : Vec F S1x1x64x256 .bf16)
    (k : Fin 8 → Vec F S1x1x512x128 .bf16) (v : Fin 8 → Vec F S1x1x64x512 .bf16) : FVec F S64x512 .f32 :=
  quotient shapesO (own q (k 7) (v 7) (own q (k 6) (v 6) (own q (k 5) (v 5) (own q (k 4) (v 4)
    (own q (k 3) (v 3) (own q (k 2) (v 2) (own q (k 1) (v 1) (own q (k 0) (v 0)
    (context q kc vc (start 64))))))))))

/-- The first head's chunks of keys. -/
def keys0 (x : Vec F S1x2x4096x128 .bf16) : Fin 8 → Vec F S1x1x512x128 .bf16 :=
  ![View.ld x r0_6, View.ld x r0_10, View.ld x r0_14, View.ld x r0_18, View.ld x r0_22, View.ld x r0_26, View.ld x r0_30, View.ld x r0_34]

/-- The first head's chunks of values. -/
def values0 (x : Vec F S1x2x64x4096 .bf16) : Fin 8 → Vec F S1x1x64x512 .bf16 :=
  ![View.ld x r0_7, View.ld x r0_11, View.ld x r0_15, View.ld x r0_19, View.ld x r0_23, View.ld x r0_27, View.ld x r0_31, View.ld x r0_35]

/-- The second head's chunks of keys. -/
def keys1 (x : Vec F S1x2x4096x128 .bf16) : Fin 8 → Vec F S1x1x512x128 .bf16 :=
  ![View.ld x r0_8, View.ld x r0_12, View.ld x r0_16, View.ld x r0_20, View.ld x r0_24, View.ld x r0_28, View.ld x r0_32, View.ld x r0_36]

/-- The second head's chunks of values. -/
def values1 (x : Vec F S1x2x64x4096 .bf16) : Fin 8 → Vec F S1x1x64x512 .bf16 :=
  ![View.ld x r0_9, View.ld x r0_13, View.ld x r0_17, View.ld x r0_21, View.ld x r0_25, View.ld x r0_29, View.ld x r0_33, View.ld x r0_37]

/-- What a grid point writes. -/
def block (x0 : Vec F S1x2x512x128 .bf16) (x1 : Vec F S1x2x256x128 .bf16) (x2 : Vec F S1x2x64x256 .bf16) (x3 : Vec F S1x2x4096x128 .bf16)
    (x4 : Vec F S1x2x64x4096 .bf16) : FVec F S1x512x128 .bf16 :=
  shapeCast S1x512x128 (truncf .bf16 (transpose S512x128 [1, 0] (concatenate S128x512 0
    [⟨S64x512, head (scaled (View.ld x0 r0_0)) (View.ld x1 r0_2) (View.ld x2 r0_3) (keys0 x3) (values0 x4)⟩,
      ⟨S64x512, head (scaled (View.ld x0 r0_1)) (View.ld x1 r0_4) (View.ld x2 r0_5) (keys1 x3) (values1 x4)⟩]
    concatenates_S64x512_S64x512_S128x512_d0) transposes_S128x512_p1_0_S512x128) bitsLt_bf16_f32) shapeCasts_S512x128_S1x512x128

set_option maxRecDepth 16384 in
/-- The printed body writes that block. -/
theorem out_eq (x0 : Vec F S1x2x512x128 .bf16) (x1 : Vec F S1x2x256x128 .bf16) (x2 : Vec F S1x2x64x256 .bf16) (x3 : Vec F S1x2x4096x128 .bf16)
    (x4 : Vec F S1x2x64x4096 .bf16) : out0_5 x0 x1 x2 x3 x4 = View.canon [⟨r0_38, block x0 x1 x2 x3 x4⟩] := rfl

/-- The context chunk extends the sums. -/
theorem context_first {σ : Fin 4352 → ℝ} {w : Fin 4352 → EReal} {q : FVec Ideal S512x128 .bf16} {k : Vec Ideal S1x1x256x128 .bf16} {v : Vec Ideal S1x1x64x256 .bf16}
    {st : State Ideal 64} {c : Fin 512} {e : Fin 64} (h : First σ w st c e 0 (by omega))
    (hs : ∀ j : Fin 256, ∑ d : Fin 128, k (ix4 0 0 j d) * q (ix2 c d) = (σ ⟨j, by omega⟩ : EReal))
    (hv : ∀ j : Fin 256, v (ix4 0 0 e j) = w ⟨j, by omega⟩) : First σ w (context q k v st) c e 256 (by omega) := by
  refine first_step_256_64 shapesC h (by omega) ?_ ?_
  · intro j
    pointwise
    simpa using hs j
  · intro j
    pointwise
    simpa using hv j

/-- A chunk of the tokens' own keys extends the sums. -/
theorem own_first {σ : Fin 4352 → ℝ} {w : Fin 4352 → EReal} {q : FVec Ideal S512x128 .bf16} {k : Vec Ideal S1x1x512x128 .bf16} {v : Vec Ideal S1x1x64x512 .bf16}
    {st : State Ideal 64} {c : Fin 512} {e : Fin 64} {n : Nat} {hn : n ≤ 4352} (h : First σ w st c e n hn) (hN : n + 512 ≤ 4352)
    (hs : ∀ j : Fin 512, ∑ d : Fin 128, k (ix4 0 0 j d) * q (ix2 c d) = (σ ⟨n + j, by omega⟩ : EReal))
    (hv : ∀ j : Fin 512, v (ix4 0 0 e j) = w ⟨n + j, by omega⟩) : First σ w (own q k v st) c e (n + 512) hN := by
  refine first_step_512_64 shapesO h hN ?_ ?_
  · intro j
    pointwise
    simpa using hs j
  · intro j
    pointwise
    simpa using hv j

/-- A head's output at a coordinate `e` of a query `c`: the mean of the values under its scores `σ`. -/
theorem head_at (σ : Fin 4352 → ℝ) (w : Fin 4352 → EReal) (q : FVec Ideal S512x128 .bf16) (kc : Vec Ideal S1x1x256x128 .bf16)
    (vc : Vec Ideal S1x1x64x256 .bf16) (k : Fin 8 → Vec Ideal S1x1x512x128 .bf16) (v : Fin 8 → Vec Ideal S1x1x64x512 .bf16) (c : Fin 512) (e : Fin 64)
    (hc : ∀ j : Fin 256, ∑ d : Fin 128, kc (ix4 0 0 j d) * q (ix2 c d) = (σ ⟨j, by omega⟩ : EReal))
    (hvc : ∀ j : Fin 256, vc (ix4 0 0 e j) = w ⟨j, by omega⟩)
    (ho : ∀ (n : Fin 8) (j : Fin 512) (i : Fin 4352), i.val = 256 + (512 * n.val + j.val) →
      ∑ d : Fin 128, k n (ix4 0 0 j d) * q (ix2 c d) = (σ i : EReal))
    (hvo : ∀ (n : Fin 8) (j : Fin 512) (i : Fin 4352), i.val = 256 + (512 * n.val + j.val) → v n (ix4 0 0 e j) = w i) :
    head q kc vc k v (ix2 e c) = mean σ w := by
  have h0 := context_first (q := q) (k := kc) (v := vc) (first_start σ w c e) hc hvc
  have h1 := own_first (q := q) (k := k 0) (v := v 0) h0 (by omega)
    (fun j => ho 0 j _ (by show _ = 256 + (512 * 0 + j.val); simp only; omega)) (fun j => hvo 0 j _ (by show _ = 256 + (512 * 0 + j.val); simp only; omega))
  have h2 := own_first (q := q) (k := k 1) (v := v 1) h1 (by omega)
    (fun j => ho 1 j _ (by show _ = 256 + (512 * 1 + j.val); simp only; omega)) (fun j => hvo 1 j _ (by show _ = 256 + (512 * 1 + j.val); simp only; omega))
  have h3 := own_first (q := q) (k := k 2) (v := v 2) h2 (by omega)
    (fun j => ho 2 j _ (by show _ = 256 + (512 * 2 + j.val); simp only; omega)) (fun j => hvo 2 j _ (by show _ = 256 + (512 * 2 + j.val); simp only; omega))
  have h4 := own_first (q := q) (k := k 3) (v := v 3) h3 (by omega)
    (fun j => ho 3 j _ (by show _ = 256 + (512 * 3 + j.val); simp only; omega)) (fun j => hvo 3 j _ (by show _ = 256 + (512 * 3 + j.val); simp only; omega))
  have h5 := own_first (q := q) (k := k 4) (v := v 4) h4 (by omega)
    (fun j => ho 4 j _ (by show _ = 256 + (512 * 4 + j.val); simp only; omega)) (fun j => hvo 4 j _ (by show _ = 256 + (512 * 4 + j.val); simp only; omega))
  have h6 := own_first (q := q) (k := k 5) (v := v 5) h5 (by omega)
    (fun j => ho 5 j _ (by show _ = 256 + (512 * 5 + j.val); simp only; omega)) (fun j => hvo 5 j _ (by show _ = 256 + (512 * 5 + j.val); simp only; omega))
  have h7 := own_first (q := q) (k := k 6) (v := v 6) h6 (by omega)
    (fun j => ho 6 j _ (by show _ = 256 + (512 * 6 + j.val); simp only; omega)) (fun j => hvo 6 j _ (by show _ = 256 + (512 * 6 + j.val); simp only; omega))
  have h8 := own_first (q := q) (k := k 7) (v := v 7) h7 (by omega)
    (fun j => ho 7 j _ (by show _ = 256 + (512 * 7 + j.val); simp only; omega)) (fun j => hvo 7 j _ (by show _ = 256 + (512 * 7 + j.val); simp only; omega))
  exact first_quotient_64 shapesO h8 (by omega)

/-- The scaled queries at an index. -/
theorem scaled_at (x : Vec Ideal S1x1x512x128 .bf16) (c : Fin 512) (d : Fin 128) :
    scaled x (ix2 c d) = x (ix4 0 0 c d) * (((Real.sqrt 96 * Real.log 2)⁻¹ : ℝ) : EReal) := by
  pointwise [scaled]
  rw [IdealRules.named_const.ideal_named_scalar _ _ _ _ rfl]

/-- The first head's queries. -/
theorem queries0 (x : Vec Ideal S1x2x512x128 .bf16) (c : Fin 512) (d : Fin 128) : View.ld x r0_0 (ix4 0 0 c d) = x (ix4 0 0 c d) := by
  pointwise

/-- The first head's context keys. -/
theorem contextKeys0 (x : Vec Ideal S1x2x256x128 .bf16) (j : Fin 256) (d : Fin 128) : View.ld x r0_2 (ix4 0 0 j d) = x (ix4 0 0 j d) := by
  pointwise

/-- The first head's context values. -/
theorem contextValues0 (x : Vec Ideal S1x2x64x256 .bf16) (j : Fin 256) (d : Fin 64) : View.ld x r0_3 (ix4 0 0 d j) = x (ix4 0 0 d j) := by
  pointwise

/-- The first head's own keys. -/
theorem keys0_at (x : Vec Ideal S1x2x4096x128 .bf16) (n : Fin 8) (j : Fin 512) (d : Fin 128) :
    keys0 x n (ix4 0 0 j d) = x (ix4 0 0 ⟨512 * n.val + j.val, by omega⟩ d) := by
  fin_cases n <;> simp only [keys0] <;> pointwise <;> simp

/-- The first head's own values. -/
theorem values0_at (x : Vec Ideal S1x2x64x4096 .bf16) (n : Fin 8) (j : Fin 512) (d : Fin 64) :
    values0 x n (ix4 0 0 d j) = x (ix4 0 0 d ⟨512 * n.val + j.val, by omega⟩) := by
  fin_cases n <;> simp only [values0] <;> pointwise <;> simp

/-- The second head's queries. -/
theorem queries1 (x : Vec Ideal S1x2x512x128 .bf16) (c : Fin 512) (d : Fin 128) : View.ld x r0_1 (ix4 0 0 c d) = x (ix4 0 1 c d) := by
  pointwise

/-- The second head's context keys. -/
theorem contextKeys1 (x : Vec Ideal S1x2x256x128 .bf16) (j : Fin 256) (d : Fin 128) : View.ld x r0_4 (ix4 0 0 j d) = x (ix4 0 1 j d) := by
  pointwise

/-- The second head's context values. -/
theorem contextValues1 (x : Vec Ideal S1x2x64x256 .bf16) (j : Fin 256) (d : Fin 64) : View.ld x r0_5 (ix4 0 0 d j) = x (ix4 0 1 d j) := by
  pointwise

/-- The second head's own keys. -/
theorem keys1_at (x : Vec Ideal S1x2x4096x128 .bf16) (n : Fin 8) (j : Fin 512) (d : Fin 128) :
    keys1 x n (ix4 0 0 j d) = x (ix4 0 1 ⟨512 * n.val + j.val, by omega⟩ d) := by
  fin_cases n <;> simp only [keys1] <;> pointwise <;> simp

/-- The second head's own values. -/
theorem values1_at (x : Vec Ideal S1x2x64x4096 .bf16) (n : Fin 8) (j : Fin 512) (d : Fin 64) :
    values1 x n (ix4 0 0 d j) = x (ix4 0 1 d ⟨512 * n.val + j.val, by omega⟩) := by
  fin_cases n <;> simp only [values1] <;> pointwise <;> simp

/-- The first head's output in the block. -/
theorem block_at0 (x0 : Vec Ideal S1x2x512x128 .bf16) (x1 : Vec Ideal S1x2x256x128 .bf16) (x2 : Vec Ideal S1x2x64x256 .bf16)
    (x3 : Vec Ideal S1x2x4096x128 .bf16) (x4 : Vec Ideal S1x2x64x4096 .bf16) (c : Fin 512) (e : Fin 64) :
    block x0 x1 x2 x3 x4 (ix3 0 c ⟨e.val, by omega⟩)
      = head (scaled (View.ld x0 r0_0)) (View.ld x1 r0_2) (View.ld x2 r0_3) (keys0 x3) (values0 x4) (ix2 e c) := by
  pointwise [block]

/-- The second head's output in the block. -/
theorem block_at1 (x0 : Vec Ideal S1x2x512x128 .bf16) (x1 : Vec Ideal S1x2x256x128 .bf16) (x2 : Vec Ideal S1x2x64x256 .bf16)
    (x3 : Vec Ideal S1x2x4096x128 .bf16) (x4 : Vec Ideal S1x2x64x4096 .bf16) (c : Fin 512) (e : Fin 64) :
    block x0 x1 x2 x3 x4 (ix3 0 c ⟨64 + e.val, by omega⟩)
      = head (scaled (View.ld x0 r0_1)) (View.ld x1 r0_4) (View.ld x2 r0_5) (keys1 x3) (values1 x4) (ix2 e c) := by
  pointwise [block]

end Cert.Kernel2Ideal.Block

end
-- ==== Proof.Array2.lean ====
/- Mixer C's attention over the whole grid: what the output array holds. -/
module

public import proofs.«01_k».proof.Proof.Block2
public import proofs.«01_k».proof.Proof.Attention
public import Idealize.ShloMosaic.Lib.Pipeline.ValueKit

@[expose] public section

set_option maxRecDepth 16384

noncomputable section

namespace Cert.Kernel2Ideal.Array

open Idealize.ShloMosaic Idealize.ShloMosaic.TcCoe Idealize.SL.Sem Cert.Chunk Cert.Attention Cert.Kernel2Ideal Cert.Kernel2Ideal.Gen

variable (m : (ℓ : Loc nD τ sig) → Buf (Elt Ideal) ℓ)

/-- Where each window's block lies, by the batch, the pair of heads and the block of queries of a grid point. -/
theorem index : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 2).val, (grid0.coords t 1).val] := by decide +kernel

/-- The grid's extents. -/
theorem bounds (t : Fin cfg0.N) : (grid0.coords t 0).val < 8 ∧ (grid0.coords t 1).val < 4 ∧ (grid0.coords t 2).val < 8 :=
  ⟨(grid0.coords t 0).isLt, (grid0.coords t 1).isLt, (grid0.coords t 2).isLt⟩

/-- The queries that the kernel is given. -/
abbrev Q (c : Dev nD) : FVec Ideal ⟨4, ![8, 8, 4096, 128]⟩ .bf16 := m ((c : Thread nD τ).loc main_arg0)
/-- The tokens' own keys. -/
abbrev KO (c : Dev nD) : FVec Ideal ⟨4, ![8, 8, 4096, 128]⟩ .bf16 := m ((c : Thread nD τ).loc main_arg1)
/-- The tokens' own values. -/
abbrev VO (c : Dev nD) : FVec Ideal ⟨4, ![8, 8, 64, 4096]⟩ .bf16 := m ((c : Thread nD τ).loc main_arg2)
/-- The context's keys. -/
abbrev KC (c : Dev nD) : FVec Ideal ⟨4, ![8, 8, 256, 128]⟩ .bf16 := m ((c : Thread nD τ).loc main_arg3)
/-- The context's values. -/
abbrev VC (c : Dev nD) : FVec Ideal ⟨4, ![8, 8, 64, 256]⟩ .bf16 := m ((c : Thread nD τ).loc main_arg4)

/-- A grid point's block of queries. -/
theorem block_q (c : Dev nD) (t : Fin cfg0.N) (r : Fin 2) (i : Fin 512) (d : Fin 128) (b h : Fin 8) (n : Fin 4096)
    (hb : b.val = (grid0.coords t 0).val) (hh : h.val = (grid0.coords t 1).val * 2 + r.val) (hn : n.val = (grid0.coords t 2).val * 512 + i.val) :
    iblk m c 0 t (ix4 0 r i d) = Q m c (ix4 b h n d) := by
  blk_ext [iblk, V, (index t).1]

/-- A grid point's block of context keys. -/
theorem block_kc (c : Dev nD) (t : Fin cfg0.N) (r : Fin 2) (j : Fin 256) (d : Fin 128) (b h : Fin 8)
    (hb : b.val = (grid0.coords t 0).val) (hh : h.val = (grid0.coords t 1).val * 2 + r.val) :
    iblk m c 1 t (ix4 0 r j d) = KC m c (ix4 b h j d) := by
  blk_ext [iblk, V, (index t).2.1]

/-- A grid point's block of context values. -/
theorem block_vc (c : Dev nD) (t : Fin cfg0.N) (r : Fin 2) (j : Fin 256) (d : Fin 64) (b h : Fin 8)
    (hb : b.val = (grid0.coords t 0).val) (hh : h.val = (grid0.coords t 1).val * 2 + r.val) :
    iblk m c 2 t (ix4 0 r d j) = VC m c (ix4 b h d j) := by
  blk_ext [iblk, V, (index t).2.2.1]

/-- A grid point's block of own keys. -/
theorem block_ko (c : Dev nD) (t : Fin cfg0.N) (r : Fin 2) (j : Fin 4096) (d : Fin 128) (b h : Fin 8)
    (hb : b.val = (grid0.coords t 0).val) (hh : h.val = (grid0.coords t 1).val * 2 + r.val) :
    iblk m c 3 t (ix4 0 r j d) = KO m c (ix4 b h j d) := by
  blk_ext [iblk, V, (index t).2.2.2.1]

/-- A grid point's block of own values. -/
theorem block_vo (c : Dev nD) (t : Fin cfg0.N) (r : Fin 2) (j : Fin 4096) (d : Fin 64) (b h : Fin 8)
    (hb : b.val = (grid0.coords t 0).val) (hh : h.val = (grid0.coords t 1).val * 2 + r.val) :
    iblk m c 4 t (ix4 0 r d j) = VO m c (ix4 b h d j) := by
  blk_ext [iblk, V, (index t).2.2.2.2.1]

/-- The head that a grid point computes from its scaled queries `x`, its keys and its values is the attention's. -/
theorem head_eq (c : Dev nD) (hq : Real4 (Q m c)) (hko : Real4 (KO m c)) (hkc : Real4 (KC m c)) (b h : Fin 8) (n : Fin 4096)
    (x : FVec Ideal S512x128 .bf16) (kc : Vec Ideal S1x1x256x128 .bf16) (vc : Vec Ideal S1x1x64x256 .bf16) (k : Fin 8 → Vec Ideal S1x1x512x128 .bf16)
    (v : Fin 8 → Vec Ideal S1x1x64x512 .bf16) (i : Fin 512) (e : Fin 64)
    (hx : ∀ d : Fin 128, x (ix2 i d) = Q m c (ix4 b h n d) * (((Real.sqrt 96 * Real.log 2)⁻¹ : ℝ) : EReal))
    (h1 : ∀ (j : Fin 256) (d : Fin 128), kc (ix4 0 0 j d) = KC m c (ix4 b h j d)) (h2 : ∀ j : Fin 256, vc (ix4 0 0 e j) = VC m c (ix4 b h e j))
    (h3 : ∀ (s : Fin 8) (j : Fin 512) (d : Fin 128), k s (ix4 0 0 j d) = KO m c (ix4 b h ⟨512 * s.val + j.val, by omega⟩ d))
    (h4 : ∀ (s : Fin 8) (j : Fin 512), v s (ix4 0 0 e j) = VO m c (ix4 b h e ⟨512 * s.val + j.val, by omega⟩)) :
    Block.head x kc vc k v (ix2 e i) = result (Real.sqrt 96) (Q m c) (KC m c) (KO m c) (VC m c) (VO m c) b n h h e := by
  rw [result, ← average_eq_mean (by positivity)]
  refine Block.head_at _ _ x _ _ _ _ i e (fun j => ?_) (fun j => ?_) (fun s j k hk => ?_) (fun s j k hk => ?_)
  · rw [← scores hq hkc hko]
    refine Finset.sum_congr rfl fun d _ => ?_
    rw [hx, h1, key_context]
  · rw [h2, value_context]
  · rw [← scores hq hkc hko]
    refine Finset.sum_congr rfl fun d _ => ?_
    rw [hx, h3, key_own _ _ b _ ⟨512 * s.val + j.val, by omega⟩ k hk]
  · rw [h4, value_own _ _ b _ e ⟨512 * s.val + j.val, by omega⟩ k hk]

/-- The array that the kernel leaves: every head's attention, the heads side by side. -/
def out (c : Dev nD) : FVec Ideal S8x4096x512 .bf16 := fun i =>
  result (Real.sqrt 96) (Q m c) (KC m c) (KO m c) (VC m c) (VO m c) ⟨(i 0).val, (i 0).isLt⟩ ⟨(i 1).val, (i 1).isLt⟩
    ⟨(i 2).val / 64, by have h : (i 2).val < 512 := (i 2).isLt; omega⟩ ⟨(i 2).val / 64, by have h : (i 2).val < 512 := (i 2).isLt; omega⟩ ⟨(i 2).val % 64, by omega⟩

/-- The array at coordinate `e` of head `h`. -/
theorem out_at (c : Dev nD) (b : Fin 8) (n : Fin 4096) (k : Fin 512) (h : Fin 8) (e : Fin 64) (hk : k.val = h.val * 64 + e.val) :
    out m c (ix3 b n k) = result (Real.sqrt 96) (Q m c) (KC m c) (KO m c) (VC m c) (VO m c) b n h h e := by
  have hh : (⟨k.val / 64, by omega⟩ : Fin 8) = h := Fin.ext (by simp only; omega)
  have he : (⟨k.val % 64, by omega⟩ : Fin 64) = e := Fin.ext (by simp only; omega)
  show result _ _ _ _ _ _ _ _ (⟨k.val / 64, _⟩ : Fin 8) (⟨k.val / 64, _⟩ : Fin 8) (⟨k.val % 64, _⟩ : Fin 64) = _
  rw [hh, he]
  rfl

/-- With real queries and keys the kernel leaves the attention. -/
theorem arr_eq (c : Dev nD) (hq : Real4 (Q m c)) (hko : Real4 (KO m c)) (hkc : Real4 (KC m c)) :
    (dats m 0 c).arrAt 5 (cfgs 0).N = out m c := by
  refine (dats m 0 c).arrAt_eq_of_covers 5 _ (by decide +kernel) fun t hf y => ?_
  blk_simp
  rw [after0_5, Block.out_eq]
  frame_out
  obtain ⟨h0, h1, h2⟩ := bounds t
  obtain ⟨a, i, n, rfl⟩ : ∃ (a : Fin 1) (i : Fin 512) (n : Fin 128), y = ix3 a i n := ⟨y 0, y 1, y 2, eq_ix3 y⟩
  obtain rfl : a = 0 := Subsingleton.elim _ _
  have he : ((View.whole main_v0).slice (win0_5.rect t)).emb (ix3 0 i n) = (ix3 ⟨(grid0.coords t 0).val, h0⟩
      ⟨(grid0.coords t 2).val * 512 + i.val, by omega⟩ ⟨(grid0.coords t 1).val * 128 + n.val, by omega⟩ : S8x4096x512.Idx) := by
    blk_ext [(index t).2.2.2.2.2]
  rw [he]
  rcases lt_or_ge n.val 64 with hn | hn
  · rw [out_at m c _ _ _ ⟨(grid0.coords t 1).val * 2, by omega⟩ ⟨n.val, hn⟩ (by simp only; omega)]
    refine (Block.block_at0 _ _ _ _ _ i ⟨n.val, hn⟩).trans ?_
    refine head_eq m c hq hko hkc _ _ _ _ _ _ _ _ i _ (fun d => ?_) (fun j d => ?_) (fun j => ?_) (fun s j d => ?_) (fun s j => ?_)
    · rw [Block.scaled_at, Block.queries0]
      exact congrArg (· * _) (block_q m c t 0 i d _ _ _ rfl rfl rfl)
    · exact (Block.contextKeys0 _ j d).trans (block_kc m c t 0 j d _ _ rfl rfl)
    · exact (Block.contextValues0 _ j _).trans (block_vc m c t 0 j _ _ _ rfl rfl)
    · exact (Block.keys0_at _ s j d).trans (block_ko m c t 0 _ d _ _ rfl rfl)
    · exact (Block.values0_at _ s j _).trans (block_vo m c t 0 _ _ _ _ rfl rfl)
  · obtain ⟨n', rfl⟩ : ∃ n' : Fin 64, n = ⟨64 + n'.val, Nat.add_lt_add_left n'.isLt 64⟩ := ⟨⟨n.val - 64, by omega⟩, Fin.ext (by simp only; omega)⟩
    rw [out_at m c _ _ _ ⟨(grid0.coords t 1).val * 2 + 1, by omega⟩ n' (by simp only; omega)]
    refine (Block.block_at1 _ _ _ _ _ i n').trans ?_
    refine head_eq m c hq hko hkc _ _ _ _ _ _ _ _ i _ (fun d => ?_) (fun j d => ?_) (fun j => ?_) (fun s j d => ?_) (fun s j => ?_)
    · rw [Block.scaled_at, Block.queries1]
      exact congrArg (· * _) (block_q m c t 1 i d _ _ _ rfl rfl rfl)
    · exact (Block.contextKeys1 _ j d).trans (block_kc m c t 1 j d _ _ rfl rfl)
    · exact (Block.contextValues1 _ j _).trans (block_vc m c t 1 j _ _ _ rfl rfl)
    · exact (Block.keys1_at _ s j d).trans (block_ko m c t 1 _ d _ _ rfl rfl)
    · exact (Block.values1_at _ s j _).trans (block_vo m c t 1 _ _ _ _ rfl rfl)

/-- The kernel's run: with real queries and keys the output array is the attention, and the arguments are unchanged. -/
theorem run (ρ : Dev nD → PrngReg) (hq : ∀ c, Real4 (Q m c)) (hko : ∀ c, Real4 (KO m c)) (hkc : ∀ c, Real4 (KC m c)) :
    θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (arr_eq m c (hq c) (hko c) (hkc c)),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.Kernel2Ideal.Array

end
-- ==== Proof.Reference2.lean ====
/- Mixer C's reference computes the attention. -/
module

public import proofs.«01_k».proof.Proof.Attention
public import proofs.«01_k».proof.Proof.Gen.Reference2Ideal.Read

@[expose] public section

set_option maxRecDepth 16384

noncomputable section

namespace Cert.Reference2Ideal.Attend

open Idealize.ShloMosaic Cert.Attention Cert.Reference2Ideal Cert.Reference2Ideal.Gen Cert.Reference2Ideal.Read

variable (x0 : FVec Ideal ⟨4, ![8, 8, 4096, 128]⟩ .bf16) (x1 : FVec Ideal ⟨4, ![8, 8, 4096, 128]⟩ .bf16) (x2 : FVec Ideal ⟨4, ![8, 8, 64, 4096]⟩ .bf16)
  (x3 : FVec Ideal ⟨4, ![8, 8, 256, 128]⟩ .bf16) (x4 : FVec Ideal ⟨4, ![8, 8, 64, 256]⟩ .bf16)

/-- The joined keys. -/
theorem keys_at (b h : Fin 8) (j : Fin 4352) (d : Fin 128) : val_main_v2 (F := Ideal) x1 x3 (ix4 b h j d) = key x3 x1 b h j d := by
  pointwise [val_main_v2, val_main_v0, val_main_v1]
  rfl

/-- The joined values. -/
theorem values_at (b h : Fin 8) (j : Fin 4352) (e : Fin 64) : val_main_v5 (F := Ideal) x2 x4 (ix4 b h e j) = value x4 x2 b h e j := by
  pointwise [val_main_v5, val_main_v3, val_main_v4]
  rfl

/-- The reciprocal root of 96. -/
theorem root : Ideal.rsqrt (Ideal.ofBits .f32 0x42C00000#32) = (((Real.sqrt 96)⁻¹ : ℝ) : EReal) := by
  have h : Ideal.ofBits .f32 0x42C00000#32 = ((96 : ℝ) : EReal) := by
    simp [Ideal.ofBits, Ideal.ieee, -EReal.coe_mul]
    norm_num
  rw [h]
  rw [Ideal.rsqrt_coe]
  norm_num

/-- With real queries and keys the scores are the products over the root of 96. -/
theorem scores_at (hq : Real4 x0) (ho : Real4 x1) (hc : Real4 x3) (b h : Fin 8) (t : Fin 4096) (j : Fin 4352) :
    val_main_v10 (F := Ideal) x0 x1 x3 (ix4 b h t j) = ((product x0 x3 x1 b h h t j * (Real.sqrt 96)⁻¹ : ℝ) : EReal) := by
  rw [val_main_v10_apply, val_main_v7_apply, val_main_v9_apply, val_main_v8_apply, val_main_cst_apply, EReal.coe_mul, ← products hq hc ho]
  refine congrArg₂ (· * ·) (Finset.sum_congr rfl fun d _ => ?_) root
  have hl : lidx_main_v7 (ix4 b h t j) d = ix4 b h t d := eq_ix4 _
  have hr : ridx_main_v7 (ix4 b h t j) d = ix4 b h j d := eq_ix4 _
  rw [hl, hr, keys_at, val_main_v6_apply]
  rfl

/-- A maximum over the last axis. -/
theorem fold_at (y : FVec Ideal S8x8x4096x4352 .f32) (z : FVec Ideal S_ .f32) (b h : Fin 8) (t : Fin 4096) :
    Host.reduce FloatOps.maximumf y z reducesTo_S8x8x4096x4352_S8x8x4096_d3 h_S_ (ix3 b h t)
      = Finset.univ.fold max (z (Shape.Idx.first h_S_)) fun j => y (ix4 b h t j) := by
  pointwise

/-- The maximum that the reference subtracts. -/
theorem max_at (b h : Fin 8) (t : Fin 4096) :
    val_main_v13 (F := Ideal) x0 x1 x3 (ix3 b h t) = Finset.univ.fold max ⊥ fun j => val_main_v10 (F := Ideal) x0 x1 x3 (ix4 b h t j) := by
  rw [val_main_v13_apply, val_main_v12_apply, val_main_cst_1_apply]
  unfold val_main_v11
  rw [fold_at, val_main_cst_0_apply]
  show max (Ideal.ofBits .f32 0xFF800000#32) (Finset.univ.fold max (Ideal.ofBits .f32 0xFF800000#32) _) = _
  rw [Chunk.negInf]
  exact max_bot_left _

/-- The weights. -/
theorem weights_at (b h : Fin 8) (t : Fin 4096) (j : Fin 4352) :
    val_main_v17 (F := Ideal) x0 x1 x3 (ix4 b h t j)
      = Ideal.exp (val_main_v10 (F := Ideal) x0 x1 x3 (ix4 b h t j) - val_main_v13 (F := Ideal) x0 x1 x3 (ix3 b h t)) := by
  pointwise [val_main_v17, val_main_v16, val_main_v15, val_main_v14]

/-- The total weight. -/
theorem total_at (b h : Fin 8) (t : Fin 4096) (j : Fin 4352) :
    val_main_v20 (F := Ideal) x0 x1 x3 (ix4 b h t j) = ∑ j, val_main_v17 (F := Ideal) x0 x1 x3 (ix4 b h t j) := by
  pointwise [val_main_v20, val_main_v19, val_main_v18, val_main_cst_2]

/-- The weighted values. -/
theorem mean_at (b h : Fin 8) (t : Fin 4096) (e : Fin 64) :
    val_main_v22 (F := Ideal) x0 x1 x2 x3 x4 (ix4 b h e t)
      = ∑ j, value x4 x2 b h e j * Ideal.div (val_main_v17 (F := Ideal) x0 x1 x3 (ix4 b h t j)) (∑ j, val_main_v17 (F := Ideal) x0 x1 x3 (ix4 b h t j)) := by
  rw [val_main_v22_apply]
  refine Finset.sum_congr rfl fun j _ => ?_
  have hl : lidx_main_v22 (ix4 b h e t) j = ix4 b h e j := eq_ix4 _
  have hr : ridx_main_v22 (ix4 b h e t) j = ix4 b h t j := eq_ix4 _
  rw [hl, hr, values_at, val_main_v21_apply, total_at]
  rfl

/-- The result's layout: the heads side by side. -/
theorem layout_at (b : Fin 8) (t : Fin 4096) (k : Fin 512) (h : Fin 8) (e : Fin 64) (hk : k.val = h.val * 64 + e.val) :
    val_main_v25 (F := Ideal) x0 x1 x2 x3 x4 (ix3 b t k) = val_main_v22 (F := Ideal) x0 x1 x2 x3 x4 (ix4 b h e t) := by
  have h1 : (⟨k.val / 64, by omega⟩ : Fin 8) = h := Fin.ext (by simp only; omega)
  have h2 : (⟨k.val % 64, by omega⟩ : Fin 64) = e := Fin.ext (by simp only; omega)
  pointwise [val_main_v25, val_main_v24, val_main_v23]
  rw [h1, h2]

/-- With real queries and keys the reference computes the attention. -/
theorem result_at (hq : Real4 x0) (ho : Real4 x1) (hc : Real4 x3) (b : Fin 8) (t : Fin 4096) (k : Fin 512) (h : Fin 8) (e : Fin 64)
    (hk : k.val = h.val * 64 + e.val) :
    val_main_v25 (F := Ideal) x0 x1 x2 x3 x4 (ix3 b t k) = result (Real.sqrt 96) x0 x3 x1 x4 x2 b t h h e := by
  rw [layout_at x0 x1 x2 x3 x4 b t k h e hk, mean_at]
  simp only [weights_at, scores_at x0 x1 x3 hq ho hc]
  have := Softmax.softmax_mean (fun j => ((product x0 x3 x1 b h h t j * (Real.sqrt 96)⁻¹ : ℝ) : EReal)) (value x4 x2 b h e)
    (fun j => product x0 x3 x1 b h h t j * (Real.sqrt 96)⁻¹) (fun _ => rfl) (val_main_v13 (F := Ideal) x0 x1 x3 (ix3 b h t))
    ((max_at x0 x1 x3 b h t).trans (by simp only [scores_at x0 x1 x3 hq ho hc]))
  rw [this, result, average]

end Cert.Reference2Ideal.Attend

end
-- ==== Proof.Difference.lean ====
/- Mixer A's mathematics: the difference of two softmax attentions over the same values, and the norm after it. -/
module

public import proofs.«01_k».proof.Proof.Attention

@[expose] public section

noncomputable section

namespace Cert.Attention

open Idealize.ShloMosaic Cert.Chunk

/-- The four vectors of lambda. -/
abbrev Lambda : Type := FVec Ideal ⟨2, ![4, 64]⟩ .f32
/-- The norm's gain. -/
abbrev Gain : Type := FVec Ideal ⟨2, ![128, 1]⟩ .f32

/-- The factor of the second attention: the exponentials of two inner products, their difference, and the layer's constant. -/
def lambda (x : Lambda) : EReal :=
  Ideal.exp (∑ d : Fin 64, x (ix2 0 d) * x (ix2 1 d)) - Ideal.exp (∑ d : Fin 64, x (ix2 2 d) * x (ix2 3 d)) + Ideal.ofBits .f32 0x3E4CCCCD#32

/-- The norm over a head's 128 coordinates, its gain and the layer's constant. -/
def normed (o : Fin 128 → EReal) (g : Gain) (e : Fin 128) : EReal :=
  o e * Ideal.rsqrt (Ideal.div (∑ e, o e * o e) (Ideal.ofBits .f32 0x43000000#32) + Ideal.ofBits .f32 0x358637BD#32) * g (ix2 e 0)
    * Ideal.ofBits .f32 0x3F4CCCCD#32

/-- Head `h`'s difference of attentions: two query and key heads, one value head. -/
def difference (q : FVec Ideal ⟨4, ![8, 8, 4096, 64]⟩ .bf16) (kc : FVec Ideal ⟨4, ![8, 8, 256, 64]⟩ .bf16)
    (ko : FVec Ideal ⟨4, ![8, 8, 4096, 64]⟩ .bf16) (vc : FVec Ideal ⟨4, ![8, 4, 128, 256]⟩ .bf16) (vo : FVec Ideal ⟨4, ![8, 4, 128, 4096]⟩ .bf16)
    (x : Lambda) (b : Fin 8) (t : Fin 4096) (h : Fin 4) (e : Fin 128) : EReal :=
  average 8 (product q kc ko b ⟨h.val * 2, by omega⟩ ⟨h.val * 2, by omega⟩ t) (value vc vo b h e)
    - lambda x * average 8 (product q kc ko b ⟨h.val * 2 + 1, by omega⟩ ⟨h.val * 2 + 1, by omega⟩ t) (value vc vo b h e)

/-- The constant is a real. -/
theorem fifth_real : ∃ r : ℝ, Ideal.ofBits .f32 0x3E4CCCCD#32 = (r : EReal) := by
  simp [Ideal.ofBits, Ideal.ieee, -EReal.coe_mul]

/-- With real vectors the factor is real. -/
theorem lambda_real {x : Lambda} (h : ∀ i, ∃ r : ℝ, x i = (r : EReal)) : ∃ r : ℝ, lambda x = (r : EReal) := by
  obtain ⟨f, hf⟩ := Classical.skolem.mp h
  obtain ⟨c, hc⟩ := fifth_real
  have hexp : ∀ x : ℝ, Ideal.exp (x : EReal) = (Real.exp x : EReal) := fun _ => rfl
  unfold lambda
  simp only [hf, hc, ← EReal.coe_mul, ← Softmax.coe_sum, hexp, Softmax.sub_real, ← EReal.coe_add]
  exact ⟨_, rfl⟩

/-- With real values the attention is real. -/
theorem average_coe (c : ℝ) (p r : Fin 4352 → ℝ) :
    average c p (fun j => (r j : EReal)) = (((∑ j, r j * Real.exp (p j * c⁻¹)) * (1 / ∑ j, Real.exp (p j * c⁻¹)) : ℝ) : EReal) := by
  unfold average
  simp only [← EReal.coe_mul, ← Softmax.coe_sum]

/-- A softmax weight of real scores, written with the maximum taken out. -/
theorem weight_coe (σ : Fin 4352 → ℝ) (M : EReal) (hM : M = Finset.univ.fold max ⊥ fun j => (σ j : EReal)) (j : Fin 4352) :
    Ideal.div (Ideal.exp ((σ j : EReal) - M)) (∑ i, Ideal.exp ((σ i : EReal) - M)) = ((Real.exp (σ j) * (1 / ∑ i, Real.exp (σ i)) : ℝ) : EReal) := by
  have := Softmax.softmax_mean (fun i => (σ i : EReal)) (fun i => if i = j then 1 else 0) σ (fun _ => rfl) M hM
  simpa using this

/-- The reference's order, the weights' difference times the values, agrees with the difference of the means. -/
theorem difference_of_weights (c L : ℝ) (p0 p1 r : Fin 4352 → ℝ) (M0 M1 : EReal)
    (h0 : M0 = Finset.univ.fold max ⊥ fun j => ((p0 j * c⁻¹ : ℝ) : EReal)) (h1 : M1 = Finset.univ.fold max ⊥ fun j => ((p1 j * c⁻¹ : ℝ) : EReal)) :
    ∑ j, (r j : EReal) * (Ideal.div (Ideal.exp (((p0 j * c⁻¹ : ℝ) : EReal) - M0)) (∑ i, Ideal.exp (((p0 i * c⁻¹ : ℝ) : EReal) - M0))
        - (L : EReal) * Ideal.div (Ideal.exp (((p1 j * c⁻¹ : ℝ) : EReal) - M1)) (∑ i, Ideal.exp (((p1 i * c⁻¹ : ℝ) : EReal) - M1)))
      = average c p0 (fun j => (r j : EReal)) - (L : EReal) * average c p1 (fun j => (r j : EReal)) := by
  simp only [weight_coe _ M0 h0, weight_coe _ M1 h1, average_coe, ← EReal.coe_mul, Softmax.sub_real, ← Softmax.coe_sum]
  congr 1
  rw [Finset.sum_mul, Finset.sum_mul, Finset.mul_sum, ← Finset.sum_sub_distrib]
  exact Finset.sum_congr rfl fun j _ => by ring

end Cert.Attention

end
-- ==== Proof.Block3.lean ====
/- What one grid point of mixer A's attention computes: two maps over the same values, their difference and its norm. -/
module

public import proofs.«01_k».proof.Proof.Difference
public import proofs.«01_k».proof.Proof.Gen.Kernel3Ideal.Frame

@[expose] public section

noncomputable section

namespace Cert.Kernel3Ideal.Block

open Idealize.ShloMosaic Cert.Chunk Cert.Kernel3Ideal Cert.Kernel3Ideal.Gen

variable {F : FTy → Type} [FloatOps F] [Named F]

/-- The shape relations of the context chunk. -/
theorem shapesC : Shapes 256 128 where
  reduces := reduces_S256x512_S512
  casts := shapeCasts_S512_S1x512
  stretch := broadcasts_S1x512_S256x512
  stretchV := broadcasts_S1x512_S128x512
  lt := bitsLt_bf16_f32
  dot := dot_S128x256_S256x512_S128x512_1_0_0_1_n_n_wf

/-- The shape relations of a chunk of the tokens' own keys. -/
theorem shapesO : Shapes 512 128 where
  reduces := reduces_S512x512_S512
  casts := shapeCasts_S512_S1x512
  stretch := broadcasts_S1x512_S512x512
  stretchV := broadcasts_S1x512_S128x512
  lt := bitsLt_bf16_f32
  dot := dot_S128x512_S512x512_S128x512_1_0_0_1_n_n_wf

/-- A head's queries, scaled. -/
def scaled (x : Vec F S1x1x512x64 .bf16) : FVec F S512x64 .bf16 :=
  truncf .bf16 (mulf (extf .f32 (shapeCast S512x64 x shapeCasts_S1x1x512x64_S512x64) bitsLt_bf16_f32)
    (broadcast S512x64 (Named.named κ "scale_log2e" 0x3E38AA3B#32))) bitsLt_bf16_f32

/-- The context chunk met by a head's queries `q`. -/
def context (q : FVec F S512x64 .bf16) (k : Vec F S1x1x256x64 .bf16) (v : Vec F S1x1x128x256 .bf16) (st : State F 128) : State F 128 :=
  step shapesC (matmul dot_S256x64_S512x64_S256x512_1_1_0_0_n_n none (shapeCast S256x64 k shapeCasts_S1x1x256x64_S256x64) q
      (constant S256x512 .f32 0x00000000#32))
    (shapeCast S128x256 v shapeCasts_S1x1x128x256_S128x256) st

/-- One chunk of the tokens' own keys met by a head's queries `q`. -/
def own (q : FVec F S512x64 .bf16) (k : Vec F S1x1x512x64 .bf16) (v : Vec F S1x1x128x512 .bf16) (st : State F 128) : State F 128 :=
  step shapesO (matmul dot_S512x64_S512x64_S512x512_1_1_0_0_n_n none (shapeCast S512x64 k shapeCasts_S1x1x512x64_S512x64) q
      (constant S512x512 .f32 0x00000000#32))
    (shapeCast S128x512 v shapeCasts_S1x1x128x512_S128x512) st

/-- A head: the context chunk, then the eight own chunks. -/
def head (q : FVec F S512x64 .bf16) (kc : Vec F S1x1x256x64 .bf16) (vc : Vec F S1x1x128x256 .bf16)
    (k : Fin 8 → Vec F S1x1x512x64 .bf16) (v : Fin 8 → Vec F S1x1x128x512 .bf16) : FVec F S128x512 .f32 :=
  quotient shapesO (own q (k 7) (v 7) (own q (k 6) (v 6) (own q (k 5) (v 5) (own q (k 4) (v 4)
    (own q (k 3) (v 3) (own q (k 2) (v 2) (own q (k 1) (v 1) (own q (k 0) (v 0)
    (context q kc vc (start 128))))))))))

/-- The first map's chunks of keys. -/
def keys0 (x : Vec F S1x2x4096x64 .bf16) : Fin 8 → Vec F S1x1x512x64 .bf16 :=
  ![View.ld x r0_5, View.ld x r0_8, View.ld x r0_11, View.ld x r0_14, View.ld x r0_17, View.ld x r0_20, View.ld x r0_23, View.ld x r0_26]

/-- The second map's chunks of keys. -/
def keys1 (x : Vec F S1x2x4096x64 .bf16) : Fin 8 → Vec F S1x1x512x64 .bf16 :=
  ![View.ld x r0_7, View.ld x r0_10, View.ld x r0_13, View.ld x r0_16, View.ld x r0_19, View.ld x r0_22, View.ld x r0_25, View.ld x r0_28]

/-- The chunks of values. -/
def values (x : Vec F S1x1x128x4096 .bf16) : Fin 8 → Vec F S1x1x128x512 .bf16 :=
  ![View.ld x r0_6, View.ld x r0_9, View.ld x r0_12, View.ld x r0_15, View.ld x r0_18, View.ld x r0_21, View.ld x r0_24, View.ld x r0_27]

/-- The inner product of two vectors of lambda, as an exponential. -/
def factor (y : FVec F S1x64 .f32) : FVec F S1x1 .f32 :=
  exp (shapeCast S1x1 (multiReduction .add [1] S1 y 0x00000000#32 reduces_S1x64_S1 (.inl rfl) rfl) shapeCasts_S1_S1x1)

/-- The factor of the second map. -/
def factors (x : Vec F S4x64 .f32) : FVec F S1x1 .f32 :=
  addf (subf
    (factor (mulf (extractStridedSlice S1x64 ![0, 0] x slices_S4x64_o0_0_S1x64) (extractStridedSlice S1x64 ![1, 0] x slices_S4x64_o1_0_S1x64)))
    (factor (mulf (extractStridedSlice S1x64 ![2, 0] x slices_S4x64_o2_0_S1x64) (extractStridedSlice S1x64 ![3, 0] x slices_S4x64_o3_0_S1x64))))
    (broadcast S1x1 (Scalar.ofBits .f32 0x3E4CCCCD#32))

/-- The difference of the two maps' means. -/
def minus (a b : FVec F S128x512 .f32) (x : Vec F S4x64 .f32) : FVec F S128x512 .f32 :=
  subf a (mulf (broadcastTo S128x512 (factors x) broadcasts_S1x1_S128x512) b)

/-- The reciprocal root of each query's mean square. -/
def inverse (d : FVec F S128x512 .f32) : FVec F S1x512 .f32 :=
  rsqrt (addf (divf (shapeCast S1x512 (multiReduction .add [0] S512 (mulf d d) 0x00000000#32 reduces_S128x512_S512 (.inl rfl) rfl) shapeCasts_S512_S1x512)
    (broadcast S1x512 (Scalar.ofBits .f32 0x43000000#32))) (broadcast S1x512 (Scalar.ofBits .f32 0x358637BD#32)))

/-- The norm with its gain, the queries first. -/
def finish (d : FVec F S128x512 .f32) (g : Vec F S128x1 .f32) : FVec F S1x512x128 .bf16 :=
  shapeCast S1x512x128 (truncf .bf16 (transpose S512x128 [1, 0]
    (mulf (mulf (mulf d (broadcastTo S128x512 (inverse d) broadcasts_S1x512_S128x512)) (broadcastTo S128x512 g broadcasts_S128x1_S128x512))
      (broadcast S128x512 (Scalar.ofBits .f32 0x3F4CCCCD#32))) transposes_S128x512_p1_0_S512x128) bitsLt_bf16_f32) shapeCasts_S512x128_S1x512x128

/-- What a grid point writes. -/
def block (x0 : Vec F S1x2x512x64 .bf16) (x1 : Vec F S1x2x256x64 .bf16) (x2 : Vec F S1x1x128x256 .bf16) (x3 : Vec F S1x2x4096x64 .bf16)
    (x4 : Vec F S1x1x128x4096 .bf16) (x5 : Vec F S4x64 .f32) (x6 : Vec F S128x1 .f32) : FVec F S1x512x128 .bf16 :=
  finish (minus (head (scaled (View.ld x0 r0_0)) (View.ld x1 r0_2) (View.ld x2 r0_3) (keys0 x3) (values x4))
    (head (scaled (View.ld x0 r0_1)) (View.ld x1 r0_4) (View.ld x2 r0_3) (keys1 x3) (values x4)) (View.ld x5 r0_29)) (View.ld x6 r0_30)

set_option maxRecDepth 16384 in
/-- The printed body writes that block. -/
theorem out_eq (x0 : Vec F S1x2x512x64 .bf16) (x1 : Vec F S1x2x256x64 .bf16) (x2 : Vec F S1x1x128x256 .bf16) (x3 : Vec F S1x2x4096x64 .bf16)
    (x4 : Vec F S1x1x128x4096 .bf16) (x5 : Vec F S4x64 .f32) (x6 : Vec F S128x1 .f32) :
    out0_7 x0 x1 x2 x3 x4 x5 x6 = View.canon [⟨r0_31, block x0 x1 x2 x3 x4 x5 x6⟩] := rfl

/-- The context chunk extends the sums. -/
theorem context_first {σ : Fin 4352 → ℝ} {w : Fin 4352 → EReal} {q : FVec Ideal S512x64 .bf16} {k : Vec Ideal S1x1x256x64 .bf16} {v : Vec Ideal S1x1x128x256 .bf16}
    {st : State Ideal 128} {c : Fin 512} {e : Fin 128} (h : First σ w st c e 0 (by omega))
    (hs : ∀ j : Fin 256, ∑ d : Fin 64, k (ix4 0 0 j d) * q (ix2 c d) = (σ ⟨j, by omega⟩ : EReal))
    (hv : ∀ j : Fin 256, v (ix4 0 0 e j) = w ⟨j, by omega⟩) : First σ w (context q k v st) c e 256 (by omega) := by
  refine first_step_256_128 shapesC h (by omega) ?_ ?_
  · intro j
    pointwise
    simpa using hs j
  · intro j
    pointwise
    simpa using hv j

/-- A chunk of the tokens' own keys extends the sums. -/
theorem own_first {σ : Fin 4352 → ℝ} {w : Fin 4352 → EReal} {q : FVec Ideal S512x64 .bf16} {k : Vec Ideal S1x1x512x64 .bf16} {v : Vec Ideal S1x1x128x512 .bf16}
    {st : State Ideal 128} {c : Fin 512} {e : Fin 128} {n : Nat} {hn : n ≤ 4352} (h : First σ w st c e n hn) (hN : n + 512 ≤ 4352)
    (hs : ∀ j : Fin 512, ∑ d : Fin 64, k (ix4 0 0 j d) * q (ix2 c d) = (σ ⟨n + j, by omega⟩ : EReal))
    (hv : ∀ j : Fin 512, v (ix4 0 0 e j) = w ⟨n + j, by omega⟩) : First σ w (own q k v st) c e (n + 512) hN := by
  refine first_step_512_128 shapesO h hN ?_ ?_
  · intro j
    pointwise
    simpa using hs j
  · intro j
    pointwise
    simpa using hv j

/-- A head's output at a coordinate `e` of a query `c`: the mean of the values under its scores `σ`. -/
theorem head_at (σ : Fin 4352 → ℝ) (w : Fin 4352 → EReal) (q : FVec Ideal S512x64 .bf16) (kc : Vec Ideal S1x1x256x64 .bf16)
    (vc : Vec Ideal S1x1x128x256 .bf16) (k : Fin 8 → Vec Ideal S1x1x512x64 .bf16) (v : Fin 8 → Vec Ideal S1x1x128x512 .bf16) (c : Fin 512) (e : Fin 128)
    (hc : ∀ j : Fin 256, ∑ d : Fin 64, kc (ix4 0 0 j d) * q (ix2 c d) = (σ ⟨j, by omega⟩ : EReal))
    (hvc : ∀ j : Fin 256, vc (ix4 0 0 e j) = w ⟨j, by omega⟩)
    (ho : ∀ (n : Fin 8) (j : Fin 512) (i : Fin 4352), i.val = 256 + (512 * n.val + j.val) →
      ∑ d : Fin 64, k n (ix4 0 0 j d) * q (ix2 c d) = (σ i : EReal))
    (hvo : ∀ (n : Fin 8) (j : Fin 512) (i : Fin 4352), i.val = 256 + (512 * n.val + j.val) → v n (ix4 0 0 e j) = w i) :
    head q kc vc k v (ix2 e c) = mean σ w := by
  have h0 := context_first (q := q) (k := kc) (v := vc) (first_start σ w c e) hc hvc
  have h1 := own_first (q := q) (k := k 0) (v := v 0) h0 (by omega)
    (fun j => ho 0 j _ (by show _ = 256 + (512 * 0 + j.val); simp only; omega)) (fun j => hvo 0 j _ (by show _ = 256 + (512 * 0 + j.val); simp only; omega))
  have h2 := own_first (q := q) (k := k 1) (v := v 1) h1 (by omega)
    (fun j => ho 1 j _ (by show _ = 256 + (512 * 1 + j.val); simp only; omega)) (fun j => hvo 1 j _ (by show _ = 256 + (512 * 1 + j.val); simp only; omega))
  have h3 := own_first (q := q) (k := k 2) (v := v 2) h2 (by omega)
    (fun j => ho 2 j _ (by show _ = 256 + (512 * 2 + j.val); simp only; omega)) (fun j => hvo 2 j _ (by show _ = 256 + (512 * 2 + j.val); simp only; omega))
  have h4 := own_first (q := q) (k := k 3) (v := v 3) h3 (by omega)
    (fun j => ho 3 j _ (by show _ = 256 + (512 * 3 + j.val); simp only; omega)) (fun j => hvo 3 j _ (by show _ = 256 + (512 * 3 + j.val); simp only; omega))
  have h5 := own_first (q := q) (k := k 4) (v := v 4) h4 (by omega)
    (fun j => ho 4 j _ (by show _ = 256 + (512 * 4 + j.val); simp only; omega)) (fun j => hvo 4 j _ (by show _ = 256 + (512 * 4 + j.val); simp only; omega))
  have h6 := own_first (q := q) (k := k 5) (v := v 5) h5 (by omega)
    (fun j => ho 5 j _ (by show _ = 256 + (512 * 5 + j.val); simp only; omega)) (fun j => hvo 5 j _ (by show _ = 256 + (512 * 5 + j.val); simp only; omega))
  have h7 := own_first (q := q) (k := k 6) (v := v 6) h6 (by omega)
    (fun j => ho 6 j _ (by show _ = 256 + (512 * 6 + j.val); simp only; omega)) (fun j => hvo 6 j _ (by show _ = 256 + (512 * 6 + j.val); simp only; omega))
  have h8 := own_first (q := q) (k := k 7) (v := v 7) h7 (by omega)
    (fun j => ho 7 j _ (by show _ = 256 + (512 * 7 + j.val); simp only; omega)) (fun j => hvo 7 j _ (by show _ = 256 + (512 * 7 + j.val); simp only; omega))
  exact first_quotient_128 shapesO h8 (by omega)

/-- The scaled queries at an index. -/
theorem scaled_at (x : Vec Ideal S1x1x512x64 .bf16) (c : Fin 512) (d : Fin 64) :
    scaled x (ix2 c d) = x (ix4 0 0 c d) * (((8 * Real.log 2)⁻¹ : ℝ) : EReal) := by
  pointwise [scaled]
  rw [IdealRules.named_const.ideal_named_scalar _ _ _ _ rfl]

/-- The first map's queries. -/
theorem queries0 (x : Vec Ideal S1x2x512x64 .bf16) (c : Fin 512) (d : Fin 64) : View.ld x r0_0 (ix4 0 0 c d) = x (ix4 0 0 c d) := by
  pointwise

/-- The first map's context keys. -/
theorem contextKeys0 (x : Vec Ideal S1x2x256x64 .bf16) (j : Fin 256) (d : Fin 64) : View.ld x r0_2 (ix4 0 0 j d) = x (ix4 0 0 j d) := by
  pointwise

/-- The first map's own keys. -/
theorem keys0_at (x : Vec Ideal S1x2x4096x64 .bf16) (n : Fin 8) (j : Fin 512) (d : Fin 64) :
    keys0 x n (ix4 0 0 j d) = x (ix4 0 0 ⟨512 * n.val + j.val, by omega⟩ d) := by
  fin_cases n <;> simp only [keys0] <;> pointwise <;> simp

/-- The second map's queries. -/
theorem queries1 (x : Vec Ideal S1x2x512x64 .bf16) (c : Fin 512) (d : Fin 64) : View.ld x r0_1 (ix4 0 0 c d) = x (ix4 0 1 c d) := by
  pointwise

/-- The second map's context keys. -/
theorem contextKeys1 (x : Vec Ideal S1x2x256x64 .bf16) (j : Fin 256) (d : Fin 64) : View.ld x r0_4 (ix4 0 0 j d) = x (ix4 0 1 j d) := by
  pointwise

/-- The second map's own keys. -/
theorem keys1_at (x : Vec Ideal S1x2x4096x64 .bf16) (n : Fin 8) (j : Fin 512) (d : Fin 64) :
    keys1 x n (ix4 0 0 j d) = x (ix4 0 1 ⟨512 * n.val + j.val, by omega⟩ d) := by
  fin_cases n <;> simp only [keys1] <;> pointwise <;> simp

/-- The context values. -/
theorem contextValues (x : Vec Ideal S1x1x128x256 .bf16) (j : Fin 256) (d : Fin 128) : View.ld x r0_3 (ix4 0 0 d j) = x (ix4 0 0 d j) := by
  pointwise

/-- The own values. -/
theorem values_at (x : Vec Ideal S1x1x128x4096 .bf16) (n : Fin 8) (j : Fin 512) (d : Fin 128) :
    values x n (ix4 0 0 d j) = x (ix4 0 0 d ⟨512 * n.val + j.val, by omega⟩) := by
  fin_cases n <;> simp only [values] <;> pointwise <;> simp

/-- The factor is the attention's. -/
theorem factors_at (x : Vec Ideal S4x64 .f32) : factors (View.ld x r0_29) (ix2 0 0) = Attention.lambda x := by
  pointwise [factors, factor]
  rfl

/-- The difference at an index. -/
theorem minus_at (a b : FVec Ideal S128x512 .f32) (x : Vec Ideal S4x64 .f32) (e : Fin 128) (c : Fin 512) :
    minus a b (View.ld x r0_29) (ix2 e c) = a (ix2 e c) - Attention.lambda x * b (ix2 e c) := by
  rw [← factors_at]
  pointwise [minus]

/-- The norm at an index. -/
theorem finish_at (d : FVec Ideal S128x512 .f32) (g : Vec Ideal S128x1 .f32) (c : Fin 512) (e : Fin 128) :
    finish d (View.ld g r0_30) (ix3 0 c e) = Attention.normed (fun e => d (ix2 e c)) g e := by
  pointwise [finish, inverse]
  rfl

end Cert.Kernel3Ideal.Block

end
-- ==== Proof.Array3.lean ====
/- Mixer A's attention over the whole grid: what the output array holds. -/
module

public import proofs.«01_k».proof.Proof.Block3
public import proofs.«01_k».proof.Proof.Difference
public import Idealize.ShloMosaic.Lib.Pipeline.ValueKit

@[expose] public section

set_option maxRecDepth 16384

noncomputable section

namespace Cert.Kernel3Ideal.Array

open Idealize.ShloMosaic Idealize.ShloMosaic.TcCoe Idealize.SL.Sem Cert.Chunk Cert.Attention Cert.Kernel3Ideal Cert.Kernel3Ideal.Gen

variable (m : (ℓ : Loc nD τ sig) → Buf (Elt Ideal) ℓ)

/-- Where each window's block lies, by the batch, the pair of heads and the block of queries of a grid point. -/
theorem index : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![0, 0]
    ∧ win0_6.index t = ![0, 0]
    ∧ win0_7.index t = ![(grid0.coords t 0).val, (grid0.coords t 2).val, (grid0.coords t 1).val] := by decide +kernel

/-- The grid's extents. -/
theorem bounds (t : Fin cfg0.N) : (grid0.coords t 0).val < 8 ∧ (grid0.coords t 1).val < 4 ∧ (grid0.coords t 2).val < 8 :=
  ⟨(grid0.coords t 0).isLt, (grid0.coords t 1).isLt, (grid0.coords t 2).isLt⟩

/-- The queries that the kernel is given. -/
abbrev Q (c : Dev nD) : FVec Ideal ⟨4, ![8, 8, 4096, 64]⟩ .bf16 := m ((c : Thread nD τ).loc main_arg0)
/-- The tokens' own keys. -/
abbrev KO (c : Dev nD) : FVec Ideal ⟨4, ![8, 8, 4096, 64]⟩ .bf16 := m ((c : Thread nD τ).loc main_arg1)
/-- The tokens' own values. -/
abbrev VO (c : Dev nD) : FVec Ideal ⟨4, ![8, 4, 128, 4096]⟩ .bf16 := m ((c : Thread nD τ).loc main_arg2)
/-- The context's keys. -/
abbrev KC (c : Dev nD) : FVec Ideal ⟨4, ![8, 8, 256, 64]⟩ .bf16 := m ((c : Thread nD τ).loc main_arg3)
/-- The context's values. -/
abbrev VC (c : Dev nD) : FVec Ideal ⟨4, ![8, 4, 128, 256]⟩ .bf16 := m ((c : Thread nD τ).loc main_arg4)
/-- The vectors of lambda. -/
abbrev L (c : Dev nD) : Lambda := m ((c : Thread nD τ).loc main_arg5)
/-- The norm's gain. -/
abbrev G (c : Dev nD) : Gain := m ((c : Thread nD τ).loc main_arg6)

/-- A grid point's block of queries. -/
theorem block_q (c : Dev nD) (t : Fin cfg0.N) (r : Fin 2) (i : Fin 512) (d : Fin 64) (b h : Fin 8) (n : Fin 4096)
    (hb : b.val = (grid0.coords t 0).val) (hh : h.val = (grid0.coords t 1).val * 2 + r.val) (hn : n.val = (grid0.coords t 2).val * 512 + i.val) :
    iblk m c 0 t (ix4 0 r i d) = Q m c (ix4 b h n d) := by
  blk_ext [iblk, V, (index t).1]

/-- A grid point's block of context keys. -/
theorem block_kc (c : Dev nD) (t : Fin cfg0.N) (r : Fin 2) (j : Fin 256) (d : Fin 64) (b h : Fin 8)
    (hb : b.val = (grid0.coords t 0).val) (hh : h.val = (grid0.coords t 1).val * 2 + r.val) :
    iblk m c 1 t (ix4 0 r j d) = KC m c (ix4 b h j d) := by
  blk_ext [iblk, V, (index t).2.1]

/-- A grid point's block of context values. -/
theorem block_vc (c : Dev nD) (t : Fin cfg0.N) (j : Fin 256) (d : Fin 128) (b : Fin 8) (h : Fin 4)
    (hb : b.val = (grid0.coords t 0).val) (hh : h.val = (grid0.coords t 1).val) :
    iblk m c 2 t (ix4 0 0 d j) = VC m c (ix4 b h d j) := by
  blk_ext [iblk, V, (index t).2.2.1]

/-- A grid point's block of own keys. -/
theorem block_ko (c : Dev nD) (t : Fin cfg0.N) (r : Fin 2) (j : Fin 4096) (d : Fin 64) (b h : Fin 8)
    (hb : b.val = (grid0.coords t 0).val) (hh : h.val = (grid0.coords t 1).val * 2 + r.val) :
    iblk m c 3 t (ix4 0 r j d) = KO m c (ix4 b h j d) := by
  blk_ext [iblk, V, (index t).2.2.2.1]

/-- A grid point's block of own values. -/
theorem block_vo (c : Dev nD) (t : Fin cfg0.N) (j : Fin 4096) (d : Fin 128) (b : Fin 8) (h : Fin 4)
    (hb : b.val = (grid0.coords t 0).val) (hh : h.val = (grid0.coords t 1).val) :
    iblk m c 4 t (ix4 0 0 d j) = VO m c (ix4 b h d j) := by
  blk_ext [iblk, V, (index t).2.2.2.2.1]

/-- The vectors of lambda, whole at every grid point. -/
theorem block_l (c : Dev nD) (t : Fin cfg0.N) : iblk m c 5 t = L m c := by
  funext y
  obtain ⟨i, d, rfl⟩ : ∃ (i : Fin 4) (d : Fin 64), y = ix2 i d := ⟨y 0, y 1, eq_ix2 y⟩
  blk_ext [iblk, V, (index t).2.2.2.2.2.1]

/-- The norm's gain, whole at every grid point. -/
theorem block_g (c : Dev nD) (t : Fin cfg0.N) : iblk m c 6 t = G m c := by
  funext y
  obtain ⟨i, d, rfl⟩ : ∃ (i : Fin 128) (d : Fin 1), y = ix2 i d := ⟨y 0, y 1, eq_ix2 y⟩
  blk_ext [iblk, V, (index t).2.2.2.2.2.2.1]

/-- The map that a grid point computes from its scaled queries `x`, its keys and its values is the attention's. -/
theorem head_eq (c : Dev nD) (hq : Real4 (Q m c)) (hko : Real4 (KO m c)) (hkc : Real4 (KC m c)) (b h : Fin 8) (g : Fin 4) (n : Fin 4096)
    (x : FVec Ideal S512x64 .bf16) (kc : Vec Ideal S1x1x256x64 .bf16) (vc : Vec Ideal S1x1x128x256 .bf16) (k : Fin 8 → Vec Ideal S1x1x512x64 .bf16)
    (v : Fin 8 → Vec Ideal S1x1x128x512 .bf16) (i : Fin 512) (e : Fin 128)
    (hx : ∀ d : Fin 64, x (ix2 i d) = Q m c (ix4 b h n d) * (((8 * Real.log 2)⁻¹ : ℝ) : EReal))
    (h1 : ∀ (j : Fin 256) (d : Fin 64), kc (ix4 0 0 j d) = KC m c (ix4 b h j d)) (h2 : ∀ j : Fin 256, vc (ix4 0 0 e j) = VC m c (ix4 b g e j))
    (h3 : ∀ (s : Fin 8) (j : Fin 512) (d : Fin 64), k s (ix4 0 0 j d) = KO m c (ix4 b h ⟨512 * s.val + j.val, by omega⟩ d))
    (h4 : ∀ (s : Fin 8) (j : Fin 512), v s (ix4 0 0 e j) = VO m c (ix4 b g e ⟨512 * s.val + j.val, by omega⟩)) :
    Block.head x kc vc k v (ix2 e i) = average 8 (product (Q m c) (KC m c) (KO m c) b h h n) (value (VC m c) (VO m c) b g e) := by
  rw [← average_eq_mean (by norm_num)]
  refine Block.head_at _ _ x _ _ _ _ i e (fun j => ?_) (fun j => ?_) (fun s j k hk => ?_) (fun s j k hk => ?_)
  · rw [← scores hq hkc hko]
    refine Finset.sum_congr rfl fun d _ => ?_
    rw [hx, h1, key_context]
  · rw [h2, value_context]
  · rw [← scores hq hkc hko]
    refine Finset.sum_congr rfl fun d _ => ?_
    rw [hx, h3, key_own _ _ b _ ⟨512 * s.val + j.val, by omega⟩ k hk]
  · rw [h4, value_own _ _ b _ e ⟨512 * s.val + j.val, by omega⟩ k hk]

/-- Differential attention at coordinate `e` of head `h`. -/
def entry (c : Dev nD) (b : Fin 8) (n : Fin 4096) (h : Fin 4) (e : Fin 128) : EReal :=
  normed (difference (Q m c) (KC m c) (KO m c) (VC m c) (VO m c) (L m c) b n h) (G m c) e

/-- The array that the kernel leaves: every head's differential attention, the heads side by side. -/
def out (c : Dev nD) : FVec Ideal S8x4096x512 .bf16 := fun i =>
  entry m c ⟨(i 0).val, (i 0).isLt⟩ ⟨(i 1).val, (i 1).isLt⟩
    ⟨(i 2).val / 128, by have h : (i 2).val < 512 := (i 2).isLt; omega⟩ ⟨(i 2).val % 128, by omega⟩

/-- The array at coordinate `e` of head `h`. -/
theorem out_at (c : Dev nD) (b : Fin 8) (n : Fin 4096) (k : Fin 512) (h : Fin 4) (e : Fin 128) (hk : k.val = h.val * 128 + e.val) :
    out m c (ix3 b n k) = entry m c b n h e := by
  have hh : (⟨k.val / 128, by omega⟩ : Fin 4) = h := Fin.ext (by simp only; omega)
  have he : (⟨k.val % 128, by omega⟩ : Fin 128) = e := Fin.ext (by simp only; omega)
  show entry _ _ _ _ (⟨k.val / 128, _⟩ : Fin 4) (⟨k.val % 128, _⟩ : Fin 128) = _
  rw [hh, he]
  rfl

/-- With real queries and keys the kernel leaves the differential attention. -/
theorem arr_eq (c : Dev nD) (hq : Real4 (Q m c)) (hko : Real4 (KO m c)) (hkc : Real4 (KC m c)) :
    (dats m 0 c).arrAt 7 (cfgs 0).N = out m c := by
  refine (dats m 0 c).arrAt_eq_of_covers 7 _ (by decide +kernel) fun t hf y => ?_
  blk_simp
  rw [after0_7, Block.out_eq]
  frame_out
  obtain ⟨h0, h1, h2⟩ := bounds t
  obtain ⟨a, i, n, rfl⟩ : ∃ (a : Fin 1) (i : Fin 512) (n : Fin 128), y = ix3 a i n := ⟨y 0, y 1, y 2, eq_ix3 y⟩
  obtain rfl : a = 0 := Subsingleton.elim _ _
  have he : ((View.whole main_v0).slice (win0_7.rect t)).emb (ix3 0 i n) = (ix3 ⟨(grid0.coords t 0).val, h0⟩
      ⟨(grid0.coords t 2).val * 512 + i.val, by omega⟩ ⟨(grid0.coords t 1).val * 128 + n.val, by omega⟩ : S8x4096x512.Idx) := by
    blk_ext [(index t).2.2.2.2.2.2.2]
  rw [he, out_at m c _ _ _ ⟨(grid0.coords t 1).val, h1⟩ n rfl, entry]
  refine (Block.finish_at _ _ i n).trans ?_
  rw [block_g]
  refine congrArg (normed · (G m c) n) (funext fun e => ?_)
  rw [Block.minus_at, block_l, difference]
  refine congrArg₂ (fun a b => a - lambda (L m c) * b) ?_ ?_
  · refine head_eq m c hq hko hkc _ _ _ _ _ _ _ _ _ i _ (fun d => ?_) (fun j d => ?_) (fun j => ?_) (fun s j d => ?_) (fun s j => ?_)
    · rw [Block.scaled_at, Block.queries0]
      exact congrArg (· * _) (block_q m c t 0 i d _ _ _ rfl rfl rfl)
    · exact (Block.contextKeys0 _ j d).trans (block_kc m c t 0 j d _ _ rfl rfl)
    · exact (Block.contextValues _ j _).trans (block_vc m c t j _ _ _ rfl rfl)
    · exact (Block.keys0_at _ s j d).trans (block_ko m c t 0 _ d _ _ rfl rfl)
    · exact (Block.values_at _ s j _).trans (block_vo m c t _ _ _ _ rfl rfl)
  · refine head_eq m c hq hko hkc _ _ _ _ _ _ _ _ _ i _ (fun d => ?_) (fun j d => ?_) (fun j => ?_) (fun s j d => ?_) (fun s j => ?_)
    · rw [Block.scaled_at, Block.queries1]
      exact congrArg (· * _) (block_q m c t 1 i d _ _ _ rfl rfl rfl)
    · exact (Block.contextKeys1 _ j d).trans (block_kc m c t 1 j d _ _ rfl rfl)
    · exact (Block.contextValues _ j _).trans (block_vc m c t j _ _ _ rfl rfl)
    · exact (Block.keys1_at _ s j d).trans (block_ko m c t 1 _ d _ _ rfl rfl)
    · exact (Block.values_at _ s j _).trans (block_vo m c t _ _ _ _ rfl rfl)

/-- The kernel's run: with real queries and keys the output array is the attention, and the arguments are unchanged. -/
theorem run (ρ : Dev nD → PrngReg) (hq : ∀ c, Real4 (Q m c)) (hko : ∀ c, Real4 (KO m c)) (hkc : ∀ c, Real4 (KC m c)) :
    θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 7).trans (arr_eq m c (hq c) (hko c) (hkc c)),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Kernel3Ideal.Array

end
-- ==== Proof.Reference3.lean ====
/- Mixer A's reference computes the differential attention. -/
module

public import proofs.«01_k».proof.Proof.Difference
public import proofs.«01_k».proof.Proof.Gen.Reference3Ideal.Read

@[expose] public section

set_option maxRecDepth 16384

noncomputable section

namespace Cert.Reference3Ideal.Attend

open Idealize.ShloMosaic Cert.Attention Cert.Reference3Ideal Cert.Reference3Ideal.Gen Cert.Reference3Ideal.Read

variable (x0 : FVec Ideal ⟨4, ![8, 8, 4096, 64]⟩ .bf16) (x1 : FVec Ideal ⟨4, ![8, 8, 4096, 64]⟩ .bf16) (x2 : FVec Ideal ⟨4, ![8, 4, 128, 4096]⟩ .bf16)
  (x3 : FVec Ideal ⟨4, ![8, 8, 256, 64]⟩ .bf16) (x4 : FVec Ideal ⟨4, ![8, 4, 128, 256]⟩ .bf16) (x5 : Lambda) (x6 : Gain)

/-- The joined keys. -/
theorem keys_at (b h : Fin 8) (j : Fin 4352) (d : Fin 64) : val_main_v2 (F := Ideal) x1 x3 (ix4 b h j d) = key x3 x1 b h j d := by
  pointwise [val_main_v2, val_main_v0, val_main_v1]
  rfl

/-- The joined values. -/
theorem values_at (b : Fin 8) (h : Fin 4) (j : Fin 4352) (e : Fin 128) : val_main_v5 (F := Ideal) x2 x4 (ix4 b h e j) = value x4 x2 b h e j := by
  pointwise [val_main_v5, val_main_v3, val_main_v4]
  rfl

/-- An eighth. -/
theorem eighth : Ideal.ofBits .f32 0x3E000000#32 = ((8⁻¹ : ℝ) : EReal) := by
  simp [Ideal.ofBits, Ideal.ieee, -EReal.coe_mul]
  norm_num

/-- With real queries and keys the scores are the products over eight. -/
theorem scores_at (hq : Real4 x0) (ho : Real4 x1) (hc : Real4 x3) (b h : Fin 8) (t : Fin 4096) (j : Fin 4352) :
    val_main_v9 (F := Ideal) x0 x1 x3 (ix4 b h t j) = ((product x0 x3 x1 b h h t j * 8⁻¹ : ℝ) : EReal) := by
  rw [val_main_v9_apply, val_main_v7_apply, val_main_v8_apply, val_main_cst_apply, EReal.coe_mul, ← products hq hc ho]
  show _ * Ideal.ofBits .f32 0x3E000000#32 = _
  rw [eighth]
  refine congrArg (· * _) (Finset.sum_congr rfl fun d _ => ?_)
  have hl : lidx_main_v7 (ix4 b h t j) d = ix4 b h t d := eq_ix4 _
  have hr : ridx_main_v7 (ix4 b h t j) d = ix4 b h j d := eq_ix4 _
  rw [hl, hr, keys_at, val_main_v6_apply]
  rfl

/-- A maximum over the last axis. -/
theorem fold_at (y : FVec Ideal S8x8x4096x4352 .f32) (z : FVec Ideal S_ .f32) (b h : Fin 8) (t : Fin 4096) :
    Host.reduce FloatOps.maximumf y z reducesTo_S8x8x4096x4352_S8x8x4096_d3 h_S_ (ix3 b h t)
      = Finset.univ.fold max (z (Shape.Idx.first h_S_)) fun j => y (ix4 b h t j) := by
  pointwise

/-- The maximum that the reference subtracts. -/
theorem max_at (b h : Fin 8) (t : Fin 4096) :
    val_main_v12 (F := Ideal) x0 x1 x3 (ix3 b h t) = Finset.univ.fold max ⊥ fun j => val_main_v9 (F := Ideal) x0 x1 x3 (ix4 b h t j) := by
  rw [val_main_v12_apply, val_main_v11_apply, val_main_cst_1_apply]
  unfold val_main_v10
  rw [fold_at, val_main_cst_0_apply]
  show max (Ideal.ofBits .f32 0xFF800000#32) (Finset.univ.fold max (Ideal.ofBits .f32 0xFF800000#32) _) = _
  rw [Chunk.negInf]
  exact max_bot_left _

/-- The weights. -/
theorem weights_at (b h : Fin 8) (t : Fin 4096) (j : Fin 4352) :
    val_main_v16 (F := Ideal) x0 x1 x3 (ix4 b h t j)
      = Ideal.exp (val_main_v9 (F := Ideal) x0 x1 x3 (ix4 b h t j) - val_main_v12 (F := Ideal) x0 x1 x3 (ix3 b h t)) := by
  pointwise [val_main_v16, val_main_v15, val_main_v14, val_main_v13]

/-- The total weight. -/
theorem total_at (b h : Fin 8) (t : Fin 4096) (j : Fin 4352) :
    val_main_v19 (F := Ideal) x0 x1 x3 (ix4 b h t j) = ∑ j, val_main_v16 (F := Ideal) x0 x1 x3 (ix4 b h t j) := by
  pointwise [val_main_v19, val_main_v18, val_main_v17, val_main_cst_2]

/-- The softmax weight of query head `h`. -/
theorem softmax_at (b h : Fin 8) (t : Fin 4096) (j : Fin 4352) :
    val_main_v20 (F := Ideal) x0 x1 x3 (ix4 b h t j) = Ideal.div
      (Ideal.exp (val_main_v9 (F := Ideal) x0 x1 x3 (ix4 b h t j) - val_main_v12 (F := Ideal) x0 x1 x3 (ix3 b h t)))
      (∑ j, Ideal.exp (val_main_v9 (F := Ideal) x0 x1 x3 (ix4 b h t j) - val_main_v12 (F := Ideal) x0 x1 x3 (ix3 b h t))) := by
  rw [val_main_v20_apply, total_at]
  simp only [weights_at]
  rfl

/-- The first map's weights. -/
theorem first_at (b : Fin 8) (h : Fin 4) (t : Fin 4096) (j : Fin 4352) :
    val_main_v39 (F := Ideal) x0 x1 x3 (ix4 b h t j) = val_main_v20 (F := Ideal) x0 x1 x3 (ix4 b ⟨h.val * 2, by omega⟩ t j) := by
  pointwise [val_main_v39, val_main_v38, val_main_v21]

/-- The second map's weights. -/
theorem second_at (b : Fin 8) (h : Fin 4) (t : Fin 4096) (j : Fin 4352) :
    val_main_v41 (F := Ideal) x0 x1 x3 (ix4 b h t j) = val_main_v20 (F := Ideal) x0 x1 x3 (ix4 b ⟨h.val * 2 + 1, by omega⟩ t j) := by
  pointwise [val_main_v41, val_main_v40, val_main_v21]

/-- The factor of the second map. -/
theorem factor_at (i : S_.Idx) : val_main_v37 (F := Ideal) x5 i = lambda x5 := by
  pointwise [val_main_v37, val_main_v36, val_main_v35, val_main_v34, val_main_v33, val_main_v32, val_main_v31, val_main_v30, val_main_v29, val_main_v28,
    val_main_v27, val_main_v26, val_main_v25, val_main_v24, val_main_v23, val_main_v22, val_main_cst_3, val_main_cst_4, val_main_cst_5]
  rfl

/-- The difference of the weights. -/
theorem minus_at (b : Fin 8) (h : Fin 4) (t : Fin 4096) (j : Fin 4352) :
    val_main_v44 (F := Ideal) x0 x1 x3 x5 (ix4 b h t j) = val_main_v20 (F := Ideal) x0 x1 x3 (ix4 b ⟨h.val * 2, by omega⟩ t j)
      - lambda x5 * val_main_v20 (F := Ideal) x0 x1 x3 (ix4 b ⟨h.val * 2 + 1, by omega⟩ t j) := by
  rw [val_main_v44_apply, val_main_v43_apply, val_main_v42_apply, first_at, second_at, factor_at]
  rfl

/-- With real arguments the weighted values are the difference of the attentions. -/
theorem difference_at (hq : Real4 x0) (ho : Real4 x1) (hc : Real4 x3) (hvo : Real4 x2) (hvc : Real4 x4) (hl : ∀ i, ∃ r : ℝ, x5 i = (r : EReal))
    (b : Fin 8) (h : Fin 4) (t : Fin 4096) (e : Fin 128) :
    val_main_v45 (F := Ideal) x0 x1 x2 x3 x4 x5 (ix4 b h e t) = difference x0 x3 x1 x4 x2 x5 b t h e := by
  obtain ⟨L, hL⟩ := lambda_real hl
  have hv : value x4 x2 b h e = fun j => ((value x4 x2 b h e j).toReal : EReal) := funext fun j => (value_real hvc hvo b h e j).symm
  rw [val_main_v45_apply, difference, hL, hv, ← difference_of_weights 8 L _ _ _ _ _
    ((max_at x0 x1 x3 b ⟨h.val * 2, by omega⟩ t).trans (by simp only [scores_at x0 x1 x3 hq ho hc]))
    ((max_at x0 x1 x3 b ⟨h.val * 2 + 1, by omega⟩ t).trans (by simp only [scores_at x0 x1 x3 hq ho hc]))]
  refine Finset.sum_congr rfl fun j _ => ?_
  have hl : lidx_main_v45 (ix4 b h e t) j = ix4 b h e j := eq_ix4 _
  have hr : ridx_main_v45 (ix4 b h e t) j = ix4 b h t j := eq_ix4 _
  rw [hl, hr, values_at, minus_at, softmax_at, softmax_at, hL, value_real hvc hvo]
  simp only [scores_at x0 x1 x3 hq ho hc]

/-- The mean square over a head's coordinates. -/
theorem square_at (b : Fin 8) (h : Fin 4) (t : Fin 4096) :
    val_main_v48 (F := Ideal) x0 x1 x2 x3 x4 x5 (ix3 b t h)
      = ∑ e, val_main_v45 (F := Ideal) x0 x1 x2 x3 x4 x5 (ix4 b h e t) * val_main_v45 (F := Ideal) x0 x1 x2 x3 x4 x5 (ix4 b h e t) := by
  generalize hy : val_main_v45 (F := Ideal) x0 x1 x2 x3 x4 x5 = y
  pointwise [val_main_v48, val_main_v47, val_main_v46, val_main_cst_6, hy]

/-- The norm over a head's coordinates. -/
theorem normed_at (b : Fin 8) (h : Fin 4) (t : Fin 4096) (e : Fin 128) :
    val_main_v61 (F := Ideal) x0 x1 x2 x3 x4 x5 x6 (ix4 b t h e)
      = normed (fun e => val_main_v45 (F := Ideal) x0 x1 x2 x3 x4 x5 (ix4 b h e t)) x6 e := by
  unfold normed
  rw [← square_at]
  generalize hz : val_main_v48 (F := Ideal) x0 x1 x2 x3 x4 x5 = z
  generalize hy : val_main_v45 (F := Ideal) x0 x1 x2 x3 x4 x5 = y
  pointwise [val_main_v61, val_main_v60, val_main_v59, val_main_v58, val_main_v57, val_main_v56, val_main_v55, val_main_v54, val_main_v53, val_main_v52,
    val_main_v51, val_main_v50, val_main_v49, val_main_v46, val_main_cst_7, val_main_cst_8, val_main_cst_9, hy, hz]

/-- The result's layout: the heads side by side. -/
theorem layout_at (b : Fin 8) (t : Fin 4096) (k : Fin 512) (h : Fin 4) (e : Fin 128) (hk : k.val = h.val * 128 + e.val) :
    val_main_v63 (F := Ideal) x0 x1 x2 x3 x4 x5 x6 (ix3 b t k) = val_main_v61 (F := Ideal) x0 x1 x2 x3 x4 x5 x6 (ix4 b t h e) := by
  have h1 : (⟨k.val / 128, by omega⟩ : Fin 4) = h := Fin.ext (by simp only; omega)
  have h2 : (⟨k.val % 128, by omega⟩ : Fin 128) = e := Fin.ext (by simp only; omega)
  unfold val_main_v63 val_main_v62
  generalize val_main_v61 (F := Ideal) x0 x1 x2 x3 x4 x5 x6 = y
  pointwise
  rw [h1, h2]

/-- With real arguments the reference computes the differential attention. -/
theorem result_at (hq : Real4 x0) (ho : Real4 x1) (hc : Real4 x3) (hvo : Real4 x2) (hvc : Real4 x4) (hl : ∀ i, ∃ r : ℝ, x5 i = (r : EReal))
    (b : Fin 8) (t : Fin 4096) (k : Fin 512) (h : Fin 4) (e : Fin 128) (hk : k.val = h.val * 128 + e.val) :
    val_main_v63 (F := Ideal) x0 x1 x2 x3 x4 x5 x6 (ix3 b t k) = normed (difference x0 x3 x1 x4 x2 x5 b t h) x6 e := by
  rw [layout_at x0 x1 x2 x3 x4 x5 x6 b t k h e hk, normed_at]
  exact congrArg (normed · x6 e) (funext fun e => difference_at x0 x1 x2 x3 x4 x5 hq ho hc hvo hvc hl b h t e)

end Cert.Reference3Ideal.Attend

end
-- ==== Proof.Merge.lean ====
/- The merge of the mixers' outputs for one token: the first norm, the gates, the branches, the output projection and the
   residual, the second norm, and the router's softmax. -/
module

public import Idealize.ShloMosaic.Lib.Pointwise

@[expose] public section

noncomputable section

namespace Cert.Merge

open Idealize.ShloMosaic

/-- One, as both programs write it. -/
def one : EReal := Ideal.ofBits .f32 0x3F800000#32

/-- The width of a token, as both programs write it. -/
def width : EReal := Ideal.ofBits .f32 0x44800000#32

/-- The norms' small constant, as both programs write it. -/
def eps : EReal := Ideal.ofBits .f32 0x358637BD#32

/-- The constant one is one. -/
theorem one_eq : Ideal.ofBits .f32 0x3F800000#32 = 1 := by
  simp [Ideal.ofBits, Ideal.ieee, -EReal.coe_mul]
  norm_num

/-- The constant minus infinity is the bottom. -/
theorem bottom_eq : Ideal.ofBits .f32 0xFF800000#32 = ⊥ := by
  simp [Ideal.ofBits, Ideal.ieee]

/-- The adaptive norm of a token `x` with gain `g`, scale `sc` and shift `sh`. -/
def adapted (x g sc sh : Fin 1024 → EReal) (d : Fin 1024) : EReal :=
  x d * Ideal.rsqrt (Ideal.div (∑ k, x k * x k) width + eps) * g d * (one + sc d) + sh d

/-- The sigmoid. -/
def sigmoid (x : EReal) : EReal := Ideal.div one (one + Ideal.exp (-x))

/-- One branch at a coordinate: its gate, from the normed token `h`, times its projection, from the mixer's output `o`. -/
def branch (h wg : Fin 1024 → EReal) (o wb : Fin 512 → EReal) : EReal := sigmoid (∑ k, h k * wg k) * ∑ k, o k * wb k

/-- The branches' sum at a coordinate. -/
def merged (h : Fin 1024 → EReal) (wg : Fin 4 → Fin 1024 → EReal) (o wb : Fin 4 → Fin 512 → EReal) : EReal :=
  branch h (wg 0) (o 0) (wb 0) + branch h (wg 1) (o 1) (wb 1) + branch h (wg 2) (o 2) (wb 2) + branch h (wg 3) (o 3) (wb 3)

/-- The token after the residual: `mg` are its merged branches, `wo` a column of the output projection. -/
def joined (x gt : EReal) (mg wo : Fin 1024 → EReal) : EReal := x + gt * ∑ k, mg k * wo k

/-- The largest of sixteen scores. -/
def top (s : Fin 16 → EReal) : EReal := Finset.univ.fold max ⊥ s

/-- The softmax of sixteen scores. -/
def softmax (s : Fin 16 → EReal) (e : Fin 16) : EReal := Ideal.div (Ideal.exp (s e - top s)) (∑ k, Ideal.exp (s k - top s))

/-- The column of the gates' weights that gates coordinate `k` of branch `b`. -/
def column (b : Fin 4) (k : Fin 1024) : Fin 4096 := ⟨1024 * b.val + k.val, by omega⟩

/-- The first branch's column. -/
theorem column0 (k : Fin 1024) : column 0 k = ⟨k.val, by omega⟩ := Fin.ext (by simp [column])

/-- The modulation's part `j`, of six, at a coordinate. -/
def part (w : Fin 6144 → EReal) (j : Fin 6) (k : Fin 1024) : EReal := w ⟨1024 * j.val + k.val, by omega⟩

/-- The first part. -/
theorem part0 (w : Fin 6144 → EReal) (k : Fin 1024) : part w 0 k = w ⟨k.val, by omega⟩ := congrArg w (Fin.ext (by simp))

/-- The first result: the token `x` after the residual, from the modulation `w`, the gain `g`, the mixers' outputs `o`, and the
    weights of the gates, of the branches and of the output. -/
def first (x : Fin 1024 → EReal) (w : Fin 6144 → EReal) (g : Fin 1024 → EReal) (o : Fin 4 → Fin 512 → EReal)
    (wg : Fin 1024 → Fin 4096 → EReal) (wb : Fin 4 → Fin 512 → Fin 1024 → EReal) (wo : Fin 1024 → Fin 1024 → EReal) (d : Fin 1024) : EReal :=
  joined (x d) (part w 2 d)
    (fun k => merged (adapted x g (part w 1) (part w 0)) (fun b j => wg j (column b k)) o (fun b c => wb b c k)) (fun k => wo k d)

/-- The second result: the second norm of the token after the residual. -/
def second (x : Fin 1024 → EReal) (w : Fin 6144 → EReal) (g : Fin 1024 → EReal) : Fin 1024 → EReal := adapted x g (part w 4) (part w 3)

/-- The third result: the router's affinities of the token `h`, twice normed. -/
def third (h : Fin 1024 → EReal) (wr : Fin 16 → Fin 1024 → EReal) : Fin 16 → EReal := softmax fun e => ∑ k, h k * wr e k

end Cert.Merge

end
-- ==== Proof.Block4.lean ====
/- What one grid point of the merge computes: 256 tokens. -/
module

public import proofs.«01_k».proof.Proof.Merge
public import proofs.«01_k».proof.Proof.Gen.Kernel4Ideal.Frame

@[expose] public section

set_option maxRecDepth 16384

noncomputable section

namespace Cert.Kernel4Ideal.Block

open Idealize.ShloMosaic Cert.Kernel4Ideal Cert.Kernel4Ideal.Gen Cert.Merge

/-- The first norm. -/
theorem norm_at (v0 : Vec Ideal S1x256x1024 .f32) (v2 : Vec Ideal S1x1x6144 .f32) (v4 : Vec Ideal S1x1024 .f32) (i : Fin 256) (d : Fin 1024) :
    k0_pay3 v0 v2 v4 (ix2 i d) = adapted (fun k => v0 (ix3 0 i k)) (fun k => v4 (ix2 0 k))
      (part (fun k => v2 (ix3 0 0 k)) 1) (part (fun k => v2 (ix3 0 0 k)) 0) d := by
  rw [adapted, part0]
  pointwise [k0_pay3, k0_pay1, k0_pay2, one, width, eps, part]

/-- The third branch's gate. -/
theorem gate_at (h : FVec Ideal S256x1024 .bf16) (w : Vec Ideal S1024x1024 .bf16) (i : Fin 256) (d : Fin 1024) :
    k0_pay7 h w (ix2 i d) = sigmoid (∑ k : Fin 1024, h (ix2 i k) * w (ix2 k d)) := by
  pointwise [k0_pay7, sigmoid, one]
  rw [zero_sub]

/-- The first branch's gate. -/
theorem gate0_at (v0 : Vec Ideal S1x256x1024 .f32) (v2 : Vec Ideal S1x1x6144 .f32) (v4 : Vec Ideal S1x1024 .f32) (w : Vec Ideal S1024x1024 .bf16)
    (i : Fin 256) (d : Fin 1024) :
    k0_pay4 v0 v2 v4 w (ix2 i d) = sigmoid (∑ k : Fin 1024, k0_pay3 v0 v2 v4 (ix2 i k) * w (ix2 k d)) := by
  pointwise [k0_pay4, sigmoid, one]
  rw [zero_sub]

/-- The first two branches. -/
theorem two_at (h : FVec Ideal S256x1024 .bf16) (g : FVec Ideal S256x1024 .f32) (a b : Vec Ideal S1x256x512 .bf16) (wa wb : Vec Ideal S1x512x1024 .bf16)
    (w : Vec Ideal S1024x1024 .bf16) (i : Fin 256) (d : Fin 1024) :
    k0_pay6 h g (k0_pay5 a) wa w b wb (ix2 i d) = g (ix2 i d) * (∑ k : Fin 512, a (ix3 0 i k) * wa (ix3 0 k d))
      + branch (fun k => h (ix2 i k)) (fun k => w (ix2 k d)) (fun k => b (ix3 0 i k)) (fun k => wb (ix3 0 k d)) := by
  pointwise [k0_pay6, k0_pay5, branch, sigmoid, one]
  rw [zero_sub]

/-- The last two branches, the output projection and the residual. -/
theorem residual_at (x : FVec Ideal S256x1024 .f32) (v : FVec Ideal S1x6144 .f32) (h : FVec Ideal S256x1024 .bf16) (s g : FVec Ideal S256x1024 .f32)
    (a b : Vec Ideal S1x256x512 .bf16) (wa wb : Vec Ideal S1x512x1024 .bf16) (w wo : Vec Ideal S1024x1024 .bf16) (i : Fin 256) (d : Fin 1024) :
    k0_pay9 x v h s g (k0_pay8 a) wa w b wb wo (ix2 i d) = joined (x (ix2 i d)) (v (ix2 0 ⟨2048 + d.val, by omega⟩))
      (fun e => s (ix2 i e) + g (ix2 i e) * (∑ k : Fin 512, a (ix3 0 i k) * wa (ix3 0 k e))
        + branch (fun k => h (ix2 i k)) (fun k => w (ix2 k e)) (fun k => b (ix3 0 i k)) (fun k => wb (ix3 0 k e))) (fun e => wo (ix2 e d)) := by
  pointwise [k0_pay9, k0_pay8, branch, sigmoid, one, joined]
  simp only [zero_sub]

/-- The second norm. -/
theorem second_at (x : FVec Ideal S256x1024 .f32) (g a b : FVec Ideal S1x1024 .f32) (q : FVec Ideal S256 .f32) (i : Fin 256) (d : Fin 1024)
    (hq : q (ix1 i) = ∑ k : Fin 1024, x (ix2 i k) * x (ix2 i k)) :
    k0_pay14 x g a b q (ix2 i d) = adapted (fun k => x (ix2 i k)) (fun k => g (ix2 0 k)) (fun k => b (ix2 0 k)) (fun k => a (ix2 0 k)) d := by
  pointwise [k0_pay14, adapted, one, width, eps]
  rw [hq]

/-- The affinities. -/
theorem third_at (x : FVec Ideal S256x1024 .f32) (g a b : FVec Ideal S1x1024 .f32) (q : FVec Ideal S256 .f32) (w : Vec Ideal S16x1024 .bf16)
    (i : Fin 256) (e : Fin 16) :
    k0_pay16 x g a b q w (ix2 e i) = third (fun k => k0_pay14 x g a b q (ix2 i k)) (fun e k => w (ix2 e k)) e := by
  generalize hy : k0_pay14 x g a b q = y
  pointwise [k0_pay16, hy, third, softmax, top]
  simp only [bottom_eq, mul_comm]

/-- The tokens, without the batch's axis. -/
theorem tokens_at (v : Vec Ideal S1x256x1024 .f32) (i : Fin 256) (k : Fin 1024) : k0_pay1 v (ix2 i k) = v (ix3 0 i k) := by
  pointwise [k0_pay1]

/-- The modulation, without the batch's axis. -/
theorem modulation_at (v : Vec Ideal S1x1x6144 .f32) (k : Fin 6144) : k0_pay2 v (ix2 0 k) = v (ix3 0 0 k) := by
  pointwise [k0_pay2]

variable (x0 : Vec Ideal S1x256x1024 .f32) (x1 : Vec Ideal S1x1x6144 .f32) (x2 x3 : Vec Ideal S1x1024 .f32)
  (x4 x5 x6 x7 : Vec Ideal S1x256x512 .bf16) (x8 : Vec Ideal S1024x4096 .bf16) (x9 : Vec Ideal S4x512x1024 .bf16) (x10 : Vec Ideal S1024x1024 .bf16)
  (x11 : Vec Ideal S16x1024 .bf16)

/-- The token after the residual. -/
theorem first_at (i : Fin 256) (d : Fin 1024) :
    k0_pay25 x0 x1 x2 x3 x4 x5 x6 x7 x8 x9 x10 x11 (ix2 i d) = first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)) d := by
  have h : ∀ k, k0_pay21 x0 x1 x2 x3 x4 x5 x6 x7 x8 x9 x10 x11 (ix2 i k) = adapted (fun k => x0 (ix3 0 i k)) (fun k => x2 (ix2 0 k))
      (part (fun k => x1 (ix3 0 0 k)) 1) (part (fun k => x1 (ix3 0 0 k)) 0) k := fun k => by
    refine (norm_at (View.ld x0 r0_0) (View.ld x1 r0_1) (View.ld x2 r0_2) i k).trans ?_
    pointwise
  have h0 : ∀ k, k0_pay3 (View.ld x0 r0_0) (View.ld x1 r0_1) (View.ld x2 r0_2) (ix2 i k) = k0_pay21 x0 x1 x2 x3 x4 x5 x6 x7 x8 x9 x10 x11 (ix2 i k) := fun k => rfl
  have h5 : k0_pay24 x0 x1 x2 x3 x4 x5 x6 x7 x8 x9 x10 x11 = k0_pay8 (View.ld x6 r0_4) := rfl
  unfold k0_pay25
  rw [h5, residual_at]
  unfold k0_pay22 k0_pay23 k0_pay19 k0_pay20
  simp only [two_at, gate_at, gate0_at, h0, h, tokens_at, modulation_at, first, merged, branch,
    column0]
  pointwise [column, part]

/-- What the body stores as the first result. -/
theorem store_first (i : Fin 256) (d : Fin 1024) :
    shapeCast S1x256x1024 (k0_pay25 x0 x1 x2 x3 x4 x5 x6 x7 x8 x9 x10 x11) shapeCasts_S256x1024_S1x256x1024 (ix3 0 i d) = first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)) d := by
  rw [← first_at (x3 := x3) (x11 := x11)]
  pointwise

/-- The token after the second norm. -/
theorem normed_at (i : Fin 256) (d : Fin 1024) :
    k0_pay14 (k0_pay25 x0 x1 x2 x3 x4 x5 x6 x7 x8 x9 x10 x11) (View.ld x3 r0_2) (k0_pay26 x0 x1 x2 x3 x4 x5 x6 x7 x8 x9 x10 x11)
      (k0_pay27 x0 x1 x2 x3 x4 x5 x6 x7 x8 x9 x10 x11) (k0_pay28 x0 x1 x2 x3 x4 x5 x6 x7 x8 x9 x10 x11) (ix2 i d)
      = second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k)) d := by
  have h : k0_pay28 x0 x1 x2 x3 x4 x5 x6 x7 x8 x9 x10 x11 (ix1 i)
      = ∑ k : Fin 1024, k0_pay25 x0 x1 x2 x3 x4 x5 x6 x7 x8 x9 x10 x11 (ix2 i k) * k0_pay25 x0 x1 x2 x3 x4 x5 x6 x7 x8 x9 x10 x11 (ix2 i k) := by
    have h' : k0_pay28 x0 x1 x2 x3 x4 x5 x6 x7 x8 x9 x10 x11 = multiReduction .add [1] S256
      (mulf (k0_pay25 x0 x1 x2 x3 x4 x5 x6 x7 x8 x9 x10 x11) (k0_pay25 x0 x1 x2 x3 x4 x5 x6 x7 x8 x9 x10 x11)) 0x00000000#32 reduces_S256x1024_S256 (.inl rfl) rfl := rfl
    rw [h']
    generalize k0_pay25 x0 x1 x2 x3 x4 x5 x6 x7 x8 x9 x10 x11 = y
    pointwise
  rw [second_at _ _ _ _ _ i d h]
  simp only [first_at, second]
  unfold k0_pay26 k0_pay27 k0_pay20
  congr 1
  · pointwise
  · pointwise [k0_pay12, k0_pay2]
    rfl
  · pointwise [k0_pay11, k0_pay2]
    rfl

/-- What the body stores as the second result. -/
theorem store_second (i : Fin 256) (d : Fin 1024) :
    k0_pay15 (k0_pay25 x0 x1 x2 x3 x4 x5 x6 x7 x8 x9 x10 x11) (View.ld x3 r0_2) (k0_pay26 x0 x1 x2 x3 x4 x5 x6 x7 x8 x9 x10 x11)
      (k0_pay27 x0 x1 x2 x3 x4 x5 x6 x7 x8 x9 x10 x11) (k0_pay28 x0 x1 x2 x3 x4 x5 x6 x7 x8 x9 x10 x11) (ix3 0 i d)
      = second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k)) d := by
  rw [← normed_at (x11 := x11)]
  pointwise [k0_pay15]

/-- The affinities of the block's tokens. -/
theorem affinity_at (i : Fin 256) (e : Fin 16) :
    k0_pay16 (k0_pay25 x0 x1 x2 x3 x4 x5 x6 x7 x8 x9 x10 x11) (View.ld x3 r0_2) (k0_pay26 x0 x1 x2 x3 x4 x5 x6 x7 x8 x9 x10 x11)
      (k0_pay27 x0 x1 x2 x3 x4 x5 x6 x7 x8 x9 x10 x11) (k0_pay28 x0 x1 x2 x3 x4 x5 x6 x7 x8 x9 x10 x11) (View.ld x11 r0_13) (ix2 e i)
      = third (second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k))) (fun e k => x11 (ix2 e k)) e := by
  rw [third_at]
  simp only [normed_at]
  congr 1
  pointwise

/-- What the body stores as the third result, for the block's first 128 tokens. -/
theorem store_third0 (i : Fin 256) (n : Fin 128) (e : Fin 16) (hi : i.val = n.val) :
    k0_pay17 (k0_pay25 x0 x1 x2 x3 x4 x5 x6 x7 x8 x9 x10 x11) (View.ld x3 r0_2) (k0_pay26 x0 x1 x2 x3 x4 x5 x6 x7 x8 x9 x10 x11)
      (k0_pay27 x0 x1 x2 x3 x4 x5 x6 x7 x8 x9 x10 x11) (k0_pay28 x0 x1 x2 x3 x4 x5 x6 x7 x8 x9 x10 x11) (View.ld x11 r0_13) (ix4 0 0 e n)
      = third (second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k))) (fun e k => x11 (ix2 e k)) e := by
  have hi : i = ⟨n.val, by omega⟩ := Fin.ext hi
  rw [← affinity_at, hi]
  pointwise [k0_pay17]

/-- What the body stores as the third result, for the block's last 128 tokens. -/
theorem store_third1 (i : Fin 256) (n : Fin 128) (e : Fin 16) (hi : i.val = 128 + n.val) :
    k0_pay18 (k0_pay25 x0 x1 x2 x3 x4 x5 x6 x7 x8 x9 x10 x11) (View.ld x3 r0_2) (k0_pay26 x0 x1 x2 x3 x4 x5 x6 x7 x8 x9 x10 x11)
      (k0_pay27 x0 x1 x2 x3 x4 x5 x6 x7 x8 x9 x10 x11) (k0_pay28 x0 x1 x2 x3 x4 x5 x6 x7 x8 x9 x10 x11) (View.ld x11 r0_13) (ix4 0 0 e n)
      = third (second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k))) (fun e k => x11 (ix2 e k)) e := by
  have hi : i = ⟨128 + n.val, by omega⟩ := Fin.ext hi
  rw [← affinity_at, hi]
  pointwise [k0_pay18]

end Cert.Kernel4Ideal.Block

end
-- ==== Proof.Store4.lean ====
/- What the merge's output buffers hold after one grid point. -/
module

public import proofs.«01_k».proof.Proof.Block4
public import Idealize.ShloMosaic.Lib.Pipeline.ValueKit

@[expose] public section

set_option maxRecDepth 16384

noncomputable section

namespace Cert.Kernel4Ideal.Block

open Idealize.ShloMosaic Cert.Kernel4Ideal Cert.Kernel4Ideal.Gen Cert.Merge

variable (x0 : Vec Ideal S1x256x1024 .f32) (x1 : Vec Ideal S1x1x6144 .f32) (x2 x3 : Vec Ideal S1x1024 .f32)
  (x4 x5 x6 x7 : Vec Ideal S1x256x512 .bf16) (x8 : Vec Ideal S1024x4096 .bf16) (x9 : Vec Ideal S4x512x1024 .bf16) (x10 : Vec Ideal S1024x1024 .bf16)
  (x11 : Vec Ideal S16x1024 .bf16)

/-- The first result's buffer. -/
theorem buffer_first (i : Fin 256) (d : Fin 1024) : out0_12 x0 x1 x2 x3 x4 x5 x6 x7 x8 x9 x10 x11 (ix3 0 i d) = first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)) d := by
  have h : (ix3 0 i d : S1x256x1024.Idx) = r0_0.emb (ix3 0 i d) := by blk_ext []
  unfold out0_12
  rw [h, View.canon_cons_emb]
  unfold k0_pay10
  exact store_first x0 x1 x2 x3 x4 x5 x6 x7 x8 x9 x10 x11 i d

/-- The second result's buffer. -/
theorem buffer_second (i : Fin 256) (d : Fin 1024) : out0_13 x0 x1 x2 x3 x4 x5 x6 x7 x8 x9 x10 x11 (ix3 0 i d) = second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k)) d := by
  have h : (ix3 0 i d : S1x256x1024.Idx) = r0_0.emb (ix3 0 i d) := by blk_ext []
  unfold out0_13
  rw [h, View.canon_cons_emb]
  exact store_second x0 x1 x2 x3 x4 x5 x6 x7 x8 x9 x10 x11 i d

/-- The third result's buffer, where it holds the block's last 128 tokens. -/
theorem buffer_third1 (i : Fin 256) (n : Fin 128) (e : Fin 16) (hi : i.val = 128 + n.val) : out0_14 x0 x1 x2 x3 x4 x5 x6 x7 x8 x9 x10 x11 (ix4 0 1 e n) = third (second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k))) (fun e k => x11 (ix2 e k)) e := by
  have h : (ix4 0 1 e n : S1x2x16x128.Idx) = r0_15.emb (ix4 0 0 e n) := by blk_ext []
  unfold out0_14
  rw [h, View.canon_cons_emb]
  exact store_third1 x0 x1 x2 x3 x4 x5 x6 x7 x8 x9 x10 x11 i n e hi

/-- The third result's buffer, where it holds the block's first 128 tokens. -/
theorem buffer_third0 (i : Fin 256) (n : Fin 128) (e : Fin 16) (hi : i.val = n.val) : out0_14 x0 x1 x2 x3 x4 x5 x6 x7 x8 x9 x10 x11 (ix4 0 0 e n) = third (second (first (fun k => x0 (ix3 0 i k)) (fun k => x1 (ix3 0 0 k)) (fun k => x2 (ix2 0 k))
      (fun b k => ![x4, x5, x6, x7] b (ix3 0 i k)) (fun k c => x8 (ix2 k c)) (fun b c k => x9 (ix3 b c k)) (fun k e => x10 (ix2 k e)))
        (fun k => x1 (ix3 0 0 k)) (fun k => x3 (ix2 0 k))) (fun e k => x11 (ix2 e k)) e := by
  have h : (ix4 0 0 e n : S1x2x16x128.Idx) = r0_14.emb (ix4 0 0 e n) := by blk_ext []
  have h' : (ix4 0 0 e n : S1x2x16x128.Idx) ∉ r0_15.set := by
    intro hm
    have h1 : 1 ≤ 0 := (Rect.mem_set_unit.1 hm 1).1
    omega
  unfold out0_14
  refine (View.canon_cons_of_not_mem ⟨r0_15, _⟩ _ h').trans ?_
  rw [h, View.canon_cons_emb]
  exact store_third0 x0 x1 x2 x3 x4 x5 x6 x7 x8 x9 x10 x11 i n e hi

end Cert.Kernel4Ideal.Block

end
-- ==== Proof.Array4.lean ====
/- The merge over the whole grid: what the three output arrays hold. -/
module

public import proofs.«01_k».proof.Proof.Store4
public import Idealize.ShloMosaic.Lib.Pipeline.ValueKit

@[expose] public section

set_option maxRecDepth 16384

noncomputable section

namespace Cert.Kernel4Ideal.Array

open Idealize.ShloMosaic Idealize.ShloMosaic.TcCoe Idealize.SL.Sem Cert.Merge Cert.Kernel4Ideal Cert.Kernel4Ideal.Gen

variable (m : (ℓ : Loc nD τ sig) → Buf (Elt Ideal) ℓ)

/-- Where each window's block lies, by the batch and the block of tokens of a grid point. -/
theorem index : ∀ t : Fin cfg0.N,
    win0_0.index t = ![(grid0.coords t 0).val, (grid0.coords t 1).val, 0]
    ∧ win0_1.index t = ![(grid0.coords t 0).val, 0, 0]
    ∧ win0_2.index t = ![0, 0]
    ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![0, 0]
    ∧ win0_9.index t = ![0, 0, 0]
    ∧ win0_10.index t = ![0, 0]
    ∧ win0_11.index t = ![0, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0, 0] := by decide +kernel

/-- The grid's extents. -/
theorem bounds (t : Fin cfg0.N) : (grid0.coords t 0).val < 8 ∧ (grid0.coords t 1).val < 16 :=
  ⟨(grid0.coords t 0).isLt, (grid0.coords t 1).isLt⟩

/-- The tokens. -/
abbrev X (c : Dev nD) : FVec Ideal ⟨3, ![8, 4096, 1024]⟩ .f32 := m ((c : Thread nD τ).loc main_arg0)
/-- The modulation of each batch. -/
abbrev W (c : Dev nD) : FVec Ideal ⟨3, ![8, 1, 6144]⟩ .f32 := m ((c : Thread nD τ).loc main_arg1)
/-- The first norm's gain. -/
abbrev G1 (c : Dev nD) : FVec Ideal ⟨2, ![1, 1024]⟩ .f32 := m ((c : Thread nD τ).loc main_arg2)
/-- The second norm's gain. -/
abbrev G2 (c : Dev nD) : FVec Ideal ⟨2, ![1, 1024]⟩ .f32 := m ((c : Thread nD τ).loc main_arg3)
/-- Mixer A's outputs. -/
abbrev OA (c : Dev nD) : FVec Ideal ⟨3, ![8, 4096, 512]⟩ .bf16 := m ((c : Thread nD τ).loc main_arg4)
/-- Mixer B's outputs. -/
abbrev OB (c : Dev nD) : FVec Ideal ⟨3, ![8, 4096, 512]⟩ .bf16 := m ((c : Thread nD τ).loc main_arg5)
/-- Mixer C's outputs. -/
abbrev OC (c : Dev nD) : FVec Ideal ⟨3, ![8, 4096, 512]⟩ .bf16 := m ((c : Thread nD τ).loc main_arg6)
/-- Mixer D's outputs. -/
abbrev OD (c : Dev nD) : FVec Ideal ⟨3, ![8, 4096, 512]⟩ .bf16 := m ((c : Thread nD τ).loc main_arg7)
/-- The gates' weights. -/
abbrev WG (c : Dev nD) : FVec Ideal ⟨2, ![1024, 4096]⟩ .bf16 := m ((c : Thread nD τ).loc main_arg8)
/-- The branches' projections. -/
abbrev WB (c : Dev nD) : FVec Ideal ⟨3, ![4, 512, 1024]⟩ .bf16 := m ((c : Thread nD τ).loc main_arg9)
/-- The output projection. -/
abbrev WO (c : Dev nD) : FVec Ideal ⟨2, ![1024, 1024]⟩ .bf16 := m ((c : Thread nD τ).loc main_arg10)
/-- The router's rows. -/
abbrev WR (c : Dev nD) : FVec Ideal ⟨2, ![16, 1024]⟩ .bf16 := m ((c : Thread nD τ).loc main_arg11)

/-- A grid point's block of argument 0. -/
theorem block0 (c : Dev nD) (t : Fin cfg0.N) (i : Fin 256) (d : Fin 1024) (b : Fin 8) (n : Fin 4096) (hb : b.val = (grid0.coords t 0).val) (hn : n.val = (grid0.coords t 1).val * 256 + i.val) :
    iblk m c 0 t (ix3 0 i d) = X m c (ix3 b n d) := by
  blk_ext [iblk, V, (index t).1]

/-- A grid point's block of argument 1. -/
theorem block1 (c : Dev nD) (t : Fin cfg0.N) (d : Fin 6144) (b : Fin 8) (hb : b.val = (grid0.coords t 0).val) :
    iblk m c 1 t (ix3 0 0 d) = W m c (ix3 b 0 d) := by
  blk_ext [iblk, V, (index t).2.1]

/-- A grid point's block of argument 2. -/
theorem block2 (c : Dev nD) (t : Fin cfg0.N) (d : Fin 1024) :
    iblk m c 2 t (ix2 0 d) = G1 m c (ix2 0 d) := by
  blk_ext [iblk, V, (index t).2.2.1]

/-- A grid point's block of argument 3. -/
theorem block3 (c : Dev nD) (t : Fin cfg0.N) (d : Fin 1024) :
    iblk m c 3 t (ix2 0 d) = G2 m c (ix2 0 d) := by
  blk_ext [iblk, V, (index t).2.2.2.1]

/-- A grid point's block of argument 4. -/
theorem block4 (c : Dev nD) (t : Fin cfg0.N) (i : Fin 256) (d : Fin 512) (b : Fin 8) (n : Fin 4096) (hb : b.val = (grid0.coords t 0).val) (hn : n.val = (grid0.coords t 1).val * 256 + i.val) :
    iblk m c 4 t (ix3 0 i d) = OA m c (ix3 b n d) := by
  blk_ext [iblk, V, (index t).2.2.2.2.1]

/-- A grid point's block of argument 5. -/
theorem block5 (c : Dev nD) (t : Fin cfg0.N) (i : Fin 256) (d : Fin 512) (b : Fin 8) (n : Fin 4096) (hb : b.val = (grid0.coords t 0).val) (hn : n.val = (grid0.coords t 1).val * 256 + i.val) :
    iblk m c 5 t (ix3 0 i d) = OB m c (ix3 b n d) := by
  blk_ext [iblk, V, (index t).2.2.2.2.2.1]

/-- A grid point's block of argument 6. -/
theorem block6 (c : Dev nD) (t : Fin cfg0.N) (i : Fin 256) (d : Fin 512) (b : Fin 8) (n : Fin 4096) (hb : b.val = (grid0.coords t 0).val) (hn : n.val = (grid0.coords t 1).val * 256 + i.val) :
    iblk m c 6 t (ix3 0 i d) = OC m c (ix3 b n d) := by
  blk_ext [iblk, V, (index t).2.2.2.2.2.2.1]

/-- A grid point's block of argument 7. -/
theorem block7 (c : Dev nD) (t : Fin cfg0.N) (i : Fin 256) (d : Fin 512) (b : Fin 8) (n : Fin 4096) (hb : b.val = (grid0.coords t 0).val) (hn : n.val = (grid0.coords t 1).val * 256 + i.val) :
    iblk m c 7 t (ix3 0 i d) = OD m c (ix3 b n d) := by
  blk_ext [iblk, V, (index t).2.2.2.2.2.2.2.1]

/-- A grid point's block of argument 8. -/
theorem block8 (c : Dev nD) (t : Fin cfg0.N) (k : Fin 1024) (d : Fin 4096) :
    iblk m c 8 t (ix2 k d) = WG m c (ix2 k d) := by
  blk_ext [iblk, V, (index t).2.2.2.2.2.2.2.2.1]

/-- A grid point's block of argument 9. -/
theorem block9 (c : Dev nD) (t : Fin cfg0.N) (b : Fin 4) (k : Fin 512) (d : Fin 1024) :
    iblk m c 9 t (ix3 b k d) = WB m c (ix3 b k d) := by
  blk_ext [iblk, V, (index t).2.2.2.2.2.2.2.2.2.1]

/-- A grid point's block of argument 10. -/
theorem block10 (c : Dev nD) (t : Fin cfg0.N) (k d : Fin 1024) :
    iblk m c 10 t (ix2 k d) = WO m c (ix2 k d) := by
  blk_ext [iblk, V, (index t).2.2.2.2.2.2.2.2.2.2.1]

/-- A grid point's block of argument 11. -/
theorem block11 (c : Dev nD) (t : Fin cfg0.N) (e : Fin 16) (k : Fin 1024) :
    iblk m c 11 t (ix2 e k) = WR m c (ix2 e k) := by
  blk_ext [iblk, V, (index t).2.2.2.2.2.2.2.2.2.2.2.1]

/-- A token after the residual. -/
def token (c : Dev nD) (b : Fin 8) (n : Fin 4096) : Fin 1024 → EReal :=
  first (fun k => X m c (ix3 b n k)) (fun k => W m c (ix3 b 0 k)) (fun k => G1 m c (ix2 0 k))
    (fun j k => ![OA m c, OB m c, OC m c, OD m c] j (ix3 b n k)) (fun k e => WG m c (ix2 k e)) (fun j k e => WB m c (ix3 j k e))
    (fun k e => WO m c (ix2 k e))

/-- A token after the second norm. -/
def normed (c : Dev nD) (b : Fin 8) (n : Fin 4096) : Fin 1024 → EReal :=
  second (token m c b n) (fun k => W m c (ix3 b 0 k)) (fun k => G2 m c (ix2 0 k))

/-- A token's affinities. -/
def affinities (c : Dev nD) (b : Fin 8) (n : Fin 4096) : Fin 16 → EReal := third (normed m c b n) (fun e k => WR m c (ix2 e k))

/-- The first output array. -/
def out0 (c : Dev nD) : FVec Ideal S8x4096x1024 .f32 := fun i => token m c ⟨(i 0).val, (i 0).isLt⟩ ⟨(i 1).val, (i 1).isLt⟩ ⟨(i 2).val, (i 2).isLt⟩

/-- The second output array. -/
def out1 (c : Dev nD) : FVec Ideal S8x4096x1024 .bf16 := fun i => normed m c ⟨(i 0).val, (i 0).isLt⟩ ⟨(i 1).val, (i 1).isLt⟩ ⟨(i 2).val, (i 2).isLt⟩

/-- The third output array: the tokens in groups of 128, each group's affinities by expert. -/
def out2 (c : Dev nD) : FVec Ideal S8x32x16x128 .f32 := fun i => affinities m c ⟨(i 0).val, (i 0).isLt⟩
  ⟨(i 1).val * 128 + (i 3).val, by have h : (i 1).val < 32 := (i 1).isLt; have h' : (i 3).val < 128 := (i 3).isLt; omega⟩ ⟨(i 2).val, (i 2).isLt⟩

/-- The first output array at an index. -/
theorem out0_at (c : Dev nD) (b : Fin 8) (n : Fin 4096) (d : Fin 1024) : out0 m c (ix3 b n d) = token m c b n d := rfl

/-- The second output array at an index. -/
theorem out1_at (c : Dev nD) (b : Fin 8) (n : Fin 4096) (d : Fin 1024) : out1 m c (ix3 b n d) = normed m c b n d := rfl

/-- The third output array at an index. -/
theorem out2_at (c : Dev nD) (b : Fin 8) (g : Fin 32) (e : Fin 16) (k : Fin 128) (n : Fin 4096) (hn : n.val = g.val * 128 + k.val) :
    out2 m c (ix4 b g e k) = affinities m c b n e := by
  have h : n = ⟨g.val * 128 + k.val, by omega⟩ := Fin.ext hn
  rw [h]; rfl

/-- The mixers' blocks are the arrays'. -/
theorem mixers (c : Dev nD) (t : Fin cfg0.N) (i : Fin 256) (b : Fin 8) (n : Fin 4096)
    (hb : b.val = (grid0.coords t 0).val) (hn : n.val = (grid0.coords t 1).val * 256 + i.val) :
    (fun (j : Fin 4) (k : Fin 512) => ![iblk m c 4 t, iblk m c 5 t, iblk m c 6 t, iblk m c 7 t] j (ix3 0 i k))
      = fun j k => ![OA m c, OB m c, OC m c, OD m c] j (ix3 b n k) := by
  funext j k
  fin_cases j
  · exact block4 m c t i k b n hb hn
  · exact block5 m c t i k b n hb hn
  · exact block6 m c t i k b n hb hn
  · exact block7 m c t i k b n hb hn

/-- A block's token after the residual is the array's. -/
theorem token_eq (c : Dev nD) (t : Fin cfg0.N) (i : Fin 256) (b : Fin 8) (n : Fin 4096)
    (hb : b.val = (grid0.coords t 0).val) (hn : n.val = (grid0.coords t 1).val * 256 + i.val) :
    first (fun k => iblk m c 0 t (ix3 0 i k)) (fun k => iblk m c 1 t (ix3 0 0 k)) (fun k => iblk m c 2 t (ix2 0 k))
      (fun j k => ![iblk m c 4 t, iblk m c 5 t, iblk m c 6 t, iblk m c 7 t] j (ix3 0 i k)) (fun k e => iblk m c 8 t (ix2 k e))
      (fun j k e => iblk m c 9 t (ix3 j k e)) (fun k e => iblk m c 10 t (ix2 k e)) = token m c b n := by
  rw [mixers m c t i b n hb hn, token]
  simp only [block0 m c t i _ b n hb hn, block1 m c t _ b hb, block2, block8, block9, block10]

/-- A block's token after the second norm is the array's. -/
theorem normed_eq (c : Dev nD) (t : Fin cfg0.N) (i : Fin 256) (b : Fin 8) (n : Fin 4096)
    (hb : b.val = (grid0.coords t 0).val) (hn : n.val = (grid0.coords t 1).val * 256 + i.val) :
    second (first (fun k => iblk m c 0 t (ix3 0 i k)) (fun k => iblk m c 1 t (ix3 0 0 k)) (fun k => iblk m c 2 t (ix2 0 k))
      (fun j k => ![iblk m c 4 t, iblk m c 5 t, iblk m c 6 t, iblk m c 7 t] j (ix3 0 i k)) (fun k e => iblk m c 8 t (ix2 k e))
      (fun j k e => iblk m c 9 t (ix3 j k e)) (fun k e => iblk m c 10 t (ix2 k e))) (fun k => iblk m c 1 t (ix3 0 0 k)) (fun k => iblk m c 3 t (ix2 0 k)) = normed m c b n := by
  rw [token_eq m c t i b n hb hn, normed]
  simp only [block1 m c t _ b hb, block3]

/-- A block's affinities are the array's. -/
theorem affinities_eq (c : Dev nD) (t : Fin cfg0.N) (i : Fin 256) (b : Fin 8) (n : Fin 4096)
    (hb : b.val = (grid0.coords t 0).val) (hn : n.val = (grid0.coords t 1).val * 256 + i.val) :
    third (second (first (fun k => iblk m c 0 t (ix3 0 i k)) (fun k => iblk m c 1 t (ix3 0 0 k)) (fun k => iblk m c 2 t (ix2 0 k))
      (fun j k => ![iblk m c 4 t, iblk m c 5 t, iblk m c 6 t, iblk m c 7 t] j (ix3 0 i k)) (fun k e => iblk m c 8 t (ix2 k e))
      (fun j k e => iblk m c 9 t (ix3 j k e)) (fun k e => iblk m c 10 t (ix2 k e))) (fun k => iblk m c 1 t (ix3 0 0 k)) (fun k => iblk m c 3 t (ix2 0 k)))
      (fun e k => iblk m c 11 t (ix2 e k)) = affinities m c b n := by
  rw [normed_eq m c t i b n hb hn, affinities]
  simp only [block11]

/-- The first output array is what the kernel leaves. -/
theorem arr_eq0 (c : Dev nD) : (dats m 0 c).arrAt 12 (cfgs 0).N = out0 m c := by
  refine (dats m 0 c).arrAt_eq_of_covers 12 _ (by decide +kernel) fun t hf y => ?_
  blk_simp
  rw [after0_12]
  obtain ⟨h0, h1⟩ := bounds t
  obtain ⟨a, i, d, rfl⟩ : ∃ (a : Fin 1) (i : Fin 256) (d : Fin 1024), y = ix3 a i d := ⟨y 0, y 1, y 2, eq_ix3 y⟩
  obtain rfl : a = 0 := Subsingleton.elim _ _
  have he : ((View.whole main_v0_0).slice (win0_12.rect t)).emb (ix3 0 i d) = (ix3 ⟨(grid0.coords t 0).val, h0⟩
      ⟨(grid0.coords t 1).val * 256 + i.val, by omega⟩ d : S8x4096x1024.Idx) := by
    blk_ext [(index t).2.2.2.2.2.2.2.2.2.2.2.2.1]
  rw [he, out0_at, Block.buffer_first]
  rw [token_eq m c t i ⟨(grid0.coords t 0).val, h0⟩ ⟨(grid0.coords t 1).val * 256 + i.val, by omega⟩ rfl rfl]

/-- The second output array is what the kernel leaves. -/
theorem arr_eq1 (c : Dev nD) : (dats m 0 c).arrAt 13 (cfgs 0).N = out1 m c := by
  refine (dats m 0 c).arrAt_eq_of_covers 13 _ (by decide +kernel) fun t hf y => ?_
  blk_simp
  rw [after0_13]
  obtain ⟨h0, h1⟩ := bounds t
  obtain ⟨a, i, d, rfl⟩ : ∃ (a : Fin 1) (i : Fin 256) (d : Fin 1024), y = ix3 a i d := ⟨y 0, y 1, y 2, eq_ix3 y⟩
  obtain rfl : a = 0 := Subsingleton.elim _ _
  have he : ((View.whole main_v0_1).slice (win0_13.rect t)).emb (ix3 0 i d) = (ix3 ⟨(grid0.coords t 0).val, h0⟩
      ⟨(grid0.coords t 1).val * 256 + i.val, by omega⟩ d : S8x4096x1024.Idx) := by
    blk_ext [(index t).2.2.2.2.2.2.2.2.2.2.2.2.2.1]
  rw [he, out1_at, Block.buffer_second]
  rw [normed_eq m c t i ⟨(grid0.coords t 0).val, h0⟩ ⟨(grid0.coords t 1).val * 256 + i.val, by omega⟩ rfl rfl]

/-- The third output array is what the kernel leaves. -/
theorem arr_eq2 (c : Dev nD) : (dats m 0 c).arrAt 14 (cfgs 0).N = out2 m c := by
  refine (dats m 0 c).arrAt_eq_of_covers 14 _ (by decide +kernel) fun t hf y => ?_
  blk_simp
  rw [after0_14]
  obtain ⟨h0, h1⟩ := bounds t
  obtain ⟨a, g, e, n, rfl⟩ : ∃ (a : Fin 1) (g : Fin 2) (e : Fin 16) (n : Fin 128), y = ix4 a g e n := ⟨y 0, y 1, y 2, y 3, eq_ix4 y⟩
  obtain rfl : a = 0 := Subsingleton.elim _ _
  have he : ((View.whole main_v0_2).slice (win0_14.rect t)).emb (ix4 0 g e n) = (ix4 ⟨(grid0.coords t 0).val, h0⟩
      ⟨(grid0.coords t 1).val * 2 + g.val, by omega⟩ e n : S8x32x16x128.Idx) := by
    blk_ext [(index t).2.2.2.2.2.2.2.2.2.2.2.2.2.2]
  rw [he]
  obtain rfl | rfl : g = 0 ∨ g = 1 := by omega
  · rw [Block.buffer_third0 _ _ _ _ _ _ _ _ _ _ _ _ ⟨n.val, by omega⟩ n e rfl,
      affinities_eq m c t _ ⟨(grid0.coords t 0).val, h0⟩ ⟨(grid0.coords t 1).val * 256 + n.val, by omega⟩ rfl rfl]
    exact (out2_at m c _ _ e n _ (by simp only [Fin.val_zero]; omega)).symm
  · rw [Block.buffer_third1 _ _ _ _ _ _ _ _ _ _ _ _ ⟨128 + n.val, by omega⟩ n e rfl,
      affinities_eq m c t _ ⟨(grid0.coords t 0).val, h0⟩ ⟨(grid0.coords t 1).val * 256 + (128 + n.val), by omega⟩ rfl rfl]
    exact (out2_at m c _ _ e n _ (by simp only [Fin.val_one]; omega)).symm

/-- The kernel's run: the three arrays, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = out0 m c
      ∧ r.2.mem ((c : Thread nD τ).loc main_v0_1) = out1 m c
      ∧ r.2.mem ((c : Thread nD τ).loc main_v0_2) = out2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨((h c).1 12).trans (arr_eq0 m c), ((h c).1 13).trans (arr_eq1 m c), ((h c).1 14).trans (arr_eq2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Cert.Kernel4Ideal.Array

end
-- ==== Proof.Reference4.lean ====
/- The merge's reference computes the merge. -/
module

public import proofs.«01_k».proof.Proof.Merge
public import proofs.«01_k».proof.Proof.Gen.Reference4Ideal.Read
public import Idealize.ShloMosaic.Lib.Pointwise

@[expose] public section

set_option maxRecDepth 16384

noncomputable section

namespace Cert.Reference4Ideal.Merged

open Idealize.ShloMosaic Cert.Merge Cert.Reference4Ideal Cert.Reference4Ideal.Gen Cert.Reference4Ideal.Read

variable (x0 : FVec Ideal ⟨3, ![8, 4096, 1024]⟩ .f32) (x1 : FVec Ideal ⟨3, ![8, 1, 6144]⟩ .f32) (x2 x3 : FVec Ideal ⟨2, ![1, 1024]⟩ .f32)
  (x4 x5 x6 x7 : FVec Ideal ⟨3, ![8, 4096, 512]⟩ .bf16) (x8 : FVec Ideal ⟨2, ![1024, 4096]⟩ .bf16) (x9 : FVec Ideal ⟨3, ![4, 512, 1024]⟩ .bf16)
  (x10 : FVec Ideal ⟨2, ![1024, 1024]⟩ .bf16) (x11 : FVec Ideal ⟨2, ![16, 1024]⟩ .bf16)

/-- The first norm. -/
theorem norm_at (b : Fin 8) (t : Fin 4096) (d : Fin 1024) :
    val_main_v23 (F := Ideal) x0 x1 x2 (ix3 b t d) = adapted (fun k => x0 (ix3 b t k)) (fun k => x2 (ix2 0 k))
      (part (fun k => x1 (ix3 b 0 k)) 1) (part (fun k => x1 (ix3 b 0 k)) 0) d := by
  rw [adapted, part0]
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v1, val_main_v0, val_main_cst, val_main_cst_0, val_main_cst_1, val_main_cst_2, one, width, eps, part]

/-- The gates before the sigmoid. -/
theorem gates_at (b : Fin 8) (t : Fin 4096) (n : Fin 4) (d : Fin 1024) :
    val_main_v26 (F := Ideal) x0 x1 x2 x8 (ix4 b t n d) = ∑ k, val_main_v23 (F := Ideal) x0 x1 x2 (ix3 b t k) * x8 (ix2 k (column n d)) := by
  have hi : idx_main_v26 (ix4 b t n d) = ix3 b t (column n d) := by
    funext a
    refine Fin.ext ?_
    match a with
    | ⟨0, _⟩ => show (((b.val * 4096 + t.val) * 4 + n.val) * 1024 + d.val) / 16777216 = b.val; omega
    | ⟨1, _⟩ => show (((b.val * 4096 + t.val) * 4 + n.val) * 1024 + d.val) / 4096 % 4096 = t.val; omega
    | ⟨2, _⟩ => show (((b.val * 4096 + t.val) * 4 + n.val) * 1024 + d.val) % 4096 = 1024 * n.val + d.val; omega
  rw [val_main_v26_apply, hi, val_main_v25_apply]
  refine Finset.sum_congr rfl fun k _ => ?_
  have hl : lidx_main_v25 (ix3 b t (column n d)) k = ix3 b t k := eq_ix3 _
  have hr : ridx_main_v25 (ix3 b t (column n d)) k = ix2 k (column n d) := eq_ix2 _
  rw [hl, hr, val_main_v24_apply]
  rfl

/-- The gates. -/
theorem gate_at (b : Fin 8) (t : Fin 4096) (n : Fin 4) (d : Fin 1024) :
    val_main_v32 (F := Ideal) x0 x1 x2 x8 (ix4 b t n d)
      = sigmoid (∑ k, val_main_v23 (F := Ideal) x0 x1 x2 (ix3 b t k) * x8 (ix2 k (column n d))) := by
  rw [← gates_at]
  generalize hy : val_main_v26 (F := Ideal) x0 x1 x2 x8 = y
  pointwise [val_main_v32, val_main_v31, val_main_v30, val_main_v29, val_main_v28, val_main_v27, val_main_cst_3, val_main_cst_4, hy, sigmoid, one]

/-- Branch 0. -/
theorem branch0_at (b : Fin 8) (t : Fin 4096) (d : Fin 1024) :
    val_main_v40 (F := Ideal) x0 x1 x2 x4 x8 x9 (ix3 b t d) = branch (fun k => val_main_v23 (F := Ideal) x0 x1 x2 (ix3 b t k))
      (fun k => x8 (ix2 k (column 0 d))) (fun k => x4 (ix3 b t k)) (fun k => x9 (ix3 0 k d)) := by
  have hg : val_main_v34 (F := Ideal) x0 x1 x2 x8 (ix3 b t d) = val_main_v32 (F := Ideal) x0 x1 x2 x8 (ix4 b t 0 d) := by
    generalize hy : val_main_v32 (F := Ideal) x0 x1 x2 x8 = y
    pointwise [val_main_v34, val_main_v33, hy]
  have hd : val_main_v39 (F := Ideal) x4 x9 (ix3 b t d) = ∑ k, x4 (ix3 b t k) * x9 (ix3 0 k d) := by
    pointwise [val_main_v39, val_main_v38, val_main_v37, val_main_v36, val_main_v35]
  rw [val_main_v40_apply, hg, hd, gate_at]
  rfl

/-- Branch 1. -/
theorem branch1_at (b : Fin 8) (t : Fin 4096) (d : Fin 1024) :
    val_main_v48 (F := Ideal) x0 x1 x2 x5 x8 x9 (ix3 b t d) = branch (fun k => val_main_v23 (F := Ideal) x0 x1 x2 (ix3 b t k))
      (fun k => x8 (ix2 k (column 1 d))) (fun k => x5 (ix3 b t k)) (fun k => x9 (ix3 1 k d)) := by
  have hg : val_main_v42 (F := Ideal) x0 x1 x2 x8 (ix3 b t d) = val_main_v32 (F := Ideal) x0 x1 x2 x8 (ix4 b t 1 d) := by
    generalize hy : val_main_v32 (F := Ideal) x0 x1 x2 x8 = y
    pointwise [val_main_v42, val_main_v41, hy]
  have hd : val_main_v47 (F := Ideal) x5 x9 (ix3 b t d) = ∑ k, x5 (ix3 b t k) * x9 (ix3 1 k d) := by
    pointwise [val_main_v47, val_main_v46, val_main_v45, val_main_v44, val_main_v43]
  rw [val_main_v48_apply, hg, hd, gate_at]
  rfl

/-- Branch 2. -/
theorem branch2_at (b : Fin 8) (t : Fin 4096) (d : Fin 1024) :
    val_main_v57 (F := Ideal) x0 x1 x2 x6 x8 x9 (ix3 b t d) = branch (fun k => val_main_v23 (F := Ideal) x0 x1 x2 (ix3 b t k))
      (fun k => x8 (ix2 k (column 2 d))) (fun k => x6 (ix3 b t k)) (fun k => x9 (ix3 2 k d)) := by
  have hg : val_main_v51 (F := Ideal) x0 x1 x2 x8 (ix3 b t d) = val_main_v32 (F := Ideal) x0 x1 x2 x8 (ix4 b t 2 d) := by
    generalize hy : val_main_v32 (F := Ideal) x0 x1 x2 x8 = y
    pointwise [val_main_v51, val_main_v50, hy]
  have hd : val_main_v56 (F := Ideal) x6 x9 (ix3 b t d) = ∑ k, x6 (ix3 b t k) * x9 (ix3 2 k d) := by
    pointwise [val_main_v56, val_main_v55, val_main_v54, val_main_v53, val_main_v52]
  rw [val_main_v57_apply, hg, hd, gate_at]
  rfl

/-- Branch 3. -/
theorem branch3_at (b : Fin 8) (t : Fin 4096) (d : Fin 1024) :
    val_main_v66 (F := Ideal) x0 x1 x2 x7 x8 x9 (ix3 b t d) = branch (fun k => val_main_v23 (F := Ideal) x0 x1 x2 (ix3 b t k))
      (fun k => x8 (ix2 k (column 3 d))) (fun k => x7 (ix3 b t k)) (fun k => x9 (ix3 3 k d)) := by
  have hg : val_main_v60 (F := Ideal) x0 x1 x2 x8 (ix3 b t d) = val_main_v32 (F := Ideal) x0 x1 x2 x8 (ix4 b t 3 d) := by
    generalize hy : val_main_v32 (F := Ideal) x0 x1 x2 x8 = y
    pointwise [val_main_v60, val_main_v59, hy]
  have hd : val_main_v65 (F := Ideal) x7 x9 (ix3 b t d) = ∑ k, x7 (ix3 b t k) * x9 (ix3 3 k d) := by
    pointwise [val_main_v65, val_main_v64, val_main_v63, val_main_v62, val_main_v61]
  rw [val_main_v66_apply, hg, hd, gate_at]
  rfl

/-- The merged branches. -/
theorem merged_at (b : Fin 8) (t : Fin 4096) (d : Fin 1024) :
    val_main_v67 (F := Ideal) x0 x1 x2 x4 x5 x6 x7 x8 x9 (ix3 b t d) = merged (fun k => val_main_v23 (F := Ideal) x0 x1 x2 (ix3 b t k))
      (fun j k => x8 (ix2 k (column j d))) (fun j k => ![x4, x5, x6, x7] j (ix3 b t k)) (fun j k => x9 (ix3 j k d)) := by
  rw [val_main_v67_apply, val_main_v58_apply, val_main_v49_apply, branch0_at, branch1_at, branch2_at, branch3_at]
  rfl

/-- The first result. -/
theorem first_at (b : Fin 8) (t : Fin 4096) (d : Fin 1024) :
    val_main_v72 (F := Ideal) x0 x1 x2 x4 x5 x6 x7 x8 x9 x10 (ix3 b t d) = first (fun k => x0 (ix3 b t k)) (fun k => x1 (ix3 b 0 k)) (fun k => x2 (ix2 0 k))
      (fun j k => ![x4, x5, x6, x7] j (ix3 b t k)) (fun k e => x8 (ix2 k e)) (fun j k e => x9 (ix3 j k e)) (fun k e => x10 (ix2 k e)) d := by
  have hg : val_main_v70 (F := Ideal) x1 (ix3 b t d) = part (fun k => x1 (ix3 b 0 k)) 2 d := by
    pointwise [val_main_v70, val_main_v2, part]
  have hm : val_main_v69 (F := Ideal) x0 x1 x2 x4 x5 x6 x7 x8 x9 x10 (ix3 b t d)
      = ∑ k, val_main_v67 (F := Ideal) x0 x1 x2 x4 x5 x6 x7 x8 x9 (ix3 b t k) * x10 (ix2 k d) := by
    rw [val_main_v69_apply]
    refine Finset.sum_congr rfl fun k _ => ?_
    have hl : lidx_main_v69 (ix3 b t d) k = ix3 b t k := eq_ix3 _
    have hr : ridx_main_v69 (ix3 b t d) k = ix2 k d := eq_ix2 _
    rw [hl, hr, val_main_v68_apply]
    rfl
  rw [val_main_v72_apply, val_main_v71_apply, hg, hm]
  simp only [merged_at, norm_at]
  rfl

/-- The second norm. -/
theorem second_at (b : Fin 8) (t : Fin 4096) (d : Fin 1024) :
    val_main_v91 (F := Ideal) x0 x1 x2 x3 x4 x5 x6 x7 x8 x9 x10 (ix3 b t d) = second (first (fun k => x0 (ix3 b t k)) (fun k => x1 (ix3 b 0 k)) (fun k => x2 (ix2 0 k))
      (fun j k => ![x4, x5, x6, x7] j (ix3 b t k)) (fun k e => x8 (ix2 k e)) (fun j k e => x9 (ix3 j k e)) (fun k e => x10 (ix2 k e)))
      (fun k => x1 (ix3 b 0 k)) (fun k => x3 (ix2 0 k)) d := by
  have hf : first (fun k => x0 (ix3 b t k)) (fun k => x1 (ix3 b 0 k)) (fun k => x2 (ix2 0 k))
      (fun j k => ![x4, x5, x6, x7] j (ix3 b t k)) (fun k e => x8 (ix2 k e)) (fun j k e => x9 (ix3 j k e)) (fun k e => x10 (ix2 k e)) = fun d => val_main_v72 (F := Ideal) x0 x1 x2 x4 x5 x6 x7 x8 x9 x10 (ix3 b t d) :=
    funext fun d => (first_at x0 x1 x2 x4 x5 x6 x7 x8 x9 x10 b t d).symm
  rw [hf]
  generalize hy : val_main_v72 (F := Ideal) x0 x1 x2 x4 x5 x6 x7 x8 x9 x10 = y
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v4, val_main_v3, val_main_cst_5, val_main_cst_6, val_main_cst_7, val_main_cst_8, hy, second, adapted, one, width, eps, part]

/-- The scores of the sixteen experts. -/
theorem scores_at (b : Fin 8) (t : Fin 4096) (e : Fin 16) :
    val_main_v93 (F := Ideal) x0 x1 x2 x3 x4 x5 x6 x7 x8 x9 x10 x11 (ix3 b t e)
      = ∑ k, val_main_v91 (F := Ideal) x0 x1 x2 x3 x4 x5 x6 x7 x8 x9 x10 (ix3 b t k) * x11 (ix2 e k) := by
  rw [val_main_v93_apply]
  refine Finset.sum_congr rfl fun k _ => ?_
  have hl : lidx_main_v93 (ix3 b t e) k = ix3 b t k := eq_ix3 _
  have hr : ridx_main_v93 (ix3 b t e) k = ix2 e k := eq_ix2 _
  rw [hl, hr, val_main_v92_apply]
  rfl

/-- A maximum over the experts. -/
theorem fold_at (y : FVec Ideal S8x4096x16 .f32) (z : FVec Ideal S_ .f32) (b : Fin 8) (t : Fin 4096) :
    Host.reduce FloatOps.maximumf y z reducesTo_S8x4096x16_S8x4096_d2 h_S_ (ix2 b t)
      = Finset.univ.fold max (z (Shape.Idx.first h_S_)) fun e => y (ix3 b t e) := by
  pointwise

/-- The maximum that the softmax subtracts. -/
theorem top_at (b : Fin 8) (t : Fin 4096) :
    val_main_v96 (F := Ideal) x0 x1 x2 x3 x4 x5 x6 x7 x8 x9 x10 x11 (ix2 b t)
      = top fun e => val_main_v93 (F := Ideal) x0 x1 x2 x3 x4 x5 x6 x7 x8 x9 x10 x11 (ix3 b t e) := by
  rw [val_main_v96_apply, val_main_v95_apply, val_main_cst_10_apply]
  unfold val_main_v94
  rw [fold_at, val_main_cst_9_apply]
  show max (Ideal.ofBits .f32 0xFF800000#32) (Finset.univ.fold max (Ideal.ofBits .f32 0xFF800000#32) _) = _
  rw [bottom_eq]
  exact max_bot_left _

/-- The affinities. -/
theorem softmax_at (b : Fin 8) (t : Fin 4096) (e : Fin 16) :
    val_main_v104 (F := Ideal) x0 x1 x2 x3 x4 x5 x6 x7 x8 x9 x10 x11 (ix3 b t e)
      = softmax (fun e => val_main_v93 (F := Ideal) x0 x1 x2 x3 x4 x5 x6 x7 x8 x9 x10 x11 (ix3 b t e)) e := by
  rw [softmax, ← top_at]
  generalize hz : val_main_v96 (F := Ideal) x0 x1 x2 x3 x4 x5 x6 x7 x8 x9 x10 x11 = z
  generalize hy : val_main_v93 (F := Ideal) x0 x1 x2 x3 x4 x5 x6 x7 x8 x9 x10 x11 = y
  pointwise [val_main_v104, val_main_v103, val_main_v102, val_main_v101, val_main_v100, val_main_v99, val_main_v98, val_main_v97, val_main_cst_11, hy, hz]

/-- The third result. -/
theorem third_at (b : Fin 8) (g : Fin 32) (e : Fin 16) (n : Fin 128) (t : Fin 4096) (ht : t.val = g.val * 128 + n.val) :
    val_main_v107 (F := Ideal) x0 x1 x2 x3 x4 x5 x6 x7 x8 x9 x10 x11 (ix4 b g e n) = third (second (first (fun k => x0 (ix3 b t k)) (fun k => x1 (ix3 b 0 k)) (fun k => x2 (ix2 0 k))
      (fun j k => ![x4, x5, x6, x7] j (ix3 b t k)) (fun k e => x8 (ix2 k e)) (fun j k e => x9 (ix3 j k e)) (fun k e => x10 (ix2 k e)))
      (fun k => x1 (ix3 b 0 k)) (fun k => x3 (ix2 0 k))) (fun e k => x11 (ix2 e k)) e := by
  have hr : val_main_v107 (F := Ideal) x0 x1 x2 x3 x4 x5 x6 x7 x8 x9 x10 x11 (ix4 b g e n)
      = val_main_v104 (F := Ideal) x0 x1 x2 x3 x4 x5 x6 x7 x8 x9 x10 x11 (ix3 b t e) := by
    have h : t = ⟨g.val * 128 + n.val, by omega⟩ := Fin.ext ht
    rw [h]
    generalize hy : val_main_v104 (F := Ideal) x0 x1 x2 x3 x4 x5 x6 x7 x8 x9 x10 x11 = y
    pointwise [val_main_v107, val_main_v106, hy]
  rw [hr, softmax_at]
  simp only [scores_at, second_at]
  rfl

end Cert.Reference4Ideal.Merged

end
-- ==== Proof.Heads.lean ====
/- The norms and the rotation of the heads, for one token: the reference's form, and the form that the kernel computes over all
   lanes at once. -/
module

public import proofs.«01_k».proof.Proof.Merge
public import proofs.«01_k».proof.Proof.OnlineSoftmax

@[expose] public section

noncomputable section

namespace Cert.Heads

open Idealize.ShloMosaic Cert.Merge

/-- A number that is neither infinity. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type} [Fintype ι] {f : ι → EReal} (h : ∀ i, IsReal (f i)) : IsReal (∑ i, f i) := by
  obtain ⟨g, hg⟩ := Classical.skolem.mp h
  exact ⟨∑ i, g i, by rw [Softmax.coe_sum]; exact Finset.sum_congr rfl fun i _ => hg i⟩

/-- A real less itself is zero. -/
theorem IsReal.sub_self {x : EReal} (h : IsReal x) : x - x = 0 := by
  obtain ⟨a, rfl⟩ := h
  rw [Softmax.sub_real, _root_.sub_self, EReal.coe_zero]

/-- The norms' small constant is a positive real. -/
theorem eps_pos : ∃ r : ℝ, 0 < r ∧ eps = (r : EReal) := by
  unfold eps
  simp [Ideal.ofBits, Ideal.ieee, -EReal.coe_mul]

/-- The reciprocal root of a mean of squares, `w` numbers. -/
def scaled {n : ℕ} (w : EReal) (z : Fin n → EReal) : EReal := Ideal.rsqrt (Ideal.div (∑ k, z k * z k) w + eps)

/-- With reals it is a real that is not negative. -/
theorem scaled_real {n : ℕ} {w : ℝ} (hw : 0 < w) {z : Fin n → EReal} (h : ∀ k, IsReal (z k)) :
    ∃ r : ℝ, 0 ≤ r ∧ scaled (w : EReal) z = (r : EReal) := by
  obtain ⟨g, hg⟩ := Classical.skolem.mp h
  obtain ⟨e, he, hee⟩ := eps_pos
  have hs : 0 ≤ ∑ k, g k * g k := Finset.sum_nonneg fun k _ => mul_self_nonneg (g k)
  have hp : 0 < (∑ k, g k * g k) * (1 / w) + e := by positivity
  refine ⟨(Real.sqrt ((∑ k, g k * g k) * (1 / w) + e))⁻¹, by positivity, ?_⟩
  unfold scaled
  simp only [hg, hee, ← EReal.coe_mul, ← Softmax.coe_sum]
  rw [Ideal.div_coe hw.ne', ← EReal.coe_mul, ← EReal.coe_add, Ideal.rsqrt_coe, if_neg (not_lt.2 hp.le), if_neg hp.ne']

/-- A number times the reciprocal root of a mean of squares that counts it is real, whatever the numbers. -/
theorem mul_scaled_real {n : ℕ} {w : ℝ} (hw : 0 < w) (z : Fin n → EReal) (d : Fin n) : IsReal (z d * scaled (w : EReal) z) := by
  obtain ⟨e, he, hee⟩ := eps_pos
  by_cases h : ∀ k, IsReal (z k)
  · obtain ⟨r, _, hr⟩ := scaled_real hw h
    obtain ⟨a, ha⟩ := h d
    exact ⟨a * r, by rw [hr, ha, EReal.coe_mul]⟩
  · obtain ⟨k, hk⟩ := not_forall.1 h
    have hsq : ∀ i, 0 ≤ z i * z i := fun i => by
      rcases le_total 0 (z i) with h | h
      · exact mul_nonneg h h
      · have := mul_nonneg (EReal.neg_nonneg.2 h) (EReal.neg_nonneg.2 h)
        rwa [neg_mul_neg] at this
    have hk2 : z k * z k = ⊤ := by
      induction hx : z k using EReal.rec with
      | bot => rfl
      | coe r => exact absurd ⟨r, hx⟩ hk
      | top => rfl
    have hs : ∑ i, z i * z i = ⊤ := top_le_iff.1 (hk2 ▸ Finset.single_le_sum (fun i _ => hsq i) (Finset.mem_univ k))
    refine ⟨0, ?_⟩
    unfold scaled
    rw [hs, Ideal.div_coe hw.ne', hee, EReal.top_mul_coe_of_pos (by positivity), EReal.top_add_coe]
    exact mul_zero _

/-- The token's adaptive norm is real, whatever the token, when the gain and the modulation are. -/
theorem adapted_real (x : Fin 1024 → EReal) {g sc sh : Fin 1024 → EReal} (hg : ∀ k, IsReal (g k)) (hc : ∀ k, IsReal (sc k)) (hh : ∀ k, IsReal (sh k))
    (d : Fin 1024) : IsReal (adapted x g sc sh d) := by
  have hw : width = ((1024 : ℝ) : EReal) := by
    unfold width
    simp [Ideal.ofBits, Ideal.ieee, -EReal.coe_mul]
    norm_num
  have ho : IsReal one := ⟨1, by unfold one; rw [one_eq]; rfl⟩
  have h := mul_scaled_real (w := 1024) (by norm_num) x d
  unfold adapted
  rw [hw]
  exact ((h.mul (hg d)).mul (ho.add (hc d))).add (hh d)

/-- A head's norm at a coordinate. -/
def plain {n : ℕ} (w : EReal) (z g : Fin n → EReal) (d : Fin n) : EReal := z d * scaled w z * g d

/-- The rotation's partner of a coordinate: chunks of `2 * f` coordinates, the halves exchanged, the first negated. -/
def partner {n : ℕ} (f : ℕ) (y : Fin n → EReal) (d : Fin n) : EReal :=
  if d.val % (2 * f) < f then -y ⟨(d.val + f) % n, Nat.mod_lt _ (Nat.zero_lt_of_lt d.isLt)⟩ else y ⟨d.val - f, (Nat.sub_le _ _).trans_lt d.isLt⟩

/-- A head's norm, rotated. -/
def turned {n : ℕ} (f : ℕ) (w : EReal) (z g c s : Fin n → EReal) (d : Fin n) : EReal :=
  plain w z g d * c d + partner f (plain w z g) d * s d

/-- The kernel's rotation at a coordinate: the two neighbours, each with its masked sine, scaled at the end. -/
theorem turned_of_masked {n : ℕ} {f : ℕ} {w : ℝ} (hw : 0 < w) {z g c s : Fin n → EReal} (hz : ∀ k, IsReal (z k)) (d : Fin n) (u v a b : EReal)
    (ha : a = if d.val % (2 * f) < f then -s d else 0) (hb : b = if d.val % (2 * f) < f then 0 else s d)
    (hu : d.val % (2 * f) < f → u = z ⟨(d.val + f) % n, Nat.mod_lt _ (Nat.zero_lt_of_lt d.isLt)⟩ * g ⟨(d.val + f) % n, Nat.mod_lt _ (Nat.zero_lt_of_lt d.isLt)⟩)
    (hv : ¬ d.val % (2 * f) < f → v = z ⟨d.val - f, (Nat.sub_le _ _).trans_lt d.isLt⟩ * g ⟨d.val - f, (Nat.sub_le _ _).trans_lt d.isLt⟩) :
    (z d * g d * c d + u * a + v * b) * scaled (w : EReal) z = turned f w z g c s d := by
  obtain ⟨r, hr, hs⟩ := scaled_real hw hz
  unfold turned partner plain
  rw [hs, ha, hb]
  by_cases h : d.val % (2 * f) < f
  · simp only [h, if_true]
    rw [hu h, mul_zero, add_zero, EReal.right_distrib_of_nonneg_of_ne_top (by exact_mod_cast hr) (EReal.coe_ne_top r)]
    congr 1
    · ac_rfl
    · rw [mul_neg, neg_mul, neg_mul]; congr 1; ac_rfl
  · simp only [h, if_false]
    rw [hv h, mul_zero, add_zero, EReal.right_distrib_of_nonneg_of_ne_top (by exact_mod_cast hr) (EReal.coe_ne_top r)]
    congr 1 <;> ac_rfl

/-- A sum over all lanes of numbers that vanish outside a head is the sum over the head. -/
theorem sum_head {m n : ℕ} (e : Fin n → Fin m) (he : Function.Injective e) (f : Fin m → EReal) (h : ∀ l, (∀ k, e k ≠ l) → f l = 0) :
    ∑ l, f l = ∑ k, f (e k) :=
  (Fintype.sum_of_injective e he (fun k => f (e k)) f (fun l hl => h l fun k hk => hl ⟨k, hk⟩) fun _ => rfl).symm

end Cert.Heads

end
-- ==== Proof.Lanes.lean ====
/-
# The mean of squares of a head among many lanes

The kernel sums the squares of every head of a row in one product with a table of ones and zeros, takes the
reciprocal roots, and spreads them back over the heads' lanes in a second product. Both products are made of a
number's short form and of what the short form leaves; over the reals the second part is zero.
-/
module

public import proofs.«01_k».proof.Proof.Heads
public import Idealize.ShloMosaic.Lib.Pointwise

@[expose] public section

noncomputable section

namespace Cert.Heads

open Idealize.ShloMosaic Cert.Merge

/-- Whether lane `l` belongs to head `h`, heads of `n` lanes. -/
abbrev own (n l h : ℕ) : BitVec 1 := BitVec.ofBool (decide (l / n = h))

/-- A choice by `own` is a choice by the head's number. -/
theorem select_own (n l h : ℕ) (a b : EReal) : Scalar.select (α := EReal) (own n l h) a b = if l / n = h then a else b := by
  unfold Scalar.select own
  by_cases hh : l / n = h <;> simp [hh]

/-- The lane of coordinate `k` of head `h`. -/
def lane {n L : ℕ} (h : ℕ) (hL : n * h + n ≤ L) (k : Fin n) : Fin L := ⟨n * h + k.val, by have := k.isLt; omega⟩

/-- The sum of squares over the lanes that belong to a head. -/
theorem lane_sum {n L : ℕ} (hn : 0 < n) {h : ℕ} (hL : n * h + n ≤ L) {z : Fin L → EReal} (hz : ∀ l, IsReal (z l)) :
    ∑ l : Fin L, (if l.val / n = h then z l * z l else 0) + ∑ l : Fin L, (if l.val / n = h then z l * z l - z l * z l else 0)
      = ∑ k : Fin n, z (lane h hL k) * z (lane h hL k) := by
  have h0 : ∀ l : Fin L, (if l.val / n = h then z l * z l - z l * z l else 0) = 0 := fun l => by
    rw [((hz l).mul (hz l)).sub_self, ite_self]
  rw [Finset.sum_congr rfl fun l _ => h0 l, Finset.sum_const_zero, add_zero,
    sum_head (lane h hL) (fun a b hab => Fin.ext (by have := congrArg Fin.val hab; simp only [lane] at this; omega))]
  · refine Finset.sum_congr rfl fun k _ => ?_
    rw [if_pos]
    have hk := k.isLt
    show (n * h + k.val) / n = h
    rw [Nat.mul_add_div (by omega), Nat.div_eq_of_lt hk, add_zero]
  · intro l hl
    rw [if_neg]
    intro hh
    refine hl ⟨l.val % n, Nat.mod_lt _ hn⟩ (Fin.ext ?_)
    show n * h + l.val % n = l.val
    rw [← hh, Nat.div_add_mod]

/-- The number of a lane's head, spread back over the lanes. -/
theorem lane_spread {H : ℕ} (h : Fin H) {f : Fin H → EReal} (hf : IsReal (f h)) :
    ∑ a : Fin H, (if h.val = a.val then f a else 0) + ∑ a : Fin H, (if h.val = a.val then f a - f a else 0) = f h := by
  have hs : ∀ g : Fin H → EReal, ∑ a : Fin H, (if h.val = a.val then g a else 0) = g h := fun g => by
    rw [Finset.sum_eq_single h (fun b _ hb => if_neg fun he => hb (Fin.ext he.symm)) (fun hb => absurd (Finset.mem_univ h) hb), if_pos rfl]
  rw [hs, hs, hf.sub_self, add_zero]

/-- The number that the two products give a lane of head `h`. -/
abbrev spread {L : ℕ} (n : ℕ) (inv : EReal) (z : Fin L → EReal) (l : ℕ) : EReal :=
  ∑ a : Fin 128, Scalar.select (α := EReal) (own n l a.val)
        (Ideal.rsqrt ((∑ b : Fin L, Scalar.select (α := EReal) (own n b.val a.val) (z b * z b) 0
          + ∑ b : Fin L, Scalar.select (α := EReal) (own n b.val a.val) (z b * z b - z b * z b) 0) * inv + eps)) 0
      + ∑ a : Fin 128, Scalar.select (α := EReal) (own n l a.val)
        (Ideal.rsqrt ((∑ b : Fin L, Scalar.select (α := EReal) (own n b.val a.val) (z b * z b) 0
          + ∑ b : Fin L, Scalar.select (α := EReal) (own n b.val a.val) (z b * z b - z b * z b) 0) * inv + eps)
          - Ideal.rsqrt ((∑ b : Fin L, Scalar.select (α := EReal) (own n b.val a.val) (z b * z b) 0
          + ∑ b : Fin L, Scalar.select (α := EReal) (own n b.val a.val) (z b * z b - z b * z b) 0) * inv + eps)) 0

/-- The two products together: a lane's number is the reciprocal root of its head's mean of squares. -/
theorem spread_eq {n L : ℕ} (hn : 0 < n) {w : ℝ} (hw : w = n) {inv : EReal} (hi : inv = ((1 / w : ℝ) : EReal)) {z : Fin L → EReal}
    (hz : ∀ l, IsReal (z l)) (l : ℕ) {h : ℕ} (hl : l / n = h) (hL : n * h + n ≤ L) (hH : h < 128) :
    spread n inv z l = scaled (w : EReal) fun k : Fin n => z (lane h hL k) := by
  subst hl
  unfold spread
  simp only [select_own]
  have hn' : (0 : ℝ) < w := by rw [hw]; exact_mod_cast hn
  have hs : Ideal.rsqrt ((∑ b : Fin L, (if b.val / n = l / n then z b * z b else 0)
      + ∑ b : Fin L, (if b.val / n = l / n then z b * z b - z b * z b else 0)) * inv + eps)
      = scaled (w : EReal) fun k : Fin n => z (lane (l / n) hL k) := by
    rw [lane_sum hn hL hz, hi, scaled, Ideal.div_coe hn'.ne']
  obtain ⟨r, _, hr⟩ := scaled_real hn' (z := fun k : Fin n => z (lane (l / n) hL k)) fun k => hz _
  refine (lane_spread (⟨l / n, hH⟩ : Fin 128) (f := fun a : Fin 128 => Ideal.rsqrt ((∑ b : Fin L, (if b.val / n = a.val then z b * z b else 0)
      + ∑ b : Fin L, (if b.val / n = a.val then z b * z b - z b * z b else 0)) * inv + eps)) ?_).trans hs
  exact ⟨r, hs.trans hr⟩

/-- The sine of a lane that takes its right neighbour: minus the sine in the first half of a chunk, zero in the second. -/
def low {n : ℕ} (f : ℕ) (s : Fin n → EReal) (d : Fin n) : EReal := if d.val % (2 * f) < f then -s d else 0

/-- The sine of a lane that takes its left neighbour: zero in the first half of a chunk, the sine in the second. -/
def high {n : ℕ} (f : ℕ) (s : Fin n → EReal) (d : Fin n) : EReal := if d.val % (2 * f) < f then 0 else s d

/-- The kernel's norm and rotation at a lane: the norm's gain, the two neighbours with their sines, and the spread reciprocal root. -/
theorem rotated {n L : ℕ} (f : ℕ) (hn : 0 < n) {w : ℝ} (hw : w = n) {inv : EReal} (hi : inv = ((1 / w : ℝ) : EReal)) {z g : Fin L → EReal}
    (hz : ∀ l, IsReal (z l)) {G c s : Fin n → EReal} {h : ℕ} (hL : n * h + n ≤ L) (hH : h < 128) (hg : ∀ d, g (lane h hL d) = G d) (d : Fin n)
    (l u v : Fin L) (hl : l.val = n * h + d.val) {C A B : EReal} (hC : C = c d) (hA : A = low f s d) (hB : B = high f s d)
    (hu : d.val % (2 * f) < f → u.val = n * h + (d.val + f) % n) (hv : ¬ d.val % (2 * f) < f → v.val = n * h + (d.val - f)) :
    (z l * g l * C + z u * g u * A + z v * g v * B) * spread n inv z l.val = turned f (w : EReal) (fun k : Fin n => z (lane h hL k)) G c s d := by
  have hn' : (0 : ℝ) < w := by rw [hw]; exact_mod_cast hn
  have hd : l.val / n = h := by rw [hl, Nat.mul_add_div hn, Nat.div_eq_of_lt d.isLt, add_zero]
  have e : l = lane h hL d := Fin.ext hl
  rw [spread_eq hn hw hi hz l.val hd hL hH]
  subst e
  rw [hg, hC]
  refine turned_of_masked hn' (fun k => hz _) d _ _ A B hA hB (fun hh => ?_) (fun hh => ?_)
  · have e : u = lane h hL ⟨(d.val + f) % n, Nat.mod_lt _ hn⟩ := Fin.ext (hu hh)
    rw [e, hg]
  · have e : v = lane h hL ⟨d.val - f, (Nat.sub_le _ _).trans_lt d.isLt⟩ := Fin.ext (hv hh)
    rw [e, hg]

/-- The kernel's norm at a lane, without rotation. -/
theorem normed {n L : ℕ} (hn : 0 < n) {w : ℝ} (hw : w = n) {inv : EReal} (hi : inv = ((1 / w : ℝ) : EReal)) {z g : Fin L → EReal}
    (hz : ∀ l, IsReal (z l)) {G : Fin n → EReal} {h : ℕ} (hL : n * h + n ≤ L) (hH : h < 128) (hg : ∀ d, g (lane h hL d) = G d) (d : Fin n)
    (l : Fin L) (hl : l.val = n * h + d.val) :
    z l * g l * spread n inv z l.val = plain (w : EReal) (fun k : Fin n => z (lane h hL k)) G d := by
  have hd : l.val / n = h := by rw [hl, Nat.mul_add_div hn, Nat.div_eq_of_lt d.isLt, add_zero]
  have e : l = lane h hL d := Fin.ext hl
  rw [spread_eq hn hw hi hz l.val hd hL hH]
  subst e
  rw [hg]
  exact mul_right_comm _ _ _

/-- One sixty-fourth, as the kernel writes it. -/
theorem inv64 : Ideal.ofBits .f32 0x3C800000#32 = ((1 / (64 : ℝ) : ℝ) : EReal) := by
  simp [Ideal.ofBits, Ideal.ieee, -EReal.coe_mul]
  norm_num

/-- One thirty-second, as the kernel writes it. -/
theorem inv32 : Ideal.ofBits .f32 0x3D000000#32 = ((1 / (32 : ℝ) : ℝ) : EReal) := by
  simp [Ideal.ofBits, Ideal.ieee, -EReal.coe_mul]
  norm_num

/-- Thirty-two, as both programs write it. -/
theorem const32 : Ideal.ofBits .f32 0x42000000#32 = ((32 : ℝ) : EReal) := by
  simp [Ideal.ofBits, Ideal.ieee, -EReal.coe_mul]
  norm_num

/-- Sixty-four, as the reference writes it. -/
theorem const64 : Ideal.ofBits .f32 0x42800000#32 = ((64 : ℝ) : EReal) := by
  simp [Ideal.ofBits, Ideal.ieee, -EReal.coe_mul]
  norm_num

/-- Two hundred and fifty-six, as both programs write it. -/
theorem const256 : Ideal.ofBits .f32 0x43800000#32 = ((256 : ℝ) : EReal) := by
  simp [Ideal.ofBits, Ideal.ieee, -EReal.coe_mul]
  norm_num

/-- Three hundred and eighty-four, as both programs write it. -/
theorem const384 : Ideal.ofBits .f32 0x43C00000#32 = ((384 : ℝ) : EReal) := by
  simp [Ideal.ofBits, Ideal.ieee, -EReal.coe_mul]
  norm_num

end Cert.Heads

end
-- ==== Proof.Token.lean ====
/-
# A token's projections

What the first pass computes of one token: the adaptive norm, the projection to every mixer's queries, keys and
values, the heads' norms with their rotation, and mixer C's latent queries, keys and values.
-/
module

public import proofs.«01_k».proof.Proof.Heads

@[expose] public section

noncomputable section

namespace Cert.Heads

open Cert.Merge

/-- What one token's projections are made of: the token `x` with the first norm's gain `g`, scale `sc` and shift `sh`, the
    weights `w`, `up`, `kvup`, the gains of the heads' norms and of the two latent norms, and the rotation's cosines and sines. -/
structure Row where
  x : Fin 1024 → EReal
  g : Fin 1024 → EReal
  sc : Fin 1024 → EReal
  sh : Fin 1024 → EReal
  w : Fin 1024 → Fin 3840 → EReal
  aq : Fin 64 → EReal
  ak : Fin 64 → EReal
  bq : Fin 64 → EReal
  bk : Fin 64 → EReal
  cqa : Fin 384 → EReal
  ckva : Fin 256 → EReal
  up : Fin 384 → Fin 768 → EReal
  kvup : Fin 256 → Fin 1024 → EReal
  cq : Fin 64 → EReal
  ck : Fin 64 → EReal
  cqr : Fin 32 → EReal
  ckr : Fin 32 → EReal
  dq : Fin 64 → EReal
  dk : Fin 64 → EReal
  c64 : Fin 64 → EReal
  s64 : Fin 64 → EReal
  c32 : Fin 32 → EReal
  s32 : Fin 32 → EReal

namespace Row

variable (r : Row)

/-- The normed token. -/
def hid : Fin 1024 → EReal := adapted r.x r.g r.sc r.sh

/-- A column of the input projection. -/
def col (j : Fin 3840) : EReal := ∑ k, r.hid k * r.w k j

/-- `n` columns of the input projection, from column `o`. -/
def cols (o n : ℕ) (h : o + n ≤ 3840) (k : Fin n) : EReal := r.col ⟨o + k.val, by have := k.isLt; omega⟩

/-- Mixer C's latent query, normed. -/
def latq : Fin 384 → EReal := plain ((384 : ℝ) : EReal) (r.cols 2304 384 (by omega)) r.cqa

/-- Mixer C's latent key and value, normed. -/
def latkv : Fin 256 → EReal := plain ((256 : ℝ) : EReal) (r.cols 2688 256 (by omega)) r.ckva

/-- A column of mixer C's queries before their norms. -/
def zq (j : Fin 768) : EReal := ∑ k, r.latq k * r.up k j

/-- A column of mixer C's keys before their norms, and of its values. -/
def kv (j : Fin 1024) : EReal := ∑ k, r.latkv k * r.kvup k j

/-- A head of 64 coordinates from column `o`, normed with gain `g` and rotated. -/
def head64 (o : ℕ) (ho : o + 64 ≤ 3840) (g : Fin 64 → EReal) (d : Fin 64) : EReal :=
  turned 16 ((64 : ℝ) : EReal) (r.cols o 64 ho) g r.c64 r.s64 d

/-- Mixer A's query. -/
def qa (h : Fin 8) : Fin 64 → EReal := r.head64 (0 + 64 * h.val) (by omega) r.aq
/-- Mixer A's key. -/
def ka (h : Fin 8) : Fin 64 → EReal := r.head64 (512 + 64 * h.val) (by omega) r.ak
/-- Mixer A's value. -/
def va (h : Fin 4) (d : Fin 128) : EReal := r.col ⟨1024 + (128 * h.val + d.val), by omega⟩
/-- Mixer B's query. -/
def qb (h : Fin 8) : Fin 64 → EReal := r.head64 (1536 + 64 * h.val) (by omega) r.bq
/-- Mixer B's key. -/
def kb (h : Fin 2) : Fin 64 → EReal := r.head64 (2048 + 64 * h.val) (by omega) r.bk
/-- Mixer B's value. -/
def vb (h : Fin 2) (d : Fin 64) : EReal := r.col ⟨2176 + (64 * h.val + d.val), by omega⟩
/-- Mixer D's query. -/
def qd (h : Fin 8) : Fin 64 → EReal := r.head64 (3072 + 64 * h.val) (by omega) r.dq
/-- Mixer D's key. -/
def kd (h : Fin 2) : Fin 64 → EReal := r.head64 (3584 + 64 * h.val) (by omega) r.dk
/-- Mixer D's value. -/
def vd (h : Fin 2) (d : Fin 64) : EReal := r.col ⟨3712 + (64 * h.val + d.val), by omega⟩

/-- The part of mixer C's query without rotation. -/
def qnope (h : Fin 8) : Fin 64 → EReal := plain ((64 : ℝ) : EReal) (fun k : Fin 64 => r.zq ⟨64 * h.val + k.val, by omega⟩) r.cq
/-- The rotated part of mixer C's query. -/
def qrope (h : Fin 8) : Fin 32 → EReal :=
  turned 8 ((32 : ℝ) : EReal) (fun k : Fin 32 => r.zq ⟨512 + (32 * h.val + k.val), by omega⟩) r.cqr r.c32 r.s32
/-- The part of mixer C's key without rotation. -/
def knope (h : Fin 8) : Fin 64 → EReal := plain ((64 : ℝ) : EReal) (fun k : Fin 64 => r.kv ⟨64 * h.val + k.val, by omega⟩) r.ck
/-- The rotated part of mixer C's key, one for all heads. -/
def krope : Fin 32 → EReal := turned 8 ((32 : ℝ) : EReal) (r.cols 2944 32 (by omega)) r.ckr r.c32 r.s32

/-- Two parts side by side, and zeros up to 128 coordinates. -/
def padded (a : Fin 64 → EReal) (b : Fin 32 → EReal) (d : Fin 128) : EReal :=
  if h : d.val < 64 then a ⟨d.val, h⟩ else if h' : d.val - 64 < 32 then b ⟨d.val - 64, h'⟩ else 0

/-- Mixer C's query. -/
def qc (h : Fin 8) : Fin 128 → EReal := padded (r.qnope h) (r.qrope h)
/-- Mixer C's key. -/
def kc (h : Fin 8) : Fin 128 → EReal := padded (r.knope h) r.krope
/-- Mixer C's value. -/
def vc (h : Fin 8) (d : Fin 64) : EReal := r.kv ⟨512 + (64 * h.val + d.val), by omega⟩

/-- The scale, the shift, the gains before a product and the weights are real. -/
structure Finite : Prop where
  g : ∀ k, IsReal (r.g k)
  sc : ∀ k, IsReal (r.sc k)
  sh : ∀ k, IsReal (r.sh k)
  w : ∀ k j, IsReal (r.w k j)
  cqa : ∀ k, IsReal (r.cqa k)
  ckva : ∀ k, IsReal (r.ckva k)
  up : ∀ k j, IsReal (r.up k j)
  kvup : ∀ k j, IsReal (r.kvup k j)

variable {r}

/-- Then the columns of the input projection are real, whatever the token. -/
theorem Finite.col (hr : r.Finite) (j : Fin 3840) : IsReal (r.col j) :=
  IsReal.sum fun k => (adapted_real r.x hr.g hr.sc hr.sh k).mul (hr.w k j)

/-- So are the columns of mixer C's queries. -/
theorem Finite.zq (hr : r.Finite) (j : Fin 768) : IsReal (r.zq j) :=
  IsReal.sum fun k => ((mul_scaled_real (by norm_num) _ k).mul (hr.cqa k)).mul (hr.up k j)

/-- So are the columns of mixer C's keys and values. -/
theorem Finite.kv (hr : r.Finite) (j : Fin 1024) : IsReal (r.kv j) :=
  IsReal.sum fun k => ((mul_scaled_real (by norm_num) _ k).mul (hr.ckva k)).mul (hr.kvup k j)

end Row

section Arrays

open Idealize.ShloMosaic

variable (x0 : FVec Ideal ⟨3, ![8, 4096, 1024]⟩ .f32) (x1 : FVec Ideal ⟨3, ![8, 1, 6144]⟩ .f32) (x2 : FVec Ideal ⟨2, ![1, 1024]⟩ .f32)
  (x3 : FVec Ideal ⟨2, ![1024, 3840]⟩ .bf16) (x4 x5 x6 x7 : FVec Ideal ⟨2, ![1, 64]⟩ .f32) (x8 : FVec Ideal ⟨2, ![1, 384]⟩ .f32)
  (x9 : FVec Ideal ⟨2, ![1, 256]⟩ .f32) (x10 : FVec Ideal ⟨2, ![384, 768]⟩ .bf16) (x11 : FVec Ideal ⟨2, ![256, 1024]⟩ .bf16)
  (x12 x13 : FVec Ideal ⟨2, ![1, 64]⟩ .f32) (x14 x15 : FVec Ideal ⟨2, ![1, 32]⟩ .f32) (x16 x17 : FVec Ideal ⟨2, ![1, 64]⟩ .f32)
  (x18 x19 : FVec Ideal ⟨2, ![4096, 64]⟩ .f32) (x20 x21 : FVec Ideal ⟨2, ![4096, 32]⟩ .f32)

/-- Token `t` of batch `b`, from the arrays both programs are given. -/
def row (b : Fin 8) (t : Fin 4096) : Row where
  x k := x0 (ix3 b t k)
  g k := x2 (ix2 0 k)
  sc k := x1 (ix3 b 0 ⟨1024 + k.val, by omega⟩)
  sh k := x1 (ix3 b 0 ⟨k.val, by omega⟩)
  w k j := x3 (ix2 k j)
  aq k := x4 (ix2 0 k)
  ak k := x5 (ix2 0 k)
  bq k := x6 (ix2 0 k)
  bk k := x7 (ix2 0 k)
  cqa k := x8 (ix2 0 k)
  ckva k := x9 (ix2 0 k)
  up k j := x10 (ix2 k j)
  kvup k j := x11 (ix2 k j)
  cq k := x12 (ix2 0 k)
  ck k := x13 (ix2 0 k)
  cqr k := x14 (ix2 0 k)
  ckr k := x15 (ix2 0 k)
  dq k := x16 (ix2 0 k)
  dk k := x17 (ix2 0 k)
  c64 k := x18 (ix2 t k)
  s64 k := x19 (ix2 t k)
  c32 k := x20 (ix2 t k)
  s32 k := x21 (ix2 t k)

end Arrays

section Results

open Idealize.ShloMosaic

variable {H n : ℕ} (R : Fin 8 → Fin 4096 → Row) (f : Row → Fin H → Fin n → EReal)

/-- An array of heads' rows by token, of what `f` makes of every token. -/
def rows : FVec Ideal ⟨4, ![8, H, 4096, n]⟩ .bf16 := fun i =>
  f (R ⟨(i 0).val, (i 0).isLt⟩ ⟨(i 2).val, (i 2).isLt⟩) ⟨(i 1).val, (i 1).isLt⟩ ⟨(i 3).val, (i 3).isLt⟩

/-- An array of heads' columns by token. -/
def columns : FVec Ideal ⟨4, ![8, H, n, 4096]⟩ .bf16 := fun i =>
  f (R ⟨(i 0).val, (i 0).isLt⟩ ⟨(i 3).val, (i 3).isLt⟩) ⟨(i 1).val, (i 1).isLt⟩ ⟨(i 2).val, (i 2).isLt⟩

/-- An array of rows at an index. -/
theorem rows_at (b : Fin 8) (h : Fin H) (t : Fin 4096) (d : Fin n) : rows R f (ix4 b h t d) = f (R b t) h d := rfl

/-- An array of columns at an index. -/
theorem columns_at (b : Fin 8) (h : Fin H) (t : Fin 4096) (d : Fin n) : columns R f (ix4 b h d t) = f (R b t) h d := rfl

end Results

end Cert.Heads

end
-- ==== Proof.Frame5A.lean ====
/-
# The projections at launch

The host operations before the region, the windows' blocks, and what the body leaves in each output
window's buffer.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The arguments' buffers. -/
def arguments : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- No host operation before the region writes an argument: the region finds it as launched. -/
theorem V_argument (c : Dev nD) {b : Ref sig .tc} (hb : b ∈ arguments) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide))))

theorem V_main_arg0 (c : Dev nD) : V m c main_arg0 = m ((c : Thread nD τ).loc main_arg0) := V_argument m c (by decide)
theorem V_main_arg1 (c : Dev nD) : V m c main_arg1 = m ((c : Thread nD τ).loc main_arg1) := V_argument m c (by decide)
theorem V_main_arg2 (c : Dev nD) : V m c main_arg2 = m ((c : Thread nD τ).loc main_arg2) := V_argument m c (by decide)
theorem V_main_arg3 (c : Dev nD) : V m c main_arg3 = m ((c : Thread nD τ).loc main_arg3) := V_argument m c (by decide)
theorem V_main_arg4 (c : Dev nD) : V m c main_arg4 = m ((c : Thread nD τ).loc main_arg4) := V_argument m c (by decide)
theorem V_main_arg5 (c : Dev nD) : V m c main_arg5 = m ((c : Thread nD τ).loc main_arg5) := V_argument m c (by decide)
theorem V_main_arg6 (c : Dev nD) : V m c main_arg6 = m ((c : Thread nD τ).loc main_arg6) := V_argument m c (by decide)
theorem V_main_arg7 (c : Dev nD) : V m c main_arg7 = m ((c : Thread nD τ).loc main_arg7) := V_argument m c (by decide)
theorem V_main_arg8 (c : Dev nD) : V m c main_arg8 = m ((c : Thread nD τ).loc main_arg8) := V_argument m c (by decide)
theorem V_main_arg9 (c : Dev nD) : V m c main_arg9 = m ((c : Thread nD τ).loc main_arg9) := V_argument m c (by decide)
theorem V_main_arg10 (c : Dev nD) : V m c main_arg10 = m ((c : Thread nD τ).loc main_arg10) := V_argument m c (by decide)
theorem V_main_arg11 (c : Dev nD) : V m c main_arg11 = m ((c : Thread nD τ).loc main_arg11) := V_argument m c (by decide)
theorem V_main_arg12 (c : Dev nD) : V m c main_arg12 = m ((c : Thread nD τ).loc main_arg12) := V_argument m c (by decide)
theorem V_main_arg13 (c : Dev nD) : V m c main_arg13 = m ((c : Thread nD τ).loc main_arg13) := V_argument m c (by decide)
theorem V_main_arg14 (c : Dev nD) : V m c main_arg14 = m ((c : Thread nD τ).loc main_arg14) := V_argument m c (by decide)
theorem V_main_arg15 (c : Dev nD) : V m c main_arg15 = m ((c : Thread nD τ).loc main_arg15) := V_argument m c (by decide)
theorem V_main_arg16 (c : Dev nD) : V m c main_arg16 = m ((c : Thread nD τ).loc main_arg16) := V_argument m c (by decide)
theorem V_main_arg17 (c : Dev nD) : V m c main_arg17 = m ((c : Thread nD τ).loc main_arg17) := V_argument m c (by decide)
theorem V_main_arg18 (c : Dev nD) : V m c main_arg18 = m ((c : Thread nD τ).loc main_arg18) := V_argument m c (by decide)
theorem V_main_arg19 (c : Dev nD) : V m c main_arg19 = m ((c : Thread nD τ).loc main_arg19) := V_argument m c (by decide)
theorem V_main_arg20 (c : Dev nD) : V m c main_arg20 = m ((c : Thread nD τ).loc main_arg20) := V_argument m c (by decide)
theorem V_main_arg21 (c : Dev nD) : V m c main_arg21 = m ((c : Thread nD τ).loc main_arg21) := V_argument m c (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's buffer holds its block at every point. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's buffer holds its block at every point. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's buffer holds its block at every point. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's buffer holds its block at every point. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's buffer holds its block at every point. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's buffer holds its block at every point. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's buffer holds its block at every point. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's buffer holds its block at every point. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's buffer holds its block at every point. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's buffer holds its block at every point. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2160000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

/-! ## The body's accesses -/

abbrev r0_0 : Rect S256x128 := Rect.unit (s := S256x128) ![0, 0] S256x128.size inb_S256x128_S256x128_0_0
abbrev r0_1 : Rect S1x256x1024 := Rect.unit (s := S1x256x1024) ![0, 0, 0] S1x256x1024.size inb_S1x256x1024_S1x256x1024_0_0_0
abbrev r0_2 : Rect S1x1x6144 := Rect.unit (s := S1x1x6144) ![0, 0, 0] S1x1x6144.size inb_S1x1x6144_S1x1x6144_0_0_0
abbrev r0_3 : Rect S1x1024 := Rect.unit (s := S1x1024) ![0, 0] S1x1024.size inb_S1x1024_S1x1024_0_0
abbrev r0_4 : Rect S1024x3840 := Rect.unit (s := S1024x3840) ![0, 0] S1024x512.size inb_S1024x3840_S1024x512_0_0
abbrev r0_5 : Rect S1x512 := Rect.unit (s := S1x512) ![0, 0] S1x512.size inb_S1x512_S1x512_0_0
abbrev r0_6 : Rect S1x8x256x64 := Rect.unit (s := S1x8x256x64) ![0, 0, 0, 0] S1x1x256x64.size inb_S1x8x256x64_S1x1x256x64_0_0_0_0
abbrev r0_7 : Rect S1x8x256x64 := Rect.unit (s := S1x8x256x64) ![0, 1, 0, 0] S1x1x256x64.size inb_S1x8x256x64_S1x1x256x64_0_1_0_0
abbrev r0_8 : Rect S1x8x256x64 := Rect.unit (s := S1x8x256x64) ![0, 2, 0, 0] S1x1x256x64.size inb_S1x8x256x64_S1x1x256x64_0_2_0_0
abbrev r0_9 : Rect S1x8x256x64 := Rect.unit (s := S1x8x256x64) ![0, 3, 0, 0] S1x1x256x64.size inb_S1x8x256x64_S1x1x256x64_0_3_0_0
abbrev r0_10 : Rect S1x8x256x64 := Rect.unit (s := S1x8x256x64) ![0, 4, 0, 0] S1x1x256x64.size inb_S1x8x256x64_S1x1x256x64_0_4_0_0
abbrev r0_11 : Rect S1x8x256x64 := Rect.unit (s := S1x8x256x64) ![0, 5, 0, 0] S1x1x256x64.size inb_S1x8x256x64_S1x1x256x64_0_5_0_0
abbrev r0_12 : Rect S1x8x256x64 := Rect.unit (s := S1x8x256x64) ![0, 6, 0, 0] S1x1x256x64.size inb_S1x8x256x64_S1x1x256x64_0_6_0_0
abbrev r0_13 : Rect S1x8x256x64 := Rect.unit (s := S1x8x256x64) ![0, 7, 0, 0] S1x1x256x64.size inb_S1x8x256x64_S1x1x256x64_0_7_0_0
abbrev r0_14 : Rect S1024x3840 := Rect.unit (s := S1024x3840) ![0, 512] S1024x512.size inb_S1024x3840_S1024x512_0_512
abbrev r0_15 : Rect S1024x3840 := Rect.unit (s := S1024x3840) ![0, 1024] S1024x512.size inb_S1024x3840_S1024x512_0_1024
abbrev r0_16 : Rect S1x4x128x256 := Rect.unit (s := S1x4x128x256) ![0, 0, 0, 0] S1x1x128x256.size inb_S1x4x128x256_S1x1x128x256_0_0_0_0
abbrev r0_17 : Rect S1x4x128x256 := Rect.unit (s := S1x4x128x256) ![0, 1, 0, 0] S1x1x128x256.size inb_S1x4x128x256_S1x1x128x256_0_1_0_0
abbrev r0_18 : Rect S1x4x128x256 := Rect.unit (s := S1x4x128x256) ![0, 2, 0, 0] S1x1x128x256.size inb_S1x4x128x256_S1x1x128x256_0_2_0_0
abbrev r0_19 : Rect S1x4x128x256 := Rect.unit (s := S1x4x128x256) ![0, 3, 0, 0] S1x1x128x256.size inb_S1x4x128x256_S1x1x128x256_0_3_0_0
abbrev r0_20 : Rect S1024x3840 := Rect.unit (s := S1024x3840) ![0, 1536] S1024x512.size inb_S1024x3840_S1024x512_0_1536
abbrev r0_21 : Rect S1024x3840 := Rect.unit (s := S1024x3840) ![0, 2048] S1024x128.size inb_S1024x3840_S1024x128_0_2048
abbrev r0_22 : Rect S1x128 := Rect.unit (s := S1x128) ![0, 0] S1x128.size inb_S1x128_S1x128_0_0
abbrev r0_23 : Rect S1x2x256x64 := Rect.unit (s := S1x2x256x64) ![0, 0, 0, 0] S1x1x256x64.size inb_S1x2x256x64_S1x1x256x64_0_0_0_0
abbrev r0_24 : Rect S1x2x256x64 := Rect.unit (s := S1x2x256x64) ![0, 1, 0, 0] S1x1x256x64.size inb_S1x2x256x64_S1x1x256x64_0_1_0_0
abbrev r0_25 : Rect S1024x3840 := Rect.unit (s := S1024x3840) ![0, 2176] S1024x128.size inb_S1024x3840_S1024x128_0_2176
abbrev r0_26 : Rect S1x2x64x256 := Rect.unit (s := S1x2x64x256) ![0, 0, 0, 0] S1x1x64x256.size inb_S1x2x64x256_S1x1x64x256_0_0_0_0
abbrev r0_27 : Rect S1x2x64x256 := Rect.unit (s := S1x2x64x256) ![0, 1, 0, 0] S1x1x64x256.size inb_S1x2x64x256_S1x1x64x256_0_1_0_0
abbrev r0_28 : Rect S1024x3840 := Rect.unit (s := S1024x3840) ![0, 3072] S1024x512.size inb_S1024x3840_S1024x512_0_3072
abbrev r0_29 : Rect S1024x3840 := Rect.unit (s := S1024x3840) ![0, 3584] S1024x128.size inb_S1024x3840_S1024x128_0_3584
abbrev r0_30 : Rect S1024x3840 := Rect.unit (s := S1024x3840) ![0, 3712] S1024x128.size inb_S1024x3840_S1024x128_0_3712
abbrev r0_31 : Rect S1024x3840 := Rect.unit (s := S1024x3840) ![0, 2304] S1024x384.size inb_S1024x3840_S1024x384_0_2304
abbrev r0_32 : Rect S1x384 := Rect.unit (s := S1x384) ![0, 0] S1x384.size inb_S1x384_S1x384_0_0
abbrev r0_33 : Rect S384x768 := Rect.unit (s := S384x768) ![0, 0] S384x768.size inb_S384x768_S384x768_0_0
abbrev r0_34 : Rect S1x256 := Rect.unit (s := S1x256) ![0, 0] S1x256.size inb_S1x256_S1x256_0_0
abbrev r0_35 : Rect S1x8x256x128 := Rect.unit (s := S1x8x256x128) ![0, 0, 0, 0] S1x1x256x128.size inb_S1x8x256x128_S1x1x256x128_0_0_0_0
abbrev r0_36 : Rect S1x8x256x128 := Rect.unit (s := S1x8x256x128) ![0, 1, 0, 0] S1x1x256x128.size inb_S1x8x256x128_S1x1x256x128_0_1_0_0
abbrev r0_37 : Rect S1x8x256x128 := Rect.unit (s := S1x8x256x128) ![0, 2, 0, 0] S1x1x256x128.size inb_S1x8x256x128_S1x1x256x128_0_2_0_0
abbrev r0_38 : Rect S1x8x256x128 := Rect.unit (s := S1x8x256x128) ![0, 3, 0, 0] S1x1x256x128.size inb_S1x8x256x128_S1x1x256x128_0_3_0_0
abbrev r0_39 : Rect S1x8x256x128 := Rect.unit (s := S1x8x256x128) ![0, 4, 0, 0] S1x1x256x128.size inb_S1x8x256x128_S1x1x256x128_0_4_0_0
abbrev r0_40 : Rect S1x8x256x128 := Rect.unit (s := S1x8x256x128) ![0, 5, 0, 0] S1x1x256x128.size inb_S1x8x256x128_S1x1x256x128_0_5_0_0
abbrev r0_41 : Rect S1x8x256x128 := Rect.unit (s := S1x8x256x128) ![0, 6, 0, 0] S1x1x256x128.size inb_S1x8x256x128_S1x1x256x128_0_6_0_0
abbrev r0_42 : Rect S1x8x256x128 := Rect.unit (s := S1x8x256x128) ![0, 7, 0, 0] S1x1x256x128.size inb_S1x8x256x128_S1x1x256x128_0_7_0_0
abbrev r0_43 : Rect S1024x3840 := Rect.unit (s := S1024x3840) ![0, 2688] S1024x256.size inb_S1024x3840_S1024x256_0_2688
abbrev r0_44 : Rect S1024x3840 := Rect.unit (s := S1024x3840) ![0, 2944] S1024x128.size inb_S1024x3840_S1024x128_0_2944
abbrev r0_45 : Rect S256x1024 := Rect.unit (s := S256x1024) ![0, 0] S256x1024.size inb_S256x1024_S256x1024_0_0
abbrev r0_46 : Rect S1x8x64x256 := Rect.unit (s := S1x8x64x256) ![0, 0, 0, 0] S1x1x64x256.size inb_S1x8x64x256_S1x1x64x256_0_0_0_0
abbrev r0_47 : Rect S1x8x64x256 := Rect.unit (s := S1x8x64x256) ![0, 1, 0, 0] S1x1x64x256.size inb_S1x8x64x256_S1x1x64x256_0_1_0_0
abbrev r0_48 : Rect S1x8x64x256 := Rect.unit (s := S1x8x64x256) ![0, 2, 0, 0] S1x1x64x256.size inb_S1x8x64x256_S1x1x64x256_0_2_0_0
abbrev r0_49 : Rect S1x8x64x256 := Rect.unit (s := S1x8x64x256) ![0, 3, 0, 0] S1x1x64x256.size inb_S1x8x64x256_S1x1x64x256_0_3_0_0
abbrev r0_50 : Rect S1x8x64x256 := Rect.unit (s := S1x8x64x256) ![0, 4, 0, 0] S1x1x64x256.size inb_S1x8x64x256_S1x1x64x256_0_4_0_0
abbrev r0_51 : Rect S1x8x64x256 := Rect.unit (s := S1x8x64x256) ![0, 5, 0, 0] S1x1x64x256.size inb_S1x8x64x256_S1x1x64x256_0_5_0_0
abbrev r0_52 : Rect S1x8x64x256 := Rect.unit (s := S1x8x64x256) ![0, 6, 0, 0] S1x1x64x256.size inb_S1x8x64x256_S1x1x64x256_0_6_0_0
abbrev r0_53 : Rect S1x8x64x256 := Rect.unit (s := S1x8x64x256) ![0, 7, 0, 0] S1x1x64x256.size inb_S1x8x64x256_S1x1x64x256_0_7_0_0

/-! ## What the body leaves in each output window's buffer -/

/-! ### The blocks at a grid point -/

/-- The twenty-four input blocks of one grid point. -/
structure Blocks (F : FTy → Type) where
  x0 : Vec F S1x256x1024 .f32
  x1 : Vec F S1x1x6144 .f32
  x2 : Vec F S1x1024 .f32
  x3 : Vec F S1024x3840 .bf16
  x4 : Vec F S1x512 .f32
  x5 : Vec F S1x512 .f32
  x6 : Vec F S1x512 .f32
  x7 : Vec F S1x128 .f32
  x8 : Vec F S1x384 .f32
  x9 : Vec F S1x256 .f32
  x10 : Vec F S384x768 .bf16
  x11 : Vec F S256x1024 .bf16
  x12 : Vec F S1x512 .f32
  x13 : Vec F S1x512 .f32
  x14 : Vec F S1x256 .f32
  x15 : Vec F S1x128 .f32
  x16 : Vec F S1x512 .f32
  x17 : Vec F S1x128 .f32
  x18 : Vec F S256x128 .f32
  x19 : Vec F S256x128 .f32
  x20 : Vec F S256x128 .f32
  x21 : Vec F S256x128 .f32
  x22 : Vec F S256x128 .f32
  x23 : Vec F S256x128 .f32

/-! ### Values of the body that the stores' payloads, spelt out, would write more than once

    Each is a vector the body binds (often a part call's result), stated over the input windows' blocks and
    numbered on from the skeleton's payload functions (`k0_pay207` …, after `k0_pay206`), so that
    `out0_W` and the values after it name it instead of spelling it out (`unfold_out out0_W` opens a canon
    with them, `unfold_payloads` opens them with the payloads); the comment after each is the printed function's
    name for the value (a count appended where that name is bound again). -/

def k0_pay207 (x : Blocks F) : FVec F S256x128 .f32 :=
  k0_pay3 (View.ld x.x19 r0_0) -- `v2`
def k0_pay208 (x : Blocks F) : FVec F S256x128 .f32 :=
  k0_pay4 (View.ld x.x20 r0_0) -- `v4`
def k0_pay209 (x : Blocks F) : FVec F S256x128 .f32 :=
  k0_pay5 (View.ld x.x22 r0_0) -- `v7`
def k0_pay210 (x : Blocks F) : FVec F S256x128 .f32 :=
  k0_pay6 (View.ld x.x23 r0_0) -- `v9`
def k0_pay211 (x : Blocks F) : FVec F S256x1024 .f32 :=
  k0_pay8 (View.ld x.x0 r0_1) (View.ld x.x1 r0_2) (View.ld x.x2 r0_3) -- `v32`
def k0_pay212 (x : Blocks F) : FVec F S256x1024 .f32 :=
  k0_pay9 (View.ld x.x1 r0_2) -- `v33`
def k0_pay213 (x : Blocks F) : FVec F S256x1024 .bf16 :=
  k0_pay10 (k0_pay211 x) (k0_pay212 x) -- `v35`
def k0_pay214 (x : Blocks F) : FVec F S256x512 .f32 :=
  k0_pay12 (View.ld x.x18 r0_0) (k0_pay207 x) (k0_pay208 x) (k0_pay211 x) (k0_pay212 x) (View.ld x.x3 r0_4) (View.ld x.x4 r0_5) -- `v50`
def k0_pay215 (x : Blocks F) : FVec F S128x512 .bf16 :=
  k0_pay14 (F := F) -- `v112`
def k0_pay216 (x : Blocks F) : FVec F S256x128 .f32 :=
  k0_pay15 (k0_pay11 (k0_pay211 x) (k0_pay212 x) (View.ld x.x3 r0_4)) k0_pay13 (Scalar.ofBits .f32 0x3F800000#32) (Scalar.ofBits .f32 0x00000000#32) -- `v124`
def k0_pay217 (x : Blocks F) : FVec F S256x512 .f32 :=
  k0_pay29 (k0_pay213 x) (View.ld x.x3 r0_14) -- `v175`
def k0_pay218 (x : Blocks F) : FVec F S256x512 .f32 :=
  k0_pay30 (View.ld x.x18 r0_0) (k0_pay207 x) (k0_pay208 x) (k0_pay213 x) (View.ld x.x3 r0_14) (View.ld x.x5 r0_5) -- `v188`
def k0_pay219 (x : Blocks F) : FVec F S512x128 .bf16 :=
  k0_pay33 (F := F) (iota .tc S512x128 32 [0] iota_S512x128_d0_w32) 64#32 k0_pay31 k0_pay32 -- `v219`
def k0_pay220 (x : Blocks F) : IVec S128x512 32 :=
  k0_pay34 -- `v222`
def k0_pay221 (x : Blocks F) : IVec S128x512 1 :=
  k0_pay35 -- `v236`
def k0_pay222 (x : Blocks F) : IVec S128x512 1 :=
  k0_pay36 -- `v240`
def k0_pay223 (x : Blocks F) : FVec F S256x512 .f32 :=
  k0_pay58 (k0_pay213 x) (View.ld x.x3 r0_20) -- `v333`
def k0_pay224 (x : Blocks F) : IVec S128x512 32 :=
  iota .tc S128x512 32 [1] iota_S128x512_d1_w32 -- `v378`
def k0_pay225 (x : Blocks F) : FVec F S256x512 .f32 :=
  k0_pay63 (k0_pay59 (k0_pay213 x) (View.ld x.x3 r0_20) (View.ld x.x6 r0_5)) (k0_pay60 (k0_pay208 x)) (k0_pay61 (View.ld x.x18 r0_0) (k0_pay213 x) (View.ld x.x3 r0_20) (View.ld x.x6 r0_5)) (k0_pay62 (k0_pay207 x) (k0_pay213 x) (View.ld x.x3 r0_20) (View.ld x.x6 r0_5)) -- `v346`
def k0_pay226 (x : Blocks F) : FVec F S512x128 .bf16 :=
  k0_pay64 (F := F) -- `v377`
def k0_pay227 (x : Blocks F) : IVec S128x512 32 :=
  k0_pay65 -- `v380`
def k0_pay228 (x : Blocks F) : IVec S128x512 32 :=
  k0_pay66 -- `v387`
def k0_pay229 (x : Blocks F) : FVec F S256x128 .f32 :=
  k0_pay85 (k0_pay213 x) (View.ld x.x3 r0_21) -- `v471`
def k0_pay230 (x : Blocks F) : FVec F S256x128 .f32 :=
  k0_pay86 (View.ld x.x18 r0_0) (k0_pay207 x) (k0_pay208 x) (k0_pay213 x) (View.ld x.x3 r0_21) (View.ld x.x7 r0_22) -- `v481`
def k0_pay231 (x : Blocks F) : IVec S128x128 32 :=
  k0_pay87 -- `v484`
def k0_pay232 (x : Blocks F) : IVec S128x128 1 :=
  k0_pay88 -- `v503`
def k0_pay233 (x : Blocks F) : FVec F S128x128 .bf16 :=
  k0_pay90 (F := F) -- `v543`
def k0_pay234 (x : Blocks F) : FVec F S256x128 .f32 :=
  k0_pay93 (k0_pay229 x) (k0_pay231 x) (k0_pay232 x) 1#32 -- `v549`
def k0_pay235 (x : Blocks F) : FVec F S256x128 .f32 :=
  k0_pay94 (k0_pay229 x) (k0_pay231 x) (k0_pay232 x) 1#32 -- `v550`
def k0_pay236 (x : Blocks F) : FVec F S256x512 .f32 :=
  k0_pay103 (View.ld x.x18 r0_0) (k0_pay207 x) (k0_pay208 x) (k0_pay213 x) (View.ld x.x3 r0_28) (View.ld x.x16 r0_5) -- `v601`
def k0_pay237 (x : Blocks F) : FVec F S128x512 .bf16 :=
  k0_pay105 (F := F) -- `v663`
def k0_pay238 (x : Blocks F) : FVec F S256x128 .f32 :=
  k0_pay106 (k0_pay102 (k0_pay213 x) (View.ld x.x3 r0_28)) k0_pay104 (Scalar.ofBits .f32 0x3F800000#32) -- `v673`
def k0_pay239 (x : Blocks F) : FVec F S256x128 .f32 :=
  k0_pay107 (F := F) -- `v674`
def k0_pay240 (x : Blocks F) : FVec F S256x128 .f32 :=
  k0_pay121 (k0_pay213 x) (View.ld x.x3 r0_29) -- `v726`
def k0_pay241 (x : Blocks F) : FVec F S256x128 .f32 :=
  k0_pay122 (View.ld x.x18 r0_0) (k0_pay207 x) (k0_pay208 x) (k0_pay213 x) (View.ld x.x3 r0_29) (View.ld x.x17 r0_22) -- `v736`
def k0_pay242 (x : Blocks F) : FVec F S128x128 .bf16 :=
  k0_pay125 (F := F) (iota .tc S128x128 32 [0] iota_S128x128_d0_w32) 64#32 k0_pay123 k0_pay124 0#32 -- `v767`
def k0_pay243 (x : Blocks F) : IVec S128x128 32 :=
  k0_pay126 -- `v770`
def k0_pay244 (x : Blocks F) : IVec S128x128 1 :=
  k0_pay127 -- `v789`
def k0_pay245 (x : Blocks F) : FVec F S256x768 .f32 :=
  k0_pay134 (k0_pay213 x) (View.ld x.x3 r0_31) (View.ld x.x8 r0_32) (View.ld x.x10 r0_33) -- `v859`
def k0_pay246 (x : Blocks F) : FVec F S256x512 .f32 :=
  k0_pay135 (k0_pay213 x) (View.ld x.x3 r0_31) (View.ld x.x8 r0_32) (View.ld x.x10 r0_33) -- `v860`
def k0_pay247 (x : Blocks F) : FVec F S256x512 .f32 :=
  k0_pay136 (k0_pay213 x) (View.ld x.x3 r0_31) (View.ld x.x8 r0_32) (View.ld x.x10 r0_33) (View.ld x.x12 r0_5) -- `v863`
def k0_pay248 (x : Blocks F) : IVec S128x512 32 :=
  iota .tc S128x512 32 [1] iota_S128x512_d1_w32 -- `v895`
def k0_pay249 (x : Blocks F) : FVec F S512x128 .bf16 :=
  k0_pay137 (F := F) (iota .tc S512x128 32 [0] iota_S512x128_d0_w32) 64#32 -- `v894`
def k0_pay250 (x : Blocks F) : IVec S128x512 32 :=
  k0_pay138 -- `v897`
def k0_pay251 (x : Blocks F) : IVec S128x512 1 :=
  k0_pay139 -- `v911`
def k0_pay252 (x : Blocks F) : FVec F S256x256 .f32 :=
  k0_pay149 (k0_pay245 x) -- `v955`
def k0_pay253 (x : Blocks F) : IVec S128x256 32 :=
  iota .tc S128x256 32 [1] iota_S128x256_d1_w32 -- `v1000`
def k0_pay254 (x : Blocks F) : FVec F S256x256 .f32 :=
  k0_pay152 (k0_pay209 x) (k0_pay210 x) (k0_pay150 (k0_pay245 x) (View.ld x.x14 r0_34)) (k0_pay151 (View.ld x.x21 r0_0)) -- `v968`
def k0_pay255 (x : Blocks F) : FVec F S256x128 .bf16 :=
  k0_pay153 (F := F) -- `v999`
def k0_pay256 (x : Blocks F) : IVec S128x256 32 :=
  k0_pay154 -- `v1002`
def k0_pay257 (x : Blocks F) : IVec S128x256 32 :=
  k0_pay155 -- `v1005`
def k0_pay258 (x : Blocks F) : FVec F S256x256 .f32 :=
  k0_pay156 (k0_pay252 x) (k0_pay254 x) (k0_pay255 x) (k0_pay253 x) 32#32 (k0_pay256 x) (k0_pay257 x) 0#32 -- `v1051`
def k0_pay259 (x : Blocks F) : FVec F S256x32 .bf16 :=
  k0_pay162 (F := F) -- `v1060`
def k0_pay260 (x : Blocks F) : FVec F S256x256 .f32 :=
  k0_pay172 (k0_pay213 x) (View.ld x.x3 r0_43) (View.ld x.x9 r0_34) -- `v1123`
def k0_pay261 (x : Blocks F) : FVec F S256x32 .f32 :=
  k0_pay173 (View.ld x.x21 r0_0) (k0_pay209 x) (k0_pay210 x) (k0_pay213 x) (View.ld x.x3 r0_44) (View.ld x.x15 r0_22) -- `v1148`
def k0_pay262 (x : Blocks F) : FVec F S256x1024 .f32 :=
  k0_pay174 (k0_pay260 x) (View.ld x.x11 r0_45) -- `v1152`
def k0_pay263 (x : Blocks F) : FVec F S256x512 .f32 :=
  k0_pay175 (k0_pay260 x) (View.ld x.x11 r0_45) -- `v1153`
def k0_pay264 (x : Blocks F) : FVec F S256x512 .f32 :=
  k0_pay176 (k0_pay260 x) (View.ld x.x13 r0_5) (View.ld x.x11 r0_45) -- `v1155`
def k0_pay265 (x : Blocks F) : FVec F S512x128 .bf16 :=
  k0_pay179 (F := F) (iota .tc S512x128 32 [0] iota_S512x128_d0_w32) 64#32 k0_pay177 k0_pay178 0#32 -- `v1186`
def k0_pay266 (x : Blocks F) : IVec S128x512 1 :=
  k0_pay180 -- `v1213`
def k0_pay267 (x : Blocks F) : FVec F S256x32 .bf16 :=
  k0_pay188 (k0_pay261 x) -- `v1247`
def k0_pay268 (x : Blocks F) : FVec F S256x32 .bf16 :=
  k0_pay189 (F := F) -- `v1248`
def k0_pay269 (x : Blocks F) : FVec F S512x256 .bf16 :=
  k0_pay200 (k0_pay262 x) -- `v1291`

/-- Window 24's buffer after the body: its stores as pieces, last first. -/
def out0_24 (x : Blocks F) : Vec F S1x8x256x64 .bf16 :=
  View.canon [⟨r0_13, k0_pay28 (k0_pay19 (k0_pay214 x) (k0_pay215 x) (k0_pay216 x))⟩,
    ⟨r0_12, k0_pay27 (k0_pay18 (k0_pay214 x) (k0_pay215 x) (k0_pay216 x))⟩,
    ⟨r0_11, k0_pay26 (k0_pay17 (k0_pay214 x) (k0_pay215 x) (k0_pay216 x))⟩,
    ⟨r0_10, k0_pay25 (k0_pay24 (k0_pay214 x) (k0_pay215 x) (k0_pay216 x))⟩,
    ⟨r0_9, k0_pay23 (k0_pay214 x) (k0_pay215 x) (k0_pay216 x)⟩,
    ⟨r0_8, k0_pay22 (k0_pay214 x) (k0_pay215 x) (k0_pay216 x)⟩,
    ⟨r0_7, k0_pay21 (k0_pay214 x) (k0_pay215 x) (k0_pay216 x)⟩,
    ⟨r0_6, k0_pay20 (k0_pay214 x) (k0_pay215 x) (k0_pay216 x)⟩]

/-- Its stores tile the buffer (checked by evaluation), so they cover it. -/
theorem cover0_24 (p0 p1 p2 p3 p4 p5 p6 p7 : Vec F S1x1x256x64 .bf16) (y : S1x8x256x64.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S1x8x256x64 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S1x1x256x64.size (by rfl) y

/-- Window 25's buffer after the body: its stores as pieces, last first. -/
def out0_25 (x : Blocks F) : Vec F S1x8x256x64 .bf16 :=
  View.canon [⟨r0_13, k0_pay52 (k0_pay43 (k0_pay217 x) (k0_pay218 x) (k0_pay219 x) (k0_pay220 x) (k0_pay221 x) (k0_pay222 x))⟩,
    ⟨r0_12, k0_pay51 (k0_pay42 (k0_pay217 x) (k0_pay218 x) (k0_pay219 x) (k0_pay220 x) (k0_pay221 x) (k0_pay222 x))⟩,
    ⟨r0_11, k0_pay50 (k0_pay41 (k0_pay217 x) (k0_pay218 x) (k0_pay219 x) (k0_pay220 x) (k0_pay221 x) (k0_pay222 x))⟩,
    ⟨r0_10, k0_pay49 (k0_pay40 (k0_pay217 x) (k0_pay218 x) (k0_pay219 x) (k0_pay220 x) (k0_pay221 x) (k0_pay222 x))⟩,
    ⟨r0_9, k0_pay48 (k0_pay39 (k0_pay217 x) (k0_pay218 x) (k0_pay219 x) (k0_pay220 x) (k0_pay221 x) (k0_pay222 x))⟩,
    ⟨r0_8, k0_pay47 (k0_pay38 (k0_pay217 x) (k0_pay218 x) (k0_pay219 x) (k0_pay220 x) (k0_pay221 x) (k0_pay222 x))⟩,
    ⟨r0_7, k0_pay46 (k0_pay45 (k0_pay217 x) (k0_pay218 x) (k0_pay219 x) (k0_pay220 x) (k0_pay221 x) (k0_pay222 x))⟩,
    ⟨r0_6, k0_pay44 (k0_pay217 x) (k0_pay218 x) (k0_pay219 x) (k0_pay220 x) (k0_pay221 x) (k0_pay222 x)⟩]

/-- Its stores tile the buffer (checked by evaluation), so they cover it. -/
theorem cover0_25 (p0 p1 p2 p3 p4 p5 p6 p7 : Vec F S1x1x256x64 .bf16) (y : S1x8x256x64.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S1x8x256x64 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S1x1x256x64.size (by rfl) y

/-- Window 26's buffer after the body: its stores as pieces, last first. -/
def out0_26 (x : Blocks F) : Vec F S1x4x128x256 .bf16 :=
  View.canon [⟨r0_19, k0_pay57 (k0_pay213 x) (View.ld x.x3 r0_15)⟩,
    ⟨r0_18, k0_pay56 (k0_pay213 x) (View.ld x.x3 r0_15)⟩,
    ⟨r0_17, k0_pay55 (k0_pay213 x) (View.ld x.x3 r0_15)⟩,
    ⟨r0_16, k0_pay54 (k0_pay213 x) (View.ld x.x3 r0_15)⟩]

/-- Its stores tile the buffer (checked by evaluation), so they cover it. -/
theorem cover0_26 (p0 p1 p2 p3 : Vec F S1x1x128x256 .bf16) (y : S1x4x128x256.Idx) :
    ∃ pc ∈ ([⟨r0_19, p0⟩, ⟨r0_18, p1⟩, ⟨r0_17, p2⟩, ⟨r0_16, p3⟩] : List (View.Piece (Elt F) S1x4x128x256 .bf16)), y ∈ pc.1.set :=
  View.cover_of_tiled [⟨r0_19, p0⟩, ⟨r0_18, p1⟩, ⟨r0_17, p2⟩, ⟨r0_16, p3⟩] S1x1x128x256.size (by rfl) y

/-- Window 27's buffer after the body: its stores as pieces, last first. -/
def out0_27 (x : Blocks F) : Vec F S1x8x256x64 .bf16 :=
  View.canon [⟨r0_13, k0_pay84 (k0_pay75 (k0_pay223 x) (k0_pay225 x) (k0_pay226 x) (k0_pay224 x) 64#32 (k0_pay227 x) (k0_pay228 x) (Scalar.cmpi .sgt 64#32 0#32))⟩,
    ⟨r0_12, k0_pay83 (k0_pay82 (k0_pay74 (k0_pay223 x) (k0_pay225 x) (k0_pay226 x) (k0_pay224 x) 64#32 (k0_pay227 x) (k0_pay228 x) (Scalar.cmpi .sgt 64#32 0#32)))⟩,
    ⟨r0_11, k0_pay81 (k0_pay73 (k0_pay223 x) (k0_pay225 x) (k0_pay226 x) (k0_pay224 x) 64#32 (k0_pay227 x) (k0_pay228 x) (Scalar.cmpi .sgt 64#32 0#32))⟩,
    ⟨r0_10, k0_pay80 (k0_pay72 (k0_pay223 x) (k0_pay225 x) (k0_pay226 x) (k0_pay224 x) 64#32 (k0_pay227 x) (k0_pay228 x) (Scalar.cmpi .sgt 64#32 0#32))⟩,
    ⟨r0_9, k0_pay79 (k0_pay71 (k0_pay223 x) (k0_pay225 x) (k0_pay226 x) (k0_pay224 x) 64#32 (k0_pay227 x) (k0_pay228 x) (Scalar.cmpi .sgt 64#32 0#32))⟩,
    ⟨r0_8, k0_pay78 (k0_pay70 (k0_pay223 x) (k0_pay225 x) (k0_pay226 x) (k0_pay224 x) 64#32 (k0_pay227 x) (k0_pay228 x) (Scalar.cmpi .sgt 64#32 0#32))⟩,
    ⟨r0_7, k0_pay77 (k0_pay69 (k0_pay223 x) (k0_pay225 x) (k0_pay226 x) (k0_pay224 x) 64#32 (k0_pay227 x) (k0_pay228 x) (Scalar.cmpi .sgt 64#32 0#32))⟩,
    ⟨r0_6, k0_pay76 (k0_pay68 (k0_pay223 x) (k0_pay225 x) (k0_pay226 x) (k0_pay224 x) 64#32 (k0_pay227 x) (k0_pay228 x) (Scalar.cmpi .sgt 64#32 0#32))⟩]

/-- Its stores tile the buffer (checked by evaluation), so they cover it. -/
theorem cover0_27 (p0 p1 p2 p3 p4 p5 p6 p7 : Vec F S1x1x256x64 .bf16) (y : S1x8x256x64.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S1x8x256x64 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S1x1x256x64.size (by rfl) y

/-- Window 28's buffer after the body: its stores as pieces, last first. -/
def out0_28 (x : Blocks F) : Vec F S1x2x256x64 .bf16 :=
  View.canon [⟨r0_24, k0_pay97 (k0_pay230 x) (k0_pay233 x) (k0_pay234 x) (k0_pay235 x)⟩,
    ⟨r0_23, k0_pay96 (k0_pay230 x) (k0_pay233 x) (k0_pay234 x) (k0_pay235 x)⟩]

/-- Its stores tile the buffer (checked by evaluation), so they cover it. -/
theorem cover0_28 (p0 p1 : Vec F S1x1x256x64 .bf16) (y : S1x2x256x64.Idx) :
    ∃ pc ∈ ([⟨r0_24, p0⟩, ⟨r0_23, p1⟩] : List (View.Piece (Elt F) S1x2x256x64 .bf16)), y ∈ pc.1.set :=
  View.cover_of_tiled [⟨r0_24, p0⟩, ⟨r0_23, p1⟩] S1x1x256x64.size (by rfl) y

/-- Window 29's buffer after the body: its stores as pieces, last first. -/
def out0_29 (x : Blocks F) : Vec F S1x2x64x256 .bf16 :=
  View.canon [⟨r0_27, k0_pay101 (k0_pay100 (k0_pay213 x) (View.ld x.x3 r0_25))⟩,
    ⟨r0_26, k0_pay99 (k0_pay213 x) (View.ld x.x3 r0_25)⟩]

/-- Its stores tile the buffer (checked by evaluation), so they cover it. -/
theorem cover0_29 (p0 p1 : Vec F S1x1x64x256 .bf16) (y : S1x2x64x256.Idx) :
    ∃ pc ∈ ([⟨r0_27, p0⟩, ⟨r0_26, p1⟩] : List (View.Piece (Elt F) S1x2x64x256 .bf16)), y ∈ pc.1.set :=
  View.cover_of_tiled [⟨r0_27, p0⟩, ⟨r0_26, p1⟩] S1x1x64x256.size (by rfl) y

/-- Window 30's buffer after the body: its stores as pieces, last first. -/
def out0_30 (x : Blocks F) : Vec F S1x8x256x128 .bf16 :=
  View.canon [⟨r0_42, k0_pay171 (k0_pay148 (k0_pay246 x) (k0_pay247 x) (k0_pay249 x) (k0_pay248 x) 64#32 (k0_pay250 x) (k0_pay251 x)) (k0_pay161 (k0_pay258 x)) (k0_pay259 x)⟩,
    ⟨r0_41, k0_pay170 (k0_pay147 (k0_pay246 x) (k0_pay247 x) (k0_pay249 x) (k0_pay248 x) 64#32 (k0_pay250 x) (k0_pay251 x)) (k0_pay160 (k0_pay258 x)) (k0_pay259 x)⟩,
    ⟨r0_40, k0_pay169 (k0_pay146 (k0_pay246 x) (k0_pay247 x) (k0_pay249 x) (k0_pay248 x) 64#32 (k0_pay250 x) (k0_pay251 x)) (k0_pay159 (k0_pay258 x)) (k0_pay259 x)⟩,
    ⟨r0_39, k0_pay168 (k0_pay167 (k0_pay145 (k0_pay246 x) (k0_pay247 x) (k0_pay249 x) (k0_pay248 x) 64#32 (k0_pay250 x) (k0_pay251 x)) (k0_pay258 x))⟩,
    ⟨r0_38, k0_pay166 (k0_pay144 (k0_pay246 x) (k0_pay247 x) (k0_pay249 x) (k0_pay248 x) 64#32 (k0_pay250 x) (k0_pay251 x)) (k0_pay258 x)⟩,
    ⟨r0_37, k0_pay165 (k0_pay143 (k0_pay246 x) (k0_pay247 x) (k0_pay249 x) (k0_pay248 x) 64#32 (k0_pay250 x) (k0_pay251 x)) (k0_pay258 x)⟩,
    ⟨r0_36, k0_pay164 (k0_pay142 (k0_pay246 x) (k0_pay247 x) (k0_pay249 x) (k0_pay248 x) 64#32 (k0_pay250 x) (k0_pay251 x)) (k0_pay158 (k0_pay252 x) (k0_pay254 x) (k0_pay255 x) (k0_pay253 x) 32#32 (k0_pay256 x) (k0_pay257 x) 0#32)⟩,
    ⟨r0_35, k0_pay163 (k0_pay141 (k0_pay246 x) (k0_pay247 x) (k0_pay249 x) (k0_pay248 x) 64#32 (k0_pay250 x) (k0_pay251 x)) (k0_pay157 (k0_pay252 x) (k0_pay254 x) (k0_pay255 x) (k0_pay253 x) 32#32 (k0_pay256 x) (k0_pay257 x) 0#32)⟩]

/-- Its stores tile the buffer (checked by evaluation), so they cover it. -/
theorem cover0_30 (p0 p1 p2 p3 p4 p5 p6 p7 : Vec F S1x1x256x128 .bf16) (y : S1x8x256x128.Idx) :
    ∃ pc ∈ ([⟨r0_42, p0⟩, ⟨r0_41, p1⟩, ⟨r0_40, p2⟩, ⟨r0_39, p3⟩, ⟨r0_38, p4⟩, ⟨r0_37, p5⟩, ⟨r0_36, p6⟩, ⟨r0_35, p7⟩] : List (View.Piece (Elt F) S1x8x256x128 .bf16)), y ∈ pc.1.set :=
  View.cover_of_tiled [⟨r0_42, p0⟩, ⟨r0_41, p1⟩, ⟨r0_40, p2⟩, ⟨r0_39, p3⟩, ⟨r0_38, p4⟩, ⟨r0_37, p5⟩, ⟨r0_36, p6⟩, ⟨r0_35, p7⟩] S1x1x256x128.size (by rfl) y

/-- Window 31's buffer after the body: its stores as pieces, last first. -/
def out0_31 (x : Blocks F) : Vec F S1x8x256x128 .bf16 :=
  View.canon [⟨r0_42, k0_pay199 (k0_pay198 (k0_pay187 (k0_pay263 x) (k0_pay264 x) (k0_pay265 x) (k0_pay266 x)) (k0_pay267 x) (k0_pay268 x))⟩,
    ⟨r0_41, k0_pay197 (k0_pay186 (k0_pay263 x) (k0_pay264 x) (k0_pay265 x) (k0_pay266 x)) (k0_pay267 x) (k0_pay268 x)⟩,
    ⟨r0_40, k0_pay196 (k0_pay185 (k0_pay263 x) (k0_pay264 x) (k0_pay265 x) (k0_pay266 x)) (k0_pay267 x) (k0_pay268 x)⟩,
    ⟨r0_39, k0_pay195 (k0_pay184 (k0_pay263 x) (k0_pay264 x) (k0_pay265 x) (k0_pay266 x)) (k0_pay267 x) (k0_pay268 x)⟩,
    ⟨r0_38, k0_pay194 (k0_pay183 (k0_pay263 x) (k0_pay264 x) (k0_pay265 x) (k0_pay266 x)) (k0_pay267 x) (k0_pay268 x)⟩,
    ⟨r0_37, k0_pay193 (k0_pay182 (k0_pay263 x) (k0_pay264 x) (k0_pay265 x) (k0_pay266 x)) (k0_pay267 x) (k0_pay268 x)⟩,
    ⟨r0_36, k0_pay192 (k0_pay191 (k0_pay261 x) (k0_pay263 x) (k0_pay264 x) (k0_pay265 x) (k0_pay266 x))⟩,
    ⟨r0_35, k0_pay190 (k0_pay261 x) (k0_pay263 x) (k0_pay264 x) (k0_pay265 x) (k0_pay266 x)⟩]

/-- Its stores tile the buffer (checked by evaluation), so they cover it. -/
theorem cover0_31 (p0 p1 p2 p3 p4 p5 p6 p7 : Vec F S1x1x256x128 .bf16) (y : S1x8x256x128.Idx) :
    ∃ pc ∈ ([⟨r0_42, p0⟩, ⟨r0_41, p1⟩, ⟨r0_40, p2⟩, ⟨r0_39, p3⟩, ⟨r0_38, p4⟩, ⟨r0_37, p5⟩, ⟨r0_36, p6⟩, ⟨r0_35, p7⟩] : List (View.Piece (Elt F) S1x8x256x128 .bf16)), y ∈ pc.1.set :=
  View.cover_of_tiled [⟨r0_42, p0⟩, ⟨r0_41, p1⟩, ⟨r0_40, p2⟩, ⟨r0_39, p3⟩, ⟨r0_38, p4⟩, ⟨r0_37, p5⟩, ⟨r0_36, p6⟩, ⟨r0_35, p7⟩] S1x1x256x128.size (by rfl) y

/-- Window 32's buffer after the body: its stores as pieces, last first. -/
def out0_32 (x : Blocks F) : Vec F S1x8x64x256 .bf16 :=
  View.canon [⟨r0_53, k0_pay2 (k0_pay269 x)⟩,
    ⟨r0_52, k0_pay1 (k0_pay269 x)⟩,
    ⟨r0_51, k0_pay206 (k0_pay262 x)⟩,
    ⟨r0_50, k0_pay205 (k0_pay262 x)⟩,
    ⟨r0_49, k0_pay204 (k0_pay262 x)⟩,
    ⟨r0_48, k0_pay203 (k0_pay262 x)⟩,
    ⟨r0_47, k0_pay202 (k0_pay262 x)⟩,
    ⟨r0_46, k0_pay201 (k0_pay262 x)⟩]

/-- Its stores tile the buffer (checked by evaluation), so they cover it. -/
theorem cover0_32 (p0 p1 p2 p3 p4 p5 p6 p7 : Vec F S1x1x64x256 .bf16) (y : S1x8x64x256.Idx) :
    ∃ pc ∈ ([⟨r0_53, p0⟩, ⟨r0_52, p1⟩, ⟨r0_51, p2⟩, ⟨r0_50, p3⟩, ⟨r0_49, p4⟩, ⟨r0_48, p5⟩, ⟨r0_47, p6⟩, ⟨r0_46, p7⟩] : List (View.Piece (Elt F) S1x8x64x256 .bf16)), y ∈ pc.1.set :=
  View.cover_of_tiled [⟨r0_53, p0⟩, ⟨r0_52, p1⟩, ⟨r0_51, p2⟩, ⟨r0_50, p3⟩, ⟨r0_49, p4⟩, ⟨r0_48, p5⟩, ⟨r0_47, p6⟩, ⟨r0_46, p7⟩] S1x1x64x256.size (by rfl) y

/-- Window 33's buffer after the body: its stores as pieces, last first. -/
def out0_33 (x : Blocks F) : Vec F S1x8x256x64 .bf16 :=
  View.canon [⟨r0_13, k0_pay120 (k0_pay111 (k0_pay236 x) (k0_pay237 x) (k0_pay238 x) (k0_pay239 x))⟩,
    ⟨r0_12, k0_pay119 (k0_pay110 (k0_pay236 x) (k0_pay237 x) (k0_pay238 x) (k0_pay239 x))⟩,
    ⟨r0_11, k0_pay118 (k0_pay109 (k0_pay236 x) (k0_pay237 x) (k0_pay238 x) (k0_pay239 x))⟩,
    ⟨r0_10, k0_pay117 (k0_pay116 (k0_pay236 x) (k0_pay237 x) (k0_pay238 x) (k0_pay239 x))⟩,
    ⟨r0_9, k0_pay115 (k0_pay236 x) (k0_pay237 x) (k0_pay238 x) (k0_pay239 x)⟩,
    ⟨r0_8, k0_pay114 (k0_pay236 x) (k0_pay237 x) (k0_pay238 x) (k0_pay239 x)⟩,
    ⟨r0_7, k0_pay113 (k0_pay236 x) (k0_pay237 x) (k0_pay238 x) (k0_pay239 x)⟩,
    ⟨r0_6, k0_pay112 (k0_pay236 x) (k0_pay237 x) (k0_pay238 x) (k0_pay239 x)⟩]

/-- Its stores tile the buffer (checked by evaluation), so they cover it. -/
theorem cover0_33 (p0 p1 p2 p3 p4 p5 p6 p7 : Vec F S1x1x256x64 .bf16) (y : S1x8x256x64.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S1x8x256x64 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S1x1x256x64.size (by rfl) y

/-- Window 34's buffer after the body: its stores as pieces, last first. -/
def out0_34 (x : Blocks F) : Vec F S1x2x256x64 .bf16 :=
  View.canon [⟨r0_24, k0_pay130 (k0_pay240 x) (k0_pay241 x) (k0_pay242 x) (k0_pay243 x) (k0_pay244 x) 1#32⟩,
    ⟨r0_23, k0_pay129 (k0_pay240 x) (k0_pay241 x) (k0_pay242 x) (k0_pay243 x) (k0_pay244 x) 1#32⟩]

/-- Its stores tile the buffer (checked by evaluation), so they cover it. -/
theorem cover0_34 (p0 p1 : Vec F S1x1x256x64 .bf16) (y : S1x2x256x64.Idx) :
    ∃ pc ∈ ([⟨r0_24, p0⟩, ⟨r0_23, p1⟩] : List (View.Piece (Elt F) S1x2x256x64 .bf16)), y ∈ pc.1.set :=
  View.cover_of_tiled [⟨r0_24, p0⟩, ⟨r0_23, p1⟩] S1x1x256x64.size (by rfl) y

/-- Window 35's buffer after the body: its stores as pieces, last first. -/
def out0_35 (x : Blocks F) : Vec F S1x2x256x64 .bf16 :=
  View.canon [⟨r0_24, k0_pay133 (k0_pay213 x) (View.ld x.x3 r0_30)⟩,
    ⟨r0_23, k0_pay132 (k0_pay213 x) (View.ld x.x3 r0_30)⟩]

/-- Its stores tile the buffer (checked by evaluation), so they cover it. -/
theorem cover0_35 (p0 p1 : Vec F S1x1x256x64 .bf16) (y : S1x2x256x64.Idx) :
    ∃ pc ∈ ([⟨r0_24, p0⟩, ⟨r0_23, p1⟩] : List (View.Piece (Elt F) S1x2x256x64 .bf16)), y ∈ pc.1.set :=
  View.cover_of_tiled [⟨r0_24, p0⟩, ⟨r0_23, p1⟩] S1x1x256x64.size (by rfl) y

end Cert.Kernel5Ideal.Gen

end
-- ==== Proof.Block5.lean ====
/- The projections' block, token by token: what the kernel's whole arrays hold of the token's row. -/
module

public import proofs.«01_k».proof.Proof.Lanes
public import proofs.«01_k».proof.Proof.Token
public import proofs.«01_k».proof.Proof.Frame5A
public import Idealize.ShloMosaic.Lib.Pointwise

@[expose] public section

set_option maxRecDepth 16384

noncomputable section

namespace Cert.Kernel5Ideal.Block

open Idealize.ShloMosaic Cert.Kernel5Ideal Cert.Kernel5Ideal.Gen Cert.Merge Cert.Heads

/-- Whether lane `l` is of head `h`, heads of 64 lanes: the kernel's comparison of a floor division. -/
theorem owner64 {L : ℕ} (hL : L ≤ 512) (l : Fin L) (h : Fin 128) : IntOp.cmpi CmpIPredicate.eq
      (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 l.val) 64#32) 0#32))
        (IntOp.subi (IntOp.divsi ArithUnit.vector (BitVec.ofNat 32 l.val) 64#32) 1#32)
        (IntOp.divsi ArithUnit.vector (BitVec.ofNat 32 l.val) 64#32))
      (BitVec.ofNat 32 h.val) = own 64 l.val h.val := by
  have hq : ∀ l : Fin 512, Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 l.val) 64#32) 0#32))
        (IntOp.subi (IntOp.divsi ArithUnit.vector (BitVec.ofNat 32 l.val) 64#32) 1#32)
        (IntOp.divsi ArithUnit.vector (BitVec.ofNat 32 l.val) 64#32) = BitVec.ofNat 32 (l.val / 64) := by decide +kernel
  have hc : ∀ q : Fin 128, ∀ h : Fin 128, IntOp.cmpi CmpIPredicate.eq (BitVec.ofNat 32 q.val) (BitVec.ofNat 32 h.val) = BitVec.ofBool (decide (q.val = h.val)) := by
    decide +kernel
  have := l.isLt
  have h1 := hq ⟨l.val, by omega⟩
  dsimp only at h1
  rw [h1]
  exact hc ⟨l.val / 64, by omega⟩ h

/-- Whether lane `l` is of head `h`, heads of 32 lanes: the kernel's comparison of a floor division. -/
theorem owner32 {L : ℕ} (hL : L ≤ 512) (l : Fin L) (h : Fin 128) : IntOp.cmpi CmpIPredicate.eq
      (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 l.val) 32#32) 0#32))
        (IntOp.subi (IntOp.divsi ArithUnit.vector (BitVec.ofNat 32 l.val) 32#32) 1#32)
        (IntOp.divsi ArithUnit.vector (BitVec.ofNat 32 l.val) 32#32))
      (BitVec.ofNat 32 h.val) = own 32 l.val h.val := by
  have hq : ∀ l : Fin 512, Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 l.val) 32#32) 0#32))
        (IntOp.subi (IntOp.divsi ArithUnit.vector (BitVec.ofNat 32 l.val) 32#32) 1#32)
        (IntOp.divsi ArithUnit.vector (BitVec.ofNat 32 l.val) 32#32) = BitVec.ofNat 32 (l.val / 32) := by decide +kernel
  have hc : ∀ q : Fin 128, ∀ h : Fin 128, IntOp.cmpi CmpIPredicate.eq (BitVec.ofNat 32 q.val) (BitVec.ofNat 32 h.val) = BitVec.ofBool (decide (q.val = h.val)) := by
    decide +kernel
  have := l.isLt
  have h1 := hq ⟨l.val, by omega⟩
  dsimp only at h1
  rw [h1]
  exact hc ⟨l.val / 32, by omega⟩ h

/-- The block's row `i` holds a token's row: the token, the shared scale, shift, gains and weights, the heads' gains repeated
    along the lanes, and the tables' cosines and the two halves of the sines, repeated along the lanes. -/
structure Reads (b : Blocks Ideal) (i : Fin 256) (r : Row) : Prop where
  x : ∀ k, b.x0 (ix3 (0 : Fin 1) i k) = r.x k
  sh : ∀ k : Fin 1024, b.x1 (ix3 (0 : Fin 1) (0 : Fin 1) (⟨k.val, by omega⟩ : Fin 6144)) = r.sh k
  sc : ∀ k : Fin 1024, b.x1 (ix3 (0 : Fin 1) (0 : Fin 1) (⟨1024 + k.val, by omega⟩ : Fin 6144)) = r.sc k
  g : ∀ k, b.x2 (ix2 (0 : Fin 1) k) = r.g k
  w : ∀ k j, b.x3 (ix2 k j) = r.w k j
  aq : ∀ l : Fin 512, b.x4 (ix2 (0 : Fin 1) l) = r.aq ⟨l.val % 64, Nat.mod_lt _ (by decide)⟩
  ak : ∀ l : Fin 512, b.x5 (ix2 (0 : Fin 1) l) = r.ak ⟨l.val % 64, Nat.mod_lt _ (by decide)⟩
  bq : ∀ l : Fin 512, b.x6 (ix2 (0 : Fin 1) l) = r.bq ⟨l.val % 64, Nat.mod_lt _ (by decide)⟩
  bk : ∀ l : Fin 128, b.x7 (ix2 (0 : Fin 1) l) = r.bk ⟨l.val % 64, Nat.mod_lt _ (by decide)⟩
  cqa : ∀ k, b.x8 (ix2 (0 : Fin 1) k) = r.cqa k
  ckva : ∀ k, b.x9 (ix2 (0 : Fin 1) k) = r.ckva k
  up : ∀ k j, b.x10 (ix2 k j) = r.up k j
  kvup : ∀ k j, b.x11 (ix2 k j) = r.kvup k j
  cq : ∀ l : Fin 512, b.x12 (ix2 (0 : Fin 1) l) = r.cq ⟨l.val % 64, Nat.mod_lt _ (by decide)⟩
  ck : ∀ l : Fin 512, b.x13 (ix2 (0 : Fin 1) l) = r.ck ⟨l.val % 64, Nat.mod_lt _ (by decide)⟩
  cqr : ∀ l : Fin 256, b.x14 (ix2 (0 : Fin 1) l) = r.cqr ⟨l.val % 32, Nat.mod_lt _ (by decide)⟩
  ckr : ∀ d : Fin 32, b.x15 (ix2 (0 : Fin 1) (⟨d.val, by omega⟩ : Fin 128)) = r.ckr d
  dq : ∀ l : Fin 512, b.x16 (ix2 (0 : Fin 1) l) = r.dq ⟨l.val % 64, Nat.mod_lt _ (by decide)⟩
  dk : ∀ l : Fin 128, b.x17 (ix2 (0 : Fin 1) l) = r.dk ⟨l.val % 64, Nat.mod_lt _ (by decide)⟩
  c64 : ∀ l : Fin 128, b.x18 (ix2 i l) = r.c64 ⟨l.val % 64, Nat.mod_lt _ (by decide)⟩
  lo64 : ∀ l : Fin 128, b.x19 (ix2 i l) = low 16 r.s64 ⟨l.val % 64, Nat.mod_lt _ (by decide)⟩
  hi64 : ∀ l : Fin 128, b.x20 (ix2 i l) = high 16 r.s64 ⟨l.val % 64, Nat.mod_lt _ (by decide)⟩
  c32 : ∀ l : Fin 128, b.x21 (ix2 i l) = r.c32 ⟨l.val % 32, Nat.mod_lt _ (by decide)⟩
  lo32 : ∀ l : Fin 128, b.x22 (ix2 i l) = low 8 r.s32 ⟨l.val % 32, Nat.mod_lt _ (by decide)⟩
  hi32 : ∀ l : Fin 128, b.x23 (ix2 i l) = high 8 r.s32 ⟨l.val % 32, Nat.mod_lt _ (by decide)⟩

/-- A gain repeated along the lanes, at a lane of a head. -/
theorem gain_at {n L : ℕ} (hn : 0 < n) {f : Fin L → EReal} {G : Fin n → EReal} (hf : ∀ l : Fin L, f l = G ⟨l.val % n, Nat.mod_lt _ hn⟩) {h : ℕ}
    (hL : n * h + n ≤ L) (d : Fin n) : f (lane h hL d) = G d := by
  rw [hf]
  exact congrArg G (Fin.ext (by show (n * h + d.val) % n = d.val; rw [Nat.mul_add_mod, Nat.mod_eq_of_lt d.isLt]))

/-- A table of 128 lanes repeated over 512 lanes, as the kernel joins it. -/
abbrev over512 (f : Fin 128 → EReal) (l : Fin 512) : EReal :=
  if h : l.val < 128 then f ⟨l.val, h⟩ else if h1 : l.val - 128 < 128 then f ⟨l.val - 128, h1⟩
    else if h2 : l.val - 128 - 128 < 128 then f ⟨l.val - 128 - 128, h2⟩ else f ⟨l.val - 128 - 128 - 128, by omega⟩

/-- A table repeated over 512 lanes, at a lane of a head. -/
theorem over512_at {f : Fin 128 → EReal} {G : Fin 64 → EReal} (hf : ∀ l : Fin 128, f l = G ⟨l.val % 64, Nat.mod_lt _ (by decide)⟩) (l : Fin 512)
    {h : ℕ} (d : Fin 64) (hl : l.val = 64 * h + d.val) : over512 f l = G d := by
  unfold over512
  split_ifs <;> rw [hf] <;> exact congrArg G (Fin.ext (by dsimp only; omega))

/-- A table of 128 lanes repeated over 256 lanes, as the kernel joins it. -/
abbrev over256 (f : Fin 128 → EReal) (l : Fin 256) : EReal :=
  if h : l.val < 128 then f ⟨l.val, h⟩ else f ⟨l.val - 128, by omega⟩

/-- A table repeated over 256 lanes, at a lane of a head. -/
theorem over256_at {f : Fin 128 → EReal} {G : Fin 32 → EReal} (hf : ∀ l : Fin 128, f l = G ⟨l.val % 32, Nat.mod_lt _ (by decide)⟩) (l : Fin 256)
    {h : ℕ} (d : Fin 32) (hl : l.val = 32 * h + d.val) : over256 f l = G d := by
  unfold over256
  split_ifs <;> rw [hf] <;> exact congrArg G (Fin.ext (by dsimp only; omega))

variable {b : Blocks Ideal} {i : Fin 256} {r : Row}

/-- Eight heads of 64 lanes, normed and rotated over their 512 lanes. -/
theorem turn512 (hr : Reads b i r) {z g : Fin 512 → EReal} (hz : ∀ l, IsReal (z l)) {G : Fin 64 → EReal}
    (hg : ∀ l : Fin 512, g l = G ⟨l.val % 64, Nat.mod_lt _ (by decide)⟩) (h : Fin 8) (d : Fin 64) (l u v : Fin 512) (hl : l.val = 64 * h.val + d.val)
    (hu : u.val = (l.val + 512 - 496) % 512) (hv : v.val = (l.val + 512 - 16) % 512) :
    (z l * g l * over512 (fun k => b.x18 (ix2 i k)) l + z u * g u * over512 (fun k => b.x19 (ix2 i k)) l
        + z v * g v * over512 (fun k => b.x20 (ix2 i k)) l) * spread 64 (Ideal.ofBits .f32 0x3C800000#32) z l.val
      = turned 16 ((64 : ℝ) : EReal) (fun k : Fin 64 => z ⟨64 * h.val + k.val, by omega⟩) G r.c64 r.s64 d :=
  rotated 16 (by decide) (by norm_num) inv64 hz (by omega) (by omega) (gain_at (by decide) hg _) d l u v hl
    (over512_at hr.c64 l d hl) (over512_at hr.lo64 l d hl) (over512_at hr.hi64 l d hl) (fun hd => by omega) (fun hd => by omega)

/-- Two heads of 64 lanes, normed and rotated over their 128 lanes. -/
theorem turn128 (hr : Reads b i r) {z g : Fin 128 → EReal} (hz : ∀ l, IsReal (z l)) {G : Fin 64 → EReal}
    (hg : ∀ l : Fin 128, g l = G ⟨l.val % 64, Nat.mod_lt _ (by decide)⟩) (h : Fin 2) (d : Fin 64) (l u v : Fin 128) (hl : l.val = 64 * h.val + d.val)
    (hu : u.val = (l.val + 128 - 112) % 128) (hv : v.val = (l.val + 128 - 16) % 128) :
    (z l * g l * b.x18 (ix2 i l) + z u * g u * b.x19 (ix2 i l) + z v * g v * b.x20 (ix2 i l)) * spread 64 (Ideal.ofBits .f32 0x3C800000#32) z l.val
      = turned 16 ((64 : ℝ) : EReal) (fun k : Fin 64 => z ⟨64 * h.val + k.val, by omega⟩) G r.c64 r.s64 d :=
  rotated 16 (by decide) (by norm_num) inv64 hz (by omega) (by omega) (gain_at (by decide) hg _) d l u v hl
    ((hr.c64 l).trans (congrArg r.c64 (Fin.ext (by dsimp only; omega)))) ((hr.lo64 l).trans (congrArg (low 16 r.s64) (Fin.ext (by dsimp only; omega))))
    ((hr.hi64 l).trans (congrArg (high 16 r.s64) (Fin.ext (by dsimp only; omega)))) (fun hd => by omega) (fun hd => by omega)

/-- Eight heads of 32 lanes, normed and rotated over their 256 lanes. -/
theorem turn256 (hr : Reads b i r) {z g : Fin 256 → EReal} (hz : ∀ l, IsReal (z l)) {G : Fin 32 → EReal}
    (hg : ∀ l : Fin 256, g l = G ⟨l.val % 32, Nat.mod_lt _ (by decide)⟩) (h : Fin 8) (d : Fin 32) (l u v : Fin 256) (hl : l.val = 32 * h.val + d.val)
    (hu : u.val = (l.val + 256 - 248) % 256) (hv : v.val = (l.val + 256 - 8) % 256) :
    (z l * g l * over256 (fun k => b.x21 (ix2 i k)) l + z u * g u * over256 (fun k => b.x22 (ix2 i k)) l
        + z v * g v * over256 (fun k => b.x23 (ix2 i k)) l) * spread 32 (Ideal.ofBits .f32 0x3D000000#32) z l.val
      = turned 8 ((32 : ℝ) : EReal) (fun k : Fin 32 => z ⟨32 * h.val + k.val, by omega⟩) G r.c32 r.s32 d :=
  rotated 8 (by decide) (by norm_num) inv32 hz (by omega) (by omega) (gain_at (by decide) hg _) d l u v hl
    (over256_at hr.c32 l d hl) (over256_at hr.lo32 l d hl) (over256_at hr.hi32 l d hl) (fun hd => by omega) (fun hd => by omega)

/-- Eight heads of 64 lanes, normed. -/
theorem plain512 {z g : Fin 512 → EReal} (hz : ∀ l, IsReal (z l)) {G : Fin 64 → EReal}
    (hg : ∀ l : Fin 512, g l = G ⟨l.val % 64, Nat.mod_lt _ (by decide)⟩) (h : Fin 8) (d : Fin 64) (l : Fin 512) (hl : l.val = 64 * h.val + d.val) :
    z l * g l * spread 64 (Ideal.ofBits .f32 0x3C800000#32) z l.val
      = plain ((64 : ℝ) : EReal) (fun k : Fin 64 => z ⟨64 * h.val + k.val, by omega⟩) G d :=
  normed (by decide) (by norm_num) inv64 hz (by omega) (by omega) (gain_at (by decide) hg _) d l hl

/-- The normed token. -/
theorem hid_at (hr : Reads b i r) (k : Fin 1024) : k0_pay213 b (ix2 i k) = r.hid k := by
  simp only [k0_pay211, k0_pay212, k0_pay213]
  pointwise [k0_pay7, k0_pay8, k0_pay9, k0_pay10]
  simp only [hr.x, hr.g, hr.sc, hr.sh]
  unfold Row.hid adapted one
  rw [one_eq]
  rfl

/-- The normed token's product with a column of the input projection. -/
theorem col_at (hr : Reads b i r) (j : Fin 3840) : ∑ k, k0_pay213 b (ix2 i k) * b.x3 (ix2 k j) = r.col j := by
  simp only [hid_at hr, hr.w]
  rfl

/-- Mixer A's query over all lanes. -/
theorem qa_at (hr : Reads b i r) (hf : r.Finite) (h : Fin 8) (d : Fin 64) (l : Fin 512) (hl : l.val = 64 * h.val + d.val) :
    (k0_pay16 (k0_pay214 b) (k0_pay215 b) (k0_pay216 b)) (ix2 i l) = r.qa h d := by
  have hz : ∀ l : Fin 512, (k0_pay11 (k0_pay211 b) (k0_pay212 b) (View.ld b.x3 r0_4)) (ix2 i l) = r.col ⟨0 + l.val, by omega⟩ := fun l => by
    refine Eq.trans ?_ (col_at hr ⟨0 + l.val, by omega⟩)
    generalize hy : k0_pay213 b = y
    simp only [k0_pay213] at hy
    pointwise [k0_pay11, hy]
  simp only [k0_pay207, k0_pay208, k0_pay214, k0_pay215, k0_pay216]
  pointwise [k0_pay3, k0_pay4, k0_pay12, k0_pay13, k0_pay14, k0_pay15, k0_pay16]
  generalize k0_pay11 (k0_pay211 b) (k0_pay212 b) (View.ld b.x3 r0_4) = z at hz ⊢
  simp only [owner64 (L := 512) (by decide)]
  have hz' : ∀ l : Fin 512, IsReal (z (ix2 i l)) := fun l => (hz l).symm ▸ hf.col _
  refine (turn512 hr (z := fun l => z (ix2 i l)) (g := fun l => b.x4 (ix2 0 l)) hz' hr.aq h d l ⟨(l.val + 512 - 496) % 512, Nat.mod_lt _ (by decide)⟩ ⟨(l.val + 512 - 16) % 512, Nat.mod_lt _ (by decide)⟩ hl rfl rfl).trans ?_
  simp only [hz]
  unfold Row.qa Row.head64 Row.cols
  simp only [Nat.add_assoc]

/-- Mixer A's key over all lanes. -/
theorem ka_at (hr : Reads b i r) (hf : r.Finite) (h : Fin 8) (d : Fin 64) (l : Fin 512) (hl : l.val = 64 * h.val + d.val) :
    (k0_pay37 (k0_pay217 b) (k0_pay218 b) (k0_pay219 b) (k0_pay220 b) (k0_pay221 b) (k0_pay222 b)) (ix2 i l) = r.ka h d := by
  have hz : ∀ l : Fin 512, (k0_pay29 (k0_pay213 b) (View.ld b.x3 r0_14)) (ix2 i l) = r.col ⟨512 + l.val, by omega⟩ := fun l => by
    refine Eq.trans ?_ (col_at hr ⟨512 + l.val, by omega⟩)
    pointwise [k0_pay29]
  simp only [k0_pay207, k0_pay208, k0_pay217, k0_pay218, k0_pay219, k0_pay220, k0_pay221, k0_pay222]
  pointwise [k0_pay3, k0_pay4, k0_pay30, k0_pay31, k0_pay32, k0_pay33, k0_pay34, k0_pay35, k0_pay36, k0_pay37]
  generalize k0_pay29 (k0_pay213 b) (View.ld b.x3 r0_14) = z at hz ⊢
  simp only [owner64 (L := 512) (by decide)]
  have hz' : ∀ l : Fin 512, IsReal (z (ix2 i l)) := fun l => (hz l).symm ▸ hf.col _
  refine (turn512 hr (z := fun l => z (ix2 i l)) (g := fun l => b.x5 (ix2 0 l)) hz' hr.ak h d l ⟨(l.val + 512 - 496) % 512, Nat.mod_lt _ (by decide)⟩ ⟨(l.val + 512 - 16) % 512, Nat.mod_lt _ (by decide)⟩ hl rfl rfl).trans ?_
  simp only [hz]
  unfold Row.ka Row.head64 Row.cols
  simp only [Nat.add_assoc]

/-- Mixer B's query over all lanes. -/
theorem qb_at (hr : Reads b i r) (hf : r.Finite) (h : Fin 8) (d : Fin 64) (l : Fin 512) (hl : l.val = 64 * h.val + d.val) :
    (k0_pay67 (k0_pay223 b) (k0_pay225 b) (k0_pay226 b) (k0_pay224 b) 64#32 (k0_pay227 b) (k0_pay228 b) (Scalar.cmpi .sgt 64#32 0#32)) (ix2 i l) = r.qb h d := by
  have hz : ∀ l : Fin 512, (k0_pay58 (k0_pay213 b) (View.ld b.x3 r0_20)) (ix2 i l) = r.col ⟨1536 + l.val, by omega⟩ := fun l => by
    refine Eq.trans ?_ (col_at hr ⟨1536 + l.val, by omega⟩)
    pointwise [k0_pay58]
  simp only [k0_pay207, k0_pay208, k0_pay223, k0_pay224, k0_pay225, k0_pay226, k0_pay227, k0_pay228]
  pointwise [k0_pay3, k0_pay4, k0_pay59, k0_pay60, k0_pay61, k0_pay62, k0_pay63, k0_pay64, k0_pay65, k0_pay66, k0_pay67]
  generalize k0_pay58 (k0_pay213 b) (View.ld b.x3 r0_20) = z at hz ⊢
  simp only [owner64 (L := 512) (by decide)]
  have hz' : ∀ l : Fin 512, IsReal (z (ix2 i l)) := fun l => (hz l).symm ▸ hf.col _
  refine (turn512 hr (z := fun l => z (ix2 i l)) (g := fun l => b.x6 (ix2 0 l)) hz' hr.bq h d l ⟨(l.val + 512 - 496) % 512, Nat.mod_lt _ (by decide)⟩ ⟨(l.val + 512 - 16) % 512, Nat.mod_lt _ (by decide)⟩ hl rfl rfl).trans ?_
  simp only [hz]
  unfold Row.qb Row.head64 Row.cols
  simp only [Nat.add_assoc]

/-- Mixer B's key over all lanes. -/
theorem kb_at (hr : Reads b i r) (hf : r.Finite) (h : Fin 2) (d : Fin 64) (l : Fin 128) (hl : l.val = 64 * h.val + d.val) :
    (k0_pay95 (k0_pay230 b) (k0_pay233 b) (k0_pay234 b) (k0_pay235 b)) (ix2 i l) = r.kb h d := by
  have hz : ∀ l : Fin 128, (k0_pay85 (k0_pay213 b) (View.ld b.x3 r0_21)) (ix2 i l) = r.col ⟨2048 + l.val, by omega⟩ := fun l => by
    refine Eq.trans ?_ (col_at hr ⟨2048 + l.val, by omega⟩)
    pointwise [k0_pay85]
  simp only [k0_pay207, k0_pay208, k0_pay229, k0_pay230, k0_pay231, k0_pay232, k0_pay233, k0_pay234, k0_pay235]
  pointwise [k0_pay3, k0_pay4, k0_pay86, k0_pay87, k0_pay88, k0_pay89, k0_pay90, k0_pay91, k0_pay92, k0_pay93, k0_pay94, k0_pay95]
  generalize k0_pay85 (k0_pay213 b) (View.ld b.x3 r0_21) = z at hz ⊢
  simp only [owner64 (L := 128) (by decide)]
  have hz' : ∀ l : Fin 128, IsReal (z (ix2 i l)) := fun l => (hz l).symm ▸ hf.col _
  refine (turn128 hr (z := fun l => z (ix2 i l)) (g := fun l => b.x7 (ix2 0 l)) hz' hr.bk h d l ⟨(l.val + 128 - 112) % 128, Nat.mod_lt _ (by decide)⟩ ⟨(l.val + 128 - 16) % 128, Nat.mod_lt _ (by decide)⟩ hl rfl rfl).trans ?_
  simp only [hz]
  unfold Row.kb Row.head64 Row.cols
  simp only [Nat.add_assoc]

/-- Mixer D's query over all lanes. -/
theorem qd_at (hr : Reads b i r) (hf : r.Finite) (h : Fin 8) (d : Fin 64) (l : Fin 512) (hl : l.val = 64 * h.val + d.val) :
    (k0_pay108 (k0_pay236 b) (k0_pay237 b) (k0_pay238 b) (k0_pay239 b)) (ix2 i l) = r.qd h d := by
  have hz : ∀ l : Fin 512, (k0_pay102 (k0_pay213 b) (View.ld b.x3 r0_28)) (ix2 i l) = r.col ⟨3072 + l.val, by omega⟩ := fun l => by
    refine Eq.trans ?_ (col_at hr ⟨3072 + l.val, by omega⟩)
    pointwise [k0_pay102]
  simp only [k0_pay207, k0_pay208, k0_pay236, k0_pay237, k0_pay238, k0_pay239]
  pointwise [k0_pay3, k0_pay4, k0_pay103, k0_pay104, k0_pay105, k0_pay106, k0_pay107, k0_pay108]
  generalize k0_pay102 (k0_pay213 b) (View.ld b.x3 r0_28) = z at hz ⊢
  simp only [owner64 (L := 512) (by decide)]
  have hz' : ∀ l : Fin 512, IsReal (z (ix2 i l)) := fun l => (hz l).symm ▸ hf.col _
  refine (turn512 hr (z := fun l => z (ix2 i l)) (g := fun l => b.x16 (ix2 0 l)) hz' hr.dq h d l ⟨(l.val + 512 - 496) % 512, Nat.mod_lt _ (by decide)⟩ ⟨(l.val + 512 - 16) % 512, Nat.mod_lt _ (by decide)⟩ hl rfl rfl).trans ?_
  simp only [hz]
  unfold Row.qd Row.head64 Row.cols
  simp only [Nat.add_assoc]

/-- Mixer D's key over all lanes. -/
theorem kd_at (hr : Reads b i r) (hf : r.Finite) (h : Fin 2) (d : Fin 64) (l : Fin 128) (hl : l.val = 64 * h.val + d.val) :
    (k0_pay128 (k0_pay240 b) (k0_pay241 b) (k0_pay242 b) (k0_pay243 b) (k0_pay244 b) 1#32) (ix2 i l) = r.kd h d := by
  have hz : ∀ l : Fin 128, (k0_pay121 (k0_pay213 b) (View.ld b.x3 r0_29)) (ix2 i l) = r.col ⟨3584 + l.val, by omega⟩ := fun l => by
    refine Eq.trans ?_ (col_at hr ⟨3584 + l.val, by omega⟩)
    pointwise [k0_pay121]
  simp only [k0_pay207, k0_pay208, k0_pay240, k0_pay241, k0_pay242, k0_pay243, k0_pay244]
  pointwise [k0_pay3, k0_pay4, k0_pay122, k0_pay123, k0_pay124, k0_pay125, k0_pay126, k0_pay127, k0_pay128]
  generalize k0_pay121 (k0_pay213 b) (View.ld b.x3 r0_29) = z at hz ⊢
  simp only [owner64 (L := 128) (by decide)]
  have hz' : ∀ l : Fin 128, IsReal (z (ix2 i l)) := fun l => (hz l).symm ▸ hf.col _
  refine (turn128 hr (z := fun l => z (ix2 i l)) (g := fun l => b.x17 (ix2 0 l)) hz' hr.dk h d l ⟨(l.val + 128 - 112) % 128, Nat.mod_lt _ (by decide)⟩ ⟨(l.val + 128 - 16) % 128, Nat.mod_lt _ (by decide)⟩ hl rfl rfl).trans ?_
  simp only [hz]
  unfold Row.kd Row.head64 Row.cols
  simp only [Nat.add_assoc]

/-- Mixer C's queries before their norms. -/
theorem zq_at (hr : Reads b i r) (l : Fin 768) : k0_pay245 b (ix2 i l) = r.zq l := by
  simp only [k0_pay245]
  pointwise [k0_pay134]
  simp only [hr.cqa, hr.up, const384]
  have hc : ∀ k : Fin 384, ∑ j, k0_pay213 b (ix2 i j) * b.x3 (ix2 j ⟨2304 + k.val, by omega⟩) = r.cols 2304 384 (by omega) k := fun k => col_at hr _
  simp only [hc]
  rfl

/-- Mixer C's latent key and value. -/
theorem latkv_at (hr : Reads b i r) (l : Fin 256) : k0_pay260 b (ix2 i l) = r.latkv l := by
  simp only [k0_pay260]
  pointwise [k0_pay172]
  simp only [hr.ckva, const256]
  have hc : ∀ k : Fin 256, ∑ j, k0_pay213 b (ix2 i j) * b.x3 (ix2 j ⟨2688 + k.val, by omega⟩) = r.cols 2688 256 (by omega) k := fun k => col_at hr _
  simp only [hc]
  rfl

/-- Mixer C's keys before their norms, and its values. -/
theorem kv_at (hr : Reads b i r) (l : Fin 1024) : k0_pay262 b (ix2 i l) = r.kv l := by
  simp only [k0_pay262]
  pointwise [k0_pay174]
  simp only [latkv_at hr, hr.kvup]
  rfl

/-- The part of mixer C's query without rotation, over all lanes. -/
theorem qnope_at (hr : Reads b i r) (hf : r.Finite) (h : Fin 8) (d : Fin 64) (l : Fin 512) (hl : l.val = 64 * h.val + d.val) :
    (k0_pay140 (k0_pay246 b) (k0_pay247 b) (k0_pay249 b) (k0_pay248 b) 64#32 (k0_pay250 b) (k0_pay251 b)) (ix2 i l) = r.qnope h d := by
  have hz : ∀ l : Fin 512, k0_pay246 b (ix2 i l) = r.zq ⟨l.val, by omega⟩ := fun l => by
    refine Eq.trans ?_ (zq_at hr ⟨l.val, by omega⟩)
    simp only [k0_pay245, k0_pay246]
    pointwise [k0_pay135]
  simp only [k0_pay246] at hz
  simp only [k0_pay246, k0_pay247, k0_pay248, k0_pay249, k0_pay250, k0_pay251]
  pointwise [k0_pay136, k0_pay137, k0_pay138, k0_pay139, k0_pay140]
  generalize k0_pay135 (k0_pay213 b) (View.ld b.x3 r0_31) (View.ld b.x8 r0_32) (View.ld b.x10 r0_33) = z at hz ⊢
  simp only [owner64 (L := 512) (by decide)]
  have hz' : ∀ l : Fin 512, IsReal (z (ix2 i l)) := fun l => (hz l).symm ▸ hf.zq _
  refine (plain512 (z := fun l => z (ix2 i l)) (g := fun l => b.x12 (ix2 0 l)) hz' hr.cq h d l hl).trans ?_
  simp only [hz]
  rfl

/-- The rotated part of mixer C's query, over all lanes. -/
theorem qrope_at (hr : Reads b i r) (hf : r.Finite) (h : Fin 8) (d : Fin 32) (l : Fin 256) (hl : l.val = 32 * h.val + d.val) :
    k0_pay258 b (ix2 i l) = r.qrope h d := by
  have hz : ∀ l : Fin 256, k0_pay149 (k0_pay245 b) (ix2 i l) = r.zq ⟨512 + l.val, by omega⟩ := fun l => by
    refine Eq.trans ?_ (zq_at hr ⟨512 + l.val, by omega⟩)
    pointwise [k0_pay149]
  simp only [k0_pay258, k0_pay209, k0_pay210, k0_pay252, k0_pay253, k0_pay254, k0_pay255, k0_pay256, k0_pay257]
  pointwise [k0_pay5, k0_pay6, k0_pay150, k0_pay151, k0_pay152, k0_pay153, k0_pay154, k0_pay155, k0_pay156]
  generalize k0_pay149 (k0_pay245 b) = z at hz ⊢
  simp only [owner32 (L := 256) (by decide)]
  have hz' : ∀ l : Fin 256, IsReal (z (ix2 i l)) := fun l => (hz l).symm ▸ hf.zq _
  refine (turn256 hr (z := fun l => z (ix2 i l)) (g := fun l => b.x14 (ix2 0 l)) hz' hr.cqr h d l ⟨(l.val + 256 - 248) % 256, Nat.mod_lt _ (by decide)⟩ ⟨(l.val + 256 - 8) % 256, Nat.mod_lt _ (by decide)⟩ hl rfl rfl).trans ?_
  simp only [hz]
  rfl

/-- The part of mixer C's key without rotation, over all lanes. -/
theorem knope_at (hr : Reads b i r) (hf : r.Finite) (h : Fin 8) (d : Fin 64) (l : Fin 512) (hl : l.val = 64 * h.val + d.val) :
    (k0_pay181 (k0_pay263 b) (k0_pay264 b) (k0_pay265 b) (k0_pay266 b)) (ix2 i l) = r.knope h d := by
  have hz : ∀ l : Fin 512, k0_pay263 b (ix2 i l) = r.kv ⟨l.val, by omega⟩ := fun l => by
    refine Eq.trans ?_ (kv_at hr ⟨l.val, by omega⟩)
    simp only [k0_pay262, k0_pay263]
    pointwise [k0_pay175]
  simp only [k0_pay263] at hz
  simp only [k0_pay263, k0_pay264, k0_pay265, k0_pay266]
  pointwise [k0_pay176, k0_pay177, k0_pay178, k0_pay179, k0_pay180, k0_pay181]
  generalize k0_pay175 (k0_pay260 b) (View.ld b.x11 r0_45) = z at hz ⊢
  simp only [owner64 (L := 512) (by decide)]
  have hz' : ∀ l : Fin 512, IsReal (z (ix2 i l)) := fun l => (hz l).symm ▸ hf.kv _
  refine (plain512 (z := fun l => z (ix2 i l)) (g := fun l => b.x13 (ix2 0 l)) hz' hr.ck h d l hl).trans ?_
  simp only [hz]
  rfl

/-- The rotated part of mixer C's key. -/
theorem krope_at (hr : Reads b i r) (hf : r.Finite) (d : Fin 32) : k0_pay261 b (ix2 i d) = r.krope d := by
  simp only [k0_pay209, k0_pay210, k0_pay261]
  pointwise [k0_pay5, k0_pay6, k0_pay173]
  have hc : ∀ k : Fin 32, ∑ j, k0_pay213 b (ix2 i j) * b.x3 (ix2 j ⟨2944 + k.val, by omega⟩) = r.cols 2944 32 (by omega) k := fun k => col_at hr _
  simp only [const32, hc, hr.ckr]
  refine Eq.trans ?_ (turned_of_masked (f := 8) (w := 32) (by norm_num) (z := r.cols 2944 32 (by omega)) (g := r.ckr) (c := r.c32) (s := r.s32)
    (fun k => hf.col _) d
    ((∑ j, k0_pay213 b (ix2 i j) * b.x3 (ix2 j ⟨2944 + (d.val + 128 - 120) % 128, by omega⟩)) * b.x15 (ix2 0 ⟨(d.val + 128 - 120) % 128, by omega⟩))
    ((∑ j, k0_pay213 b (ix2 i j) * b.x3 (ix2 j ⟨2944 + (d.val + 128 - 8) % 128, by omega⟩)) * b.x15 (ix2 0 ⟨(d.val + 128 - 8) % 128, by omega⟩))
    (b.x22 (ix2 i ⟨d.val, by omega⟩)) (b.x23 (ix2 i ⟨d.val, by omega⟩)) ?_ ?_ ?_ ?_)
  · rw [← (hr.c32 ⟨d.val, by omega⟩).trans (congrArg r.c32 (Fin.ext (Nat.mod_eq_of_lt d.isLt) : (⟨d.val % 32, _⟩ : Fin 32) = d))]
    rfl
  · exact (hr.lo32 ⟨d.val, by omega⟩).trans (congrArg (low 8 r.s32) (Fin.ext (Nat.mod_eq_of_lt d.isLt)))
  · exact (hr.hi32 ⟨d.val, by omega⟩).trans (congrArg (high 8 r.s32) (Fin.ext (Nat.mod_eq_of_lt d.isLt)))
  · intro hd
    have e : (d.val + 128 - 120) % 128 = (d.val + 8) % 32 := by omega
    simp only [e]
    exact congrArg₂ (· * ·) (hc ⟨(d.val + 8) % 32, Nat.mod_lt _ (by decide)⟩) (hr.ckr ⟨(d.val + 8) % 32, Nat.mod_lt _ (by decide)⟩)
  · intro hd
    have e : (d.val + 128 - 8) % 128 = d.val - 8 := by omega
    simp only [e]
    exact congrArg₂ (· * ·) (hc ⟨d.val - 8, by omega⟩) (hr.ckr ⟨d.val - 8, by omega⟩)

end Cert.Kernel5Ideal.Block

end
-- ==== Proof.Store5.lean ====
/- The projections' block: what the twelve buffers hold of the tokens' rows. -/
module

public import proofs.«01_k».proof.Proof.Block5
public import Idealize.ShloMosaic.Lib.Pipeline.ValueKit

@[expose] public section

set_option maxRecDepth 16384

noncomputable section

namespace Cert.Kernel5Ideal.Block

open Idealize.ShloMosaic Cert.Kernel5Ideal Cert.Kernel5Ideal.Gen Cert.Merge Cert.Heads

variable {b : Blocks Ideal} {R : Fin 256 → Row}

/-- A buffer of eight heads of 64 coordinates, tokens before coordinates. -/
def rows8 (f : Fin 256 → Fin 8 → Fin 64 → EReal) : FVec Ideal S1x8x256x64 .bf16 :=
  fun y => f ⟨(y 2).val, (y 2).isLt⟩ ⟨(y 1).val, (y 1).isLt⟩ ⟨(y 3).val, (y 3).isLt⟩

/-- One head's store in such a buffer. -/
theorem rows8_piece {f : Fin 256 → Fin 8 → Fin 64 → EReal} (k : Fin 8) {o : Fin 4 → ℕ} (ho : o = ![0, k.val, 0, 0])
    (inb : ∀ a : Fin 4, o a + S1x1x256x64.size a ≤ S1x8x256x64.size a) {p : FVec Ideal S1x1x256x64 .bf16}
    (hp : ∀ (i : Fin 256) (d : Fin 64), p (ix4 (0 : Fin 1) (0 : Fin 1) i d) = f i k d) (x : S1x1x256x64.Idx) :
    p x = rows8 f ((Rect.unit (s := S1x8x256x64) o S1x1x256x64.size inb).emb x) := by
  subst ho
  obtain ⟨a, a', i, d, rfl⟩ : ∃ (a a' : Fin 1) (i : Fin 256) (d : Fin 64), x = ix4 a a' i d := ⟨x 0, x 1, x 2, x 3, eq_ix4 x⟩
  obtain rfl : a = 0 := Subsingleton.elim _ _
  obtain rfl : a' = 0 := Subsingleton.elim _ _
  have he : (Rect.unit (s := S1x8x256x64) ![0, k.val, 0, 0] S1x1x256x64.size inb).emb (ix4 (0 : Fin 1) (0 : Fin 1) i d) = (ix4 (0 : Fin 1) k i d : S1x8x256x64.Idx) := by
    blk_ext []
  rw [he, hp]
  rfl

/-- A buffer of two heads of 64 coordinates, tokens before coordinates. -/
def rows2 (f : Fin 256 → Fin 2 → Fin 64 → EReal) : FVec Ideal S1x2x256x64 .bf16 :=
  fun y => f ⟨(y 2).val, (y 2).isLt⟩ ⟨(y 1).val, (y 1).isLt⟩ ⟨(y 3).val, (y 3).isLt⟩

/-- One head's store in such a buffer. -/
theorem rows2_piece {f : Fin 256 → Fin 2 → Fin 64 → EReal} (k : Fin 2) {o : Fin 4 → ℕ} (ho : o = ![0, k.val, 0, 0])
    (inb : ∀ a : Fin 4, o a + S1x1x256x64.size a ≤ S1x2x256x64.size a) {p : FVec Ideal S1x1x256x64 .bf16}
    (hp : ∀ (i : Fin 256) (d : Fin 64), p (ix4 (0 : Fin 1) (0 : Fin 1) i d) = f i k d) (x : S1x1x256x64.Idx) :
    p x = rows2 f ((Rect.unit (s := S1x2x256x64) o S1x1x256x64.size inb).emb x) := by
  subst ho
  obtain ⟨a, a', i, d, rfl⟩ : ∃ (a a' : Fin 1) (i : Fin 256) (d : Fin 64), x = ix4 a a' i d := ⟨x 0, x 1, x 2, x 3, eq_ix4 x⟩
  obtain rfl : a = 0 := Subsingleton.elim _ _
  obtain rfl : a' = 0 := Subsingleton.elim _ _
  have he : (Rect.unit (s := S1x2x256x64) ![0, k.val, 0, 0] S1x1x256x64.size inb).emb (ix4 (0 : Fin 1) (0 : Fin 1) i d) = (ix4 (0 : Fin 1) k i d : S1x2x256x64.Idx) := by
    blk_ext []
  rw [he, hp]
  rfl

/-- A buffer of eight heads of 128 coordinates, tokens before coordinates. -/
def wide8 (f : Fin 256 → Fin 8 → Fin 128 → EReal) : FVec Ideal S1x8x256x128 .bf16 :=
  fun y => f ⟨(y 2).val, (y 2).isLt⟩ ⟨(y 1).val, (y 1).isLt⟩ ⟨(y 3).val, (y 3).isLt⟩

/-- One head's store in such a buffer. -/
theorem wide8_piece {f : Fin 256 → Fin 8 → Fin 128 → EReal} (k : Fin 8) {o : Fin 4 → ℕ} (ho : o = ![0, k.val, 0, 0])
    (inb : ∀ a : Fin 4, o a + S1x1x256x128.size a ≤ S1x8x256x128.size a) {p : FVec Ideal S1x1x256x128 .bf16}
    (hp : ∀ (i : Fin 256) (d : Fin 128), p (ix4 (0 : Fin 1) (0 : Fin 1) i d) = f i k d) (x : S1x1x256x128.Idx) :
    p x = wide8 f ((Rect.unit (s := S1x8x256x128) o S1x1x256x128.size inb).emb x) := by
  subst ho
  obtain ⟨a, a', i, d, rfl⟩ : ∃ (a a' : Fin 1) (i : Fin 256) (d : Fin 128), x = ix4 a a' i d := ⟨x 0, x 1, x 2, x 3, eq_ix4 x⟩
  obtain rfl : a = 0 := Subsingleton.elim _ _
  obtain rfl : a' = 0 := Subsingleton.elim _ _
  have he : (Rect.unit (s := S1x8x256x128) ![0, k.val, 0, 0] S1x1x256x128.size inb).emb (ix4 (0 : Fin 1) (0 : Fin 1) i d) = (ix4 (0 : Fin 1) k i d : S1x8x256x128.Idx) := by
    blk_ext []
  rw [he, hp]
  rfl

/-- A buffer of four heads of 128 coordinates, coordinates before tokens. -/
def cols4 (f : Fin 256 → Fin 4 → Fin 128 → EReal) : FVec Ideal S1x4x128x256 .bf16 :=
  fun y => f ⟨(y 3).val, (y 3).isLt⟩ ⟨(y 1).val, (y 1).isLt⟩ ⟨(y 2).val, (y 2).isLt⟩

/-- One head's store in such a buffer. -/
theorem cols4_piece {f : Fin 256 → Fin 4 → Fin 128 → EReal} (k : Fin 4) {o : Fin 4 → ℕ} (ho : o = ![0, k.val, 0, 0])
    (inb : ∀ a : Fin 4, o a + S1x1x128x256.size a ≤ S1x4x128x256.size a) {p : FVec Ideal S1x1x128x256 .bf16}
    (hp : ∀ (i : Fin 256) (d : Fin 128), p (ix4 (0 : Fin 1) (0 : Fin 1) d i) = f i k d) (x : S1x1x128x256.Idx) :
    p x = cols4 f ((Rect.unit (s := S1x4x128x256) o S1x1x128x256.size inb).emb x) := by
  subst ho
  obtain ⟨a, a', i, d, rfl⟩ : ∃ (a a' : Fin 1) (i : Fin 128) (d : Fin 256), x = ix4 a a' i d := ⟨x 0, x 1, x 2, x 3, eq_ix4 x⟩
  obtain rfl : a = 0 := Subsingleton.elim _ _
  obtain rfl : a' = 0 := Subsingleton.elim _ _
  have he : (Rect.unit (s := S1x4x128x256) ![0, k.val, 0, 0] S1x1x128x256.size inb).emb (ix4 (0 : Fin 1) (0 : Fin 1) i d) = (ix4 (0 : Fin 1) k i d : S1x4x128x256.Idx) := by
    blk_ext []
  rw [he, hp]
  rfl

/-- A buffer of two heads of 64 coordinates, coordinates before tokens. -/
def cols2 (f : Fin 256 → Fin 2 → Fin 64 → EReal) : FVec Ideal S1x2x64x256 .bf16 :=
  fun y => f ⟨(y 3).val, (y 3).isLt⟩ ⟨(y 1).val, (y 1).isLt⟩ ⟨(y 2).val, (y 2).isLt⟩

/-- One head's store in such a buffer. -/
theorem cols2_piece {f : Fin 256 → Fin 2 → Fin 64 → EReal} (k : Fin 2) {o : Fin 4 → ℕ} (ho : o = ![0, k.val, 0, 0])
    (inb : ∀ a : Fin 4, o a + S1x1x64x256.size a ≤ S1x2x64x256.size a) {p : FVec Ideal S1x1x64x256 .bf16}
    (hp : ∀ (i : Fin 256) (d : Fin 64), p (ix4 (0 : Fin 1) (0 : Fin 1) d i) = f i k d) (x : S1x1x64x256.Idx) :
    p x = cols2 f ((Rect.unit (s := S1x2x64x256) o S1x1x64x256.size inb).emb x) := by
  subst ho
  obtain ⟨a, a', i, d, rfl⟩ : ∃ (a a' : Fin 1) (i : Fin 64) (d : Fin 256), x = ix4 a a' i d := ⟨x 0, x 1, x 2, x 3, eq_ix4 x⟩
  obtain rfl : a = 0 := Subsingleton.elim _ _
  obtain rfl : a' = 0 := Subsingleton.elim _ _
  have he : (Rect.unit (s := S1x2x64x256) ![0, k.val, 0, 0] S1x1x64x256.size inb).emb (ix4 (0 : Fin 1) (0 : Fin 1) i d) = (ix4 (0 : Fin 1) k i d : S1x2x64x256.Idx) := by
    blk_ext []
  rw [he, hp]
  rfl

/-- A buffer of eight heads of 64 coordinates, coordinates before tokens. -/
def cols8 (f : Fin 256 → Fin 8 → Fin 64 → EReal) : FVec Ideal S1x8x64x256 .bf16 :=
  fun y => f ⟨(y 3).val, (y 3).isLt⟩ ⟨(y 1).val, (y 1).isLt⟩ ⟨(y 2).val, (y 2).isLt⟩

/-- One head's store in such a buffer. -/
theorem cols8_piece {f : Fin 256 → Fin 8 → Fin 64 → EReal} (k : Fin 8) {o : Fin 4 → ℕ} (ho : o = ![0, k.val, 0, 0])
    (inb : ∀ a : Fin 4, o a + S1x1x64x256.size a ≤ S1x8x64x256.size a) {p : FVec Ideal S1x1x64x256 .bf16}
    (hp : ∀ (i : Fin 256) (d : Fin 64), p (ix4 (0 : Fin 1) (0 : Fin 1) d i) = f i k d) (x : S1x1x64x256.Idx) :
    p x = cols8 f ((Rect.unit (s := S1x8x64x256) o S1x1x64x256.size inb).emb x) := by
  subst ho
  obtain ⟨a, a', i, d, rfl⟩ : ∃ (a a' : Fin 1) (i : Fin 64) (d : Fin 256), x = ix4 a a' i d := ⟨x 0, x 1, x 2, x 3, eq_ix4 x⟩
  obtain rfl : a = 0 := Subsingleton.elim _ _
  obtain rfl : a' = 0 := Subsingleton.elim _ _
  have he : (Rect.unit (s := S1x8x64x256) ![0, k.val, 0, 0] S1x1x64x256.size inb).emb (ix4 (0 : Fin 1) (0 : Fin 1) i d) = (ix4 (0 : Fin 1) k i d : S1x8x64x256.Idx) := by
    blk_ext []
  rw [he, hp]
  rfl

/-- What mixer A's query buffer holds. -/
theorem buffer_qa (hr : ∀ i, Reads b i (R i)) (hf : ∀ i, (R i).Finite) (h : Fin 8) (i : Fin 256) (d : Fin 64) :
    out0_24 b (ix4 (0 : Fin 1) h i d) = (R i).qa h d := by
  unfold out0_24
  refine View.canon_apply_of_pieces (Val := Elt Ideal) (rows8 fun i => (R i).qa) _ ?_ (ix4 (0 : Fin 1) h i d) (cover0_24 _ _ _ _ _ _ _ _ _)
  simp only [List.forall_mem_cons, List.not_mem_nil, false_implies, implies_true, and_true]
  exact ⟨rows8_piece 7 rfl _ fun i d => Eq.trans (by pointwise [k0_pay28, k0_pay19]) (qa_at (hr i) (hf i) 7 d ⟨448 + d.val, by omega⟩ rfl),
    rows8_piece 6 rfl _ fun i d => Eq.trans (by pointwise [k0_pay27, k0_pay18]) (qa_at (hr i) (hf i) 6 d ⟨384 + d.val, by omega⟩ rfl),
    rows8_piece 5 rfl _ fun i d => Eq.trans (by pointwise [k0_pay26, k0_pay17]) (qa_at (hr i) (hf i) 5 d ⟨320 + d.val, by omega⟩ rfl),
    rows8_piece 4 rfl _ fun i d => Eq.trans (by pointwise [k0_pay25, k0_pay24]) (qa_at (hr i) (hf i) 4 d ⟨256 + d.val, by omega⟩ rfl),
    rows8_piece 3 rfl _ fun i d => Eq.trans (by pointwise [k0_pay23]) (qa_at (hr i) (hf i) 3 d ⟨192 + d.val, by omega⟩ rfl),
    rows8_piece 2 rfl _ fun i d => Eq.trans (by pointwise [k0_pay22]) (qa_at (hr i) (hf i) 2 d ⟨128 + d.val, by omega⟩ rfl),
    rows8_piece 1 rfl _ fun i d => Eq.trans (by pointwise [k0_pay21]) (qa_at (hr i) (hf i) 1 d ⟨64 + d.val, by omega⟩ rfl),
    rows8_piece 0 rfl _ fun i d => Eq.trans (by pointwise [k0_pay20]) (qa_at (hr i) (hf i) 0 d ⟨0 + d.val, by omega⟩ rfl)⟩

/-- What mixer A's key buffer holds. -/
theorem buffer_ka (hr : ∀ i, Reads b i (R i)) (hf : ∀ i, (R i).Finite) (h : Fin 8) (i : Fin 256) (d : Fin 64) :
    out0_25 b (ix4 (0 : Fin 1) h i d) = (R i).ka h d := by
  unfold out0_25
  refine View.canon_apply_of_pieces (Val := Elt Ideal) (rows8 fun i => (R i).ka) _ ?_ (ix4 (0 : Fin 1) h i d) (cover0_25 _ _ _ _ _ _ _ _ _)
  simp only [List.forall_mem_cons, List.not_mem_nil, false_implies, implies_true, and_true]
  exact ⟨rows8_piece 7 rfl _ fun i d => Eq.trans (by pointwise [k0_pay52, k0_pay43]) (ka_at (hr i) (hf i) 7 d ⟨448 + d.val, by omega⟩ rfl),
    rows8_piece 6 rfl _ fun i d => Eq.trans (by pointwise [k0_pay51, k0_pay42]) (ka_at (hr i) (hf i) 6 d ⟨384 + d.val, by omega⟩ rfl),
    rows8_piece 5 rfl _ fun i d => Eq.trans (by pointwise [k0_pay50, k0_pay41]) (ka_at (hr i) (hf i) 5 d ⟨320 + d.val, by omega⟩ rfl),
    rows8_piece 4 rfl _ fun i d => Eq.trans (by pointwise [k0_pay49, k0_pay40]) (ka_at (hr i) (hf i) 4 d ⟨256 + d.val, by omega⟩ rfl),
    rows8_piece 3 rfl _ fun i d => Eq.trans (by pointwise [k0_pay48, k0_pay39]) (ka_at (hr i) (hf i) 3 d ⟨192 + d.val, by omega⟩ rfl),
    rows8_piece 2 rfl _ fun i d => Eq.trans (by pointwise [k0_pay47, k0_pay38]) (ka_at (hr i) (hf i) 2 d ⟨128 + d.val, by omega⟩ rfl),
    rows8_piece 1 rfl _ fun i d => Eq.trans (by pointwise [k0_pay46, k0_pay45]) (ka_at (hr i) (hf i) 1 d ⟨64 + d.val, by omega⟩ rfl),
    rows8_piece 0 rfl _ fun i d => Eq.trans (by pointwise [k0_pay44]) (ka_at (hr i) (hf i) 0 d ⟨0 + d.val, by omega⟩ rfl)⟩

/-- What mixer A's value buffer holds. -/
theorem buffer_va (hr : ∀ i, Reads b i (R i)) (h : Fin 4) (i : Fin 256) (d : Fin 128) :
    out0_26 b (ix4 (0 : Fin 1) h d i) = (R i).va h d := by
  unfold out0_26
  refine View.canon_apply_of_pieces (Val := Elt Ideal) (cols4 fun i => (R i).va) _ ?_ (ix4 (0 : Fin 1) h d i) (cover0_26 _ _ _ _ _)
  simp only [List.forall_mem_cons, List.not_mem_nil, false_implies, implies_true, and_true]
  exact ⟨cols4_piece 3 rfl _ fun i d => Eq.trans (by pointwise [k0_pay57, k0_pay53]) (col_at (hr i) ⟨1024 + (384 + d.val), by omega⟩),
    cols4_piece 2 rfl _ fun i d => Eq.trans (by pointwise [k0_pay56, k0_pay53]) (col_at (hr i) ⟨1024 + (256 + d.val), by omega⟩),
    cols4_piece 1 rfl _ fun i d => Eq.trans (by pointwise [k0_pay55, k0_pay53]) (col_at (hr i) ⟨1024 + (128 + d.val), by omega⟩),
    cols4_piece 0 rfl _ fun i d => Eq.trans (Eq.trans (by pointwise [k0_pay54, k0_pay53]) (col_at (hr i) ⟨1024 + d.val, by omega⟩)) (congrArg _ (Fin.ext (congrArg (1024 + ·) (Nat.zero_add d.val).symm)))⟩

/-- What mixer B's query buffer holds. -/
theorem buffer_qb (hr : ∀ i, Reads b i (R i)) (hf : ∀ i, (R i).Finite) (h : Fin 8) (i : Fin 256) (d : Fin 64) :
    out0_27 b (ix4 (0 : Fin 1) h i d) = (R i).qb h d := by
  unfold out0_27
  refine View.canon_apply_of_pieces (Val := Elt Ideal) (rows8 fun i => (R i).qb) _ ?_ (ix4 (0 : Fin 1) h i d) (cover0_27 _ _ _ _ _ _ _ _ _)
  simp only [List.forall_mem_cons, List.not_mem_nil, false_implies, implies_true, and_true]
  exact ⟨rows8_piece 7 rfl _ fun i d => Eq.trans (by pointwise [k0_pay84, k0_pay75]) (qb_at (hr i) (hf i) 7 d ⟨448 + d.val, by omega⟩ rfl),
    rows8_piece 6 rfl _ fun i d => Eq.trans (by pointwise [k0_pay83, k0_pay82, k0_pay74]) (qb_at (hr i) (hf i) 6 d ⟨384 + d.val, by omega⟩ rfl),
    rows8_piece 5 rfl _ fun i d => Eq.trans (by pointwise [k0_pay81, k0_pay73]) (qb_at (hr i) (hf i) 5 d ⟨320 + d.val, by omega⟩ rfl),
    rows8_piece 4 rfl _ fun i d => Eq.trans (by pointwise [k0_pay80, k0_pay72]) (qb_at (hr i) (hf i) 4 d ⟨256 + d.val, by omega⟩ rfl),
    rows8_piece 3 rfl _ fun i d => Eq.trans (by pointwise [k0_pay79, k0_pay71]) (qb_at (hr i) (hf i) 3 d ⟨192 + d.val, by omega⟩ rfl),
    rows8_piece 2 rfl _ fun i d => Eq.trans (by pointwise [k0_pay78, k0_pay70]) (qb_at (hr i) (hf i) 2 d ⟨128 + d.val, by omega⟩ rfl),
    rows8_piece 1 rfl _ fun i d => Eq.trans (by pointwise [k0_pay77, k0_pay69]) (qb_at (hr i) (hf i) 1 d ⟨64 + d.val, by omega⟩ rfl),
    rows8_piece 0 rfl _ fun i d => Eq.trans (by pointwise [k0_pay76, k0_pay68]) (qb_at (hr i) (hf i) 0 d ⟨0 + d.val, by omega⟩ rfl)⟩

/-- What mixer B's key buffer holds. -/
theorem buffer_kb (hr : ∀ i, Reads b i (R i)) (hf : ∀ i, (R i).Finite) (h : Fin 2) (i : Fin 256) (d : Fin 64) :
    out0_28 b (ix4 (0 : Fin 1) h i d) = (R i).kb h d := by
  unfold out0_28
  refine View.canon_apply_of_pieces (Val := Elt Ideal) (rows2 fun i => (R i).kb) _ ?_ (ix4 (0 : Fin 1) h i d) (cover0_28 _ _ _)
  simp only [List.forall_mem_cons, List.not_mem_nil, false_implies, implies_true, and_true]
  exact ⟨rows2_piece 1 rfl _ fun i d => Eq.trans (by pointwise [k0_pay97]) (kb_at (hr i) (hf i) 1 d ⟨64 + d.val, by omega⟩ rfl),
    rows2_piece 0 rfl _ fun i d => Eq.trans (by pointwise [k0_pay96]) (kb_at (hr i) (hf i) 0 d ⟨0 + d.val, by omega⟩ rfl)⟩

/-- What mixer B's value buffer holds. -/
theorem buffer_vb (hr : ∀ i, Reads b i (R i)) (h : Fin 2) (i : Fin 256) (d : Fin 64) :
    out0_29 b (ix4 (0 : Fin 1) h d i) = (R i).vb h d := by
  unfold out0_29
  refine View.canon_apply_of_pieces (Val := Elt Ideal) (cols2 fun i => (R i).vb) _ ?_ (ix4 (0 : Fin 1) h d i) (cover0_29 _ _ _)
  simp only [List.forall_mem_cons, List.not_mem_nil, false_implies, implies_true, and_true]
  exact ⟨cols2_piece 1 rfl _ fun i d => Eq.trans (by pointwise [k0_pay101, k0_pay100, k0_pay98]) (col_at (hr i) ⟨2176 + (64 + d.val), by omega⟩),
    cols2_piece 0 rfl _ fun i d => Eq.trans (Eq.trans (by pointwise [k0_pay99, k0_pay98]) (col_at (hr i) ⟨2176 + d.val, by omega⟩)) (congrArg _ (Fin.ext (congrArg (2176 + ·) (Nat.zero_add d.val).symm)))⟩

/-- What mixer C's value buffer holds. -/
theorem buffer_vc (hr : ∀ i, Reads b i (R i)) (h : Fin 8) (i : Fin 256) (d : Fin 64) :
    out0_32 b (ix4 (0 : Fin 1) h d i) = (R i).vc h d := by
  unfold out0_32
  refine View.canon_apply_of_pieces (Val := Elt Ideal) (cols8 fun i => (R i).vc) _ ?_ (ix4 (0 : Fin 1) h d i) (cover0_32 _ _ _ _ _ _ _ _ _)
  simp only [List.forall_mem_cons, List.not_mem_nil, false_implies, implies_true, and_true]
  exact ⟨cols8_piece 7 rfl _ fun i d => Eq.trans (by simp only [k0_pay269]; pointwise [k0_pay2, k0_pay200]) (kv_at (hr i) ⟨512 + (448 + d.val), by omega⟩),
    cols8_piece 6 rfl _ fun i d => Eq.trans (by simp only [k0_pay269]; pointwise [k0_pay1, k0_pay200]) (kv_at (hr i) ⟨512 + (384 + d.val), by omega⟩),
    cols8_piece 5 rfl _ fun i d => Eq.trans (by pointwise [k0_pay206, k0_pay200]) (kv_at (hr i) ⟨512 + (320 + d.val), by omega⟩),
    cols8_piece 4 rfl _ fun i d => Eq.trans (by pointwise [k0_pay205, k0_pay200]) (kv_at (hr i) ⟨512 + (256 + d.val), by omega⟩),
    cols8_piece 3 rfl _ fun i d => Eq.trans (by pointwise [k0_pay204, k0_pay200]) (kv_at (hr i) ⟨512 + (192 + d.val), by omega⟩),
    cols8_piece 2 rfl _ fun i d => Eq.trans (by pointwise [k0_pay203, k0_pay200]) (kv_at (hr i) ⟨512 + (128 + d.val), by omega⟩),
    cols8_piece 1 rfl _ fun i d => Eq.trans (by pointwise [k0_pay202, k0_pay200]) (kv_at (hr i) ⟨512 + (64 + d.val), by omega⟩),
    cols8_piece 0 rfl _ fun i d => Eq.trans (Eq.trans (by pointwise [k0_pay201, k0_pay200]) (kv_at (hr i) ⟨512 + d.val, by omega⟩)) (congrArg _ (Fin.ext (congrArg (512 + ·) (Nat.zero_add d.val).symm)))⟩

/-- A head of mixer C's queries: its two parts and the zeros side by side. -/
theorem padded_qc {i : Fin 256} {r : Row} (hr : Reads b i r) (hf : r.Finite) (h : Fin 8) (d : Fin 128) :
    (if e : d.val < 64 then (k0_pay140 (k0_pay246 b) (k0_pay247 b) (k0_pay249 b) (k0_pay248 b) 64#32 (k0_pay250 b) (k0_pay251 b)) (ix2 i (⟨64 * h.val + d.val, by omega⟩ : Fin 512))
      else if e1 : d.val - 64 < 32 then k0_pay258 b (ix2 i (⟨32 * h.val + (d.val - 64), by omega⟩ : Fin 256)) else (0 : EReal)) = r.qc h d :=
  dite_congr rfl (fun e => qnope_at hr hf h ⟨d.val, e⟩ _ rfl) fun _ => dite_congr rfl (fun e => qrope_at hr hf h ⟨d.val - 64, e⟩ _ rfl) fun _ => rfl

/-- A head of mixer C's keys: its two parts and the zeros side by side. -/
theorem padded_kc {i : Fin 256} {r : Row} (hr : Reads b i r) (hf : r.Finite) (h : Fin 8) (d : Fin 128) :
    (if e : d.val < 64 then (k0_pay181 (k0_pay263 b) (k0_pay264 b) (k0_pay265 b) (k0_pay266 b)) (ix2 i (⟨64 * h.val + d.val, by omega⟩ : Fin 512))
      else if e1 : d.val - 64 < 32 then k0_pay261 b (ix2 i (⟨d.val - 64, e1⟩ : Fin 32)) else (0 : EReal)) = r.kc h d :=
  dite_congr rfl (fun e => knope_at hr hf h ⟨d.val, e⟩ _ rfl) fun _ => dite_congr rfl (fun e => krope_at hr hf ⟨d.val - 64, e⟩) fun _ => rfl

/-- What mixer C's query buffer holds. -/
theorem buffer_qc (hr : ∀ i, Reads b i (R i)) (hf : ∀ i, (R i).Finite) (h : Fin 8) (i : Fin 256) (d : Fin 128) :
    out0_30 b (ix4 (0 : Fin 1) h i d) = (R i).qc h d := by
  unfold out0_30
  refine View.canon_apply_of_pieces (Val := Elt Ideal) (wide8 fun i => (R i).qc) _ ?_ (ix4 (0 : Fin 1) h i d) (cover0_30 _ _ _ _ _ _ _ _ _)
  simp only [List.forall_mem_cons, List.not_mem_nil, false_implies, implies_true, and_true]
  exact ⟨wide8_piece 7 rfl _ fun i d => Eq.trans (by pointwise [k0_pay171, k0_pay148, k0_pay161, k0_pay259, k0_pay162]) (padded_qc (hr i) (hf i) 7 d),
    wide8_piece 6 rfl _ fun i d => Eq.trans (by pointwise [k0_pay170, k0_pay147, k0_pay160, k0_pay259, k0_pay162]) (padded_qc (hr i) (hf i) 6 d),
    wide8_piece 5 rfl _ fun i d => Eq.trans (by pointwise [k0_pay169, k0_pay146, k0_pay159, k0_pay259, k0_pay162]) (padded_qc (hr i) (hf i) 5 d),
    wide8_piece 4 rfl _ fun i d => Eq.trans (by pointwise [k0_pay168, k0_pay167, k0_pay145, k0_pay162]) (padded_qc (hr i) (hf i) 4 d),
    wide8_piece 3 rfl _ fun i d => Eq.trans (by pointwise [k0_pay166, k0_pay144, k0_pay162]) (padded_qc (hr i) (hf i) 3 d),
    wide8_piece 2 rfl _ fun i d => Eq.trans (by pointwise [k0_pay165, k0_pay143, k0_pay162]) (padded_qc (hr i) (hf i) 2 d),
    wide8_piece 1 rfl _ fun i d => Eq.trans (by simp only [k0_pay258]; pointwise [k0_pay164, k0_pay142, k0_pay158, k0_pay162]) (padded_qc (hr i) (hf i) 1 d),
    wide8_piece 0 rfl _ fun i d => Eq.trans (by simp only [k0_pay258]; pointwise [k0_pay163, k0_pay141, k0_pay157, k0_pay162]) (padded_qc (hr i) (hf i) 0 d)⟩

/-- What mixer C's key buffer holds. -/
theorem buffer_kc (hr : ∀ i, Reads b i (R i)) (hf : ∀ i, (R i).Finite) (h : Fin 8) (i : Fin 256) (d : Fin 128) :
    out0_31 b (ix4 (0 : Fin 1) h i d) = (R i).kc h d := by
  unfold out0_31
  refine View.canon_apply_of_pieces (Val := Elt Ideal) (wide8 fun i => (R i).kc) _ ?_ (ix4 (0 : Fin 1) h i d) (cover0_31 _ _ _ _ _ _ _ _ _)
  simp only [List.forall_mem_cons, List.not_mem_nil, false_implies, implies_true, and_true]
  exact ⟨wide8_piece 7 rfl _ fun i d => Eq.trans (by pointwise [k0_pay199, k0_pay198, k0_pay187, k0_pay267, k0_pay188, k0_pay268, k0_pay189]) (padded_kc (hr i) (hf i) 7 d),
    wide8_piece 6 rfl _ fun i d => Eq.trans (by pointwise [k0_pay197, k0_pay186, k0_pay267, k0_pay188, k0_pay268, k0_pay189]) (padded_kc (hr i) (hf i) 6 d),
    wide8_piece 5 rfl _ fun i d => Eq.trans (by pointwise [k0_pay196, k0_pay185, k0_pay267, k0_pay188, k0_pay268, k0_pay189]) (padded_kc (hr i) (hf i) 5 d),
    wide8_piece 4 rfl _ fun i d => Eq.trans (by pointwise [k0_pay195, k0_pay184, k0_pay267, k0_pay188, k0_pay268, k0_pay189]) (padded_kc (hr i) (hf i) 4 d),
    wide8_piece 3 rfl _ fun i d => Eq.trans (by pointwise [k0_pay194, k0_pay183, k0_pay267, k0_pay188, k0_pay268, k0_pay189]) (padded_kc (hr i) (hf i) 3 d),
    wide8_piece 2 rfl _ fun i d => Eq.trans (by pointwise [k0_pay193, k0_pay182, k0_pay267, k0_pay188, k0_pay268, k0_pay189]) (padded_kc (hr i) (hf i) 2 d),
    wide8_piece 1 rfl _ fun i d => Eq.trans (by pointwise [k0_pay192, k0_pay191, k0_pay188, k0_pay189]) (padded_kc (hr i) (hf i) 1 d),
    wide8_piece 0 rfl _ fun i d => Eq.trans (by pointwise [k0_pay190, k0_pay188, k0_pay189]) (padded_kc (hr i) (hf i) 0 d)⟩

/-- What mixer D's query buffer holds. -/
theorem buffer_qd (hr : ∀ i, Reads b i (R i)) (hf : ∀ i, (R i).Finite) (h : Fin 8) (i : Fin 256) (d : Fin 64) :
    out0_33 b (ix4 (0 : Fin 1) h i d) = (R i).qd h d := by
  unfold out0_33
  refine View.canon_apply_of_pieces (Val := Elt Ideal) (rows8 fun i => (R i).qd) _ ?_ (ix4 (0 : Fin 1) h i d) (cover0_33 _ _ _ _ _ _ _ _ _)
  simp only [List.forall_mem_cons, List.not_mem_nil, false_implies, implies_true, and_true]
  exact ⟨rows8_piece 7 rfl _ fun i d => Eq.trans (by pointwise [k0_pay120, k0_pay111]) (qd_at (hr i) (hf i) 7 d ⟨448 + d.val, by omega⟩ rfl),
    rows8_piece 6 rfl _ fun i d => Eq.trans (by pointwise [k0_pay119, k0_pay110]) (qd_at (hr i) (hf i) 6 d ⟨384 + d.val, by omega⟩ rfl),
    rows8_piece 5 rfl _ fun i d => Eq.trans (by pointwise [k0_pay118, k0_pay109]) (qd_at (hr i) (hf i) 5 d ⟨320 + d.val, by omega⟩ rfl),
    rows8_piece 4 rfl _ fun i d => Eq.trans (by pointwise [k0_pay117, k0_pay116]) (qd_at (hr i) (hf i) 4 d ⟨256 + d.val, by omega⟩ rfl),
    rows8_piece 3 rfl _ fun i d => Eq.trans (by pointwise [k0_pay115]) (qd_at (hr i) (hf i) 3 d ⟨192 + d.val, by omega⟩ rfl),
    rows8_piece 2 rfl _ fun i d => Eq.trans (by pointwise [k0_pay114]) (qd_at (hr i) (hf i) 2 d ⟨128 + d.val, by omega⟩ rfl),
    rows8_piece 1 rfl _ fun i d => Eq.trans (by pointwise [k0_pay113]) (qd_at (hr i) (hf i) 1 d ⟨64 + d.val, by omega⟩ rfl),
    rows8_piece 0 rfl _ fun i d => Eq.trans (by pointwise [k0_pay112]) (qd_at (hr i) (hf i) 0 d ⟨0 + d.val, by omega⟩ rfl)⟩

/-- What mixer D's key buffer holds. -/
theorem buffer_kd (hr : ∀ i, Reads b i (R i)) (hf : ∀ i, (R i).Finite) (h : Fin 2) (i : Fin 256) (d : Fin 64) :
    out0_34 b (ix4 (0 : Fin 1) h i d) = (R i).kd h d := by
  unfold out0_34
  refine View.canon_apply_of_pieces (Val := Elt Ideal) (rows2 fun i => (R i).kd) _ ?_ (ix4 (0 : Fin 1) h i d) (cover0_34 _ _ _)
  simp only [List.forall_mem_cons, List.not_mem_nil, false_implies, implies_true, and_true]
  exact ⟨rows2_piece 1 rfl _ fun i d => Eq.trans (by pointwise [k0_pay130]) (kd_at (hr i) (hf i) 1 d ⟨64 + d.val, by omega⟩ rfl),
    rows2_piece 0 rfl _ fun i d => Eq.trans (by pointwise [k0_pay129]) (kd_at (hr i) (hf i) 0 d ⟨0 + d.val, by omega⟩ rfl)⟩

/-- What mixer D's value buffer holds. -/
theorem buffer_vd (hr : ∀ i, Reads b i (R i)) (h : Fin 2) (i : Fin 256) (d : Fin 64) :
    out0_35 b (ix4 (0 : Fin 1) h i d) = (R i).vd h d := by
  unfold out0_35
  refine View.canon_apply_of_pieces (Val := Elt Ideal) (rows2 fun i => (R i).vd) _ ?_ (ix4 (0 : Fin 1) h i d) (cover0_35 _ _ _)
  simp only [List.forall_mem_cons, List.not_mem_nil, false_implies, implies_true, and_true]
  exact ⟨rows2_piece 1 rfl _ fun i d => Eq.trans (by pointwise [k0_pay133, k0_pay131]) (col_at (hr i) ⟨3712 + (64 + d.val), by omega⟩),
    rows2_piece 0 rfl _ fun i d => Eq.trans (Eq.trans (by pointwise [k0_pay132, k0_pay131]) (col_at (hr i) ⟨3712 + d.val, by omega⟩)) (congrArg _ (Fin.ext (congrArg (3712 + ·) (Nat.zero_add d.val).symm)))⟩

end Cert.Kernel5Ideal.Block

end
-- ==== Proof.Host5.lean ====
/- What the host hands the projections' kernel: gains repeated for every head, and the rotation's tables repeated and split. -/
module

public import proofs.«01_k».proof.Proof.Lanes
public import proofs.«01_k».proof.Proof.Frame5A
public import Idealize.ShloMosaic.Lib.Pipeline.ValueKit
public import Idealize.ShloMosaic.Lib.StableHlo.ReadAt

@[expose] public section

set_option maxRecDepth 16384

noncomputable section

namespace Cert.Kernel5Ideal.Host

open Idealize.ShloMosaic Idealize.ShloMosaic.TcCoe Idealize.SL.Sem Cert.Heads Cert.Kernel5Ideal Cert.Kernel5Ideal.Gen

/-- Whether the host's remainder of `v` by `p` is below `q`. -/
abbrev below (p q v : BitVec 32) : BitVec 1 :=
  IntOp.cmpi .slt (IntOp.remsi .host v p) q

/-- It tells the first half of a chunk of 32 lanes. -/
theorem below64 : ∀ l : Fin 128, below 32#32 16#32 (BitVec.ofNat 32 (l.val % 64)) = BitVec.ofBool (decide (l.val % 64 % (2 * 16) < 16)) := by decide +kernel

/-- It tells the first half of a chunk of 16 lanes. -/
theorem below32 : ∀ l : Fin 128, below 16#32 8#32 (BitVec.ofNat 32 (l.val % 32)) = BitVec.ofBool (decide (l.val % 32 % (2 * 8) < 8)) := by decide +kernel

/-- A choice by a decided proposition. -/
theorem select_decide (p : Prop) [Decidable p] (a b : EReal) : Scalar.select (α := EReal) (BitVec.ofBool (decide p)) a b = if p then a else b := by
  unfold Scalar.select
  by_cases h : p <;> simp [h]

variable (m : (ℓ : Loc nD τ sig) → Buf (Elt Ideal) ℓ)

/-- The gain of mixer A's query, repeated. -/
theorem aq (c : Dev nD) (l : Fin 512) : (V m c main_v2 : FVec Ideal ⟨2, ![1, 512]⟩ .f32) (ix2 0 l)
    = (m ((c : Thread nD τ).loc main_arg4) : FVec Ideal ⟨2, ![1, 64]⟩ .f32) (ix2 0 ⟨l.val % 64, Nat.mod_lt _ (by decide)⟩) := by
  unfold V; after_reads_at

/-- The gain of mixer A's key, repeated. -/
theorem ak (c : Dev nD) (l : Fin 512) : (V m c main_v5 : FVec Ideal ⟨2, ![1, 512]⟩ .f32) (ix2 0 l)
    = (m ((c : Thread nD τ).loc main_arg5) : FVec Ideal ⟨2, ![1, 64]⟩ .f32) (ix2 0 ⟨l.val % 64, Nat.mod_lt _ (by decide)⟩) := by
  unfold V; after_reads_at

/-- The gain of mixer B's query, repeated. -/
theorem bq (c : Dev nD) (l : Fin 512) : (V m c main_v8 : FVec Ideal ⟨2, ![1, 512]⟩ .f32) (ix2 0 l)
    = (m ((c : Thread nD τ).loc main_arg6) : FVec Ideal ⟨2, ![1, 64]⟩ .f32) (ix2 0 ⟨l.val % 64, Nat.mod_lt _ (by decide)⟩) := by
  unfold V; after_reads_at

/-- The gain of mixer B's key, repeated. -/
theorem bk (c : Dev nD) (l : Fin 128) : (V m c main_v11 : FVec Ideal ⟨2, ![1, 128]⟩ .f32) (ix2 0 l)
    = (m ((c : Thread nD τ).loc main_arg7) : FVec Ideal ⟨2, ![1, 64]⟩ .f32) (ix2 0 ⟨l.val % 64, Nat.mod_lt _ (by decide)⟩) := by
  unfold V; after_reads_at

/-- The gain of mixer C's query, repeated. -/
theorem cq (c : Dev nD) (l : Fin 512) : (V m c main_v14 : FVec Ideal ⟨2, ![1, 512]⟩ .f32) (ix2 0 l)
    = (m ((c : Thread nD τ).loc main_arg12) : FVec Ideal ⟨2, ![1, 64]⟩ .f32) (ix2 0 ⟨l.val % 64, Nat.mod_lt _ (by decide)⟩) := by
  unfold V; after_reads_at

/-- The gain of mixer C's key, repeated. -/
theorem ck (c : Dev nD) (l : Fin 512) : (V m c main_v17 : FVec Ideal ⟨2, ![1, 512]⟩ .f32) (ix2 0 l)
    = (m ((c : Thread nD τ).loc main_arg13) : FVec Ideal ⟨2, ![1, 64]⟩ .f32) (ix2 0 ⟨l.val % 64, Nat.mod_lt _ (by decide)⟩) := by
  unfold V; after_reads_at

/-- The gain of mixer C's rotated query, repeated. -/
theorem cqr (c : Dev nD) (l : Fin 256) : (V m c main_v20 : FVec Ideal ⟨2, ![1, 256]⟩ .f32) (ix2 0 l)
    = (m ((c : Thread nD τ).loc main_arg14) : FVec Ideal ⟨2, ![1, 32]⟩ .f32) (ix2 0 ⟨l.val % 32, Nat.mod_lt _ (by decide)⟩) := by
  unfold V; after_reads_at

/-- The gain of mixer D's query, repeated. -/
theorem dq (c : Dev nD) (l : Fin 512) : (V m c main_v25 : FVec Ideal ⟨2, ![1, 512]⟩ .f32) (ix2 0 l)
    = (m ((c : Thread nD τ).loc main_arg16) : FVec Ideal ⟨2, ![1, 64]⟩ .f32) (ix2 0 ⟨l.val % 64, Nat.mod_lt _ (by decide)⟩) := by
  unfold V; after_reads_at

/-- The gain of mixer D's key, repeated. -/
theorem dk (c : Dev nD) (l : Fin 128) : (V m c main_v28 : FVec Ideal ⟨2, ![1, 128]⟩ .f32) (ix2 0 l)
    = (m ((c : Thread nD τ).loc main_arg17) : FVec Ideal ⟨2, ![1, 64]⟩ .f32) (ix2 0 ⟨l.val % 64, Nat.mod_lt _ (by decide)⟩) := by
  unfold V; after_reads_at

/-- The gain of mixer C's rotated key, in the first 32 lanes. -/
theorem ckr (c : Dev nD) (d : Fin 32) : (V m c main_v22 : FVec Ideal ⟨2, ![1, 128]⟩ .f32) (ix2 0 ⟨d.val, by omega⟩)
    = (m ((c : Thread nD τ).loc main_arg15) : FVec Ideal ⟨2, ![1, 32]⟩ .f32) (ix2 0 d) := by
  unfold V; after_reads_at

/-- The cosines of 64 coordinates, repeated. -/
theorem cos64 (c : Dev nD) (t : Fin 4096) (l : Fin 128) : (V m c main_v41 : FVec Ideal ⟨2, ![4096, 128]⟩ .f32) (ix2 t l)
    = (m ((c : Thread nD τ).loc main_arg18) : FVec Ideal ⟨2, ![4096, 64]⟩ .f32) (ix2 t ⟨l.val % 64, Nat.mod_lt _ (by decide)⟩) := by
  unfold V; after_reads_at

/-- The sines that go with the right neighbour. -/
theorem low64 (c : Dev nD) (t : Fin 4096) (l : Fin 128) : (V m c main_v44 : FVec Ideal ⟨2, ![4096, 128]⟩ .f32) (ix2 t l)
    = low 16 (fun k => (m ((c : Thread nD τ).loc main_arg19) : FVec Ideal ⟨2, ![4096, 64]⟩ .f32) (ix2 t k)) ⟨l.val % 64, Nat.mod_lt _ (by decide)⟩ := by
  unfold V; after_reads_at
  change Scalar.select (α := EReal) (below 32#32 16#32 (BitVec.ofNat 32 (l.val % 64))) (-(_ : EReal)) (Ideal.ofBits .f32 0#32) = _
  rw [below64, select_decide, Ideal.ofBits_zero_f32]
  rfl

/-- The sines that go with the left neighbour. -/
theorem high64 (c : Dev nD) (t : Fin 4096) (l : Fin 128) : (V m c main_v47 : FVec Ideal ⟨2, ![4096, 128]⟩ .f32) (ix2 t l)
    = high 16 (fun k => (m ((c : Thread nD τ).loc main_arg19) : FVec Ideal ⟨2, ![4096, 64]⟩ .f32) (ix2 t k)) ⟨l.val % 64, Nat.mod_lt _ (by decide)⟩ := by
  unfold V; after_reads_at
  change Scalar.select (α := EReal) (below 32#32 16#32 (BitVec.ofNat 32 (l.val % 64))) (Ideal.ofBits .f32 0#32) _ = _
  rw [below64, select_decide, Ideal.ofBits_zero_f32]
  rfl

/-- The cosines of 32 coordinates, repeated. -/
theorem cos32 (c : Dev nD) (t : Fin 4096) (l : Fin 128) : (V m c main_v60 : FVec Ideal ⟨2, ![4096, 128]⟩ .f32) (ix2 t l)
    = (m ((c : Thread nD τ).loc main_arg20) : FVec Ideal ⟨2, ![4096, 32]⟩ .f32) (ix2 t ⟨l.val % 32, Nat.mod_lt _ (by decide)⟩) := by
  unfold V; after_reads_at

/-- The sines that go with the right neighbour. -/
theorem low32 (c : Dev nD) (t : Fin 4096) (l : Fin 128) : (V m c main_v63 : FVec Ideal ⟨2, ![4096, 128]⟩ .f32) (ix2 t l)
    = low 8 (fun k => (m ((c : Thread nD τ).loc main_arg21) : FVec Ideal ⟨2, ![4096, 32]⟩ .f32) (ix2 t k)) ⟨l.val % 32, Nat.mod_lt _ (by decide)⟩ := by
  unfold V; after_reads_at
  change Scalar.select (α := EReal) (below 16#32 8#32 (BitVec.ofNat 32 (l.val % 32))) (-(_ : EReal)) (Ideal.ofBits .f32 0#32) = _
  rw [below32, select_decide, Ideal.ofBits_zero_f32]
  rfl

/-- The sines that go with the left neighbour. -/
theorem high32 (c : Dev nD) (t : Fin 4096) (l : Fin 128) : (V m c main_v66 : FVec Ideal ⟨2, ![4096, 128]⟩ .f32) (ix2 t l)
    = high 8 (fun k => (m ((c : Thread nD τ).loc main_arg21) : FVec Ideal ⟨2, ![4096, 32]⟩ .f32) (ix2 t k)) ⟨l.val % 32, Nat.mod_lt _ (by decide)⟩ := by
  unfold V; after_reads_at
  change Scalar.select (α := EReal) (below 16#32 8#32 (BitVec.ofNat 32 (l.val % 32))) (Ideal.ofBits .f32 0#32) _ = _
  rw [below32, select_decide, Ideal.ofBits_zero_f32]
  rfl

end Cert.Kernel5Ideal.Host

end
-- ==== Proof.Frame5B.lean ====
/-
# The projections' frame

The body's triple, the pipeline's proof data, the run, and the frame.
-/
module

public import proofs.«01_k».proof.Proof.Frame5A
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's triple -/

set_option maxHeartbeats 16000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x3840 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S1x384 .f32) (harg10 : arg10.IsWhole) (arg11 : Memref sig .tc .vmem S1x256 .f32) (harg11 : arg11.IsWhole) (arg12 : Memref sig .tc .vmem S384x768 .bf16) (harg12 : arg12.IsWhole) (arg13 : Memref sig .tc .vmem S256x1024 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S1x8x256x64 .bf16) (harg26 : arg26.IsWhole) (arg27 : Memref sig .tc .vmem S1x8x256x64 .bf16) (harg27 : arg27.IsWhole) (arg28 : Memref sig .tc .vmem S1x4x128x256 .bf16) (harg28 : arg28.IsWhole) (arg29 : Memref sig .tc .vmem S1x8x256x64 .bf16) (harg29 : arg29.IsWhole) (arg30 : Memref sig .tc .vmem S1x2x256x64 .bf16) (harg30 : arg30.IsWhole) (arg31 : Memref sig .tc .vmem S1x2x64x256 .bf16) (harg31 : arg31.IsWhole) (arg32 : Memref sig .tc .vmem S1x8x256x128 .bf16) (harg32 : arg32.IsWhole) (arg33 : Memref sig .tc .vmem S1x8x256x128 .bf16) (harg33 : arg33.IsWhole) (arg34 : Memref sig .tc .vmem S1x8x64x256 .bf16) (harg34 : arg34.IsWhole) (arg35 : Memref sig .tc .vmem S1x8x256x64 .bf16) (harg35 : arg35.IsWhole) (arg36 : Memref sig .tc .vmem S1x2x256x64 .bf16) (harg36 : arg36.IsWhole) (arg37 : Memref sig .tc .vmem S1x2x256x64 .bf16) (harg37 : arg37.IsWhole)
    (x0 : Vec F S1x256x1024 .f32) (x1 : Vec F S1x1x6144 .f32) (x2 : Vec F S1x1024 .f32) (x3 : Vec F S1024x3840 .bf16) (x4 : Vec F S1x512 .f32) (x5 : Vec F S1x512 .f32) (x6 : Vec F S1x512 .f32) (x7 : Vec F S1x128 .f32) (x8 : Vec F S1x384 .f32) (x9 : Vec F S1x256 .f32) (x10 : Vec F S384x768 .bf16) (x11 : Vec F S256x1024 .bf16) (x12 : Vec F S1x512 .f32) (x13 : Vec F S1x512 .f32) (x14 : Vec F S1x256 .f32) (x15 : Vec F S1x128 .f32) (x16 : Vec F S1x512 .f32) (x17 : Vec F S1x128 .f32) (x18 : Vec F S256x128 .f32) (x19 : Vec F S256x128 .f32) (x20 : Vec F S256x128 .f32) (x21 : Vec F S256x128 .f32) (x22 : Vec F S256x128 .f32) (x23 : Vec F S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare (out0_24 ⟨x0, x1, x2, x3, x4, x5, x6, x7, x8, x9, x10, x11, x12, x13, x14, x15, x16, x17, x18, x19, x20, x21, x22, x23⟩) ∗ owns (c : Thread nD τ) arg27 fullShare (out0_25 ⟨x0, x1, x2, x3, x4, x5, x6, x7, x8, x9, x10, x11, x12, x13, x14, x15, x16, x17, x18, x19, x20, x21, x22, x23⟩) ∗ owns (c : Thread nD τ) arg28 fullShare (out0_26 ⟨x0, x1, x2, x3, x4, x5, x6, x7, x8, x9, x10, x11, x12, x13, x14, x15, x16, x17, x18, x19, x20, x21, x22, x23⟩) ∗ owns (c : Thread nD τ) arg29 fullShare (out0_27 ⟨x0, x1, x2, x3, x4, x5, x6, x7, x8, x9, x10, x11, x12, x13, x14, x15, x16, x17, x18, x19, x20, x21, x22, x23⟩) ∗ owns (c : Thread nD τ) arg30 fullShare (out0_28 ⟨x0, x1, x2, x3, x4, x5, x6, x7, x8, x9, x10, x11, x12, x13, x14, x15, x16, x17, x18, x19, x20, x21, x22, x23⟩) ∗ owns (c : Thread nD τ) arg31 fullShare (out0_29 ⟨x0, x1, x2, x3, x4, x5, x6, x7, x8, x9, x10, x11, x12, x13, x14, x15, x16, x17, x18, x19, x20, x21, x22, x23⟩) ∗ owns (c : Thread nD τ) arg32 fullShare (out0_30 ⟨x0, x1, x2, x3, x4, x5, x6, x7, x8, x9, x10, x11, x12, x13, x14, x15, x16, x17, x18, x19, x20, x21, x22, x23⟩) ∗ owns (c : Thread nD τ) arg33 fullShare (out0_31 ⟨x0, x1, x2, x3, x4, x5, x6, x7, x8, x9, x10, x11, x12, x13, x14, x15, x16, x17, x18, x19, x20, x21, x22, x23⟩) ∗ owns (c : Thread nD τ) arg34 fullShare (out0_32 ⟨x0, x1, x2, x3, x4, x5, x6, x7, x8, x9, x10, x11, x12, x13, x14, x15, x16, x17, x18, x19, x20, x21, x22, x23⟩) ∗ owns (c : Thread nD τ) arg35 fullShare (out0_33 ⟨x0, x1, x2, x3, x4, x5, x6, x7, x8, x9, x10, x11, x12, x13, x14, x15, x16, x17, x18, x19, x20, x21, x22, x23⟩) ∗ owns (c : Thread nD τ) arg36 fullShare (out0_34 ⟨x0, x1, x2, x3, x4, x5, x6, x7, x8, x9, x10, x11, x12, x13, x14, x15, x16, x17, x18, x19, x20, x21, x22, x23⟩) ∗ owns (c : Thread nD τ) arg37 fullShare (out0_35 ⟨x0, x1, x2, x3, x4, x5, x6, x7, x8, x9, x10, x11, x12, x13, x14, x15, x16, x17, x18, x19, x20, x21, x22, x23⟩)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    refine (View.read_writes_eq_canon _ _ _ (cover0_24 _ _ _ _ _ _ _ _)).trans ?_
    rfl
  isplitl [H25]
  · iexists _; isplitr
    swap; · iexact H25
    ipureintro
    refine (View.read_writes_eq_canon _ _ _ (cover0_25 _ _ _ _ _ _ _ _)).trans ?_
    rfl
  isplitl [H26]
  · iexists _; isplitr
    swap; · iexact H26
    ipureintro
    refine (View.read_writes_eq_canon _ _ _ (cover0_26 _ _ _ _)).trans ?_
    rfl
  isplitl [H27]
  · iexists _; isplitr
    swap; · iexact H27
    ipureintro
    refine (View.read_writes_eq_canon _ _ _ (cover0_27 _ _ _ _ _ _ _ _)).trans ?_
    rfl
  isplitl [H28]
  · iexists _; isplitr
    swap; · iexact H28
    ipureintro
    refine (View.read_writes_eq_canon _ _ _ (cover0_28 _ _)).trans ?_
    rfl
  isplitl [H29]
  · iexists _; isplitr
    swap; · iexact H29
    ipureintro
    refine (View.read_writes_eq_canon _ _ _ (cover0_29 _ _)).trans ?_
    rfl
  isplitl [H30]
  · iexists _; isplitr
    swap; · iexact H30
    ipureintro
    refine (View.read_writes_eq_canon _ _ _ (cover0_30 _ _ _ _ _ _ _ _)).trans ?_
    rfl
  isplitl [H31]
  · iexists _; isplitr
    swap; · iexact H31
    ipureintro
    refine (View.read_writes_eq_canon _ _ _ (cover0_31 _ _ _ _ _ _ _ _)).trans ?_
    rfl
  isplitl [H32]
  · iexists _; isplitr
    swap; · iexact H32
    ipureintro
    refine (View.read_writes_eq_canon _ _ _ (cover0_32 _ _ _ _ _ _ _ _)).trans ?_
    rfl
  isplitl [H33]
  · iexists _; isplitr
    swap; · iexact H33
    ipureintro
    refine (View.read_writes_eq_canon _ _ _ (cover0_33 _ _ _ _ _ _ _ _)).trans ?_
    rfl
  isplitl [H34]
  · iexists _; isplitr
    swap; · iexact H34
    ipureintro
    refine (View.read_writes_eq_canon _ _ _ (cover0_34 _ _)).trans ?_
    rfl
  iexists _; isplitr
  swap; · iexact H35
  ipureintro
  refine (View.read_writes_eq_canon _ _ _ (cover0_35 _ _)).trans ?_
  rfl

/-! ## The pipeline's proof data -/

/-- The input blocks of grid point `t`. -/
abbrev blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t⟩

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (blocks m c t)
    | ⟨25, _⟩ => out0_25 (blocks m c t)
    | ⟨26, _⟩ => out0_26 (blocks m c t)
    | ⟨27, _⟩ => out0_27 (blocks m c t)
    | ⟨28, _⟩ => out0_28 (blocks m c t)
    | ⟨29, _⟩ => out0_29 (blocks m c t)
    | ⟨30, _⟩ => out0_30 (blocks m c t)
    | ⟨31, _⟩ => out0_31 (blocks m c t)
    | ⟨32, _⟩ => out0_32 (blocks m c t)
    | ⟨33, _⟩ => out0_33 (blocks m c t)
    | ⟨34, _⟩ => out0_34 (blocks m c t)
    | ⟨35, _⟩ => out0_35 (blocks m c t)
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (blocks m c t) := by dsimp only [dats]
theorem after0_25 (c : Dev nD) (t : Fin cfg0.N) : (dats m 0 c).after 25 t = out0_25 (blocks m c t) := by dsimp only [dats]
theorem after0_26 (c : Dev nD) (t : Fin cfg0.N) : (dats m 0 c).after 26 t = out0_26 (blocks m c t) := by dsimp only [dats]
theorem after0_27 (c : Dev nD) (t : Fin cfg0.N) : (dats m 0 c).after 27 t = out0_27 (blocks m c t) := by dsimp only [dats]
theorem after0_28 (c : Dev nD) (t : Fin cfg0.N) : (dats m 0 c).after 28 t = out0_28 (blocks m c t) := by dsimp only [dats]
theorem after0_29 (c : Dev nD) (t : Fin cfg0.N) : (dats m 0 c).after 29 t = out0_29 (blocks m c t) := by dsimp only [dats]
theorem after0_30 (c : Dev nD) (t : Fin cfg0.N) : (dats m 0 c).after 30 t = out0_30 (blocks m c t) := by dsimp only [dats]
theorem after0_31 (c : Dev nD) (t : Fin cfg0.N) : (dats m 0 c).after 31 t = out0_31 (blocks m c t) := by dsimp only [dats]
theorem after0_32 (c : Dev nD) (t : Fin cfg0.N) : (dats m 0 c).after 32 t = out0_32 (blocks m c t) := by dsimp only [dats]
theorem after0_33 (c : Dev nD) (t : Fin cfg0.N) : (dats m 0 c).after 33 t = out0_33 (blocks m c t) := by dsimp only [dats]
theorem after0_34 (c : Dev nD) (t : Fin cfg0.N) : (dats m 0 c).after 34 t = out0_34 (blocks m c t) := by dsimp only [dats]
theorem after0_35 (c : Dev nD) (t : Fin cfg0.N) : (dats m 0 c).after 35 t = out0_35 (blocks m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The frame: the program runs, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Kernel5Ideal.Gen

end
-- ==== Proof.Window5.lean ====
/- The projections' input blocks at a grid point, from the arrays. -/
module

public import proofs.«01_k».proof.Proof.Store5
public import proofs.«01_k».proof.Proof.Host5
public import proofs.«01_k».proof.Proof.Frame5B
public import Idealize.ShloMosaic.Lib.Pipeline.ValueKit

@[expose] public section

set_option maxRecDepth 16384

noncomputable section

namespace Cert.Kernel5Ideal.Array

open Idealize.ShloMosaic Idealize.ShloMosaic.TcCoe Idealize.SL.Sem Cert.Heads Cert.Kernel5Ideal Cert.Kernel5Ideal.Gen

variable (m : (ℓ : Loc nD τ sig) → Buf (Elt Ideal) ℓ)

/-- Where the token's and the modulation's blocks lie. -/
theorem index_token : ∀ t : Fin cfg0.N,
    win0_0.index t = ![(grid0.coords t 0).val, (grid0.coords t 1).val, 0]
    ∧ win0_1.index t = ![(grid0.coords t 0).val, 0, 0] := by decide +kernel

/-- The weights and the gains are whole blocks. -/
theorem index_whole : ∀ t : Fin cfg0.N,
    win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] := by decide +kernel

/-- The tables' blocks follow the tokens. -/
theorem index_table : ∀ t : Fin cfg0.N,
    win0_18.index t = ![(grid0.coords t 1).val, 0]
    ∧ win0_19.index t = ![(grid0.coords t 1).val, 0]
    ∧ win0_20.index t = ![(grid0.coords t 1).val, 0]
    ∧ win0_21.index t = ![(grid0.coords t 1).val, 0]
    ∧ win0_22.index t = ![(grid0.coords t 1).val, 0]
    ∧ win0_23.index t = ![(grid0.coords t 1).val, 0] := by decide +kernel

/-- Where the outputs' blocks lie. -/
theorem index_out : ∀ t : Fin cfg0.N,
    win0_24.index t = ![(grid0.coords t 0).val, 0, (grid0.coords t 1).val, 0]
    ∧ win0_25.index t = ![(grid0.coords t 0).val, 0, (grid0.coords t 1).val, 0]
    ∧ win0_26.index t = ![(grid0.coords t 0).val, 0, 0, (grid0.coords t 1).val]
    ∧ win0_27.index t = ![(grid0.coords t 0).val, 0, (grid0.coords t 1).val, 0]
    ∧ win0_28.index t = ![(grid0.coords t 0).val, 0, (grid0.coords t 1).val, 0]
    ∧ win0_29.index t = ![(grid0.coords t 0).val, 0, 0, (grid0.coords t 1).val]
    ∧ win0_30.index t = ![(grid0.coords t 0).val, 0, (grid0.coords t 1).val, 0]
    ∧ win0_31.index t = ![(grid0.coords t 0).val, 0, (grid0.coords t 1).val, 0]
    ∧ win0_32.index t = ![(grid0.coords t 0).val, 0, 0, (grid0.coords t 1).val]
    ∧ win0_33.index t = ![(grid0.coords t 0).val, 0, (grid0.coords t 1).val, 0]
    ∧ win0_34.index t = ![(grid0.coords t 0).val, 0, (grid0.coords t 1).val, 0]
    ∧ win0_35.index t = ![(grid0.coords t 0).val, 0, (grid0.coords t 1).val, 0] := by decide +kernel

/-- The grid's extents. -/
theorem bounds (t : Fin cfg0.N) : (grid0.coords t 0).val < 8 ∧ (grid0.coords t 1).val < 16 :=
  ⟨(grid0.coords t 0).isLt, (grid0.coords t 1).isLt⟩

/-- What a token's projections are made of. -/
def R (c : Dev nD) (b : Fin 8) (n : Fin 4096) : Row :=
  row (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21)) b n

/-- A grid point's block of the tokens. -/
theorem block0 (c : Dev nD) (t : Fin cfg0.N) (i : Fin 256) (d : Fin 1024) (b : Fin 8) (n : Fin 4096) (hb : b.val = (grid0.coords t 0).val) (hn : n.val = (grid0.coords t 1).val * 256 + i.val) :
    iblk m c 0 t (ix3 0 i d) = (m ((c : Thread nD τ).loc main_arg0) : FVec Ideal ⟨3, ![8, 4096, 1024]⟩ .f32) (ix3 b n d) := by
  blk_ext [iblk, V, (index_token t).1]

/-- A grid point's block of the modulation. -/
theorem block1 (c : Dev nD) (t : Fin cfg0.N) (d : Fin 6144) (b : Fin 8) (hb : b.val = (grid0.coords t 0).val) :
    iblk m c 1 t (ix3 0 0 d) = (m ((c : Thread nD τ).loc main_arg1) : FVec Ideal ⟨3, ![8, 1, 6144]⟩ .f32) (ix3 b 0 d) := by
  blk_ext [iblk, V, (index_token t).2]

/-- Window 2's block is its whole array. -/
theorem block2 (c : Dev nD) (t : Fin cfg0.N) (d : Fin 1024) : iblk m c 2 t (ix2 0 d) = (m ((c : Thread nD τ).loc main_arg2) : FVec Ideal ⟨2, ![1, 1024]⟩ .f32) (ix2 0 d) := by
  blk_ext [iblk, V, (index_whole t).1]

/-- Window 3's block is its whole array. -/
theorem block3 (c : Dev nD) (t : Fin cfg0.N) (k : Fin 1024) (d : Fin 3840) : iblk m c 3 t (ix2 k d) = (m ((c : Thread nD τ).loc main_arg3) : FVec Ideal ⟨2, ![1024, 3840]⟩ .bf16) (ix2 k d) := by
  blk_ext [iblk, V, (index_whole t).2.1]

/-- Window 4's block is its whole array. -/
theorem block4 (c : Dev nD) (t : Fin cfg0.N) (d : Fin 512) : iblk m c 4 t (ix2 0 d) = (V m c main_v2 : FVec Ideal ⟨2, ![1, 512]⟩ .f32) (ix2 0 d) := by
  blk_ext [iblk, (index_whole t).2.2.1]

/-- Window 5's block is its whole array. -/
theorem block5 (c : Dev nD) (t : Fin cfg0.N) (d : Fin 512) : iblk m c 5 t (ix2 0 d) = (V m c main_v5 : FVec Ideal ⟨2, ![1, 512]⟩ .f32) (ix2 0 d) := by
  blk_ext [iblk, (index_whole t).2.2.2.1]

/-- Window 6's block is its whole array. -/
theorem block6 (c : Dev nD) (t : Fin cfg0.N) (d : Fin 512) : iblk m c 6 t (ix2 0 d) = (V m c main_v8 : FVec Ideal ⟨2, ![1, 512]⟩ .f32) (ix2 0 d) := by
  blk_ext [iblk, (index_whole t).2.2.2.2.1]

/-- Window 7's block is its whole array. -/
theorem block7 (c : Dev nD) (t : Fin cfg0.N) (d : Fin 128) : iblk m c 7 t (ix2 0 d) = (V m c main_v11 : FVec Ideal ⟨2, ![1, 128]⟩ .f32) (ix2 0 d) := by
  blk_ext [iblk, (index_whole t).2.2.2.2.2.1]

/-- Window 8's block is its whole array. -/
theorem block8 (c : Dev nD) (t : Fin cfg0.N) (d : Fin 384) : iblk m c 8 t (ix2 0 d) = (m ((c : Thread nD τ).loc main_arg8) : FVec Ideal ⟨2, ![1, 384]⟩ .f32) (ix2 0 d) := by
  blk_ext [iblk, V, (index_whole t).2.2.2.2.2.2.1]

/-- Window 9's block is its whole array. -/
theorem block9 (c : Dev nD) (t : Fin cfg0.N) (d : Fin 256) : iblk m c 9 t (ix2 0 d) = (m ((c : Thread nD τ).loc main_arg9) : FVec Ideal ⟨2, ![1, 256]⟩ .f32) (ix2 0 d) := by
  blk_ext [iblk, V, (index_whole t).2.2.2.2.2.2.2.1]

/-- Window 10's block is its whole array. -/
theorem block10 (c : Dev nD) (t : Fin cfg0.N) (k : Fin 384) (d : Fin 768) : iblk m c 10 t (ix2 k d) = (m ((c : Thread nD τ).loc main_arg10) : FVec Ideal ⟨2, ![384, 768]⟩ .bf16) (ix2 k d) := by
  blk_ext [iblk, V, (index_whole t).2.2.2.2.2.2.2.2.1]

/-- Window 11's block is its whole array. -/
theorem block11 (c : Dev nD) (t : Fin cfg0.N) (k : Fin 256) (d : Fin 1024) : iblk m c 11 t (ix2 k d) = (m ((c : Thread nD τ).loc main_arg11) : FVec Ideal ⟨2, ![256, 1024]⟩ .bf16) (ix2 k d) := by
  blk_ext [iblk, V, (index_whole t).2.2.2.2.2.2.2.2.2.1]

/-- Window 12's block is its whole array. -/
theorem block12 (c : Dev nD) (t : Fin cfg0.N) (d : Fin 512) : iblk m c 12 t (ix2 0 d) = (V m c main_v14 : FVec Ideal ⟨2, ![1, 512]⟩ .f32) (ix2 0 d) := by
  blk_ext [iblk, (index_whole t).2.2.2.2.2.2.2.2.2.2.1]

/-- Window 13's block is its whole array. -/
theorem block13 (c : Dev nD) (t : Fin cfg0.N) (d : Fin 512) : iblk m c 13 t (ix2 0 d) = (V m c main_v17 : FVec Ideal ⟨2, ![1, 512]⟩ .f32) (ix2 0 d) := by
  blk_ext [iblk, (index_whole t).2.2.2.2.2.2.2.2.2.2.2.1]

/-- Window 14's block is its whole array. -/
theorem block14 (c : Dev nD) (t : Fin cfg0.N) (d : Fin 256) : iblk m c 14 t (ix2 0 d) = (V m c main_v20 : FVec Ideal ⟨2, ![1, 256]⟩ .f32) (ix2 0 d) := by
  blk_ext [iblk, (index_whole t).2.2.2.2.2.2.2.2.2.2.2.2.1]

/-- Window 15's block is its whole array. -/
theorem block15 (c : Dev nD) (t : Fin cfg0.N) (d : Fin 128) : iblk m c 15 t (ix2 0 d) = (V m c main_v22 : FVec Ideal ⟨2, ![1, 128]⟩ .f32) (ix2 0 d) := by
  blk_ext [iblk, (index_whole t).2.2.2.2.2.2.2.2.2.2.2.2.2.1]

/-- Window 16's block is its whole array. -/
theorem block16 (c : Dev nD) (t : Fin cfg0.N) (d : Fin 512) : iblk m c 16 t (ix2 0 d) = (V m c main_v25 : FVec Ideal ⟨2, ![1, 512]⟩ .f32) (ix2 0 d) := by
  blk_ext [iblk, (index_whole t).2.2.2.2.2.2.2.2.2.2.2.2.2.2.1]

/-- Window 17's block is its whole array. -/
theorem block17 (c : Dev nD) (t : Fin cfg0.N) (d : Fin 128) : iblk m c 17 t (ix2 0 d) = (V m c main_v28 : FVec Ideal ⟨2, ![1, 128]⟩ .f32) (ix2 0 d) := by
  blk_ext [iblk, (index_whole t).2.2.2.2.2.2.2.2.2.2.2.2.2.2.2]

/-- Window 18's block is a block of its table. -/
theorem block18 (c : Dev nD) (t : Fin cfg0.N) (i : Fin 256) (l : Fin 128) (n : Fin 4096) (hn : n.val = (grid0.coords t 1).val * 256 + i.val) :
    iblk m c 18 t (ix2 i l) = (V m c main_v41 : FVec Ideal ⟨2, ![4096, 128]⟩ .f32) (ix2 n l) := by
  blk_ext [iblk, (index_table t).1]

/-- Window 19's block is a block of its table. -/
theorem block19 (c : Dev nD) (t : Fin cfg0.N) (i : Fin 256) (l : Fin 128) (n : Fin 4096) (hn : n.val = (grid0.coords t 1).val * 256 + i.val) :
    iblk m c 19 t (ix2 i l) = (V m c main_v44 : FVec Ideal ⟨2, ![4096, 128]⟩ .f32) (ix2 n l) := by
  blk_ext [iblk, (index_table t).2.1]

/-- Window 20's block is a block of its table. -/
theorem block20 (c : Dev nD) (t : Fin cfg0.N) (i : Fin 256) (l : Fin 128) (n : Fin 4096) (hn : n.val = (grid0.coords t 1).val * 256 + i.val) :
    iblk m c 20 t (ix2 i l) = (V m c main_v47 : FVec Ideal ⟨2, ![4096, 128]⟩ .f32) (ix2 n l) := by
  blk_ext [iblk, (index_table t).2.2.1]

/-- Window 21's block is a block of its table. -/
theorem block21 (c : Dev nD) (t : Fin cfg0.N) (i : Fin 256) (l : Fin 128) (n : Fin 4096) (hn : n.val = (grid0.coords t 1).val * 256 + i.val) :
    iblk m c 21 t (ix2 i l) = (V m c main_v60 : FVec Ideal ⟨2, ![4096, 128]⟩ .f32) (ix2 n l) := by
  blk_ext [iblk, (index_table t).2.2.2.1]

/-- Window 22's block is a block of its table. -/
theorem block22 (c : Dev nD) (t : Fin cfg0.N) (i : Fin 256) (l : Fin 128) (n : Fin 4096) (hn : n.val = (grid0.coords t 1).val * 256 + i.val) :
    iblk m c 22 t (ix2 i l) = (V m c main_v63 : FVec Ideal ⟨2, ![4096, 128]⟩ .f32) (ix2 n l) := by
  blk_ext [iblk, (index_table t).2.2.2.2.1]

/-- Window 23's block is a block of its table. -/
theorem block23 (c : Dev nD) (t : Fin cfg0.N) (i : Fin 256) (l : Fin 128) (n : Fin 4096) (hn : n.val = (grid0.coords t 1).val * 256 + i.val) :
    iblk m c 23 t (ix2 i l) = (V m c main_v66 : FVec Ideal ⟨2, ![4096, 128]⟩ .f32) (ix2 n l) := by
  blk_ext [iblk, (index_table t).2.2.2.2.2]

end Cert.Kernel5Ideal.Array

end
-- ==== Proof.Reads5.lean ====
/- A grid point's blocks hold its tokens' rows. -/
module

public import proofs.«01_k».proof.Proof.Window5

@[expose] public section

set_option maxRecDepth 16384

noncomputable section

namespace Cert.Kernel5Ideal.Array

open Idealize.ShloMosaic Idealize.ShloMosaic.TcCoe Idealize.SL.Sem Cert.Heads Cert.Kernel5Ideal Cert.Kernel5Ideal.Gen

variable (m : (ℓ : Loc nD τ sig) → Buf (Elt Ideal) ℓ)

attribute [local irreducible] iblk

variable (c : Dev nD) (t : Fin cfg0.N) (i : Fin 256) (b : Fin 8) (n : Fin 4096)

/-- The block of `x`. -/
theorem read_x (hb : b.val = (grid0.coords t 0).val) (hn : n.val = (grid0.coords t 1).val * 256 + i.val) : ∀ k, (blocks m c t).x0 (ix3 (0 : Fin 1) i k) = (R m c b n).x k :=
  fun k => block0 m c t i k b n hb hn

/-- The block of `sh`. -/
theorem read_sh (hb : b.val = (grid0.coords t 0).val) : ∀ k : Fin 1024, (blocks m c t).x1 (ix3 (0 : Fin 1) (0 : Fin 1) (⟨k.val, by omega⟩ : Fin 6144)) = (R m c b n).sh k :=
  fun k => block1 m c t _ b hb

/-- The block of `sc`. -/
theorem read_sc (hb : b.val = (grid0.coords t 0).val) : ∀ k : Fin 1024, (blocks m c t).x1 (ix3 (0 : Fin 1) (0 : Fin 1) (⟨1024 + k.val, by omega⟩ : Fin 6144)) = (R m c b n).sc k :=
  fun k => block1 m c t _ b hb

/-- The block of `g`. -/
theorem read_g : ∀ k, (blocks m c t).x2 (ix2 (0 : Fin 1) k) = (R m c b n).g k :=
  fun k => block2 m c t k

/-- The block of `w`. -/
theorem read_w : ∀ k j, (blocks m c t).x3 (ix2 k j) = (R m c b n).w k j :=
  fun k j => block3 m c t k j

/-- The block of `aq`. -/
theorem read_aq : ∀ l : Fin 512, (blocks m c t).x4 (ix2 (0 : Fin 1) l) = (R m c b n).aq ⟨l.val % 64, Nat.mod_lt _ (by decide)⟩ :=
  fun l => (block4 m c t l).trans (Host.aq m c l)

/-- The block of `ak`. -/
theorem read_ak : ∀ l : Fin 512, (blocks m c t).x5 (ix2 (0 : Fin 1) l) = (R m c b n).ak ⟨l.val % 64, Nat.mod_lt _ (by decide)⟩ :=
  fun l => (block5 m c t l).trans (Host.ak m c l)

/-- The block of `bq`. -/
theorem read_bq : ∀ l : Fin 512, (blocks m c t).x6 (ix2 (0 : Fin 1) l) = (R m c b n).bq ⟨l.val % 64, Nat.mod_lt _ (by decide)⟩ :=
  fun l => (block6 m c t l).trans (Host.bq m c l)

/-- The block of `bk`. -/
theorem read_bk : ∀ l : Fin 128, (blocks m c t).x7 (ix2 (0 : Fin 1) l) = (R m c b n).bk ⟨l.val % 64, Nat.mod_lt _ (by decide)⟩ :=
  fun l => (block7 m c t l).trans (Host.bk m c l)

/-- The block of `cqa`. -/
theorem read_cqa : ∀ k, (blocks m c t).x8 (ix2 (0 : Fin 1) k) = (R m c b n).cqa k :=
  fun k => block8 m c t k

/-- The block of `ckva`. -/
theorem read_ckva : ∀ k, (blocks m c t).x9 (ix2 (0 : Fin 1) k) = (R m c b n).ckva k :=
  fun k => block9 m c t k

/-- The block of `up`. -/
theorem read_up : ∀ k j, (blocks m c t).x10 (ix2 k j) = (R m c b n).up k j :=
  fun k j => block10 m c t k j

/-- The block of `kvup`. -/
theorem read_kvup : ∀ k j, (blocks m c t).x11 (ix2 k j) = (R m c b n).kvup k j :=
  fun k j => block11 m c t k j

/-- The block of `cq`. -/
theorem read_cq : ∀ l : Fin 512, (blocks m c t).x12 (ix2 (0 : Fin 1) l) = (R m c b n).cq ⟨l.val % 64, Nat.mod_lt _ (by decide)⟩ :=
  fun l => (block12 m c t l).trans (Host.cq m c l)

/-- The block of `ck`. -/
theorem read_ck : ∀ l : Fin 512, (blocks m c t).x13 (ix2 (0 : Fin 1) l) = (R m c b n).ck ⟨l.val % 64, Nat.mod_lt _ (by decide)⟩ :=
  fun l => (block13 m c t l).trans (Host.ck m c l)

/-- The block of `cqr`. -/
theorem read_cqr : ∀ l : Fin 256, (blocks m c t).x14 (ix2 (0 : Fin 1) l) = (R m c b n).cqr ⟨l.val % 32, Nat.mod_lt _ (by decide)⟩ :=
  fun l => (block14 m c t l).trans (Host.cqr m c l)

/-- The block of `ckr`. -/
theorem read_ckr : ∀ d : Fin 32, (blocks m c t).x15 (ix2 (0 : Fin 1) (⟨d.val, by omega⟩ : Fin 128)) = (R m c b n).ckr d :=
  fun d => (block15 m c t _).trans (Host.ckr m c d)

/-- The block of `dq`. -/
theorem read_dq : ∀ l : Fin 512, (blocks m c t).x16 (ix2 (0 : Fin 1) l) = (R m c b n).dq ⟨l.val % 64, Nat.mod_lt _ (by decide)⟩ :=
  fun l => (block16 m c t l).trans (Host.dq m c l)

/-- The block of `dk`. -/
theorem read_dk : ∀ l : Fin 128, (blocks m c t).x17 (ix2 (0 : Fin 1) l) = (R m c b n).dk ⟨l.val % 64, Nat.mod_lt _ (by decide)⟩ :=
  fun l => (block17 m c t l).trans (Host.dk m c l)

/-- The block of `c64`. -/
theorem read_c64 (hn : n.val = (grid0.coords t 1).val * 256 + i.val) : ∀ l : Fin 128, (blocks m c t).x18 (ix2 i l) = (R m c b n).c64 ⟨l.val % 64, Nat.mod_lt _ (by decide)⟩ :=
  fun l => (block18 m c t i l n hn).trans (Host.cos64 m c n l)

/-- The block of `lo64`. -/
theorem read_lo64 (hn : n.val = (grid0.coords t 1).val * 256 + i.val) : ∀ l : Fin 128, (blocks m c t).x19 (ix2 i l) = low 16 (R m c b n).s64 ⟨l.val % 64, Nat.mod_lt _ (by decide)⟩ :=
  fun l => (block19 m c t i l n hn).trans (Host.low64 m c n l)

/-- The block of `hi64`. -/
theorem read_hi64 (hn : n.val = (grid0.coords t 1).val * 256 + i.val) : ∀ l : Fin 128, (blocks m c t).x20 (ix2 i l) = high 16 (R m c b n).s64 ⟨l.val % 64, Nat.mod_lt _ (by decide)⟩ :=
  fun l => (block20 m c t i l n hn).trans (Host.high64 m c n l)

/-- The block of `c32`. -/
theorem read_c32 (hn : n.val = (grid0.coords t 1).val * 256 + i.val) : ∀ l : Fin 128, (blocks m c t).x21 (ix2 i l) = (R m c b n).c32 ⟨l.val % 32, Nat.mod_lt _ (by decide)⟩ :=
  fun l => (block21 m c t i l n hn).trans (Host.cos32 m c n l)

/-- The block of `lo32`. -/
theorem read_lo32 (hn : n.val = (grid0.coords t 1).val * 256 + i.val) : ∀ l : Fin 128, (blocks m c t).x22 (ix2 i l) = low 8 (R m c b n).s32 ⟨l.val % 32, Nat.mod_lt _ (by decide)⟩ :=
  fun l => (block22 m c t i l n hn).trans (Host.low32 m c n l)

/-- The block of `hi32`. -/
theorem read_hi32 (hn : n.val = (grid0.coords t 1).val * 256 + i.val) : ∀ l : Fin 128, (blocks m c t).x23 (ix2 i l) = high 8 (R m c b n).s32 ⟨l.val % 32, Nat.mod_lt _ (by decide)⟩ :=
  fun l => (block23 m c t i l n hn).trans (Host.high32 m c n l)

/-- A grid point's blocks hold its tokens' rows. -/
theorem reads (hb : b.val = (grid0.coords t 0).val) (hn : n.val = (grid0.coords t 1).val * 256 + i.val) :
    Block.Reads (blocks m c t) i (R m c b n) :=
  ⟨read_x m c t i b n hb hn,
    read_sh m c t b n hb,
    read_sc m c t b n hb,
    read_g m c t b n,
    read_w m c t b n,
    read_aq m c t b n,
    read_ak m c t b n,
    read_bq m c t b n,
    read_bk m c t b n,
    read_cqa m c t b n,
    read_ckva m c t b n,
    read_up m c t b n,
    read_kvup m c t b n,
    read_cq m c t b n,
    read_ck m c t b n,
    read_cqr m c t b n,
    read_ckr m c t b n,
    read_dq m c t b n,
    read_dk m c t b n,
    read_c64 m c t i b n hn,
    read_lo64 m c t i b n hn,
    read_hi64 m c t i b n hn,
    read_c32 m c t i b n hn,
    read_lo32 m c t i b n hn,
    read_hi32 m c t i b n hn⟩

end Cert.Kernel5Ideal.Array

end
-- ==== Proof.Array5.lean ====
/- The projections over the whole grid: what the twelve output arrays hold. -/
module

public import proofs.«01_k».proof.Proof.Store5
public import proofs.«01_k».proof.Proof.Reads5
public import proofs.«01_k».proof.Proof.Frame5B
public import Idealize.ShloMosaic.Lib.Pipeline.ValueKit

@[expose] public section

set_option maxRecDepth 16384

noncomputable section

namespace Cert.Kernel5Ideal.Array

open Idealize.ShloMosaic Idealize.ShloMosaic.TcCoe Idealize.SL.Sem Cert.Heads Cert.Kernel5Ideal Cert.Kernel5Ideal.Gen

variable (m : (ℓ : Loc nD τ sig) → Buf (Elt Ideal) ℓ)

/-- Mixer A's queries are what the kernel leaves. -/
theorem arr_qa (hf : ∀ (c : Dev nD) b n, (R m c b n).Finite) (c : Dev nD) : (dats m 0 c).arrAt 24 (cfgs 0).N = rows (R m c) Row.qa := by
  refine (dats m 0 c).arrAt_eq_of_covers 24 _ (by decide +kernel) fun t _ y => ?_
  blk_simp
  rw [after0_24]
  obtain ⟨h0, h1⟩ := bounds t
  obtain ⟨a, h, i, d, rfl⟩ : ∃ (a : Fin 1) (h : Fin 8) (i : Fin 256) (d : Fin 64), y = ix4 a h i d := ⟨y 0, y 1, y 2, y 3, eq_ix4 y⟩
  obtain rfl : a = 0 := Subsingleton.elim _ _
  have he : ((View.whole main_v67_0).slice (win0_24.rect t)).emb (ix4 0 h i d) = (ix4 ⟨(grid0.coords t 0).val, h0⟩ h ⟨(grid0.coords t 1).val * 256 + i.val, by omega⟩ d : S8x8x4096x64.Idx) := by
    blk_ext [(index_out t).1]
  rw [he, rows_at]
  exact (Block.buffer_qa (R := fun i => R m c ⟨(grid0.coords t 0).val, h0⟩ ⟨(grid0.coords t 1).val * 256 + i.val, by omega⟩)
    (fun i => reads m c t i _ _ rfl rfl) (fun _ => hf c _ _) h i d)

/-- Mixer A's keys are what the kernel leaves. -/
theorem arr_ka (hf : ∀ (c : Dev nD) b n, (R m c b n).Finite) (c : Dev nD) : (dats m 0 c).arrAt 25 (cfgs 0).N = rows (R m c) Row.ka := by
  refine (dats m 0 c).arrAt_eq_of_covers 25 _ (by decide +kernel) fun t _ y => ?_
  blk_simp
  rw [after0_25]
  obtain ⟨h0, h1⟩ := bounds t
  obtain ⟨a, h, i, d, rfl⟩ : ∃ (a : Fin 1) (h : Fin 8) (i : Fin 256) (d : Fin 64), y = ix4 a h i d := ⟨y 0, y 1, y 2, y 3, eq_ix4 y⟩
  obtain rfl : a = 0 := Subsingleton.elim _ _
  have he : ((View.whole main_v67_1).slice (win0_25.rect t)).emb (ix4 0 h i d) = (ix4 ⟨(grid0.coords t 0).val, h0⟩ h ⟨(grid0.coords t 1).val * 256 + i.val, by omega⟩ d : S8x8x4096x64.Idx) := by
    blk_ext [(index_out t).2.1]
  rw [he, rows_at]
  exact (Block.buffer_ka (R := fun i => R m c ⟨(grid0.coords t 0).val, h0⟩ ⟨(grid0.coords t 1).val * 256 + i.val, by omega⟩)
    (fun i => reads m c t i _ _ rfl rfl) (fun _ => hf c _ _) h i d)

/-- Mixer A's values are what the kernel leaves. -/
theorem arr_va (c : Dev nD) : (dats m 0 c).arrAt 26 (cfgs 0).N = columns (R m c) Row.va := by
  refine (dats m 0 c).arrAt_eq_of_covers 26 _ (by decide +kernel) fun t _ y => ?_
  blk_simp
  rw [after0_26]
  obtain ⟨h0, h1⟩ := bounds t
  obtain ⟨a, h, d, i, rfl⟩ : ∃ (a : Fin 1) (h : Fin 4) (d : Fin 128) (i : Fin 256), y = ix4 a h d i := ⟨y 0, y 1, y 2, y 3, eq_ix4 y⟩
  obtain rfl : a = 0 := Subsingleton.elim _ _
  have he : ((View.whole main_v67_2).slice (win0_26.rect t)).emb (ix4 0 h d i) = (ix4 ⟨(grid0.coords t 0).val, h0⟩ h d ⟨(grid0.coords t 1).val * 256 + i.val, by omega⟩ : S8x4x128x4096.Idx) := by
    blk_ext [(index_out t).2.2.1]
  rw [he, columns_at]
  exact (Block.buffer_va (R := fun i => R m c ⟨(grid0.coords t 0).val, h0⟩ ⟨(grid0.coords t 1).val * 256 + i.val, by omega⟩)
    (fun i => reads m c t i _ _ rfl rfl) h i d)

/-- Mixer B's queries are what the kernel leaves. -/
theorem arr_qb (hf : ∀ (c : Dev nD) b n, (R m c b n).Finite) (c : Dev nD) : (dats m 0 c).arrAt 27 (cfgs 0).N = rows (R m c) Row.qb := by
  refine (dats m 0 c).arrAt_eq_of_covers 27 _ (by decide +kernel) fun t _ y => ?_
  blk_simp
  rw [after0_27]
  obtain ⟨h0, h1⟩ := bounds t
  obtain ⟨a, h, i, d, rfl⟩ : ∃ (a : Fin 1) (h : Fin 8) (i : Fin 256) (d : Fin 64), y = ix4 a h i d := ⟨y 0, y 1, y 2, y 3, eq_ix4 y⟩
  obtain rfl : a = 0 := Subsingleton.elim _ _
  have he : ((View.whole main_v67_3).slice (win0_27.rect t)).emb (ix4 0 h i d) = (ix4 ⟨(grid0.coords t 0).val, h0⟩ h ⟨(grid0.coords t 1).val * 256 + i.val, by omega⟩ d : S8x8x4096x64.Idx) := by
    blk_ext [(index_out t).2.2.2.1]
  rw [he, rows_at]
  exact (Block.buffer_qb (R := fun i => R m c ⟨(grid0.coords t 0).val, h0⟩ ⟨(grid0.coords t 1).val * 256 + i.val, by omega⟩)
    (fun i => reads m c t i _ _ rfl rfl) (fun _ => hf c _ _) h i d)

/-- Mixer B's keys are what the kernel leaves. -/
theorem arr_kb (hf : ∀ (c : Dev nD) b n, (R m c b n).Finite) (c : Dev nD) : (dats m 0 c).arrAt 28 (cfgs 0).N = rows (R m c) Row.kb := by
  refine (dats m 0 c).arrAt_eq_of_covers 28 _ (by decide +kernel) fun t _ y => ?_
  blk_simp
  rw [after0_28]
  obtain ⟨h0, h1⟩ := bounds t
  obtain ⟨a, h, i, d, rfl⟩ : ∃ (a : Fin 1) (h : Fin 2) (i : Fin 256) (d : Fin 64), y = ix4 a h i d := ⟨y 0, y 1, y 2, y 3, eq_ix4 y⟩
  obtain rfl : a = 0 := Subsingleton.elim _ _
  have he : ((View.whole main_v67_4).slice (win0_28.rect t)).emb (ix4 0 h i d) = (ix4 ⟨(grid0.coords t 0).val, h0⟩ h ⟨(grid0.coords t 1).val * 256 + i.val, by omega⟩ d : S8x2x4096x64.Idx) := by
    blk_ext [(index_out t).2.2.2.2.1]
  rw [he, rows_at]
  exact (Block.buffer_kb (R := fun i => R m c ⟨(grid0.coords t 0).val, h0⟩ ⟨(grid0.coords t 1).val * 256 + i.val, by omega⟩)
    (fun i => reads m c t i _ _ rfl rfl) (fun _ => hf c _ _) h i d)

/-- Mixer B's values are what the kernel leaves. -/
theorem arr_vb (c : Dev nD) : (dats m 0 c).arrAt 29 (cfgs 0).N = columns (R m c) Row.vb := by
  refine (dats m 0 c).arrAt_eq_of_covers 29 _ (by decide +kernel) fun t _ y => ?_
  blk_simp
  rw [after0_29]
  obtain ⟨h0, h1⟩ := bounds t
  obtain ⟨a, h, d, i, rfl⟩ : ∃ (a : Fin 1) (h : Fin 2) (d : Fin 64) (i : Fin 256), y = ix4 a h d i := ⟨y 0, y 1, y 2, y 3, eq_ix4 y⟩
  obtain rfl : a = 0 := Subsingleton.elim _ _
  have he : ((View.whole main_v67_5).slice (win0_29.rect t)).emb (ix4 0 h d i) = (ix4 ⟨(grid0.coords t 0).val, h0⟩ h d ⟨(grid0.coords t 1).val * 256 + i.val, by omega⟩ : S8x2x64x4096.Idx) := by
    blk_ext [(index_out t).2.2.2.2.2.1]
  rw [he, columns_at]
  exact (Block.buffer_vb (R := fun i => R m c ⟨(grid0.coords t 0).val, h0⟩ ⟨(grid0.coords t 1).val * 256 + i.val, by omega⟩)
    (fun i => reads m c t i _ _ rfl rfl) h i d)

/-- Mixer C's queries are what the kernel leaves. -/
theorem arr_qc (hf : ∀ (c : Dev nD) b n, (R m c b n).Finite) (c : Dev nD) : (dats m 0 c).arrAt 30 (cfgs 0).N = rows (R m c) Row.qc := by
  refine (dats m 0 c).arrAt_eq_of_covers 30 _ (by decide +kernel) fun t _ y => ?_
  blk_simp
  rw [after0_30]
  obtain ⟨h0, h1⟩ := bounds t
  obtain ⟨a, h, i, d, rfl⟩ : ∃ (a : Fin 1) (h : Fin 8) (i : Fin 256) (d : Fin 128), y = ix4 a h i d := ⟨y 0, y 1, y 2, y 3, eq_ix4 y⟩
  obtain rfl : a = 0 := Subsingleton.elim _ _
  have he : ((View.whole main_v67_6).slice (win0_30.rect t)).emb (ix4 0 h i d) = (ix4 ⟨(grid0.coords t 0).val, h0⟩ h ⟨(grid0.coords t 1).val * 256 + i.val, by omega⟩ d : S8x8x4096x128.Idx) := by
    blk_ext [(index_out t).2.2.2.2.2.2.1]
  rw [he, rows_at]
  exact (Block.buffer_qc (R := fun i => R m c ⟨(grid0.coords t 0).val, h0⟩ ⟨(grid0.coords t 1).val * 256 + i.val, by omega⟩)
    (fun i => reads m c t i _ _ rfl rfl) (fun _ => hf c _ _) h i d)

/-- Mixer C's keys are what the kernel leaves. -/
theorem arr_kc (hf : ∀ (c : Dev nD) b n, (R m c b n).Finite) (c : Dev nD) : (dats m 0 c).arrAt 31 (cfgs 0).N = rows (R m c) Row.kc := by
  refine (dats m 0 c).arrAt_eq_of_covers 31 _ (by decide +kernel) fun t _ y => ?_
  blk_simp
  rw [after0_31]
  obtain ⟨h0, h1⟩ := bounds t
  obtain ⟨a, h, i, d, rfl⟩ : ∃ (a : Fin 1) (h : Fin 8) (i : Fin 256) (d : Fin 128), y = ix4 a h i d := ⟨y 0, y 1, y 2, y 3, eq_ix4 y⟩
  obtain rfl : a = 0 := Subsingleton.elim _ _
  have he : ((View.whole main_v67_7).slice (win0_31.rect t)).emb (ix4 0 h i d) = (ix4 ⟨(grid0.coords t 0).val, h0⟩ h ⟨(grid0.coords t 1).val * 256 + i.val, by omega⟩ d : S8x8x4096x128.Idx) := by
    blk_ext [(index_out t).2.2.2.2.2.2.2.1]
  rw [he, rows_at]
  exact (Block.buffer_kc (R := fun i => R m c ⟨(grid0.coords t 0).val, h0⟩ ⟨(grid0.coords t 1).val * 256 + i.val, by omega⟩)
    (fun i => reads m c t i _ _ rfl rfl) (fun _ => hf c _ _) h i d)

/-- Mixer C's values are what the kernel leaves. -/
theorem arr_vc (c : Dev nD) : (dats m 0 c).arrAt 32 (cfgs 0).N = columns (R m c) Row.vc := by
  refine (dats m 0 c).arrAt_eq_of_covers 32 _ (by decide +kernel) fun t _ y => ?_
  blk_simp
  rw [after0_32]
  obtain ⟨h0, h1⟩ := bounds t
  obtain ⟨a, h, d, i, rfl⟩ : ∃ (a : Fin 1) (h : Fin 8) (d : Fin 64) (i : Fin 256), y = ix4 a h d i := ⟨y 0, y 1, y 2, y 3, eq_ix4 y⟩
  obtain rfl : a = 0 := Subsingleton.elim _ _
  have he : ((View.whole main_v67_8).slice (win0_32.rect t)).emb (ix4 0 h d i) = (ix4 ⟨(grid0.coords t 0).val, h0⟩ h d ⟨(grid0.coords t 1).val * 256 + i.val, by omega⟩ : S8x8x64x4096.Idx) := by
    blk_ext [(index_out t).2.2.2.2.2.2.2.2.1]
  rw [he, columns_at]
  exact (Block.buffer_vc (R := fun i => R m c ⟨(grid0.coords t 0).val, h0⟩ ⟨(grid0.coords t 1).val * 256 + i.val, by omega⟩)
    (fun i => reads m c t i _ _ rfl rfl) h i d)

/-- Mixer D's queries are what the kernel leaves. -/
theorem arr_qd (hf : ∀ (c : Dev nD) b n, (R m c b n).Finite) (c : Dev nD) : (dats m 0 c).arrAt 33 (cfgs 0).N = rows (R m c) Row.qd := by
  refine (dats m 0 c).arrAt_eq_of_covers 33 _ (by decide +kernel) fun t _ y => ?_
  blk_simp
  rw [after0_33]
  obtain ⟨h0, h1⟩ := bounds t
  obtain ⟨a, h, i, d, rfl⟩ : ∃ (a : Fin 1) (h : Fin 8) (i : Fin 256) (d : Fin 64), y = ix4 a h i d := ⟨y 0, y 1, y 2, y 3, eq_ix4 y⟩
  obtain rfl : a = 0 := Subsingleton.elim _ _
  have he : ((View.whole main_v67_9).slice (win0_33.rect t)).emb (ix4 0 h i d) = (ix4 ⟨(grid0.coords t 0).val, h0⟩ h ⟨(grid0.coords t 1).val * 256 + i.val, by omega⟩ d : S8x8x4096x64.Idx) := by
    blk_ext [(index_out t).2.2.2.2.2.2.2.2.2.1]
  rw [he, rows_at]
  exact (Block.buffer_qd (R := fun i => R m c ⟨(grid0.coords t 0).val, h0⟩ ⟨(grid0.coords t 1).val * 256 + i.val, by omega⟩)
    (fun i => reads m c t i _ _ rfl rfl) (fun _ => hf c _ _) h i d)

/-- Mixer D's keys are what the kernel leaves. -/
theorem arr_kd (hf : ∀ (c : Dev nD) b n, (R m c b n).Finite) (c : Dev nD) : (dats m 0 c).arrAt 34 (cfgs 0).N = rows (R m c) Row.kd := by
  refine (dats m 0 c).arrAt_eq_of_covers 34 _ (by decide +kernel) fun t _ y => ?_
  blk_simp
  rw [after0_34]
  obtain ⟨h0, h1⟩ := bounds t
  obtain ⟨a, h, i, d, rfl⟩ : ∃ (a : Fin 1) (h : Fin 2) (i : Fin 256) (d : Fin 64), y = ix4 a h i d := ⟨y 0, y 1, y 2, y 3, eq_ix4 y⟩
  obtain rfl : a = 0 := Subsingleton.elim _ _
  have he : ((View.whole main_v67_10).slice (win0_34.rect t)).emb (ix4 0 h i d) = (ix4 ⟨(grid0.coords t 0).val, h0⟩ h ⟨(grid0.coords t 1).val * 256 + i.val, by omega⟩ d : S8x2x4096x64.Idx) := by
    blk_ext [(index_out t).2.2.2.2.2.2.2.2.2.2.1]
  rw [he, rows_at]
  exact (Block.buffer_kd (R := fun i => R m c ⟨(grid0.coords t 0).val, h0⟩ ⟨(grid0.coords t 1).val * 256 + i.val, by omega⟩)
    (fun i => reads m c t i _ _ rfl rfl) (fun _ => hf c _ _) h i d)

/-- Mixer D's values are what the kernel leaves. -/
theorem arr_vd (c : Dev nD) : (dats m 0 c).arrAt 35 (cfgs 0).N = rows (R m c) Row.vd := by
  refine (dats m 0 c).arrAt_eq_of_covers 35 _ (by decide +kernel) fun t _ y => ?_
  blk_simp
  rw [after0_35]
  obtain ⟨h0, h1⟩ := bounds t
  obtain ⟨a, h, i, d, rfl⟩ : ∃ (a : Fin 1) (h : Fin 2) (i : Fin 256) (d : Fin 64), y = ix4 a h i d := ⟨y 0, y 1, y 2, y 3, eq_ix4 y⟩
  obtain rfl : a = 0 := Subsingleton.elim _ _
  have he : ((View.whole main_v67_11).slice (win0_35.rect t)).emb (ix4 0 h i d) = (ix4 ⟨(grid0.coords t 0).val, h0⟩ h ⟨(grid0.coords t 1).val * 256 + i.val, by omega⟩ d : S8x2x4096x64.Idx) := by
    blk_ext [(index_out t).2.2.2.2.2.2.2.2.2.2.2]
  rw [he, rows_at]
  exact (Block.buffer_vd (R := fun i => R m c ⟨(grid0.coords t 0).val, h0⟩ ⟨(grid0.coords t 1).val * 256 + i.val, by omega⟩)
    (fun i => reads m c t i _ _ rfl rfl) h i d)

set_option maxHeartbeats 4000000 in
/-- The kernel's run: the twelve arrays. -/
theorem run_arrays (hf : ∀ (c : Dev nD) b n, (R m c b n).Finite) (ρ : Dev nD → PrngReg) :
    θ_run defs (onTc (τ := τ) (main (F := Ideal))) ⟨m, fun _ => 0, ρ⟩ fun r => ∀ c : Dev nD,
      r.2.mem ((c : Thread nD τ).loc main_v67_0) = rows (R m c) Row.qa
      ∧ r.2.mem ((c : Thread nD τ).loc main_v67_1) = rows (R m c) Row.ka
      ∧ r.2.mem ((c : Thread nD τ).loc main_v67_2) = columns (R m c) Row.va
      ∧ r.2.mem ((c : Thread nD τ).loc main_v67_3) = rows (R m c) Row.qb
      ∧ r.2.mem ((c : Thread nD τ).loc main_v67_4) = rows (R m c) Row.kb
      ∧ r.2.mem ((c : Thread nD τ).loc main_v67_5) = columns (R m c) Row.vb
      ∧ r.2.mem ((c : Thread nD τ).loc main_v67_6) = rows (R m c) Row.qc
      ∧ r.2.mem ((c : Thread nD τ).loc main_v67_7) = rows (R m c) Row.kc
      ∧ r.2.mem ((c : Thread nD τ).loc main_v67_8) = columns (R m c) Row.vc
      ∧ r.2.mem ((c : Thread nD τ).loc main_v67_9) = rows (R m c) Row.qd
      ∧ r.2.mem ((c : Thread nD τ).loc main_v67_10) = rows (R m c) Row.kd
      ∧ r.2.mem ((c : Thread nD τ).loc main_v67_11) = rows (R m c) Row.vd :=
  (θ_run defs _ _).mono (fun _ h c => ⟨((h c).1 24).trans (arr_qa m hf c),
      ((h c).1 25).trans (arr_ka m hf c),
      ((h c).1 26).trans (arr_va m c),
      ((h c).1 27).trans (arr_qb m hf c),
      ((h c).1 28).trans (arr_kb m hf c),
      ((h c).1 29).trans (arr_vb m c),
      ((h c).1 30).trans (arr_qc m hf c),
      ((h c).1 31).trans (arr_kc m hf c),
      ((h c).1 32).trans (arr_vc m c),
      ((h c).1 33).trans (arr_qd m hf c),
      ((h c).1 34).trans (arr_kd m hf c),
      ((h c).1 35).trans (arr_vd m c)⟩)
    (run_main m ρ)

/-- The kernel's run: the twelve arrays, and the arguments unchanged. -/
theorem run (hf : ∀ (c : Dev nD) b n, (R m c b n).Finite) (ρ : Dev nD → PrngReg) :
    θ_run defs (onTc (τ := τ) (main (F := Ideal))) ⟨m, fun _ => 0, ρ⟩ fun r => (∀ c : Dev nD,
      r.2.mem ((c : Thread nD τ).loc main_v67_0) = rows (R m c) Row.qa
      ∧ r.2.mem ((c : Thread nD τ).loc main_v67_1) = rows (R m c) Row.ka
      ∧ r.2.mem ((c : Thread nD τ).loc main_v67_2) = columns (R m c) Row.va
      ∧ r.2.mem ((c : Thread nD τ).loc main_v67_3) = rows (R m c) Row.qb
      ∧ r.2.mem ((c : Thread nD τ).loc main_v67_4) = rows (R m c) Row.kb
      ∧ r.2.mem ((c : Thread nD τ).loc main_v67_5) = columns (R m c) Row.vb
      ∧ r.2.mem ((c : Thread nD τ).loc main_v67_6) = rows (R m c) Row.qc
      ∧ r.2.mem ((c : Thread nD τ).loc main_v67_7) = rows (R m c) Row.kc
      ∧ r.2.mem ((c : Thread nD τ).loc main_v67_8) = columns (R m c) Row.vc
      ∧ r.2.mem ((c : Thread nD τ).loc main_v67_9) = rows (R m c) Row.qd
      ∧ r.2.mem ((c : Thread nD τ).loc main_v67_10) = rows (R m c) Row.kd
      ∧ r.2.mem ((c : Thread nD τ).loc main_v67_11) = rows (R m c) Row.vd)
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  θ_run_and (run_arrays m hf ρ) (unchanged m ρ)

end Cert.Kernel5Ideal.Array

end
-- ==== Proof.Reference5.lean ====
/- The projections' reference computes the projections. -/
module

public import proofs.«01_k».proof.Proof.Lanes
public import proofs.«01_k».proof.Proof.Token
public import proofs.«01_k».proof.Proof.Gen.Reference5Ideal.Read
public import Idealize.ShloMosaic.Lib.Pointwise

@[expose] public section

set_option maxRecDepth 16384

noncomputable section

namespace Cert.Reference5Ideal.Projected

open Idealize.ShloMosaic Cert.Merge Cert.Heads Cert.Reference5Ideal Cert.Reference5Ideal.Gen Cert.Reference5Ideal.Read

/-- The rotation's partner as the reference puts it together, 64 coordinates: the second quarter negated, the first, the fourth
    negated, the third. -/
theorem quarters64 (y : Fin 64 → EReal) (d : Fin 64) :
    (if h0 : d.val < 16 then -y ⟨16 + d.val, by omega⟩ else if h1 : d.val - 16 < 16 then y ⟨d.val - 16, by omega⟩
      else if h2 : d.val - 16 - 16 < 16 then -y ⟨48 + (d.val - 16 - 16), by omega⟩ else y ⟨32 + (d.val - 16 - 16 - 16), by omega⟩) = partner 16 y d := by
  unfold partner
  have hd := d.isLt
  split_ifs <;> first | omega | (first | refine congrArg (fun k => -y k) (Fin.ext ?_) | refine congrArg y (Fin.ext ?_)) <;> simp only [] <;> omega

/-- The same with 32 coordinates. -/
theorem quarters32 (y : Fin 32 → EReal) (d : Fin 32) :
    (if h0 : d.val < 8 then -y ⟨8 + d.val, by omega⟩ else if h1 : d.val - 8 < 8 then y ⟨d.val - 8, by omega⟩
      else if h2 : d.val - 8 - 8 < 8 then -y ⟨24 + (d.val - 8 - 8), by omega⟩ else y ⟨16 + (d.val - 8 - 8 - 8), by omega⟩) = partner 8 y d := by
  unfold partner
  have hd := d.isLt
  split_ifs <;> first | omega | (first | refine congrArg (fun k => -y k) (Fin.ext ?_) | refine congrArg y (Fin.ext ?_)) <;> simp only [] <;> omega

variable (x0 : FVec Ideal ⟨3, ![8, 4096, 1024]⟩ .f32) (x1 : FVec Ideal ⟨3, ![8, 1, 6144]⟩ .f32) (x2 : FVec Ideal ⟨2, ![1, 1024]⟩ .f32)
  (x3 : FVec Ideal ⟨2, ![1024, 3840]⟩ .bf16) (x4 x5 x6 x7 : FVec Ideal ⟨2, ![1, 64]⟩ .f32) (x8 : FVec Ideal ⟨2, ![1, 384]⟩ .f32)
  (x9 : FVec Ideal ⟨2, ![1, 256]⟩ .f32) (x10 : FVec Ideal ⟨2, ![384, 768]⟩ .bf16) (x11 : FVec Ideal ⟨2, ![256, 1024]⟩ .bf16)
  (x12 x13 : FVec Ideal ⟨2, ![1, 64]⟩ .f32) (x14 x15 : FVec Ideal ⟨2, ![1, 32]⟩ .f32) (x16 x17 : FVec Ideal ⟨2, ![1, 64]⟩ .f32)
  (x18 x19 : FVec Ideal ⟨2, ![4096, 64]⟩ .f32) (x20 x21 : FVec Ideal ⟨2, ![4096, 32]⟩ .f32)

/-- The normed token. -/
theorem hid_at (b : Fin 8) (t : Fin 4096) (d : Fin 1024) : val_main_v20 (F := Ideal) x0 x1 x2 (ix3 b t d) = (row x0 x1 x2 x3 x4 x5 x6 x7 x8 x9 x10 x11 x12 x13 x14 x15 x16 x17 x18 x19 x20 x21 b t).hid d := by
  unfold Row.hid adapted
  pointwise [val_main_v20, val_main_v19, val_main_v18, val_main_v17, val_main_v16, val_main_v15, val_main_v14, val_main_cst_2, val_main_v13, val_main_v12, val_main_v11, val_main_v10, val_main_v9, val_main_v8, val_main_v7, val_main_v6, val_main_cst_1, val_main_v5, val_main_v4, val_main_cst_0, val_main_v3, val_main_v2, val_main_cst, val_main_v1, val_main_v0, one, width, eps, row]

/-- A column of the input projection. -/
theorem col_at (b : Fin 8) (t : Fin 4096) (j : Fin 3840) : val_main_v22 (F := Ideal) x0 x1 x2 x3 (ix3 b t j) = (row x0 x1 x2 x3 x4 x5 x6 x7 x8 x9 x10 x11 x12 x13 x14 x15 x16 x17 x18 x19 x20 x21 b t).col j := by
  rw [val_main_v22_apply]
  refine Finset.sum_congr rfl fun k _ => ?_
  have hl : lidx_main_v22 (ix3 b t j) k = ix3 b t k := eq_ix3 _
  have hr : ridx_main_v22 (ix3 b t j) k = ix2 k j := eq_ix2 _
  rw [hl, hr, val_main_v21_apply, hid_at x0 x1 x2 x3 x4 x5 x6 x7 x8 x9 x10 x11 x12 x13 x14 x15 x16 x17 x18 x19 x20 x21]
  rfl

/-- Mixer A's query before its norm. -/
theorem qa_cols (b : Fin 8) (t : Fin 4096) (h : Fin 8) (d : Fin 64) :
    val_main_v35 (F := Ideal) x0 x1 x2 x3 (ix4 b t h d) = (row x0 x1 x2 x3 x4 x5 x6 x7 x8 x9 x10 x11 x12 x13 x14 x15 x16 x17 x18 x19 x20 x21 b t).cols (0 + 64 * h.val) 64 (by omega) d := by
  have hi : idx_main_v35 (ix4 b t h d) = ix3 b t (⟨64 * h.val + d.val, by omega⟩ : Fin 512) := by
    funext a
    refine Fin.ext ?_
    match a with
    | ⟨0, _⟩ => show (((b.val * 4096 + t.val) * 8 + h.val) * 64 + d.val) / 2097152 = b.val; omega
    | ⟨1, _⟩ => show (((b.val * 4096 + t.val) * 8 + h.val) * 64 + d.val) / 512 % 4096 = t.val; omega
    | ⟨2, _⟩ => show (((b.val * 4096 + t.val) * 8 + h.val) * 64 + d.val) % 512 = 64 * h.val + d.val; omega
  have hs : idx_main_v23 (ix3 b t (⟨64 * h.val + d.val, by omega⟩ : Fin 512)) = ix3 b t (⟨0 + (64 * h.val + d.val), by omega⟩ : Fin 3840) := by
    funext a
    refine Fin.ext ?_
    match a with
    | ⟨0, _⟩ => rfl
    | ⟨1, _⟩ => rfl
    | ⟨2, _⟩ => exact Nat.zero_add _ |>.symm
  rw [val_main_v35_apply, hi, val_main_v23_apply, hs, col_at x0 x1 x2 x3 x4 x5 x6 x7 x8 x9 x10 x11 x12 x13 x14 x15 x16 x17 x18 x19 x20 x21]
  exact congrArg _ (Fin.ext (Nat.add_assoc _ _ _).symm)

/-- Mixer A's query before its rotation. -/
theorem qa_normed (b : Fin 8) (t : Fin 4096) (h : Fin 8) (d : Fin 64) :
    val_main_v49 (F := Ideal) x0 x1 x2 x3 x4 (ix4 b t h d) = plain ((64 : ℝ) : EReal) ((row x0 x1 x2 x3 x4 x5 x6 x7 x8 x9 x10 x11 x12 x13 x14 x15 x16 x17 x18 x19 x20 x21 b t).cols (0 + 64 * h.val) 64 (by omega)) (row x0 x1 x2 x3 x4 x5 x6 x7 x8 x9 x10 x11 x12 x13 x14 x15 x16 x17 x18 x19 x20 x21 b t).aq d := by
  unfold plain scaled
  simp only [← qa_cols]
  generalize hy : val_main_v35 (F := Ideal) x0 x1 x2 x3 = y
  pointwise [val_main_v49, val_main_v48, val_main_v47, val_main_v46, val_main_v45, val_main_v44, val_main_v43, val_main_v42, val_main_cst_5, val_main_v41, val_main_v40, val_main_cst_4, val_main_v39, val_main_v38, val_main_cst_3, val_main_v37, val_main_v36, hy, eps, row, ← const64]

/-- Mixer A's query. -/
theorem qa_at (b : Fin 8) (t : Fin 4096) (h : Fin 8) (d : Fin 64) :
    val_main_v67 (F := Ideal) x0 x1 x2 x3 x4 x18 x19 (ix4 b h t d) = (row x0 x1 x2 x3 x4 x5 x6 x7 x8 x9 x10 x11 x12 x13 x14 x15 x16 x17 x18 x19 x20 x21 b t).qa h d := by
  unfold Row.qa Row.head64 turned
  rw [← quarters64]
  simp only [← qa_normed]
  generalize hy : val_main_v49 (F := Ideal) x0 x1 x2 x3 x4 = y
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, hy, row]

/-- Mixer A's key before its norm. -/
theorem ka_cols (b : Fin 8) (t : Fin 4096) (h : Fin 8) (d : Fin 64) :
    val_main_v68 (F := Ideal) x0 x1 x2 x3 (ix4 b t h d) = (row x0 x1 x2 x3 x4 x5 x6 x7 x8 x9 x10 x11 x12 x13 x14 x15 x16 x17 x18 x19 x20 x21 b t).cols (512 + 64 * h.val) 64 (by omega) d := by
  have hi : idx_main_v68 (ix4 b t h d) = ix3 b t (⟨64 * h.val + d.val, by omega⟩ : Fin 512) := by
    funext a
    refine Fin.ext ?_
    match a with
    | ⟨0, _⟩ => show (((b.val * 4096 + t.val) * 8 + h.val) * 64 + d.val) / 2097152 = b.val; omega
    | ⟨1, _⟩ => show (((b.val * 4096 + t.val) * 8 + h.val) * 64 + d.val) / 512 % 4096 = t.val; omega
    | ⟨2, _⟩ => show (((b.val * 4096 + t.val) * 8 + h.val) * 64 + d.val) % 512 = 64 * h.val + d.val; omega
  have hs : idx_main_v24 (ix3 b t (⟨64 * h.val + d.val, by omega⟩ : Fin 512)) = ix3 b t (⟨512 + (64 * h.val + d.val), by omega⟩ : Fin 3840) := by
    funext a
    refine Fin.ext ?_
    match a with
    | ⟨0, _⟩ => rfl
    | ⟨1, _⟩ => rfl
    | ⟨2, _⟩ => rfl
  rw [val_main_v68_apply, hi, val_main_v24_apply, hs, col_at x0 x1 x2 x3 x4 x5 x6 x7 x8 x9 x10 x11 x12 x13 x14 x15 x16 x17 x18 x19 x20 x21]
  exact congrArg _ (Fin.ext (Nat.add_assoc _ _ _).symm)

/-- Mixer A's key before its rotation. -/
theorem ka_normed (b : Fin 8) (t : Fin 4096) (h : Fin 8) (d : Fin 64) :
    val_main_v82 (F := Ideal) x0 x1 x2 x3 x5 (ix4 b t h d) = plain ((64 : ℝ) : EReal) ((row x0 x1 x2 x3 x4 x5 x6 x7 x8 x9 x10 x11 x12 x13 x14 x15 x16 x17 x18 x19 x20 x21 b t).cols (512 + 64 * h.val) 64 (by omega)) (row x0 x1 x2 x3 x4 x5 x6 x7 x8 x9 x10 x11 x12 x13 x14 x15 x16 x17 x18 x19 x20 x21 b t).ak d := by
  unfold plain scaled
  simp only [← ka_cols]
  generalize hy : val_main_v68 (F := Ideal) x0 x1 x2 x3 = y
  pointwise [val_main_v82, val_main_v81, val_main_v80, val_main_v79, val_main_v78, val_main_v77, val_main_v76, val_main_v75, val_main_cst_8, val_main_v74, val_main_v73, val_main_cst_7, val_main_v72, val_main_v71, val_main_cst_6, val_main_v70, val_main_v69, hy, eps, row, ← const64]

/-- Mixer A's key. -/
theorem ka_at (b : Fin 8) (t : Fin 4096) (h : Fin 8) (d : Fin 64) :
    val_main_v100 (F := Ideal) x0 x1 x2 x3 x5 x18 x19 (ix4 b h t d) = (row x0 x1 x2 x3 x4 x5 x6 x7 x8 x9 x10 x11 x12 x13 x14 x15 x16 x17 x18 x19 x20 x21 b t).ka h d := by
  unfold Row.ka Row.head64 turned
  rw [← quarters64]
  simp only [← ka_normed]
  generalize hy : val_main_v82 (F := Ideal) x0 x1 x2 x3 x5 = y
  pointwise [val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, hy, row]

/-- Mixer B's query before its norm. -/
theorem qb_cols (b : Fin 8) (t : Fin 4096) (h : Fin 8) (d : Fin 64) :
    val_main_v101 (F := Ideal) x0 x1 x2 x3 (ix4 b t h d) = (row x0 x1 x2 x3 x4 x5 x6 x7 x8 x9 x10 x11 x12 x13 x14 x15 x16 x17 x18 x19 x20 x21 b t).cols (1536 + 64 * h.val) 64 (by omega) d := by
  have hi : idx_main_v101 (ix4 b t h d) = ix3 b t (⟨64 * h.val + d.val, by omega⟩ : Fin 512) := by
    funext a
    refine Fin.ext ?_
    match a with
    | ⟨0, _⟩ => show (((b.val * 4096 + t.val) * 8 + h.val) * 64 + d.val) / 2097152 = b.val; omega
    | ⟨1, _⟩ => show (((b.val * 4096 + t.val) * 8 + h.val) * 64 + d.val) / 512 % 4096 = t.val; omega
    | ⟨2, _⟩ => show (((b.val * 4096 + t.val) * 8 + h.val) * 64 + d.val) % 512 = 64 * h.val + d.val; omega
  have hs : idx_main_v26 (ix3 b t (⟨64 * h.val + d.val, by omega⟩ : Fin 512)) = ix3 b t (⟨1536 + (64 * h.val + d.val), by omega⟩ : Fin 3840) := by
    funext a
    refine Fin.ext ?_
    match a with
    | ⟨0, _⟩ => rfl
    | ⟨1, _⟩ => rfl
    | ⟨2, _⟩ => rfl
  rw [val_main_v101_apply, hi, val_main_v26_apply, hs, col_at x0 x1 x2 x3 x4 x5 x6 x7 x8 x9 x10 x11 x12 x13 x14 x15 x16 x17 x18 x19 x20 x21]
  exact congrArg _ (Fin.ext (Nat.add_assoc _ _ _).symm)

/-- Mixer B's query before its rotation. -/
theorem qb_normed (b : Fin 8) (t : Fin 4096) (h : Fin 8) (d : Fin 64) :
    val_main_v115 (F := Ideal) x0 x1 x2 x3 x6 (ix4 b t h d) = plain ((64 : ℝ) : EReal) ((row x0 x1 x2 x3 x4 x5 x6 x7 x8 x9 x10 x11 x12 x13 x14 x15 x16 x17 x18 x19 x20 x21 b t).cols (1536 + 64 * h.val) 64 (by omega)) (row x0 x1 x2 x3 x4 x5 x6 x7 x8 x9 x10 x11 x12 x13 x14 x15 x16 x17 x18 x19 x20 x21 b t).bq d := by
  unfold plain scaled
  simp only [← qb_cols]
  generalize hy : val_main_v101 (F := Ideal) x0 x1 x2 x3 = y
  pointwise [val_main_v115, val_main_v114, val_main_v113, val_main_v112, val_main_v111, val_main_v110, val_main_v109, val_main_v108, val_main_cst_11, val_main_v107, val_main_v106, val_main_cst_10, val_main_v105, val_main_v104, val_main_cst_9, val_main_v103, val_main_v102, hy, eps, row, ← const64]

/-- Mixer B's query. -/
theorem qb_at (b : Fin 8) (t : Fin 4096) (h : Fin 8) (d : Fin 64) :
    val_main_v133 (F := Ideal) x0 x1 x2 x3 x6 x18 x19 (ix4 b h t d) = (row x0 x1 x2 x3 x4 x5 x6 x7 x8 x9 x10 x11 x12 x13 x14 x15 x16 x17 x18 x19 x20 x21 b t).qb h d := by
  unfold Row.qb Row.head64 turned
  rw [← quarters64]
  simp only [← qb_normed]
  generalize hy : val_main_v115 (F := Ideal) x0 x1 x2 x3 x6 = y
  pointwise [val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, hy, row]

/-- Mixer B's key before its norm. -/
theorem kb_cols (b : Fin 8) (t : Fin 4096) (h : Fin 2) (d : Fin 64) :
    val_main_v134 (F := Ideal) x0 x1 x2 x3 (ix4 b t h d) = (row x0 x1 x2 x3 x4 x5 x6 x7 x8 x9 x10 x11 x12 x13 x14 x15 x16 x17 x18 x19 x20 x21 b t).cols (2048 + 64 * h.val) 64 (by omega) d := by
  have hi : idx_main_v134 (ix4 b t h d) = ix3 b t (⟨64 * h.val + d.val, by omega⟩ : Fin 128) := by
    funext a
    refine Fin.ext ?_
    match a with
    | ⟨0, _⟩ => show (((b.val * 4096 + t.val) * 2 + h.val) * 64 + d.val) / 524288 = b.val; omega
    | ⟨1, _⟩ => show (((b.val * 4096 + t.val) * 2 + h.val) * 64 + d.val) / 128 % 4096 = t.val; omega
    | ⟨2, _⟩ => show (((b.val * 4096 + t.val) * 2 + h.val) * 64 + d.val) % 128 = 64 * h.val + d.val; omega
  have hs : idx_main_v27 (ix3 b t (⟨64 * h.val + d.val, by omega⟩ : Fin 128)) = ix3 b t (⟨2048 + (64 * h.val + d.val), by omega⟩ : Fin 3840) := by
    funext a
    refine Fin.ext ?_
    match a with
    | ⟨0, _⟩ => rfl
    | ⟨1, _⟩ => rfl
    | ⟨2, _⟩ => rfl
  rw [val_main_v134_apply, hi, val_main_v27_apply, hs, col_at x0 x1 x2 x3 x4 x5 x6 x7 x8 x9 x10 x11 x12 x13 x14 x15 x16 x17 x18 x19 x20 x21]
  exact congrArg _ (Fin.ext (Nat.add_assoc _ _ _).symm)

/-- Mixer B's key before its rotation. -/
theorem kb_normed (b : Fin 8) (t : Fin 4096) (h : Fin 2) (d : Fin 64) :
    val_main_v148 (F := Ideal) x0 x1 x2 x3 x7 (ix4 b t h d) = plain ((64 : ℝ) : EReal) ((row x0 x1 x2 x3 x4 x5 x6 x7 x8 x9 x10 x11 x12 x13 x14 x15 x16 x17 x18 x19 x20 x21 b t).cols (2048 + 64 * h.val) 64 (by omega)) (row x0 x1 x2 x3 x4 x5 x6 x7 x8 x9 x10 x11 x12 x13 x14 x15 x16 x17 x18 x19 x20 x21 b t).bk d := by
  unfold plain scaled
  simp only [← kb_cols]
  generalize hy : val_main_v134 (F := Ideal) x0 x1 x2 x3 = y
  pointwise [val_main_v148, val_main_v147, val_main_v146, val_main_v145, val_main_v144, val_main_v143, val_main_v142, val_main_v141, val_main_cst_14, val_main_v140, val_main_v139, val_main_cst_13, val_main_v138, val_main_v137, val_main_cst_12, val_main_v136, val_main_v135, hy, eps, row, ← const64]

/-- Mixer B's key. -/
theorem kb_at (b : Fin 8) (t : Fin 4096) (h : Fin 2) (d : Fin 64) :
    val_main_v166 (F := Ideal) x0 x1 x2 x3 x7 x18 x19 (ix4 b h t d) = (row x0 x1 x2 x3 x4 x5 x6 x7 x8 x9 x10 x11 x12 x13 x14 x15 x16 x17 x18 x19 x20 x21 b t).kb h d := by
  unfold Row.kb Row.head64 turned
  rw [← quarters64]
  simp only [← kb_normed]
  generalize hy : val_main_v148 (F := Ideal) x0 x1 x2 x3 x7 = y
  pointwise [val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, hy, row]

/-- Mixer D's query before its norm. -/
theorem qd_cols (b : Fin 8) (t : Fin 4096) (h : Fin 8) (d : Fin 64) :
    val_main_v167 (F := Ideal) x0 x1 x2 x3 (ix4 b t h d) = (row x0 x1 x2 x3 x4 x5 x6 x7 x8 x9 x10 x11 x12 x13 x14 x15 x16 x17 x18 x19 x20 x21 b t).cols (3072 + 64 * h.val) 64 (by omega) d := by
  have hi : idx_main_v167 (ix4 b t h d) = ix3 b t (⟨64 * h.val + d.val, by omega⟩ : Fin 512) := by
    funext a
    refine Fin.ext ?_
    match a with
    | ⟨0, _⟩ => show (((b.val * 4096 + t.val) * 8 + h.val) * 64 + d.val) / 2097152 = b.val; omega
    | ⟨1, _⟩ => show (((b.val * 4096 + t.val) * 8 + h.val) * 64 + d.val) / 512 % 4096 = t.val; omega
    | ⟨2, _⟩ => show (((b.val * 4096 + t.val) * 8 + h.val) * 64 + d.val) % 512 = 64 * h.val + d.val; omega
  have hs : idx_main_v32 (ix3 b t (⟨64 * h.val + d.val, by omega⟩ : Fin 512)) = ix3 b t (⟨3072 + (64 * h.val + d.val), by omega⟩ : Fin 3840) := by
    funext a
    refine Fin.ext ?_
    match a with
    | ⟨0, _⟩ => rfl
    | ⟨1, _⟩ => rfl
    | ⟨2, _⟩ => rfl
  rw [val_main_v167_apply, hi, val_main_v32_apply, hs, col_at x0 x1 x2 x3 x4 x5 x6 x7 x8 x9 x10 x11 x12 x13 x14 x15 x16 x17 x18 x19 x20 x21]
  exact congrArg _ (Fin.ext (Nat.add_assoc _ _ _).symm)

/-- Mixer D's query before its rotation. -/
theorem qd_normed (b : Fin 8) (t : Fin 4096) (h : Fin 8) (d : Fin 64) :
    val_main_v181 (F := Ideal) x0 x1 x2 x3 x16 (ix4 b t h d) = plain ((64 : ℝ) : EReal) ((row x0 x1 x2 x3 x4 x5 x6 x7 x8 x9 x10 x11 x12 x13 x14 x15 x16 x17 x18 x19 x20 x21 b t).cols (3072 + 64 * h.val) 64 (by omega)) (row x0 x1 x2 x3 x4 x5 x6 x7 x8 x9 x10 x11 x12 x13 x14 x15 x16 x17 x18 x19 x20 x21 b t).dq d := by
  unfold plain scaled
  simp only [← qd_cols]
  generalize hy : val_main_v167 (F := Ideal) x0 x1 x2 x3 = y
  pointwise [val_main_v181, val_main_v180, val_main_v179, val_main_v178, val_main_v177, val_main_v176, val_main_v175, val_main_v174, val_main_cst_17, val_main_v173, val_main_v172, val_main_cst_16, val_main_v171, val_main_v170, val_main_cst_15, val_main_v169, val_main_v168, hy, eps, row, ← const64]

/-- Mixer D's query. -/
theorem qd_at (b : Fin 8) (t : Fin 4096) (h : Fin 8) (d : Fin 64) :
    val_main_v199 (F := Ideal) x0 x1 x2 x3 x16 x18 x19 (ix4 b h t d) = (row x0 x1 x2 x3 x4 x5 x6 x7 x8 x9 x10 x11 x12 x13 x14 x15 x16 x17 x18 x19 x20 x21 b t).qd h d := by
  unfold Row.qd Row.head64 turned
  rw [← quarters64]
  simp only [← qd_normed]
  generalize hy : val_main_v181 (F := Ideal) x0 x1 x2 x3 x16 = y
  pointwise [val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, hy, row]

/-- Mixer D's key before its norm. -/
theorem kd_cols (b : Fin 8) (t : Fin 4096) (h : Fin 2) (d : Fin 64) :
    val_main_v200 (F := Ideal) x0 x1 x2 x3 (ix4 b t h d) = (row x0 x1 x2 x3 x4 x5 x6 x7 x8 x9 x10 x11 x12 x13 x14 x15 x16 x17 x18 x19 x20 x21 b t).cols (3584 + 64 * h.val) 64 (by omega) d := by
  have hi : idx_main_v200 (ix4 b t h d) = ix3 b t (⟨64 * h.val + d.val, by omega⟩ : Fin 128) := by
    funext a
    refine Fin.ext ?_
    match a with
    | ⟨0, _⟩ => show (((b.val * 4096 + t.val) * 2 + h.val) * 64 + d.val) / 524288 = b.val; omega
    | ⟨1, _⟩ => show (((b.val * 4096 + t.val) * 2 + h.val) * 64 + d.val) / 128 % 4096 = t.val; omega
    | ⟨2, _⟩ => show (((b.val * 4096 + t.val) * 2 + h.val) * 64 + d.val) % 128 = 64 * h.val + d.val; omega
  have hs : idx_main_v33 (ix3 b t (⟨64 * h.val + d.val, by omega⟩ : Fin 128)) = ix3 b t (⟨3584 + (64 * h.val + d.val), by omega⟩ : Fin 3840) := by
    funext a
    refine Fin.ext ?_
    match a with
    | ⟨0, _⟩ => rfl
    | ⟨1, _⟩ => rfl
    | ⟨2, _⟩ => rfl
  rw [val_main_v200_apply, hi, val_main_v33_apply, hs, col_at x0 x1 x2 x3 x4 x5 x6 x7 x8 x9 x10 x11 x12 x13 x14 x15 x16 x17 x18 x19 x20 x21]
  exact congrArg _ (Fin.ext (Nat.add_assoc _ _ _).symm)

/-- Mixer D's key before its rotation. -/
theorem kd_normed (b : Fin 8) (t : Fin 4096) (h : Fin 2) (d : Fin 64) :
    val_main_v214 (F := Ideal) x0 x1 x2 x3 x17 (ix4 b t h d) = plain ((64 : ℝ) : EReal) ((row x0 x1 x2 x3 x4 x5 x6 x7 x8 x9 x10 x11 x12 x13 x14 x15 x16 x17 x18 x19 x20 x21 b t).cols (3584 + 64 * h.val) 64 (by omega)) (row x0 x1 x2 x3 x4 x5 x6 x7 x8 x9 x10 x11 x12 x13 x14 x15 x16 x17 x18 x19 x20 x21 b t).dk d := by
  unfold plain scaled
  simp only [← kd_cols]
  generalize hy : val_main_v200 (F := Ideal) x0 x1 x2 x3 = y
  pointwise [val_main_v214, val_main_v213, val_main_v212, val_main_v211, val_main_v210, val_main_v209, val_main_v208, val_main_v207, val_main_cst_20, val_main_v206, val_main_v205, val_main_cst_19, val_main_v204, val_main_v203, val_main_cst_18, val_main_v202, val_main_v201, hy, eps, row, ← const64]

/-- Mixer D's key. -/
theorem kd_at (b : Fin 8) (t : Fin 4096) (h : Fin 2) (d : Fin 64) :
    val_main_v232 (F := Ideal) x0 x1 x2 x3 x17 x18 x19 (ix4 b h t d) = (row x0 x1 x2 x3 x4 x5 x6 x7 x8 x9 x10 x11 x12 x13 x14 x15 x16 x17 x18 x19 x20 x21 b t).kd h d := by
  unfold Row.kd Row.head64 turned
  rw [← quarters64]
  simp only [← kd_normed]
  generalize hy : val_main_v214 (F := Ideal) x0 x1 x2 x3 x17 = y
  pointwise [val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, hy, row]

/-- Mixer C's latent query before its norm. -/
theorem latq_cols (b : Fin 8) (t : Fin 4096) (d : Fin 384) :
    val_main_v29 (F := Ideal) x0 x1 x2 x3 (ix3 b t d) = (row x0 x1 x2 x3 x4 x5 x6 x7 x8 x9 x10 x11 x12 x13 x14 x15 x16 x17 x18 x19 x20 x21 b t).cols 2304 384 (by omega) d := by
  have hs : idx_main_v29 (ix3 b t d) = ix3 b t (⟨2304 + d.val, by omega⟩ : Fin 3840) := by
    funext a
    match a with
    | ⟨0, _⟩ => rfl
    | ⟨1, _⟩ => rfl
    | ⟨2, _⟩ => rfl
  rw [val_main_v29_apply, hs, col_at x0 x1 x2 x3 x4 x5 x6 x7 x8 x9 x10 x11 x12 x13 x14 x15 x16 x17 x18 x19 x20 x21]
  rfl

/-- Mixer C's latent query. -/
theorem latq_at (b : Fin 8) (t : Fin 4096) (d : Fin 384) :
    val_main_v246 (F := Ideal) x0 x1 x2 x3 x8 (ix3 b t d) = (row x0 x1 x2 x3 x4 x5 x6 x7 x8 x9 x10 x11 x12 x13 x14 x15 x16 x17 x18 x19 x20 x21 b t).latq d := by
  unfold Row.latq plain scaled
  simp only [← latq_cols]
  generalize hy : val_main_v29 (F := Ideal) x0 x1 x2 x3 = y
  pointwise [val_main_v246, val_main_v245, val_main_v244, val_main_v243, val_main_v242, val_main_v241, val_main_v240, val_main_v239, val_main_cst_23, val_main_v238, val_main_v237, val_main_cst_22, val_main_v236, val_main_v235, val_main_cst_21, val_main_v234, val_main_v233, hy, eps, row, ← const384]

/-- A column of the product with the latent query. -/
theorem zq_at (b : Fin 8) (t : Fin 4096) (j : Fin 768) : val_main_v248 (F := Ideal) x0 x1 x2 x3 x8 x10 (ix3 b t j) = (row x0 x1 x2 x3 x4 x5 x6 x7 x8 x9 x10 x11 x12 x13 x14 x15 x16 x17 x18 x19 x20 x21 b t).zq j := by
  rw [val_main_v248_apply]
  refine Finset.sum_congr rfl fun k _ => ?_
  have hl : lidx_main_v248 (ix3 b t j) k = ix3 b t k := eq_ix3 _
  have hr : ridx_main_v248 (ix3 b t j) k = ix2 k j := eq_ix2 _
  rw [hl, hr, val_main_v247_apply, latq_at x0 x1 x2 x3 x4 x5 x6 x7 x8 x9 x10 x11 x12 x13 x14 x15 x16 x17 x18 x19 x20 x21]
  rfl

/-- Mixer C's latent key and value before its norm. -/
theorem latkv_cols (b : Fin 8) (t : Fin 4096) (d : Fin 256) :
    val_main_v30 (F := Ideal) x0 x1 x2 x3 (ix3 b t d) = (row x0 x1 x2 x3 x4 x5 x6 x7 x8 x9 x10 x11 x12 x13 x14 x15 x16 x17 x18 x19 x20 x21 b t).cols 2688 256 (by omega) d := by
  have hs : idx_main_v30 (ix3 b t d) = ix3 b t (⟨2688 + d.val, by omega⟩ : Fin 3840) := by
    funext a
    match a with
    | ⟨0, _⟩ => rfl
    | ⟨1, _⟩ => rfl
    | ⟨2, _⟩ => rfl
  rw [val_main_v30_apply, hs, col_at x0 x1 x2 x3 x4 x5 x6 x7 x8 x9 x10 x11 x12 x13 x14 x15 x16 x17 x18 x19 x20 x21]
  rfl

/-- Mixer C's latent key and value. -/
theorem latkv_at (b : Fin 8) (t : Fin 4096) (d : Fin 256) :
    val_main_v310 (F := Ideal) x0 x1 x2 x3 x9 (ix3 b t d) = (row x0 x1 x2 x3 x4 x5 x6 x7 x8 x9 x10 x11 x12 x13 x14 x15 x16 x17 x18 x19 x20 x21 b t).latkv d := by
  unfold Row.latkv plain scaled
  simp only [← latkv_cols]
  generalize hy : val_main_v30 (F := Ideal) x0 x1 x2 x3 = y
  pointwise [val_main_v310, val_main_v309, val_main_v308, val_main_v307, val_main_v306, val_main_v305, val_main_v304, val_main_v303, val_main_cst_32, val_main_v302, val_main_v301, val_main_cst_31, val_main_v300, val_main_v299, val_main_cst_30, val_main_v298, val_main_v297, hy, eps, row, ← const256]

/-- A column of the product with the latent key and value. -/
theorem kv_at (b : Fin 8) (t : Fin 4096) (j : Fin 1024) : val_main_v312 (F := Ideal) x0 x1 x2 x3 x9 x11 (ix3 b t j) = (row x0 x1 x2 x3 x4 x5 x6 x7 x8 x9 x10 x11 x12 x13 x14 x15 x16 x17 x18 x19 x20 x21 b t).kv j := by
  rw [val_main_v312_apply]
  refine Finset.sum_congr rfl fun k _ => ?_
  have hl : lidx_main_v312 (ix3 b t j) k = ix3 b t k := eq_ix3 _
  have hr : ridx_main_v312 (ix3 b t j) k = ix2 k j := eq_ix2 _
  rw [hl, hr, val_main_v311_apply, latkv_at x0 x1 x2 x3 x4 x5 x6 x7 x8 x9 x10 x11 x12 x13 x14 x15 x16 x17 x18 x19 x20 x21]
  rfl

/-- The part of mixer C's query without rotation before its norm. -/
theorem qnope_cols (b : Fin 8) (t : Fin 4096) (h : Fin 8) (d : Fin 64) :
    val_main_v250 (F := Ideal) x0 x1 x2 x3 x8 x10 (ix4 b t h d) = (row x0 x1 x2 x3 x4 x5 x6 x7 x8 x9 x10 x11 x12 x13 x14 x15 x16 x17 x18 x19 x20 x21 b t).zq ⟨64 * h.val + d.val, by omega⟩ := by
  have hi : idx_main_v250 (ix4 b t h d) = ix3 b t (⟨64 * h.val + d.val, by omega⟩ : Fin 512) := by
    funext a
    refine Fin.ext ?_
    match a with
    | ⟨0, _⟩ => show (((b.val * 4096 + t.val) * 8 + h.val) * 64 + d.val) / 2097152 = b.val; omega
    | ⟨1, _⟩ => show (((b.val * 4096 + t.val) * 8 + h.val) * 64 + d.val) / 512 % 4096 = t.val; omega
    | ⟨2, _⟩ => show (((b.val * 4096 + t.val) * 8 + h.val) * 64 + d.val) % 512 = 64 * h.val + d.val; omega
  have hs : idx_main_v249 (ix3 b t (⟨64 * h.val + d.val, by omega⟩ : Fin 512)) = ix3 b t (⟨0 + (64 * h.val + d.val), by omega⟩ : Fin 768) := by
    funext a
    refine Fin.ext ?_
    match a with
    | ⟨0, _⟩ => rfl
    | ⟨1, _⟩ => rfl
    | ⟨2, _⟩ => exact Nat.zero_add _ |>.symm
  rw [val_main_v250_apply, hi, val_main_v249_apply, hs, zq_at x0 x1 x2 x3 x4 x5 x6 x7 x8 x9 x10 x11 x12 x13 x14 x15 x16 x17 x18 x19 x20 x21]
  exact congrArg _ (Fin.ext (Nat.zero_add _))
/-- The part of mixer C's query without rotation. -/
theorem qnope_at (b : Fin 8) (t : Fin 4096) (h : Fin 8) (d : Fin 64) :
    val_main_v264 (F := Ideal) x0 x1 x2 x3 x8 x10 x12 (ix4 b t h d) = (row x0 x1 x2 x3 x4 x5 x6 x7 x8 x9 x10 x11 x12 x13 x14 x15 x16 x17 x18 x19 x20 x21 b t).qnope h d := by
  unfold Row.qnope plain scaled
  simp only [← qnope_cols]
  generalize hy : val_main_v250 (F := Ideal) x0 x1 x2 x3 x8 x10 = y
  pointwise [val_main_v264, val_main_v263, val_main_v262, val_main_v261, val_main_v260, val_main_v259, val_main_v258, val_main_v257, val_main_cst_26, val_main_v256, val_main_v255, val_main_cst_25, val_main_v254, val_main_v253, val_main_cst_24, val_main_v252, val_main_v251, hy, eps, row, ← const64]

/-- The rotated part of mixer C's query before its norm. -/
theorem qrope_cols (b : Fin 8) (t : Fin 4096) (h : Fin 8) (d : Fin 32) :
    val_main_v266 (F := Ideal) x0 x1 x2 x3 x8 x10 (ix4 b t h d) = (row x0 x1 x2 x3 x4 x5 x6 x7 x8 x9 x10 x11 x12 x13 x14 x15 x16 x17 x18 x19 x20 x21 b t).zq ⟨512 + (32 * h.val + d.val), by omega⟩ := by
  have hi : idx_main_v266 (ix4 b t h d) = ix3 b t (⟨32 * h.val + d.val, by omega⟩ : Fin 256) := by
    funext a
    refine Fin.ext ?_
    match a with
    | ⟨0, _⟩ => show (((b.val * 4096 + t.val) * 8 + h.val) * 32 + d.val) / 1048576 = b.val; omega
    | ⟨1, _⟩ => show (((b.val * 4096 + t.val) * 8 + h.val) * 32 + d.val) / 256 % 4096 = t.val; omega
    | ⟨2, _⟩ => show (((b.val * 4096 + t.val) * 8 + h.val) * 32 + d.val) % 256 = 32 * h.val + d.val; omega
  have hs : idx_main_v265 (ix3 b t (⟨32 * h.val + d.val, by omega⟩ : Fin 256)) = ix3 b t (⟨512 + (32 * h.val + d.val), by omega⟩ : Fin 768) := by
    funext a
    refine Fin.ext ?_
    match a with
    | ⟨0, _⟩ => rfl
    | ⟨1, _⟩ => rfl
    | ⟨2, _⟩ => rfl
  rw [val_main_v266_apply, hi, val_main_v265_apply, hs, zq_at x0 x1 x2 x3 x4 x5 x6 x7 x8 x9 x10 x11 x12 x13 x14 x15 x16 x17 x18 x19 x20 x21]

/-- The rotated part of mixer C's query, normed. -/
theorem qrope_normed (b : Fin 8) (t : Fin 4096) (h : Fin 8) (d : Fin 32) :
    val_main_v280 (F := Ideal) x0 x1 x2 x3 x8 x10 x14 (ix4 b t h d) = plain ((32 : ℝ) : EReal) (fun k : Fin 32 => (row x0 x1 x2 x3 x4 x5 x6 x7 x8 x9 x10 x11 x12 x13 x14 x15 x16 x17 x18 x19 x20 x21 b t).zq ⟨512 + (32 * h.val + k.val), by omega⟩) (row x0 x1 x2 x3 x4 x5 x6 x7 x8 x9 x10 x11 x12 x13 x14 x15 x16 x17 x18 x19 x20 x21 b t).cqr d := by
  unfold plain scaled
  simp only [← qrope_cols]
  generalize hy : val_main_v266 (F := Ideal) x0 x1 x2 x3 x8 x10 = y
  pointwise [val_main_v280, val_main_v279, val_main_v278, val_main_v277, val_main_v276, val_main_v275, val_main_v274, val_main_v273, val_main_cst_29, val_main_v272, val_main_v271, val_main_cst_28, val_main_v270, val_main_v269, val_main_cst_27, val_main_v268, val_main_v267, hy, eps, row, ← const32]

/-- The part of mixer C's key without rotation before its norm. -/
theorem knope_cols (b : Fin 8) (t : Fin 4096) (h : Fin 8) (d : Fin 64) :
    val_main_v314 (F := Ideal) x0 x1 x2 x3 x9 x11 (ix4 b t h d) = (row x0 x1 x2 x3 x4 x5 x6 x7 x8 x9 x10 x11 x12 x13 x14 x15 x16 x17 x18 x19 x20 x21 b t).kv ⟨64 * h.val + d.val, by omega⟩ := by
  have hi : idx_main_v314 (ix4 b t h d) = ix3 b t (⟨64 * h.val + d.val, by omega⟩ : Fin 512) := by
    funext a
    refine Fin.ext ?_
    match a with
    | ⟨0, _⟩ => show (((b.val * 4096 + t.val) * 8 + h.val) * 64 + d.val) / 2097152 = b.val; omega
    | ⟨1, _⟩ => show (((b.val * 4096 + t.val) * 8 + h.val) * 64 + d.val) / 512 % 4096 = t.val; omega
    | ⟨2, _⟩ => show (((b.val * 4096 + t.val) * 8 + h.val) * 64 + d.val) % 512 = 64 * h.val + d.val; omega
  have hs : idx_main_v313 (ix3 b t (⟨64 * h.val + d.val, by omega⟩ : Fin 512)) = ix3 b t (⟨0 + (64 * h.val + d.val), by omega⟩ : Fin 1024) := by
    funext a
    refine Fin.ext ?_
    match a with
    | ⟨0, _⟩ => rfl
    | ⟨1, _⟩ => rfl
    | ⟨2, _⟩ => exact Nat.zero_add _ |>.symm
  rw [val_main_v314_apply, hi, val_main_v313_apply, hs, kv_at x0 x1 x2 x3 x4 x5 x6 x7 x8 x9 x10 x11 x12 x13 x14 x15 x16 x17 x18 x19 x20 x21]
  exact congrArg _ (Fin.ext (Nat.zero_add _))
/-- The part of mixer C's key without rotation. -/
theorem knope_at (b : Fin 8) (t : Fin 4096) (h : Fin 8) (d : Fin 64) :
    val_main_v328 (F := Ideal) x0 x1 x2 x3 x9 x11 x13 (ix4 b t h d) = (row x0 x1 x2 x3 x4 x5 x6 x7 x8 x9 x10 x11 x12 x13 x14 x15 x16 x17 x18 x19 x20 x21 b t).knope h d := by
  unfold Row.knope plain scaled
  simp only [← knope_cols]
  generalize hy : val_main_v314 (F := Ideal) x0 x1 x2 x3 x9 x11 = y
  pointwise [val_main_v328, val_main_v327, val_main_v326, val_main_v325, val_main_v324, val_main_v323, val_main_v322, val_main_v321, val_main_cst_35, val_main_v320, val_main_v319, val_main_cst_34, val_main_v318, val_main_v317, val_main_cst_33, val_main_v316, val_main_v315, hy, eps, row, ← const64]

/-- The rotated part of mixer C's query. -/
theorem qrope_at (b : Fin 8) (t : Fin 4096) (h : Fin 8) (d : Fin 32) :
    val_main_v296 (F := Ideal) x0 x1 x2 x3 x8 x10 x14 x20 x21 (ix4 b t h d) = (row x0 x1 x2 x3 x4 x5 x6 x7 x8 x9 x10 x11 x12 x13 x14 x15 x16 x17 x18 x19 x20 x21 b t).qrope h d := by
  unfold Row.qrope turned
  rw [← quarters32]
  simp only [← qrope_normed]
  generalize hy : val_main_v280 (F := Ideal) x0 x1 x2 x3 x8 x10 x14 = y
  pointwise [val_main_v296, val_main_v295, val_main_v294, val_main_v293, val_main_v292, val_main_v291, val_main_v290, val_main_v289, val_main_v288, val_main_v287, val_main_v286, val_main_v285, val_main_v284, val_main_v283, val_main_v282, val_main_v281, hy, row]

/-- The rotated part of mixer C's key before its norm. -/
theorem krope_cols (b : Fin 8) (t : Fin 4096) (d : Fin 32) :
    val_main_v31 (F := Ideal) x0 x1 x2 x3 (ix3 b t d) = (row x0 x1 x2 x3 x4 x5 x6 x7 x8 x9 x10 x11 x12 x13 x14 x15 x16 x17 x18 x19 x20 x21 b t).cols 2944 32 (by omega) d := by
  have hs : idx_main_v31 (ix3 b t d) = ix3 b t (⟨2944 + d.val, by omega⟩ : Fin 3840) := by
    funext a
    match a with
    | ⟨0, _⟩ => rfl
    | ⟨1, _⟩ => rfl
    | ⟨2, _⟩ => rfl
  rw [val_main_v31_apply, hs, col_at x0 x1 x2 x3 x4 x5 x6 x7 x8 x9 x10 x11 x12 x13 x14 x15 x16 x17 x18 x19 x20 x21]
  rfl

/-- The rotated part of mixer C's key, normed. -/
theorem krope_normed (b : Fin 8) (t : Fin 4096) (d : Fin 32) :
    val_main_v342 (F := Ideal) x0 x1 x2 x3 x15 (ix3 b t d) = plain ((32 : ℝ) : EReal) ((row x0 x1 x2 x3 x4 x5 x6 x7 x8 x9 x10 x11 x12 x13 x14 x15 x16 x17 x18 x19 x20 x21 b t).cols 2944 32 (by omega)) (row x0 x1 x2 x3 x4 x5 x6 x7 x8 x9 x10 x11 x12 x13 x14 x15 x16 x17 x18 x19 x20 x21 b t).ckr d := by
  unfold plain scaled
  simp only [← krope_cols]
  generalize hy : val_main_v31 (F := Ideal) x0 x1 x2 x3 = y
  pointwise [val_main_v342, val_main_v341, val_main_v340, val_main_v339, val_main_v338, val_main_v337, val_main_v336, val_main_v335, val_main_cst_38, val_main_v334, val_main_v333, val_main_cst_37, val_main_v332, val_main_v331, val_main_cst_36, val_main_v330, val_main_v329, hy, eps, row, ← const32]

/-- The rotated part of mixer C's key. -/
theorem krope_at (b : Fin 8) (t : Fin 4096) (d : Fin 32) :
    val_main_v359 (F := Ideal) x0 x1 x2 x3 x15 x20 x21 (ix4 b t (0 : Fin 1) d) = (row x0 x1 x2 x3 x4 x5 x6 x7 x8 x9 x10 x11 x12 x13 x14 x15 x16 x17 x18 x19 x20 x21 b t).krope d := by
  unfold Row.krope turned
  rw [← quarters32]
  simp only [← krope_normed]
  generalize hy : val_main_v342 (F := Ideal) x0 x1 x2 x3 x15 = y
  pointwise [val_main_v359, val_main_v358, val_main_v357, val_main_v356, val_main_v355, val_main_v354, val_main_v353, val_main_v352, val_main_v351, val_main_v350, val_main_v349, val_main_v348, val_main_v347, val_main_v346, val_main_v345, val_main_v344, val_main_v343, hy, row]

/-- Mixer C's query. -/
theorem qc_at (b : Fin 8) (t : Fin 4096) (h : Fin 8) (d : Fin 128) :
    val_main_v371 (F := Ideal) x0 x1 x2 x3 x8 x10 x12 x14 x20 x21 (ix4 b h t d) = (row x0 x1 x2 x3 x4 x5 x6 x7 x8 x9 x10 x11 x12 x13 x14 x15 x16 x17 x18 x19 x20 x21 b t).qc h d := by
  unfold Row.qc Row.padded
  simp only [← qnope_at, ← qrope_at]
  generalize hy : val_main_v264 (F := Ideal) x0 x1 x2 x3 x8 x10 x12 = y
  generalize hz : val_main_v296 (F := Ideal) x0 x1 x2 x3 x8 x10 x14 x20 x21 = z
  pointwise [val_main_v371, val_main_v370, val_main_v361, val_main_v360, val_main_cst_39, hy, hz, Ideal.ofBits_zero_f32]

/-- Mixer C's key. -/
theorem kc_at (b : Fin 8) (t : Fin 4096) (h : Fin 8) (d : Fin 128) :
    val_main_v373 (F := Ideal) x0 x1 x2 x3 x9 x11 x13 x15 x20 x21 (ix4 b h t d) = (row x0 x1 x2 x3 x4 x5 x6 x7 x8 x9 x10 x11 x12 x13 x14 x15 x16 x17 x18 x19 x20 x21 b t).kc h d := by
  unfold Row.kc Row.padded
  simp only [← knope_at, ← krope_at]
  generalize hy : val_main_v328 (F := Ideal) x0 x1 x2 x3 x9 x11 x13 = y
  generalize hz : val_main_v359 (F := Ideal) x0 x1 x2 x3 x15 x20 x21 = z
  pointwise [val_main_v373, val_main_v372, val_main_v363, val_main_v362, val_main_v360, val_main_cst_39, hy, hz, Ideal.ofBits_zero_f32]

/-- Mixer A's value. -/
theorem va_at (b : Fin 8) (t : Fin 4096) (h : Fin 4) (d : Fin 128) :
    val_main_v366 (F := Ideal) x0 x1 x2 x3 (ix4 b h d t) = (row x0 x1 x2 x3 x4 x5 x6 x7 x8 x9 x10 x11 x12 x13 x14 x15 x16 x17 x18 x19 x20 x21 b t).va h d := by
  have hp : val_main_v366 (F := Ideal) x0 x1 x2 x3 (ix4 b h d t) = val_main_v364 (F := Ideal) x0 x1 x2 x3 (ix4 b t h d) := by
    generalize hy : val_main_v364 (F := Ideal) x0 x1 x2 x3 = y
    pointwise [val_main_v366, val_main_v365, hy]
  rw [hp]
  have hi : idx_main_v364 (ix4 b t h d) = ix3 b t (⟨128 * h.val + d.val, by omega⟩ : Fin 512) := by
    funext a
    refine Fin.ext ?_
    match a with
    | ⟨0, _⟩ => show (((b.val * 4096 + t.val) * 4 + h.val) * 128 + d.val) / 2097152 = b.val; omega
    | ⟨1, _⟩ => show (((b.val * 4096 + t.val) * 4 + h.val) * 128 + d.val) / 512 % 4096 = t.val; omega
    | ⟨2, _⟩ => show (((b.val * 4096 + t.val) * 4 + h.val) * 128 + d.val) % 512 = 128 * h.val + d.val; omega
  have hs : idx_main_v25 (ix3 b t (⟨128 * h.val + d.val, by omega⟩ : Fin 512)) = ix3 b t (⟨1024 + (128 * h.val + d.val), by omega⟩ : Fin 3840) := by
    funext a
    refine Fin.ext ?_
    match a with
    | ⟨0, _⟩ => rfl
    | ⟨1, _⟩ => rfl
    | ⟨2, _⟩ => rfl
  rw [val_main_v364_apply, hi, val_main_v25_apply, hs, col_at x0 x1 x2 x3 x4 x5 x6 x7 x8 x9 x10 x11 x12 x13 x14 x15 x16 x17 x18 x19 x20 x21]
  rfl

/-- Mixer B's value. -/
theorem vb_at (b : Fin 8) (t : Fin 4096) (h : Fin 2) (d : Fin 64) :
    val_main_v369 (F := Ideal) x0 x1 x2 x3 (ix4 b h d t) = (row x0 x1 x2 x3 x4 x5 x6 x7 x8 x9 x10 x11 x12 x13 x14 x15 x16 x17 x18 x19 x20 x21 b t).vb h d := by
  have hp : val_main_v369 (F := Ideal) x0 x1 x2 x3 (ix4 b h d t) = val_main_v367 (F := Ideal) x0 x1 x2 x3 (ix4 b t h d) := by
    generalize hy : val_main_v367 (F := Ideal) x0 x1 x2 x3 = y
    pointwise [val_main_v369, val_main_v368, hy]
  rw [hp]
  have hi : idx_main_v367 (ix4 b t h d) = ix3 b t (⟨64 * h.val + d.val, by omega⟩ : Fin 128) := by
    funext a
    refine Fin.ext ?_
    match a with
    | ⟨0, _⟩ => show (((b.val * 4096 + t.val) * 2 + h.val) * 64 + d.val) / 524288 = b.val; omega
    | ⟨1, _⟩ => show (((b.val * 4096 + t.val) * 2 + h.val) * 64 + d.val) / 128 % 4096 = t.val; omega
    | ⟨2, _⟩ => show (((b.val * 4096 + t.val) * 2 + h.val) * 64 + d.val) % 128 = 64 * h.val + d.val; omega
  have hs : idx_main_v28 (ix3 b t (⟨64 * h.val + d.val, by omega⟩ : Fin 128)) = ix3 b t (⟨2176 + (64 * h.val + d.val), by omega⟩ : Fin 3840) := by
    funext a
    refine Fin.ext ?_
    match a with
    | ⟨0, _⟩ => rfl
    | ⟨1, _⟩ => rfl
    | ⟨2, _⟩ => rfl
  rw [val_main_v367_apply, hi, val_main_v28_apply, hs, col_at x0 x1 x2 x3 x4 x5 x6 x7 x8 x9 x10 x11 x12 x13 x14 x15 x16 x17 x18 x19 x20 x21]
  rfl

/-- Mixer C's value. -/
theorem vc_at (b : Fin 8) (t : Fin 4096) (h : Fin 8) (d : Fin 64) :
    val_main_v377 (F := Ideal) x0 x1 x2 x3 x9 x11 (ix4 b h d t) = (row x0 x1 x2 x3 x4 x5 x6 x7 x8 x9 x10 x11 x12 x13 x14 x15 x16 x17 x18 x19 x20 x21 b t).vc h d := by
  have hp : val_main_v377 (F := Ideal) x0 x1 x2 x3 x9 x11 (ix4 b h d t) = val_main_v375 (F := Ideal) x0 x1 x2 x3 x9 x11 (ix4 b t h d) := by
    generalize hy : val_main_v375 (F := Ideal) x0 x1 x2 x3 x9 x11 = y
    pointwise [val_main_v377, val_main_v376, hy]
  rw [hp]
  have hi : idx_main_v375 (ix4 b t h d) = ix3 b t (⟨64 * h.val + d.val, by omega⟩ : Fin 512) := by
    funext a
    refine Fin.ext ?_
    match a with
    | ⟨0, _⟩ => show (((b.val * 4096 + t.val) * 8 + h.val) * 64 + d.val) / 2097152 = b.val; omega
    | ⟨1, _⟩ => show (((b.val * 4096 + t.val) * 8 + h.val) * 64 + d.val) / 512 % 4096 = t.val; omega
    | ⟨2, _⟩ => show (((b.val * 4096 + t.val) * 8 + h.val) * 64 + d.val) % 512 = 64 * h.val + d.val; omega
  have hs : idx_main_v374 (ix3 b t (⟨64 * h.val + d.val, by omega⟩ : Fin 512)) = ix3 b t (⟨512 + (64 * h.val + d.val), by omega⟩ : Fin 1024) := by
    funext a
    refine Fin.ext ?_
    match a with
    | ⟨0, _⟩ => rfl
    | ⟨1, _⟩ => rfl
    | ⟨2, _⟩ => rfl
  rw [val_main_v375_apply, hi, val_main_v374_apply, hs, kv_at x0 x1 x2 x3 x4 x5 x6 x7 x8 x9 x10 x11 x12 x13 x14 x15 x16 x17 x18 x19 x20 x21]
  rfl

/-- Mixer D's value. -/
theorem vd_at (b : Fin 8) (t : Fin 4096) (h : Fin 2) (d : Fin 64) :
    val_main_v380 (F := Ideal) x0 x1 x2 x3 (ix4 b h t d) = (row x0 x1 x2 x3 x4 x5 x6 x7 x8 x9 x10 x11 x12 x13 x14 x15 x16 x17 x18 x19 x20 x21 b t).vd h d := by
  have hp : val_main_v380 (F := Ideal) x0 x1 x2 x3 (ix4 b h t d) = val_main_v378 (F := Ideal) x0 x1 x2 x3 (ix4 b t h d) := by
    generalize hy : val_main_v378 (F := Ideal) x0 x1 x2 x3 = y
    pointwise [val_main_v380, val_main_v379, hy]
  rw [hp]
  have hi : idx_main_v378 (ix4 b t h d) = ix3 b t (⟨64 * h.val + d.val, by omega⟩ : Fin 128) := by
    funext a
    refine Fin.ext ?_
    match a with
    | ⟨0, _⟩ => show (((b.val * 4096 + t.val) * 2 + h.val) * 64 + d.val) / 524288 = b.val; omega
    | ⟨1, _⟩ => show (((b.val * 4096 + t.val) * 2 + h.val) * 64 + d.val) / 128 % 4096 = t.val; omega
    | ⟨2, _⟩ => show (((b.val * 4096 + t.val) * 2 + h.val) * 64 + d.val) % 128 = 64 * h.val + d.val; omega
  have hs : idx_main_v34 (ix3 b t (⟨64 * h.val + d.val, by omega⟩ : Fin 128)) = ix3 b t (⟨3712 + (64 * h.val + d.val), by omega⟩ : Fin 3840) := by
    funext a
    refine Fin.ext ?_
    match a with
    | ⟨0, _⟩ => rfl
    | ⟨1, _⟩ => rfl
    | ⟨2, _⟩ => rfl
  rw [val_main_v378_apply, hi, val_main_v34_apply, hs, col_at x0 x1 x2 x3 x4 x5 x6 x7 x8 x9 x10 x11 x12 x13 x14 x15 x16 x17 x18 x19 x20 x21]
  rfl

end Cert.Reference5Ideal.Projected

end
-- ==== Proof.Result5.lean ====
/- The projections' reference run: its twelve results are the projections of every token. -/
module

public import proofs.«01_k».proof.Proof.Reference5

@[expose] public section

noncomputable section

namespace Cert.Reference5Ideal.Projected

open Idealize.ShloMosaic Idealize.ShloMosaic.TcCoe Idealize.SL.Sem Cert.Heads Cert.Reference5Ideal Cert.Reference5Ideal.Gen Cert.Reference5Ideal.Read

/-- What a token's projections are made of, from the arguments' arrays. -/
def R (V : Valuation τ sig (Elt Ideal)) (b : Fin 8) (t : Fin 4096) : Row :=
  row (V (Proc.devRef .tc main_arg0))
    (V (Proc.devRef .tc main_arg1))
    (V (Proc.devRef .tc main_arg2))
    (V (Proc.devRef .tc main_arg3))
    (V (Proc.devRef .tc main_arg4))
    (V (Proc.devRef .tc main_arg5))
    (V (Proc.devRef .tc main_arg6))
    (V (Proc.devRef .tc main_arg7))
    (V (Proc.devRef .tc main_arg8))
    (V (Proc.devRef .tc main_arg9))
    (V (Proc.devRef .tc main_arg10))
    (V (Proc.devRef .tc main_arg11))
    (V (Proc.devRef .tc main_arg12))
    (V (Proc.devRef .tc main_arg13))
    (V (Proc.devRef .tc main_arg14))
    (V (Proc.devRef .tc main_arg15))
    (V (Proc.devRef .tc main_arg16))
    (V (Proc.devRef .tc main_arg17))
    (V (Proc.devRef .tc main_arg18))
    (V (Proc.devRef .tc main_arg19))
    (V (Proc.devRef .tc main_arg20))
    (V (Proc.devRef .tc main_arg21)) b t

variable (V : Valuation τ sig (Elt Ideal))

/-- The array of results `qa`. -/
theorem qa_eq : val_main_v67 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg18)) (V (Proc.devRef .tc main_arg19)) = rows (R V) Row.qa := by
  funext i
  obtain ⟨b, h, t, d, rfl⟩ : ∃ (b : Fin 8) (h : Fin 8) (t : Fin 4096) (d : Fin 64), i = ix4 b h t d := ⟨i 0, i 1, i 2, i 3, eq_ix4 i⟩
  exact qa_at _ _ _ _ _ _ _ _ _ _ _ _ _ _ _ _ _ _ _ _ _ _ b t h d

/-- The array of results `ka`. -/
theorem ka_eq : val_main_v100 (F := Ideal) (V (Proc.devRef .tc main_arg0)) (V (Proc.devRef .tc main_arg1)) (V (Proc.devRef .tc main_arg2)) (V (Proc.devRef .tc main_arg3)) (V (Proc.devRef .tc main_arg5)) (V (Proc.devRef .tc main_arg18)) (V (Proc.devRef .tc main_arg19)) = rows (R V) Row.ka := by
  funext i
  obtain ⟨b, h, t, d, rfl⟩ : ∃ (b : Fin 8) (h : Fin 8) (t : Fin 4096) (d : Fin 64), i = ix4 b h t d := ⟨i 0, i 1, i 2, i 3, eq_ix4 i⟩
  exact ka_at _ _ _ _ _ _ _ _ _ _ _ _ _ _ _ _ _ _ _ _ _ _ b t h d

/-- The array of results `va`. -/
theorem va_eq : val_main_v366 (F := Ideal) (V (Proc.devRef .tc main_arg0)) (V (Proc.devRef .tc main_arg1)) (V (Proc.devRef .tc main_arg2)) (V (Proc.devRef .tc main_arg3)) = columns (R V) Row.va := by
  funext i
  obtain ⟨b, h, d, t, rfl⟩ : ∃ (b : Fin 8) (h : Fin 4) (d : Fin 128) (t : Fin 4096), i = ix4 b h d t := ⟨i 0, i 1, i 2, i 3, eq_ix4 i⟩
  exact va_at _ _ _ _ _ _ _ _ _ _ _ _ _ _ _ _ _ _ _ _ _ _ b t h d

/-- The array of results `qb`. -/
theorem qb_eq : val_main_v133 (F := Ideal) (V (Proc.devRef .tc main_arg0)) (V (Proc.devRef .tc main_arg1)) (V (Proc.devRef .tc main_arg2)) (V (Proc.devRef .tc main_arg3)) (V (Proc.devRef .tc main_arg6)) (V (Proc.devRef .tc main_arg18)) (V (Proc.devRef .tc main_arg19)) = rows (R V) Row.qb := by
  funext i
  obtain ⟨b, h, t, d, rfl⟩ : ∃ (b : Fin 8) (h : Fin 8) (t : Fin 4096) (d : Fin 64), i = ix4 b h t d := ⟨i 0, i 1, i 2, i 3, eq_ix4 i⟩
  exact qb_at _ _ _ _ _ _ _ _ _ _ _ _ _ _ _ _ _ _ _ _ _ _ b t h d

/-- The array of results `kb`. -/
theorem kb_eq : val_main_v166 (F := Ideal) (V (Proc.devRef .tc main_arg0)) (V (Proc.devRef .tc main_arg1)) (V (Proc.devRef .tc main_arg2)) (V (Proc.devRef .tc main_arg3)) (V (Proc.devRef .tc main_arg7)) (V (Proc.devRef .tc main_arg18)) (V (Proc.devRef .tc main_arg19)) = rows (R V) Row.kb := by
  funext i
  obtain ⟨b, h, t, d, rfl⟩ : ∃ (b : Fin 8) (h : Fin 2) (t : Fin 4096) (d : Fin 64), i = ix4 b h t d := ⟨i 0, i 1, i 2, i 3, eq_ix4 i⟩
  exact kb_at _ _ _ _ _ _ _ _ _ _ _ _ _ _ _ _ _ _ _ _ _ _ b t h d

/-- The array of results `vb`. -/
theorem vb_eq : val_main_v369 (F := Ideal) (V (Proc.devRef .tc main_arg0)) (V (Proc.devRef .tc main_arg1)) (V (Proc.devRef .tc main_arg2)) (V (Proc.devRef .tc main_arg3)) = columns (R V) Row.vb := by
  funext i
  obtain ⟨b, h, d, t, rfl⟩ : ∃ (b : Fin 8) (h : Fin 2) (d : Fin 64) (t : Fin 4096), i = ix4 b h d t := ⟨i 0, i 1, i 2, i 3, eq_ix4 i⟩
  exact vb_at _ _ _ _ _ _ _ _ _ _ _ _ _ _ _ _ _ _ _ _ _ _ b t h d

/-- The array of results `qc`. -/
theorem qc_eq : val_main_v371 (F := Ideal) (V (Proc.devRef .tc main_arg0)) (V (Proc.devRef .tc main_arg1)) (V (Proc.devRef .tc main_arg2)) (V (Proc.devRef .tc main_arg3)) (V (Proc.devRef .tc main_arg8)) (V (Proc.devRef .tc main_arg10)) (V (Proc.devRef .tc main_arg12)) (V (Proc.devRef .tc main_arg14)) (V (Proc.devRef .tc main_arg20)) (V (Proc.devRef .tc main_arg21)) = rows (R V) Row.qc := by
  funext i
  obtain ⟨b, h, t, d, rfl⟩ : ∃ (b : Fin 8) (h : Fin 8) (t : Fin 4096) (d : Fin 128), i = ix4 b h t d := ⟨i 0, i 1, i 2, i 3, eq_ix4 i⟩
  exact qc_at _ _ _ _ _ _ _ _ _ _ _ _ _ _ _ _ _ _ _ _ _ _ b t h d

/-- The array of results `kc`. -/
theorem kc_eq : val_main_v373 (F := Ideal) (V (Proc.devRef .tc main_arg0)) (V (Proc.devRef .tc main_arg1)) (V (Proc.devRef .tc main_arg2)) (V (Proc.devRef .tc main_arg3)) (V (Proc.devRef .tc main_arg9)) (V (Proc.devRef .tc main_arg11)) (V (Proc.devRef .tc main_arg13)) (V (Proc.devRef .tc main_arg15)) (V (Proc.devRef .tc main_arg20)) (V (Proc.devRef .tc main_arg21)) = rows (R V) Row.kc := by
  funext i
  obtain ⟨b, h, t, d, rfl⟩ : ∃ (b : Fin 8) (h : Fin 8) (t : Fin 4096) (d : Fin 128), i = ix4 b h t d := ⟨i 0, i 1, i 2, i 3, eq_ix4 i⟩
  exact kc_at _ _ _ _ _ _ _ _ _ _ _ _ _ _ _ _ _ _ _ _ _ _ b t h d

/-- The array of results `vc`. -/
theorem vc_eq : val_main_v377 (F := Ideal) (V (Proc.devRef .tc main_arg0)) (V (Proc.devRef .tc main_arg1)) (V (Proc.devRef .tc main_arg2)) (V (Proc.devRef .tc main_arg3)) (V (Proc.devRef .tc main_arg9)) (V (Proc.devRef .tc main_arg11)) = columns (R V) Row.vc := by
  funext i
  obtain ⟨b, h, d, t, rfl⟩ : ∃ (b : Fin 8) (h : Fin 8) (d : Fin 64) (t : Fin 4096), i = ix4 b h d t := ⟨i 0, i 1, i 2, i 3, eq_ix4 i⟩
  exact vc_at _ _ _ _ _ _ _ _ _ _ _ _ _ _ _ _ _ _ _ _ _ _ b t h d

/-- The array of results `qd`. -/
theorem qd_eq : val_main_v199 (F := Ideal) (V (Proc.devRef .tc main_arg0)) (V (Proc.devRef .tc main_arg1)) (V (Proc.devRef .tc main_arg2)) (V (Proc.devRef .tc main_arg3)) (V (Proc.devRef .tc main_arg16)) (V (Proc.devRef .tc main_arg18)) (V (Proc.devRef .tc main_arg19)) = rows (R V) Row.qd := by
  funext i
  obtain ⟨b, h, t, d, rfl⟩ : ∃ (b : Fin 8) (h : Fin 8) (t : Fin 4096) (d : Fin 64), i = ix4 b h t d := ⟨i 0, i 1, i 2, i 3, eq_ix4 i⟩
  exact qd_at _ _ _ _ _ _ _ _ _ _ _ _ _ _ _ _ _ _ _ _ _ _ b t h d

/-- The array of results `kd`. -/
theorem kd_eq : val_main_v232 (F := Ideal) (V (Proc.devRef .tc main_arg0)) (V (Proc.devRef .tc main_arg1)) (V (Proc.devRef .tc main_arg2)) (V (Proc.devRef .tc main_arg3)) (V (Proc.devRef .tc main_arg17)) (V (Proc.devRef .tc main_arg18)) (V (Proc.devRef .tc main_arg19)) = rows (R V) Row.kd := by
  funext i
  obtain ⟨b, h, t, d, rfl⟩ : ∃ (b : Fin 8) (h : Fin 2) (t : Fin 4096) (d : Fin 64), i = ix4 b h t d := ⟨i 0, i 1, i 2, i 3, eq_ix4 i⟩
  exact kd_at _ _ _ _ _ _ _ _ _ _ _ _ _ _ _ _ _ _ _ _ _ _ b t h d

/-- The array of results `vd`. -/
theorem vd_eq : val_main_v380 (F := Ideal) (V (Proc.devRef .tc main_arg0)) (V (Proc.devRef .tc main_arg1)) (V (Proc.devRef .tc main_arg2)) (V (Proc.devRef .tc main_arg3)) = rows (R V) Row.vd := by
  funext i
  obtain ⟨b, h, t, d, rfl⟩ : ∃ (b : Fin 8) (h : Fin 2) (t : Fin 4096) (d : Fin 64), i = ix4 b h t d := ⟨i 0, i 1, i 2, i 3, eq_ix4 i⟩
  exact vd_at _ _ _ _ _ _ _ _ _ _ _ _ _ _ _ _ _ _ _ _ _ _ b t h d

/-- The reference's run: the twelve arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = rows (R (StableHlo.launchContents m c)) Row.qa
      ∧ r.2.mem ((c.tc : Thread nD τ).loc main_v100) = rows (R (StableHlo.launchContents m c)) Row.ka
      ∧ r.2.mem ((c.tc : Thread nD τ).loc main_v366) = columns (R (StableHlo.launchContents m c)) Row.va
      ∧ r.2.mem ((c.tc : Thread nD τ).loc main_v133) = rows (R (StableHlo.launchContents m c)) Row.qb
      ∧ r.2.mem ((c.tc : Thread nD τ).loc main_v166) = rows (R (StableHlo.launchContents m c)) Row.kb
      ∧ r.2.mem ((c.tc : Thread nD τ).loc main_v369) = columns (R (StableHlo.launchContents m c)) Row.vb
      ∧ r.2.mem ((c.tc : Thread nD τ).loc main_v371) = rows (R (StableHlo.launchContents m c)) Row.qc
      ∧ r.2.mem ((c.tc : Thread nD τ).loc main_v373) = rows (R (StableHlo.launchContents m c)) Row.kc
      ∧ r.2.mem ((c.tc : Thread nD τ).loc main_v377) = columns (R (StableHlo.launchContents m c)) Row.vc
      ∧ r.2.mem ((c.tc : Thread nD τ).loc main_v199) = rows (R (StableHlo.launchContents m c)) Row.qd
      ∧ r.2.mem ((c.tc : Thread nD τ).loc main_v232) = rows (R (StableHlo.launchContents m c)) Row.kd
      ∧ r.2.mem ((c.tc : Thread nD τ).loc main_v380) = rows (R (StableHlo.launchContents m c)) Row.vd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run _ _ _).mono (fun _ h c => ⟨(h c).1.trans ((val_main_v67_eq _).trans (qa_eq _)),
      (h c).2.1.trans ((val_main_v100_eq _).trans (ka_eq _)),
      (h c).2.2.1.trans ((val_main_v366_eq _).trans (va_eq _)),
      (h c).2.2.2.1.trans ((val_main_v133_eq _).trans (qb_eq _)),
      (h c).2.2.2.2.1.trans ((val_main_v166_eq _).trans (kb_eq _)),
      (h c).2.2.2.2.2.1.trans ((val_main_v369_eq _).trans (vb_eq _)),
      (h c).2.2.2.2.2.2.1.trans ((val_main_v371_eq _).trans (qc_eq _)),
      (h c).2.2.2.2.2.2.2.1.trans ((val_main_v373_eq _).trans (kc_eq _)),
      (h c).2.2.2.2.2.2.2.2.1.trans ((val_main_v377_eq _).trans (vc_eq _)),
      (h c).2.2.2.2.2.2.2.2.2.1.trans ((val_main_v199_eq _).trans (qd_eq _)),
      (h c).2.2.2.2.2.2.2.2.2.2.1.trans ((val_main_v232_eq _).trans (kd_eq _)),
      (h c).2.2.2.2.2.2.2.2.2.2.2.1.trans ((val_main_v380_eq _).trans (vd_eq _)),
      (h c).2.2.2.2.2.2.2.2.2.2.2.2⟩) (Cert.Reference5Ideal.Value.run m ρ)

end Cert.Reference5Ideal.Projected

end
-- ==== Proof.Finite.lean ====
/- The preconditions, read as facts about the arrays. -/
module

public import proofs.«01_k».proof.Defs
public import proofs.«01_k».proof.Proof.Attention
public import proofs.«01_k».proof.Proof.Difference

@[expose] public section

noncomputable section

namespace Cert.Finite

open Idealize.ShloMosaic Cert.Attention

/-- The shape relations that the precondition states. -/
instance facts : Cert.Pre_finite.Facts where
  bitsLt_bf16_f32 := by decide
  bcast_S_S8x8x4096x64 := by decide
  bcast_S_S8x2x4096x64 := by decide
  bcast_S_S8x2x256x64 := by decide

/-- The shape relations that mixer C's precondition states. -/
instance facts_c : Cert.Pre_finite_c.Facts where
  bitsLt_bf16_f32 := by decide
  bcast_S_S8x8x4096x128 := by decide
  bcast_S_S8x8x256x128 := by decide

/-- The shape relations that mixer A's precondition states. -/
instance facts_a : Cert.Pre_finite_a.Facts where
  bitsLt_bf16_f32 := by decide
  bcast_S_S8x8x4096x64 := by decide
  bcast_S_S8x8x256x64 := by decide
  bcast_S_S8x4x128x4096 := by decide
  bcast_S_S8x4x128x256 := by decide
  bcast_S_S4x64 := by decide

/-- Positive infinity's word. -/
theorem posInf : Ideal.ofBits .f32 0x7F800000#32 = ⊤ := by
  simp [Ideal.ofBits, Ideal.ieee]

/-- A number whose magnitude is below infinity is real. -/
theorem real_of_bit {x : EReal} (h : BitVec.ofBool (decide ((FloatOps.absf (x : Ideal .f32) : Ideal .f32) < Ideal.ofBits .f32 0x7F800000#32)) = 1#1) :
    ∃ r : ℝ, x = (r : EReal) := by
  rw [posInf] at h
  have h1 : max x (-x) < (⊤ : EReal) := by
    by_contra hn
    rw [show decide ((FloatOps.absf (x : Ideal .f32) : Ideal .f32) < (⊤ : EReal)) = false from decide_eq_false hn] at h
    exact absurd h (by decide)
  induction hx : x using EReal.rec with
  | bot => simp [hx] at h1
  | coe r => exact ⟨r, rfl⟩
  | top => simp [hx] at h1

section MixerB

variable {x0 : FVec Ideal ⟨4, ![8, 8, 4096, 64]⟩ .bf16} {x1 : FVec Ideal ⟨4, ![8, 2, 4096, 64]⟩ .bf16} {x2 : FVec Ideal ⟨4, ![8, 2, 64, 4096]⟩ .bf16}
  {x3 : FVec Ideal ⟨4, ![8, 2, 256, 64]⟩ .bf16} {x4 : FVec Ideal ⟨4, ![8, 2, 64, 256]⟩ .bf16}

/-- The queries are real. -/
theorem queries (h : (Cert.Pre_finite.fn x0 x1 x2 x3 x4).1 = fun _ => 1#1) : Real4 x0 := fun i =>
  real_of_bit (by
    have h1 := congrFun h i
    pointwise [Cert.Pre_finite.fn] at h1
    exact h1)

/-- The own keys are real. -/
theorem keys (h : (Cert.Pre_finite.fn x0 x1 x2 x3 x4).2.1 = fun _ => 1#1) : Real4 x1 := fun i =>
  real_of_bit (by
    have h1 := congrFun h i
    pointwise [Cert.Pre_finite.fn] at h1
    exact h1)

/-- The context keys are real. -/
theorem contextKeys (h : (Cert.Pre_finite.fn x0 x1 x2 x3 x4).2.2 = fun _ => 1#1) : Real4 x3 := fun i =>
  real_of_bit (by
    have h1 := congrFun h i
    pointwise [Cert.Pre_finite.fn] at h1
    exact h1)

end MixerB

section MixerC

variable {x0 : FVec Ideal ⟨4, ![8, 8, 4096, 128]⟩ .bf16} {x1 : FVec Ideal ⟨4, ![8, 8, 4096, 128]⟩ .bf16} {x2 : FVec Ideal ⟨4, ![8, 8, 64, 4096]⟩ .bf16}
  {x3 : FVec Ideal ⟨4, ![8, 8, 256, 128]⟩ .bf16} {x4 : FVec Ideal ⟨4, ![8, 8, 64, 256]⟩ .bf16}

/-- Mixer C's queries are real. -/
theorem queries_c (h : (Cert.Pre_finite_c.fn x0 x1 x2 x3 x4).1 = fun _ => 1#1) : Real4 x0 := fun i =>
  real_of_bit (by
    have h1 := congrFun h i
    pointwise [Cert.Pre_finite_c.fn] at h1
    exact h1)

/-- Mixer C's own keys are real. -/
theorem keys_c (h : (Cert.Pre_finite_c.fn x0 x1 x2 x3 x4).2.1 = fun _ => 1#1) : Real4 x1 := fun i =>
  real_of_bit (by
    have h1 := congrFun h i
    pointwise [Cert.Pre_finite_c.fn] at h1
    exact h1)

/-- Mixer C's context keys are real. -/
theorem contextKeys_c (h : (Cert.Pre_finite_c.fn x0 x1 x2 x3 x4).2.2 = fun _ => 1#1) : Real4 x3 := fun i =>
  real_of_bit (by
    have h1 := congrFun h i
    pointwise [Cert.Pre_finite_c.fn] at h1
    exact h1)

end MixerC

section MixerA

variable {x0 : FVec Ideal ⟨4, ![8, 8, 4096, 64]⟩ .bf16} {x1 : FVec Ideal ⟨4, ![8, 8, 4096, 64]⟩ .bf16} {x2 : FVec Ideal ⟨4, ![8, 4, 128, 4096]⟩ .bf16}
  {x3 : FVec Ideal ⟨4, ![8, 8, 256, 64]⟩ .bf16} {x4 : FVec Ideal ⟨4, ![8, 4, 128, 256]⟩ .bf16} {x5 : Lambda} {x6 : Gain}

/-- Mixer A's queries are real. -/
theorem queries_a (h : (Cert.Pre_finite_a.fn x0 x1 x2 x3 x4 x5 x6).1 = fun _ => 1#1) : Real4 x0 := fun i =>
  real_of_bit (by
    have h1 := congrFun h i
    pointwise [Cert.Pre_finite_a.fn, Cert.Pre_finite_a.fn_part1] at h1
    exact h1)

/-- Mixer A's own keys are real. -/
theorem keys_a (h : (Cert.Pre_finite_a.fn x0 x1 x2 x3 x4 x5 x6).2.1 = fun _ => 1#1) : Real4 x1 := fun i =>
  real_of_bit (by
    have h1 := congrFun h i
    pointwise [Cert.Pre_finite_a.fn, Cert.Pre_finite_a.fn_part1] at h1
    exact h1)

/-- Mixer A's context keys are real. -/
theorem contextKeys_a (h : (Cert.Pre_finite_a.fn x0 x1 x2 x3 x4 x5 x6).2.2.1 = fun _ => 1#1) : Real4 x3 := fun i =>
  real_of_bit (by
    have h1 := congrFun h i
    pointwise [Cert.Pre_finite_a.fn, Cert.Pre_finite_a.fn_part1] at h1
    exact h1)

/-- Mixer A's own values are real. -/
theorem values_a (h : (Cert.Pre_finite_a.fn x0 x1 x2 x3 x4 x5 x6).2.2.2.1 = fun _ => 1#1) : Real4 x2 := fun i =>
  real_of_bit (by
    have h1 := congrFun h i
    pointwise [Cert.Pre_finite_a.fn, Cert.Pre_finite_a.fn_part1] at h1
    exact h1)

/-- Mixer A's context values are real. -/
theorem contextValues_a (h : (Cert.Pre_finite_a.fn x0 x1 x2 x3 x4 x5 x6).2.2.2.2.1 = fun _ => 1#1) : Real4 x4 := fun i =>
  real_of_bit (by
    have h1 := congrFun h i
    pointwise [Cert.Pre_finite_a.fn, Cert.Pre_finite_a.fn_part1] at h1
    exact h1)

/-- The vectors of lambda are real. -/
theorem lambda_a (h : (Cert.Pre_finite_a.fn x0 x1 x2 x3 x4 x5 x6).2.2.2.2.2 = fun _ => 1#1) : ∀ i, ∃ r : ℝ, x5 i = (r : EReal) := fun i =>
  real_of_bit (by
    have h1 := congrFun h i
    pointwise [Cert.Pre_finite_a.fn, Cert.Pre_finite_a.fn_part1] at h1
    exact h1)

end MixerA

end Cert.Finite

end
-- ==== Proof.FiniteP.lean ====
/- The projections' precondition, read as facts about a token's row. -/
module

public import proofs.«01_k».proof.Proof.Finite
public import proofs.«01_k».proof.Proof.Token

@[expose] public section

noncomputable section

namespace Cert.Finite

open Idealize.ShloMosaic Cert.Heads

/-- The shape relations that the projections' precondition states. -/
instance facts_p : Cert.Pre_finite_p.Facts where
  slices_S8x1x6144_S8x1x2048_0_0_0 := by decide
  bcast_S_S8x1x2048 := by decide
  bcast_S_S1x1024 := by decide
  bitsLt_bf16_f32 := by decide
  bcast_S_S1024x3840 := by decide
  bcast_S_S1x384 := by decide
  bcast_S_S1x256 := by decide
  bcast_S_S384x768 := by decide
  bcast_S_S256x1024 := by decide

variable {x0 : FVec Ideal ⟨3, ![8, 4096, 1024]⟩ .f32} {x1 : FVec Ideal ⟨3, ![8, 1, 6144]⟩ .f32} {x2 : FVec Ideal ⟨2, ![1, 1024]⟩ .f32}
  {x3 : FVec Ideal ⟨2, ![1024, 3840]⟩ .bf16} {x4 x5 x6 x7 : FVec Ideal ⟨2, ![1, 64]⟩ .f32} {x8 : FVec Ideal ⟨2, ![1, 384]⟩ .f32}
  {x9 : FVec Ideal ⟨2, ![1, 256]⟩ .f32} {x10 : FVec Ideal ⟨2, ![384, 768]⟩ .bf16} {x11 : FVec Ideal ⟨2, ![256, 1024]⟩ .bf16}
  {x12 x13 : FVec Ideal ⟨2, ![1, 64]⟩ .f32} {x14 x15 : FVec Ideal ⟨2, ![1, 32]⟩ .f32} {x16 x17 : FVec Ideal ⟨2, ![1, 64]⟩ .f32}
  {x18 x19 : FVec Ideal ⟨2, ![4096, 64]⟩ .f32} {x20 x21 : FVec Ideal ⟨2, ![4096, 32]⟩ .f32}

/-- Of a finite scale, shift, gains and weights every token's row is finite. -/
theorem row_finite (h : (Cert.Pre_finite_p.fn x0 x1 x2 x3 x4 x5 x6 x7 x8 x9 x10 x11 x12 x13 x14 x15 x16 x17 x18 x19 x20 x21).1 = (fun _ => 1#1)
      ∧ (Cert.Pre_finite_p.fn x0 x1 x2 x3 x4 x5 x6 x7 x8 x9 x10 x11 x12 x13 x14 x15 x16 x17 x18 x19 x20 x21).2.1 = (fun _ => 1#1)
      ∧ (Cert.Pre_finite_p.fn x0 x1 x2 x3 x4 x5 x6 x7 x8 x9 x10 x11 x12 x13 x14 x15 x16 x17 x18 x19 x20 x21).2.2.1 = (fun _ => 1#1)
      ∧ (Cert.Pre_finite_p.fn x0 x1 x2 x3 x4 x5 x6 x7 x8 x9 x10 x11 x12 x13 x14 x15 x16 x17 x18 x19 x20 x21).2.2.2.1 = (fun _ => 1#1)
      ∧ (Cert.Pre_finite_p.fn x0 x1 x2 x3 x4 x5 x6 x7 x8 x9 x10 x11 x12 x13 x14 x15 x16 x17 x18 x19 x20 x21).2.2.2.2.1 = (fun _ => 1#1)
      ∧ (Cert.Pre_finite_p.fn x0 x1 x2 x3 x4 x5 x6 x7 x8 x9 x10 x11 x12 x13 x14 x15 x16 x17 x18 x19 x20 x21).2.2.2.2.2.1 = (fun _ => 1#1)
      ∧ (Cert.Pre_finite_p.fn x0 x1 x2 x3 x4 x5 x6 x7 x8 x9 x10 x11 x12 x13 x14 x15 x16 x17 x18 x19 x20 x21).2.2.2.2.2.2 = (fun _ => 1#1)) (b : Fin 8) (t : Fin 4096) :
    (row x0 x1 x2 x3 x4 x5 x6 x7 x8 x9 x10 x11 x12 x13 x14 x15 x16 x17 x18 x19 x20 x21 b t).Finite where
  g k := real_of_bit (by
    have h1 := congrFun h.2.1 (ix2 (0 : Fin 1) k)
    pointwise [Cert.Pre_finite_p.fn, Cert.Pre_finite_p.fn_part1] at h1
    exact h1)
  sc k := real_of_bit (by
    have h1 := congrFun h.1 (ix3 b (0 : Fin 1) (⟨1024 + k.val, by omega⟩ : Fin 2048))
    pointwise [Cert.Pre_finite_p.fn, Cert.Pre_finite_p.fn_part1] at h1
    exact h1)
  sh k := real_of_bit (by
    have h1 := congrFun h.1 (ix3 b (0 : Fin 1) (⟨k.val, by omega⟩ : Fin 2048))
    pointwise [Cert.Pre_finite_p.fn, Cert.Pre_finite_p.fn_part1] at h1
    exact h1)
  w k j := real_of_bit (by
    have h1 := congrFun h.2.2.1 (ix2 k j)
    pointwise [Cert.Pre_finite_p.fn, Cert.Pre_finite_p.fn_part1] at h1
    exact h1)
  cqa k := real_of_bit (by
    have h1 := congrFun h.2.2.2.1 (ix2 (0 : Fin 1) k)
    pointwise [Cert.Pre_finite_p.fn, Cert.Pre_finite_p.fn_part1] at h1
    exact h1)
  ckva k := real_of_bit (by
    have h1 := congrFun h.2.2.2.2.1 (ix2 (0 : Fin 1) k)
    pointwise [Cert.Pre_finite_p.fn, Cert.Pre_finite_p.fn_part1] at h1
    exact h1)
  up k j := real_of_bit (by
    have h1 := congrFun h.2.2.2.2.2.1 (ix2 k j)
    pointwise [Cert.Pre_finite_p.fn, Cert.Pre_finite_p.fn_part1] at h1
    exact h1)
  kvup k j := real_of_bit (by
    have h1 := congrFun h.2.2.2.2.2.2 (ix2 k j)
    pointwise [Cert.Pre_finite_p.fn, Cert.Pre_finite_p.fn_part1] at h1
    exact h1)

end Cert.Finite

end
-- ==== Proof.lean ====
/- The certificate: each claim from the modules that prove it. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Array
public import proofs.«01_k».proof.Proof.Reference
public import proofs.«01_k».proof.Proof.Gen.Kernel2.Frame
public import proofs.«01_k».proof.Proof.Gen.Kernel2Ideal.Frame
public import proofs.«01_k».proof.Proof.Gen.Reference2Ideal.Run
public import proofs.«01_k».proof.Proof.Array2
public import proofs.«01_k».proof.Proof.Reference2
public import proofs.«01_k».proof.Proof.Gen.Kernel3.Frame
public import proofs.«01_k».proof.Proof.Gen.Kernel3Ideal.Frame
public import proofs.«01_k».proof.Proof.Gen.Reference3Ideal.Run
public import proofs.«01_k».proof.Proof.Array3
public import proofs.«01_k».proof.Proof.Reference3
public import proofs.«01_k».proof.Proof.Gen.Kernel4.Frame
public import proofs.«01_k».proof.Proof.Gen.Kernel4Ideal.Frame
public import proofs.«01_k».proof.Proof.Gen.Reference4Ideal.Run
public import proofs.«01_k».proof.Proof.Array4
public import proofs.«01_k».proof.Proof.Reference4
public import proofs.«01_k».proof.Proof.Frame5PB
public import proofs.«01_k».proof.Proof.Array5
public import proofs.«01_k».proof.Proof.Result5
public import proofs.«01_k».proof.Proof.FiniteP
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Attention

/-- Mixer B's reference runs, keeps its arguments and leaves every counter at zero. -/
theorem frame_reference : Cert.quiescent_ReferenceIdeal := fun m ρ _ =>
  (θ_run _ _ _).mono (fun _ h => ⟨fun c => (h c).2, sem_eq_zero_of_no_sems rfl _⟩) (Cert.ReferenceIdeal.Value.run m ρ)

/-- Mixer C's reference runs, keeps its arguments and leaves every counter at zero. -/
theorem frame_reference2 : Cert.quiescent_Reference2Ideal := fun m ρ _ =>
  (θ_run _ _ _).mono (fun _ h => ⟨fun c => (h c).2, sem_eq_zero_of_no_sems rfl _⟩) (Cert.Reference2Ideal.Value.run m ρ)

/-- Mixer A's reference runs, keeps its arguments and leaves every counter at zero. -/
theorem frame_reference3 : Cert.quiescent_Reference3Ideal := fun m ρ _ =>
  (θ_run _ _ _).mono (fun _ h => ⟨fun c => (h c).2, sem_eq_zero_of_no_sems rfl _⟩) (Cert.Reference3Ideal.Value.run m ρ)

/-- The kernel's grouped-query attention is the reference's, for real queries and keys and any values. -/
theorem attention_b : Cert.algebraic_KernelIdeal_ReferenceIdeal_pre_finite := by
  intro m g m' g' hpre hagree
  have hq : ∀ c, Real4 (Cert.KernelIdeal.Array.Q m c) := fun c => Cert.Finite.queries (hpre c).1
  have ho : ∀ c, Real4 (Cert.KernelIdeal.Array.KO m c) := fun c => Cert.Finite.keys (hpre c).2.1
  have hc : ∀ c, Real4 (Cert.KernelIdeal.Array.KC m c) := fun c => Cert.Finite.contextKeys (hpre c).2.2
  refine ⟨Cert.KernelIdeal.Array.out m, Cert.KernelIdeal.Array.run m g hq ho hc, ?_⟩
  refine (θ_run _ _ _).mono (fun _ h c => ⟨(h c).1.trans ?_, (h c).2⟩) (Cert.ReferenceIdeal.Value.run m' g')
  obtain ⟨h0, h1, h2, h3, h4⟩ := hagree c
  refine (Cert.ReferenceIdeal.Read.val_main_v25_eq _ _ _ _ _).trans ?_
  rw [h0, h1, h2, h3, h4]
  funext i
  obtain ⟨b, t, k, rfl⟩ : ∃ (b : Fin 8) (t : Fin 4096) (k : Fin 512), i = ix3 b t k := ⟨i 0, i 1, i 2, eq_ix3 i⟩
  exact Cert.ReferenceIdeal.Attend.result_at _ _ _ _ _ (hq c) (ho c) (hc c) b t k _ _ (by simp only [ix3]; omega)

/-- The kernel's latent attention is the reference's, for real queries and keys and any values. -/
theorem attention_c : Cert.algebraic_Kernel2Ideal_Reference2Ideal_pre_finite_c := by
  intro m g m' g' hpre hagree
  have hq : ∀ c, Real4 (Cert.Kernel2Ideal.Array.Q m c) := fun c => Cert.Finite.queries_c (hpre c).1
  have ho : ∀ c, Real4 (Cert.Kernel2Ideal.Array.KO m c) := fun c => Cert.Finite.keys_c (hpre c).2.1
  have hc : ∀ c, Real4 (Cert.Kernel2Ideal.Array.KC m c) := fun c => Cert.Finite.contextKeys_c (hpre c).2.2
  refine ⟨Cert.Kernel2Ideal.Array.out m, Cert.Kernel2Ideal.Array.run m g hq ho hc, ?_⟩
  refine (θ_run _ _ _).mono (fun _ h c => ⟨(h c).1.trans ?_, (h c).2⟩) (Cert.Reference2Ideal.Value.run m' g')
  obtain ⟨h0, h1, h2, h3, h4⟩ := hagree c
  refine (Cert.Reference2Ideal.Read.val_main_v25_eq _ _ _ _ _).trans ?_
  rw [h0, h1, h2, h3, h4]
  funext i
  obtain ⟨b, t, k, rfl⟩ : ∃ (b : Fin 8) (t : Fin 4096) (k : Fin 512), i = ix3 b t k := ⟨i 0, i 1, i 2, eq_ix3 i⟩
  exact Cert.Reference2Ideal.Attend.result_at _ _ _ _ _ (hq c) (ho c) (hc c) b t k _ _ (by simp only [ix3]; omega)

/-- The kernel's differential attention is the reference's, for real queries, keys, values and vectors of lambda and any gain. -/
theorem attention_a : Cert.algebraic_Kernel3Ideal_Reference3Ideal_pre_finite_a := by
  intro m g m' g' hpre hagree
  have hq : ∀ c, Real4 (Cert.Kernel3Ideal.Array.Q m c) := fun c => Cert.Finite.queries_a (hpre c).1
  have ho : ∀ c, Real4 (Cert.Kernel3Ideal.Array.KO m c) := fun c => Cert.Finite.keys_a (hpre c).2.1
  have hc : ∀ c, Real4 (Cert.Kernel3Ideal.Array.KC m c) := fun c => Cert.Finite.contextKeys_a (hpre c).2.2.1
  have hv : ∀ c, Real4 (Cert.Kernel3Ideal.Array.VO m c) := fun c => Cert.Finite.values_a (hpre c).2.2.2.1
  have hw : ∀ c, Real4 (Cert.Kernel3Ideal.Array.VC m c) := fun c => Cert.Finite.contextValues_a (hpre c).2.2.2.2.1
  have hl : ∀ c i, ∃ r : ℝ, Cert.Kernel3Ideal.Array.L m c i = (r : EReal) := fun c => Cert.Finite.lambda_a (hpre c).2.2.2.2.2
  refine ⟨Cert.Kernel3Ideal.Array.out m, Cert.Kernel3Ideal.Array.run m g hq ho hc, ?_⟩
  refine (θ_run _ _ _).mono (fun _ h c => ⟨(h c).1.trans ?_, (h c).2⟩) (Cert.Reference3Ideal.Value.run m' g')
  obtain ⟨h0, h1, h2, h3, h4, h5, h6⟩ := hagree c
  refine (Cert.Reference3Ideal.Read.val_main_v63_eq _ _).trans ?_
  rw [h0, h1, h2, h3, h4, h5, h6]
  funext i
  obtain ⟨b, t, k, rfl⟩ : ∃ (b : Fin 8) (t : Fin 4096) (k : Fin 512), i = ix3 b t k := ⟨i 0, i 1, i 2, eq_ix3 i⟩
  exact Cert.Reference3Ideal.Attend.result_at _ _ _ _ _ _ _ (hq c) (ho c) (hc c) (hv c) (hw c) (hl c) b t k _ _ (by simp only [ix3]; omega)

/-- The merge's reference runs, keeps its arguments and leaves every counter at zero. -/
theorem frame_reference4 : Cert.quiescent_Reference4Ideal := fun m ρ _ =>
  (θ_run _ _ _).mono (fun _ h => ⟨fun c => (h c).2.2.2, sem_eq_zero_of_no_sems rfl _⟩) (Cert.Reference4Ideal.Value.run m ρ)

/-- The kernel's merge is the reference's, for any arguments: the tokens after the residual, their second norm, and the router's affinities. -/
theorem merge : Cert.algebraic_Kernel4Ideal_Reference4Ideal := by
  intro m g m' g' _ hagree
  refine ⟨Cert.Kernel4Ideal.Array.out0 m, Cert.Kernel4Ideal.Array.out1 m, Cert.Kernel4Ideal.Array.out2 m, Cert.Kernel4Ideal.Array.run m g, ?_⟩
  refine (θ_run _ _ _).mono (fun _ h c => ⟨(h c).1.trans ?_, (h c).2.1.trans ?_, (h c).2.2.1.trans ?_, (h c).2.2.2⟩) (Cert.Reference4Ideal.Value.run m' g')
  · obtain ⟨h0, h1, h2, h3, h4, h5, h6, h7, h8, h9, h10, h11⟩ := hagree c
    refine (Cert.Reference4Ideal.Read.val_main_v72_eq (StableHlo.launchContents m' c)).trans ?_
    change Cert.Reference4Ideal.Read.val_main_v72 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) = _
    rw [h0, h1, h2, h4, h5, h6, h7, h8, h9, h10]
    funext i
    obtain ⟨b, t, d, rfl⟩ : ∃ (b : Fin 8) (t : Fin 4096) (d : Fin 1024), i = ix3 b t d := ⟨i 0, i 1, i 2, eq_ix3 i⟩
    exact Cert.Reference4Ideal.Merged.first_at _ _ _ _ _ _ _ _ _ _ b t d
  · obtain ⟨h0, h1, h2, h3, h4, h5, h6, h7, h8, h9, h10, h11⟩ := hagree c
    refine (Cert.Reference4Ideal.Read.val_main_v105_eq (StableHlo.launchContents m' c)).trans ?_
    change Cert.Reference4Ideal.Read.val_main_v105 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) = _
    rw [h0, h1, h2, h3, h4, h5, h6, h7, h8, h9, h10]
    funext i
    obtain ⟨b, t, d, rfl⟩ : ∃ (b : Fin 8) (t : Fin 4096) (d : Fin 1024), i = ix3 b t d := ⟨i 0, i 1, i 2, eq_ix3 i⟩
    rw [Cert.Reference4Ideal.Read.val_main_v105_apply]
    exact Cert.Reference4Ideal.Merged.second_at _ _ _ _ _ _ _ _ _ _ _ b t d
  · obtain ⟨h0, h1, h2, h3, h4, h5, h6, h7, h8, h9, h10, h11⟩ := hagree c
    refine (Cert.Reference4Ideal.Read.val_main_v107_eq (StableHlo.launchContents m' c)).trans ?_
    change Cert.Reference4Ideal.Read.val_main_v107 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) = _
    rw [h0, h1, h2, h3, h4, h5, h6, h7, h8, h9, h10, h11]
    funext i
    obtain ⟨b, k, e, n, rfl⟩ : ∃ (b : Fin 8) (k : Fin 32) (e : Fin 16) (n : Fin 128), i = ix4 b k e n := ⟨i 0, i 1, i 2, i 3, eq_ix4 i⟩
    rw [Cert.Kernel4Ideal.Array.out2_at m c b k e n ⟨k.val * 128 + n.val, by omega⟩ rfl]
    exact Cert.Reference4Ideal.Merged.third_at _ _ _ _ _ _ _ _ _ _ _ _ b k e n _ rfl

/-- The projections' reference runs, keeps its arguments and leaves every counter at zero. -/
theorem frame_reference5 : Cert.quiescent_Reference5Ideal := fun m ρ _ =>
  (θ_run _ _ _).mono (fun _ h => ⟨fun c => (h c).2.2.2.2.2.2.2.2.2.2.2.2, sem_eq_zero_of_no_sems rfl _⟩) (Cert.Reference5Ideal.Value.run m ρ)

/-- Launched on the same arguments, the projections' reference has the kernel's rows. -/
theorem same_rows (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)) :
    Cert.Reference5Ideal.Projected.R (StableHlo.launchContents m' c) = Cert.Kernel5Ideal.Array.R m c := by
  obtain ⟨h0, h1, h2, h3, h4, h5, h6, h7, h8, h9, h10, h11, h12, h13, h14, h15, h16, h17, h18, h19, h20, h21⟩ := h
  funext b t
  change Cert.Heads.row (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6))
      (m' ((c.tc : Thread Cert.Reference5Ideal.nD Cert.Reference5Ideal.τ).loc Cert.Reference5Ideal.main_arg7))
      (m' ((c.tc : Thread Cert.Reference5Ideal.nD Cert.Reference5Ideal.τ).loc Cert.Reference5Ideal.main_arg8))
      (m' ((c.tc : Thread Cert.Reference5Ideal.nD Cert.Reference5Ideal.τ).loc Cert.Reference5Ideal.main_arg9))
      (m' ((c.tc : Thread Cert.Reference5Ideal.nD Cert.Reference5Ideal.τ).loc Cert.Reference5Ideal.main_arg10))
      (m' ((c.tc : Thread Cert.Reference5Ideal.nD Cert.Reference5Ideal.τ).loc Cert.Reference5Ideal.main_arg11))
      (m' ((c.tc : Thread Cert.Reference5Ideal.nD Cert.Reference5Ideal.τ).loc Cert.Reference5Ideal.main_arg12))
      (m' ((c.tc : Thread Cert.Reference5Ideal.nD Cert.Reference5Ideal.τ).loc Cert.Reference5Ideal.main_arg13))
      (m' ((c.tc : Thread Cert.Reference5Ideal.nD Cert.Reference5Ideal.τ).loc Cert.Reference5Ideal.main_arg14))
      (m' ((c.tc : Thread Cert.Reference5Ideal.nD Cert.Reference5Ideal.τ).loc Cert.Reference5Ideal.main_arg15))
      (m' ((c.tc : Thread Cert.Reference5Ideal.nD Cert.Reference5Ideal.τ).loc Cert.Reference5Ideal.main_arg16))
      (m' ((c.tc : Thread Cert.Reference5Ideal.nD Cert.Reference5Ideal.τ).loc Cert.Reference5Ideal.main_arg17))
      (m' ((c.tc : Thread Cert.Reference5Ideal.nD Cert.Reference5Ideal.τ).loc Cert.Reference5Ideal.main_arg18))
      (m' ((c.tc : Thread Cert.Reference5Ideal.nD Cert.Reference5Ideal.τ).loc Cert.Reference5Ideal.main_arg19))
      (m' ((c.tc : Thread Cert.Reference5Ideal.nD Cert.Reference5Ideal.τ).loc Cert.Reference5Ideal.main_arg20))
      (m' ((c.tc : Thread Cert.Reference5Ideal.nD Cert.Reference5Ideal.τ).loc Cert.Reference5Ideal.main_arg21)) b t = _
  rw [h0, h1, h2, h3, h4, h5, h6, h7, h8, h9, h10, h11, h12, h13, h14, h15, h16, h17, h18, h19, h20, h21]
  rfl

/-- The kernel's projections are the reference's, for a real gain, scale, shift and weights and any tokens, gains of the heads' norms and rotation. -/
theorem projections : Cert.algebraic_Kernel5Ideal_Reference5Ideal_pre_finite_p := by
  intro m g m' g' hpre hagree
  have hf : ∀ c b t, (Cert.Kernel5Ideal.Array.R m c b t).Finite := fun c b t => Cert.Finite.row_finite (hpre c) b t
  refine ⟨fun c => Cert.Heads.rows (Cert.Kernel5Ideal.Array.R m c) Cert.Heads.Row.qa,
    fun c => Cert.Heads.rows (Cert.Kernel5Ideal.Array.R m c) Cert.Heads.Row.ka,
    fun c => Cert.Heads.columns (Cert.Kernel5Ideal.Array.R m c) Cert.Heads.Row.va,
    fun c => Cert.Heads.rows (Cert.Kernel5Ideal.Array.R m c) Cert.Heads.Row.qb,
    fun c => Cert.Heads.rows (Cert.Kernel5Ideal.Array.R m c) Cert.Heads.Row.kb,
    fun c => Cert.Heads.columns (Cert.Kernel5Ideal.Array.R m c) Cert.Heads.Row.vb,
    fun c => Cert.Heads.rows (Cert.Kernel5Ideal.Array.R m c) Cert.Heads.Row.qc,
    fun c => Cert.Heads.rows (Cert.Kernel5Ideal.Array.R m c) Cert.Heads.Row.kc,
    fun c => Cert.Heads.columns (Cert.Kernel5Ideal.Array.R m c) Cert.Heads.Row.vc,
    fun c => Cert.Heads.rows (Cert.Kernel5Ideal.Array.R m c) Cert.Heads.Row.qd,
    fun c => Cert.Heads.rows (Cert.Kernel5Ideal.Array.R m c) Cert.Heads.Row.kd,
    fun c => Cert.Heads.rows (Cert.Kernel5Ideal.Array.R m c) Cert.Heads.Row.vd,
    (θ_run _ _ _).mono (fun _ h c => ?_) (Cert.Kernel5Ideal.Array.run m hf g),
    (θ_run _ _ _).mono (fun _ h c => ?_) (Cert.Reference5Ideal.Projected.run m' g')⟩
  · obtain ⟨a0, a1, a2, a3, a4, a5, a6, a7, a8, a9, a10, a11⟩ := h.1 c
    exact ⟨a0, a1, a2, a3, a4, a5, a6, a7, a8, a9, a10, a11, h.2 c⟩
  · have h1 := h c
    rw [same_rows m m' c (hagree c)] at h1
    exact h1

/-- Everything that the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Finite.facts, Cert.Finite.facts_c, Cert.Finite.facts_a, Cert.Finite.facts_p,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    fun m ρ _ => Cert.Kernel3Ideal.Gen.frame m ρ,
    frame_reference3,
    fun m ρ _ => frame_reference3 m ρ trivial,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    IdealRules.named_const.statement Cert.KernelIdeal.κ "scale_log2e" .f32 0x3E38AA3B#32 (((8 * (Real.log 2))⁻¹ : ℝ) : EReal) rfl,
    attention_b,
    IdealRules.named_const.statement Cert.Kernel2Ideal.κ "scale_c_log2e" .f32 0x3E16C740#32 ((((Real.sqrt 96) * (Real.log 2))⁻¹ : ℝ) : EReal) rfl,
    attention_c,
    IdealRules.named_const.statement Cert.Kernel3Ideal.κ "scale_log2e" .f32 0x3E38AA3B#32 (((8 * (Real.log 2))⁻¹ : ℝ) : EReal) rfl,
    attention_a,
    trivial,
    merge,
    trivial,
    projections⟩

end Cert.Proof

end
